-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v43) = v0 c
          ∧ r.2.mem ((c.tc : Thread Cert.Reference12Ideal.nD Cert.Reference12Ideal.τ).loc Cert.Reference12Ideal.main_v42) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v39_0)) (v1 : (c : Dev Cert.Kernel13Ideal.nD) → Buf (Elt Ideal) ((c.tc : Thread Cert.Kernel13Ideal.nD Cert.Kernel13Ideal.τ).loc Cert.Kernel13Ideal.main_v39_1)) (v2 : (c : Dev Cert.Kernel13Ideal.nD) → Buf (Elt Ideal) ((c.tc : Thread Cert.Kernel13Ideal.nD Cert.Kernel13Ideal.τ).loc Cert.Kernel13Ideal.main_v39_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v39_0) = v0 c
          ∧ r.2.mem ((c.tc : Thread Cert.Kernel13Ideal.nD Cert.Kernel13Ideal.τ).loc Cert.Kernel13Ideal.main_v39_1) = v1 c
          ∧ r.2.mem ((c.tc : Thread Cert.Kernel13Ideal.nD Cert.Kernel13Ideal.τ).loc Cert.Kernel13Ideal.main_v39_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v8) = v1 c
          ∧ r.2.mem ((c.tc : Thread Cert.Reference18Ideal.nD Cert.Reference18Ideal.τ).loc Cert.Reference18Ideal.main_v14) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v8) = v1 c
          ∧ r.2.mem ((c.tc : Thread Cert.Reference19Ideal.nD Cert.Reference19Ideal.τ).loc Cert.Reference19Ideal.main_v14) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite13.lean ====
abbrev S2x32768x64 : Shape := ⟨3, ![2, 32768, 64]⟩
abbrev S2x8192x64 : Shape := ⟨3, ![2, 8192, 64]⟩
abbrev S_ : Shape := ⟨0, ![]⟩

class Facts : Prop where
  bcast_S_S2x32768x64 : S_.BroadcastsInDim S2x32768x64 (![] : Fin 0 → Fin S2x32768x64.rank)
  bcast_S_S2x8192x64 : S_.BroadcastsInDim S2x8192x64 (![] : Fin 0 → Fin S2x8192x64.rank)

variable [Facts]

def fn {F : FTy → Type} [FloatOps F] (main_arg0 : FVec F S2x32768x64 .f32) (main_arg1 : FVec F S2x8192x64 .f32) (main_arg2 : FVec F S2x8192x64 .f32) (main_arg3 : FVec F S2x32768x64 .f32) : IVec S2x32768x64 1 × IVec S2x8192x64 1 × IVec S2x8192x64 1 × IVec S2x32768x64 1 :=
  let main_v0 : FVec F S2x32768x64 .f32 := Host.absf main_arg0
  let main_cst : FVec F S_ .f32 := constant S_ .f32 0x7F800000#32
  let main_v1 : FVec F S2x32768x64 .f32 := broadcastInDim S2x32768x64 ![] bcast_S_S2x32768x64 main_cst
  let main_v2 : IVec S2x32768x64 1 := cmpf .olt main_v0 main_v1
  let main_v3 : FVec F S2x8192x64 .f32 := Host.absf main_arg1
  let main_cst_0 : FVec F S_ .f32 := constant S_ .f32 0x7F800000#32
  let main_v4 : FVec F S2x8192x64 .f32 := broadcastInDim S2x8192x64 ![] bcast_S_S2x8192x64 main_cst_0
  let main_v5 : IVec S2x8192x64 1 := cmpf .olt main_v3 main_v4
  let main_v6 : FVec F S2x8192x64 .f32 := Host.absf main_arg2
  let main_cst_1 : FVec F S_ .f32 := constant S_ .f32 0x7F800000#32
  let main_v7 : FVec F S2x8192x64 .f32 := broadcastInDim S2x8192x64 ![] bcast_S_S2x8192x64 main_cst_1
  let main_v8 : IVec S2x8192x64 1 := cmpf .olt main_v6 main_v7
  let main_v9 : FVec F S2x32768x64 .f32 := Host.absf main_arg3
  let main_cst_2 : FVec F S_ .f32 := constant S_ .f32 0x7F800000#32
  let main_v10 : FVec F S2x32768x64 .f32 := broadcastInDim S2x32768x64 ![] bcast_S_S2x32768x64 main_cst_2
  let main_v11 : IVec S2x32768x64 1 := cmpf .olt main_v9 main_v10
  (main_v2, main_v5, main_v8, main_v11)
-- ==== Kernel.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S8192x2816 : Shape := ⟨2, ![8192, 2816]⟩
abbrev S2x8192x2816 : Shape := ⟨3, ![2, 8192, 2816]⟩
abbrev S8192x1024 : Shape := ⟨2, ![8192, 1024]⟩
abbrev S2816x1024 : Shape := ⟨2, ![2816, 1024]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 14
  | .vmem => 8
  | .smem => 0
  | _ => 0

abbrev bufTy : (tb : Table) → Fin (tcTables nBuf tb) → BufTy
  | .hbm, ⟨0, _⟩ => ⟨S1x8192x2816, .f32⟩
  | .hbm, ⟨1, _⟩ => ⟨S1x8192x2816, .f32⟩
  | .hbm, ⟨2, _⟩ => ⟨S1x2816x1024, .f32⟩
  | .hbm, ⟨3, _⟩ => ⟨S1x8192x1024, .f32⟩
  | .hbm, ⟨4, _⟩ => ⟨S8192x2816, .f32⟩
  | .hbm, ⟨5, _⟩ => ⟨S8192x2816, .f32⟩
  | .hbm, ⟨6, _⟩ => ⟨S1x8192x2816, .f32⟩
  | .hbm, ⟨7, _⟩ => ⟨S1x8192x2816, .f32⟩
  | .hbm, ⟨8, _⟩ => ⟨S2x8192x2816, .f32⟩
  | .hbm, ⟨9, _⟩ => ⟨S8192x1024, .f32⟩
  | .hbm, ⟨10, _⟩ => ⟨S8192x1024, .bf16⟩
  | .hbm, ⟨11, _⟩ => ⟨S2816x1024, .f32⟩
  | .hbm, ⟨12, _⟩ => ⟨S2816x1024, .bf16⟩
  | .hbm, ⟨13, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .f32⟩
  | .local _ .vmem, ⟨5, _⟩ => ⟨S2x512x1408, .f32⟩
  | .local _ .vmem, ⟨6, _⟩ => ⟨S2x512x1408, .bf16⟩
  | .local _ .vmem, ⟨7, _⟩ => ⟨S2x512x1408, .bf16⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S_ : Shape := ⟨0, ![]⟩
abbrev S2816x1024 : Shape := ⟨2, ![2816, 1024]⟩
abbrev S8192x2816 : Shape := ⟨2, ![8192, 2816]⟩
abbrev S2x8192x2816 : Shape := ⟨3, ![2, 8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x8192x2816, .f32⟩
  | .hbm, ⟨2, _⟩ => ⟨S1x2816x1024, .f32⟩
  | .hbm, ⟨3, _⟩ => ⟨S1x8192x1024, .f32⟩
  | .hbm, ⟨4, _⟩ => ⟨S1x8192x2816, .f32⟩
  | .hbm, ⟨5, _⟩ => ⟨S1x8192x2816, .f32⟩
  | .hbm, ⟨6, _⟩ => ⟨S_, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S1x8192x2816, .f32⟩
  | .hbm, ⟨16, _⟩ => ⟨S1x8192x2816, .f32⟩
  | .hbm, ⟨17, _⟩ => ⟨S1x8192x2816, .f32⟩
  | .hbm, ⟨18, _⟩ => ⟨S2816x1024, .f32⟩
  | .hbm, ⟨19, _⟩ => ⟨S1x8192x1024, .f32⟩
  | .hbm, ⟨20, _⟩ => ⟨S1x8192x2816, .f32⟩
  | .hbm, ⟨21, _⟩ => ⟨S1x8192x2816, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x2816 : Shape := ⟨3, ![1, 8192, 2816]⟩
abbrev S8192x2816 : Shape := ⟨2, ![8192, 2816]⟩
abbrev S2x8192x2816 : Shape := ⟨3, ![2, 8192, 2816]⟩
abbrev S1024x5632 : Shape := ⟨2, ![1024, 5632]⟩
abbrev S8192x1024 : Shape := ⟨2, ![8192, 1024]⟩
abbrev S2x256x2816 : Shape := ⟨3, ![2, 256, 2816]⟩
abbrev S1024x2816 : Shape := ⟨2, ![1024, 2816]⟩
abbrev S256x1024 : Shape := ⟨2, ![256, 1024]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x2816, .f32⟩
  | .hbm, ⟨4, _⟩ => ⟨S1x8192x2816, .f32⟩
  | .hbm, ⟨5, _⟩ => ⟨S1x8192x1024, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S2x8192x2816, .bf16⟩
  | .hbm, ⟨12, _⟩ => ⟨S1024x5632, .f32⟩
  | .hbm, ⟨13, _⟩ => ⟨S1024x5632, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S1024x2816, .bf16⟩
  | .local _ .vmem, ⟨3, _⟩ => ⟨S1024x2816, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x2816 : Shape := ⟨3, ![1, 8192, 2816]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S8192 : Shape := ⟨1, ![8192]⟩
abbrev S8192x1024 : Shape := ⟨2, ![8192, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x2816, .f32⟩
  | .hbm, ⟨4, _⟩ => ⟨S1x8192x2816, .f32⟩
  | .hbm, ⟨5, _⟩ => ⟨S1x8192x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1024x5632, .f32⟩
  | .hbm, ⟨28, _⟩ => ⟨S1x8192x5632, .f32⟩
  | .hbm, ⟨29, _⟩ => ⟨S1x8192x2816, .f32⟩
  | .hbm, ⟨30, _⟩ => ⟨S1x8192x2816, .f32⟩
  | .hbm, ⟨31, _⟩ => ⟨S1x8192x5632, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel3.lean ====
abbrev S1x8192x2816 : Shape := ⟨3, ![1, 8192, 2816]⟩
abbrev S1x8192x1024 : Shape := ⟨3, ![1, 8192, 1024]⟩
abbrev S8192x1024 : Shape := ⟨2, ![8192, 1024]⟩
abbrev S8192x2816 : Shape := ⟨2, ![8192, 2816]⟩
abbrev S2816x1024 : Shape := ⟨2, ![2816, 1024]⟩
abbrev S1024x512 : Shape := ⟨2, ![1024, 512]⟩
abbrev S1024x2816 : Shape := ⟨2, ![1024, 2816]⟩
abbrev S2816x512 : Shape := ⟨2, ![2816, 512]⟩
abbrev S512x2816 : Shape := ⟨2, ![512, 2816]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S8192x1024, .f32⟩
  | .hbm, ⟨3, _⟩ => ⟨S8192x1024, .bf16⟩
  | .hbm, ⟨4, _⟩ => ⟨S8192x2816, .f32⟩
  | .hbm, ⟨5, _⟩ => ⟨S8192x2816, .bf16⟩
  | .hbm, ⟨6, _⟩ => ⟨S2816x1024, .f32⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .f32⟩
  | .local _ .vmem, ⟨5, _⟩ => ⟨S2816x512, .f32⟩
  | .local _ .vmem, ⟨6, _⟩ => ⟨S512x2816, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1x8192x2816 : Shape := ⟨3, ![1, 8192, 2816]⟩
abbrev S1x8192x1024 : Shape := ⟨3, ![1, 8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S_, .f32⟩
  | .hbm, ⟨3, _⟩ => ⟨S2816x1024, .f32⟩
  | .hbm, ⟨4, _⟩ => ⟨S1x8192x1024, .f32⟩
  | .hbm, ⟨5, _⟩ => ⟨S1024x2816, .f32⟩
  | .hbm, ⟨6, _⟩ => ⟨S2816x1024, .f32⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x8192x2816 : Shape := ⟨3, ![1, 8192, 2816]⟩
abbrev S8192x2816 : Shape := ⟨2, ![8192, 2816]⟩
abbrev S2x8192x2816 : Shape := ⟨3, ![2, 8192, 2816]⟩
abbrev S8192x1024 : Shape := ⟨2, ![8192, 1024]⟩
abbrev S4x1024x1408 : Shape := ⟨3, ![4, 1024, 1408]⟩
abbrev S1024x512 : Shape := ⟨2, ![1024, 512]⟩
abbrev S1x1024x2816 : Shape := ⟨3, ![1, 1024, 2816]⟩
abbrev S2x512x1408 : Shape := ⟨3, ![2, 512, 1408]⟩
abbrev S1024x2816 : Shape := ⟨2, ![1024, 2816]⟩
abbrev S512x2816 : Shape := ⟨2, ![512, 2816]⟩
abbrev S1x512x1408 : Shape := ⟨3, ![1, 512, 1408]⟩
abbrev S512x1408 : Shape := ⟨2, ![512, 1408]⟩

abbrev nBuf : Space → Nat
  | .hbm => 12
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S1x8192x2816, .f32⟩
  | .hbm, ⟨3, _⟩ => ⟨S8192x2816, .f32⟩
  | .hbm, ⟨4, _⟩ => ⟨S8192x2816, .f32⟩
  | .hbm, ⟨5, _⟩ => ⟨S1x8192x2816, .f32⟩
  | .hbm, ⟨6, _⟩ => ⟨S1x8192x2816, .f32⟩
  | .hbm, ⟨7, _⟩ => ⟨S2x8192x2816, .f32⟩
  | .hbm, ⟨8, _⟩ => ⟨S2x8192x2816, .bf16⟩
  | .hbm, ⟨9, _⟩ => ⟨S8192x1024, .f32⟩
  | .hbm, ⟨10, _⟩ => ⟨S8192x1024, .bf16⟩
  | .hbm, ⟨11, _⟩ => ⟨S4x1024x1408, .f32⟩
  | .local _ .vmem, ⟨0, _⟩ => ⟨S1024x512, .bf16⟩
  | .local _ .vmem, ⟨1, _⟩ => ⟨S1024x512, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S2x512x1408, .f32⟩
  | .local _ .vmem, ⟨5, _⟩ => ⟨S2x512x1408, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1x8192x1024 : Shape := ⟨3, ![1, 8192, 1024]⟩
abbrev S1x8192x2816 : Shape := ⟨3, ![1, 8192, 2816]⟩
abbrev S_ : Shape := ⟨0, ![]⟩
abbrev S1024x5632 : Shape := ⟨2, ![1024, 5632]⟩
abbrev S1x8192x5632 : Shape := ⟨3, ![1, 8192, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S1x8192x2816, .f32⟩
  | .hbm, ⟨3, _⟩ => ⟨S_, .f32⟩
  | .hbm, ⟨4, _⟩ => ⟨S1024x5632, .f32⟩
  | .hbm, ⟨5, _⟩ => ⟨S1x8192x5632, .f32⟩
  | .hbm, ⟨6, _⟩ => ⟨S1x8192x2816, .f32⟩
  | .hbm, ⟨7, _⟩ => ⟨S1x8192x2816, .f32⟩
  | .hbm, ⟨8, _⟩ => ⟨S1x8192x5632, .f32⟩
  | .hbm, ⟨9, _⟩ => ⟨S5632x1024, .f32⟩
  | .hbm, ⟨10, _⟩ => ⟨S1024x5632, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S1x8192x1024 : Shape := ⟨3, ![1, 8192, 1024]⟩
abbrev S1x1024x5632 : Shape := ⟨3, ![1, 1024, 5632]⟩
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 8
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x1024x5632, .f32⟩
  | .hbm, ⟨2, _⟩ => ⟨S8192x1024, .f32⟩
  | .hbm, ⟨3, _⟩ => ⟨S8192x1024, .bf16⟩
  | .hbm, ⟨4, _⟩ => ⟨S1024x5632, .f32⟩
  | .hbm, ⟨5, _⟩ => ⟨S1024x5632, .bf16⟩
  | .hbm, ⟨6, _⟩ => ⟨S2x8192x2816, .f32⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .f32⟩
  | .local _ .vmem, ⟨7, _⟩ => ⟨S2x512x1408, .f32⟩
  | .local _ .vmem, ⟨8, _⟩ => ⟨S512x1408, .bf16⟩
  | .local _ .vmem, ⟨9, _⟩ => ⟨S512x1408, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S1x8192x1024 : Shape := ⟨3, ![1, 8192, 1024]⟩
abbrev S1x1024x5632 : Shape := ⟨3, ![1, 1024, 5632]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x2816 : Shape := ⟨2, ![8192, 2816]⟩
abbrev S2x8192x2816 : Shape := ⟨3, ![2, 8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x5632, .f32⟩
  | .hbm, ⟨2, _⟩ => ⟨S1024x5632, .f32⟩
  | .hbm, ⟨3, _⟩ => ⟨S1x8192x5632, .f32⟩
  | .hbm, ⟨4, _⟩ => ⟨S1x8192x2816, .f32⟩
  | .hbm, ⟨5, _⟩ => ⟨S1x8192x2816, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S1x8192x2816, .f32⟩
  | .hbm, ⟨12, _⟩ => ⟨S1x8192x2816, .f32⟩
  | .hbm, ⟨13, _⟩ => ⟨S_, .f32⟩
  | .hbm, ⟨14, _⟩ => ⟨S1x8192x2816, .f32⟩
  | .hbm, ⟨15, _⟩ => ⟨S1x8192x2816, .f32⟩
  | .hbm, ⟨16, _⟩ => ⟨S_, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S8192x2816, .f32⟩
  | .hbm, ⟨22, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel7.lean ====
abbrev S1x8192x1024 : Shape := ⟨3, ![1, 8192, 1024]⟩
abbrev S1x1024x3328 : Shape := ⟨3, ![1, 1024, 3328]⟩
abbrev S8192x1024 : Shape := ⟨2, ![8192, 1024]⟩
abbrev S1024x3328 : Shape := ⟨2, ![1024, 3328]⟩
abbrev S8192x3328 : Shape := ⟨2, ![8192, 3328]⟩
abbrev S512x1024 : Shape := ⟨2, ![512, 1024]⟩
abbrev S512x3328 : Shape := ⟨2, ![512, 3328]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1x1024x3328, .f32⟩
  | .hbm, ⟨2, _⟩ => ⟨S8192x1024, .f32⟩
  | .hbm, ⟨3, _⟩ => ⟨S8192x1024, .bf16⟩
  | .hbm, ⟨4, _⟩ => ⟨S1024x3328, .f32⟩
  | .hbm, ⟨5, _⟩ => ⟨S1024x3328, .bf16⟩
  | .hbm, ⟨6, _⟩ => ⟨S8192x3328, .f32⟩
  | .local _ .vmem, ⟨0, _⟩ => ⟨S512x1024, .bf16⟩
  | .local _ .vmem, ⟨1, _⟩ => ⟨S512x1024, .bf16⟩
  | .local _ .vmem, ⟨2, _⟩ => ⟨S1024x3328, .bf16⟩
  | .local _ .vmem, ⟨3, _⟩ => ⟨S512x3328, .f32⟩
  | .local _ .vmem, ⟨4, _⟩ => ⟨S512x3328, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1x8192x1024 : Shape := ⟨3, ![1, 8192, 1024]⟩
abbrev S1x1024x3328 : Shape := ⟨3, ![1, 1024, 3328]⟩
abbrev S1024x3328 : Shape := ⟨2, ![1024, 3328]⟩
abbrev S1x8192x3328 : Shape := ⟨3, ![1, 8192, 3328]⟩
abbrev S8192x3328 : Shape := ⟨2, ![8192, 3328]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x3328, .f32⟩
  | .hbm, ⟨2, _⟩ => ⟨S1024x3328, .f32⟩
  | .hbm, ⟨3, _⟩ => ⟨S1x8192x3328, .f32⟩
  | .hbm, ⟨4, _⟩ => ⟨S8192x3328, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S1x8192x1024 : Shape := ⟨3, ![1, 8192, 1024]⟩
abbrev S1x8192x3328 : Shape := ⟨3, ![1, 8192, 3328]⟩
abbrev S8192x1024 : Shape := ⟨2, ![8192, 1024]⟩
abbrev S8192x3328 : Shape := ⟨2, ![8192, 3328]⟩
abbrev S3328x1024 : Shape := ⟨2, ![3328, 1024]⟩
abbrev S1024x512 : Shape := ⟨2, ![1024, 512]⟩
abbrev S1024x3328 : Shape := ⟨2, ![1024, 3328]⟩
abbrev S3328x512 : Shape := ⟨2, ![3328, 512]⟩
abbrev S512x3328 : Shape := ⟨2, ![512, 3328]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3328, .f32⟩
  | .hbm, ⟨2, _⟩ => ⟨S8192x1024, .f32⟩
  | .hbm, ⟨3, _⟩ => ⟨S8192x1024, .bf16⟩
  | .hbm, ⟨4, _⟩ => ⟨S8192x3328, .f32⟩
  | .hbm, ⟨5, _⟩ => ⟨S8192x3328, .bf16⟩
  | .hbm, ⟨6, _⟩ => ⟨S3328x1024, .f32⟩
  | .local _ .vmem, ⟨0, _⟩ => ⟨S1024x512, .bf16⟩
  | .local _ .vmem, ⟨1, _⟩ => ⟨S1024x512, .bf16⟩
  | .local _ .vmem, ⟨2, _⟩ => ⟨S1024x3328, .bf16⟩
  | .local _ .vmem, ⟨3, _⟩ => ⟨S1024x3328, .bf16⟩
  | .local _ .vmem, ⟨4, _⟩ => ⟨S3328x512, .f32⟩
  | .local _ .vmem, ⟨5, _⟩ => ⟨S3328x512, .f32⟩
  | .local _ .vmem, ⟨6, _⟩ => ⟨S512x3328, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S3328x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1x8192x1024 : Shape := ⟨3, ![1, 8192, 1024]⟩
abbrev S1x8192x3328 : Shape := ⟨3, ![1, 8192, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3328, .f32⟩
  | .hbm, ⟨2, _⟩ => ⟨S_, .f32⟩
  | .hbm, ⟨3, _⟩ => ⟨S1024x3328, .f32⟩
  | .hbm, ⟨4, _⟩ => ⟨S1x8192x3328, .f32⟩
  | .hbm, ⟨5, _⟩ => ⟨S3328x1024, .f32⟩
  | .hbm, ⟨6, _⟩ => ⟨S1024x3328, .f32⟩
  | .hbm, ⟨7, _⟩ => ⟨S3328x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1x8192x1024 : Shape := ⟨3, ![1, 8192, 1024]⟩
abbrev S1x1024x1024 : Shape := ⟨3, ![1, 1024, 1024]⟩
abbrev S1x1024 : Shape := ⟨2, ![1, 1024]⟩
abbrev S8192x1024 : Shape := ⟨2, ![8192, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x1024x1024, .f32⟩
  | .hbm, ⟨2, _⟩ => ⟨S1x8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S1x8192x1024 : Shape := ⟨3, ![1, 8192, 1024]⟩
abbrev S1x1024x1024 : Shape := ⟨3, ![1, 1024, 1024]⟩
abbrev S1x1024 : Shape := ⟨2, ![1, 1024]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x1024, .f32⟩
  | .hbm, ⟨2, _⟩ => ⟨S1x8192x1024, .f32⟩
  | .hbm, ⟨3, _⟩ => ⟨S1x1024, .f32⟩
  | .hbm, ⟨4, _⟩ => ⟨S1024x1024, .f32⟩
  | .hbm, ⟨5, _⟩ => ⟨S1x8192x1024, .f32⟩
  | .hbm, ⟨6, _⟩ => ⟨S1x8192x1024, .f32⟩
  | .hbm, ⟨7, _⟩ => ⟨S8192x1024, .f32⟩
  | .hbm, ⟨8, _⟩ => ⟨S1024, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S8192x1024, .f32⟩
  | .hbm, ⟨26, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel10.lean ====
abbrev S1x1024x1024 : Shape := ⟨3, ![1, 1024, 1024]⟩
abbrev S1x8192x1024 : Shape := ⟨3, ![1, 8192, 1024]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1x8192x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .hbm, ⟨5, _⟩ => ⟨S1024x1024, .bf16⟩
  | .hbm, ⟨6, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S1x1024x1024 : Shape := ⟨3, ![1, 1024, 1024]⟩
abbrev S1x8192x1024 : Shape := ⟨3, ![1, 8192, 1024]⟩
abbrev S_ : Shape := ⟨0, ![]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x8192x1024, .f32⟩
  | .hbm, ⟨2, _⟩ => ⟨S_, .f32⟩
  | .hbm, ⟨3, _⟩ => ⟨S1x8192x1024, .f32⟩
  | .hbm, ⟨4, _⟩ => ⟨S1024x1024, .f32⟩
  | .hbm, ⟨5, _⟩ => ⟨S1x8192x1024, .f32⟩
  | .hbm, ⟨6, _⟩ => ⟨S1x8192x1024, .f32⟩
  | .hbm, ⟨7, _⟩ => ⟨S8192x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1x8192x1024 : Shape := ⟨3, ![1, 8192, 1024]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1x8192x1024 : Shape := ⟨3, ![1, 8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S_, .f32⟩
  | .hbm, ⟨3, _⟩ => ⟨S1024x1024, .f32⟩
  | .hbm, ⟨4, _⟩ => ⟨S1x8192x1024, .f32⟩
  | .hbm, ⟨5, _⟩ => ⟨S1024x1024, .f32⟩
  | .hbm, ⟨6, _⟩ => ⟨S1024x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S1x8192x1024 : Shape := ⟨3, ![1, 8192, 1024]⟩
abbrev S1x1024 : Shape := ⟨2, ![1, 1024]⟩
abbrev S1x1024x3328 : Shape := ⟨3, ![1, 1024, 3328]⟩
abbrev S1x8192x3328 : Shape := ⟨3, ![1, 8192, 3328]⟩
abbrev S8192x3328 : Shape := ⟨2, ![8192, 3328]⟩
abbrev S1024x3328 : Shape := ⟨2, ![1024, 3328]⟩
abbrev S8192x1024 : Shape := ⟨2, ![8192, 1024]⟩
abbrev S256x3328 : Shape := ⟨2, ![256, 3328]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3328, .f32⟩
  | .hbm, ⟨3, _⟩ => ⟨S1x8192x3328, .f32⟩
  | .hbm, ⟨4, _⟩ => ⟨S1x8192x1024, .f32⟩
  | .hbm, ⟨5, _⟩ => ⟨S8192x3328, .f32⟩
  | .hbm, ⟨6, _⟩ => ⟨S8192x3328, .bf16⟩
  | .hbm, ⟨7, _⟩ => ⟨S1024x3328, .f32⟩
  | .hbm, ⟨8, _⟩ => ⟨S1024x3328, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .local _ .vmem, ⟨0, _⟩ => ⟨S256x3328, .bf16⟩
  | .local _ .vmem, ⟨1, _⟩ => ⟨S256x3328, .bf16⟩
  | .local _ .vmem, ⟨2, _⟩ => ⟨S1024x3328, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S1x8192x1024 : Shape := ⟨3, ![1, 8192, 1024]⟩
abbrev S1x1024 : Shape := ⟨2, ![1, 1024]⟩
abbrev S1x1024x3328 : Shape := ⟨3, ![1, 1024, 3328]⟩
abbrev S1x8192x3328 : Shape := ⟨3, ![1, 8192, 3328]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3328 : Shape := ⟨2, ![1024, 3328]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3328, .f32⟩
  | .hbm, ⟨3, _⟩ => ⟨S1x8192x3328, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x3328, .f32⟩
  | .hbm, ⟨27, _⟩ => ⟨S1x8192x3328, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel13.lean ====
abbrev S2x32768x64 : Shape := ⟨3, ![2, 32768, 64]⟩
abbrev S2x8192x64 : Shape := ⟨3, ![2, 8192, 64]⟩
abbrev S2x32768x8192 : Shape := ⟨3, ![2, 32768, 8192]⟩
abbrev S_ : Shape := ⟨0, ![]⟩
abbrev S2x32768 : Shape := ⟨2, ![2, 32768]⟩
abbrev S2x32768x1 : Shape := ⟨3, ![2, 32768, 1]⟩
abbrev S2x128x256x1 : Shape := ⟨4, ![2, 128, 256, 1]⟩
abbrev S2x128x256x128 : Shape := ⟨4, ![2, 128, 256, 128]⟩
abbrev S2x128x256x64 : Shape := ⟨4, ![2, 128, 256, 64]⟩
abbrev S2x128x64x256 : Shape := ⟨4, ![2, 128, 64, 256]⟩
abbrev S2x32x256x64 : Shape := ⟨4, ![2, 32, 256, 64]⟩
abbrev S2x32x256x128 : Shape := ⟨4, ![2, 32, 256, 128]⟩
abbrev S2x8192x128 : Shape := ⟨3, ![2, 8192, 128]⟩
abbrev S2x32x64x256 : Shape := ⟨4, ![2, 32, 64, 256]⟩
abbrev S1x8x256x128 : Shape := ⟨4, ![1, 8, 256, 128]⟩
abbrev S1x8x64x256 : Shape := ⟨4, ![1, 8, 64, 256]⟩
abbrev S1x8192x128 : Shape := ⟨3, ![1, 8192, 128]⟩
abbrev S1x32x64x256 : Shape := ⟨4, ![1, 32, 64, 256]⟩
abbrev S1x1x256x128 : Shape := ⟨4, ![1, 1, 256, 128]⟩
abbrev S256x128 : Shape := ⟨2, ![256, 128]⟩
abbrev S1x1x64x256 : Shape := ⟨4, ![1, 1, 64, 256]⟩
abbrev S64x256 : Shape := ⟨2, ![64, 256]⟩
abbrev S256 : Shape := ⟨1, ![256]⟩
abbrev S1x256 : Shape := ⟨2, ![1, 256]⟩
abbrev S128x256 : Shape := ⟨2, ![128, 256]⟩
abbrev S64x512 : Shape := ⟨2, ![64, 512]⟩
abbrev S128x512 : Shape := ⟨2, ![128, 512]⟩
abbrev S1x512x128 : Shape := ⟨3, ![1, 512, 128]⟩
abbrev S512x128 : Shape := ⟨2, ![512, 128]⟩
abbrev S256x512 : Shape := ⟨2, ![256, 512]⟩

abbrev nBuf : Space → Nat
  | .hbm => 51
  | .vmem => 24
  | .smem => 0
  | _ => 0

abbrev bufTy : (tb : Table) → Fin (tcTables nBuf tb) → BufTy
  | .hbm, ⟨0, _⟩ => ⟨S2x32768x64, .f32⟩
  | .hbm, ⟨1, _⟩ => ⟨S2x8192x64, .f32⟩
  | .hbm, ⟨2, _⟩ => ⟨S2x8192x64, .f32⟩
  | .hbm, ⟨3, _⟩ => ⟨S2x32768x64, .f32⟩
  | .hbm, ⟨4, _⟩ => ⟨S2x32768x8192, .f32⟩
  | .hbm, ⟨5, _⟩ => ⟨S_, .f32⟩
  | .hbm, ⟨6, _⟩ => ⟨S2x32768, .f32⟩
  | .hbm, ⟨7, _⟩ => ⟨S2x32768x1, .f32⟩
  | .hbm, ⟨8, _⟩ => ⟨S2x32768x8192, .f32⟩
  | .hbm, ⟨9, _⟩ => ⟨S2x32768x8192, .f32⟩
  | .hbm, ⟨10, _⟩ => ⟨S2x32768x8192, .f32⟩
  | .hbm, ⟨11, _⟩ => ⟨S_, .f32⟩
  | .hbm, ⟨12, _⟩ => ⟨S2x32768, .f32⟩
  | .hbm, ⟨13, _⟩ => ⟨S2x32768x1, .f32⟩
  | .hbm, ⟨14, _⟩ => ⟨S2x32768x8192, .f32⟩
  | .hbm, ⟨15, _⟩ => ⟨S2x32768x8192, .f32⟩
  | .hbm, ⟨16, _⟩ => ⟨S2x32768x64, .f32⟩
  | .hbm, ⟨17, _⟩ => ⟨S2x32768x1, .f32⟩
  | .hbm, ⟨18, _⟩ => ⟨S2x32768x1, .f32⟩
  | .hbm, ⟨19, _⟩ => ⟨S2x32768x64, .bf16⟩
  | .hbm, ⟨20, _⟩ => ⟨S2x8192x64, .bf16⟩
  | .hbm, ⟨21, _⟩ => ⟨S2x8192x64, .bf16⟩
  | .hbm, ⟨22, _⟩ => ⟨S2x32768x64, .bf16⟩
  | .hbm, ⟨23, _⟩ => ⟨S2x128x256x1, .f32⟩
  | .hbm, ⟨24, _⟩ => ⟨S2x128x256x128, .f32⟩
  | .hbm, ⟨25, _⟩ => ⟨S2x128x256x64, .bf16⟩
  | .hbm, ⟨26, _⟩ => ⟨S_, .bf16⟩
  | .hbm, ⟨27, _⟩ => ⟨S2x128x256x64, .bf16⟩
  | .hbm, ⟨28, _⟩ => ⟨S2x128x256x128, .bf16⟩
  | .hbm, ⟨29, _⟩ => ⟨S2x128x256x64, .bf16⟩
  | .hbm, ⟨30, _⟩ => ⟨S2x128x64x256, .bf16⟩
  | .hbm, ⟨31, _⟩ => ⟨S2x128x256x64, .bf16⟩
  | .hbm, ⟨32, _⟩ => ⟨S_, .bf16⟩
  | .hbm, ⟨33, _⟩ => ⟨S2x128x256x64, .bf16⟩
  | .hbm, ⟨34, _⟩ => ⟨S2x128x256x128, .bf16⟩
  | .hbm, ⟨35, _⟩ => ⟨S2x128x256x64, .bf16⟩
  | .hbm, ⟨36, _⟩ => ⟨S2x128x64x256, .bf16⟩
  | .hbm, ⟨37, _⟩ => ⟨S2x128x256x64, .f32⟩
  | .hbm, ⟨38, _⟩ => ⟨S2x128x64x256, .f32⟩
  | .hbm, ⟨39, _⟩ => ⟨S2x32x256x64, .bf16⟩
  | .hbm, ⟨40, _⟩ => ⟨S_, .bf16⟩
  | .hbm, ⟨41, _⟩ => ⟨S2x32x256x64, .bf16⟩
  | .hbm, ⟨42, _⟩ => ⟨S2x32x256x128, .bf16⟩
  | .hbm, ⟨43, _⟩ => ⟨S2x8192x128, .bf16⟩
  | .hbm, ⟨44, _⟩ => ⟨S2x32x256x64, .bf16⟩
  | .hbm, ⟨45, _⟩ => ⟨S2x32x64x256, .bf16⟩
  | .hbm, ⟨46, _⟩ => ⟨S2x32x256x64, .bf16⟩
  | .hbm, ⟨47, _⟩ => ⟨S2x32x64x256, .bf16⟩
  | .hbm, ⟨48, _⟩ => ⟨S2x128x64x256, .f32⟩
  | .hbm, ⟨49, _⟩ => ⟨S2x32x64x256, .f32⟩
  | .hbm, ⟨50, _⟩ => ⟨S2x32x64x256, .f32⟩
  | .local _ .vmem, ⟨0, _⟩ => ⟨S1x8x256x128, .bf16⟩
  | .local _ .vmem, ⟨1, _⟩ => ⟨S1x8x256x128, .bf16⟩
  | .local _ .vmem, ⟨2, _⟩ => ⟨S1x8x64x256, .bf16⟩
  | .local _ .vmem, ⟨3, _⟩ => ⟨S1x8x64x256, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x8x64x256, .bf16⟩
  | .local _ .vmem, ⟨7, _⟩ => ⟨S1x8x64x256, .bf16⟩
  | .local _ .vmem, ⟨8, _⟩ => ⟨S1x8x64x256, .f32⟩
  | .local _ .vmem, ⟨9, _⟩ => ⟨S1x8x64x256, .f32⟩
  | .local _ .vmem, ⟨10, _⟩ => ⟨S1x8x256x128, .f32⟩
  | .local _ .vmem, ⟨11, _⟩ => ⟨S1x8x256x128, .f32⟩
  | .local _ .vmem, ⟨12, _⟩ => ⟨S1x8192x128, .bf16⟩
  | .local _ .vmem, ⟨13, _⟩ => ⟨S1x8192x128, .bf16⟩
  | .local _ .vmem, ⟨14, _⟩ => ⟨S1x32x64x256, .bf16⟩
  | .local _ .vmem, ⟨15, _⟩ => ⟨S1x32x64x256, .bf16⟩
  | .local _ .vmem, ⟨16, _⟩ => ⟨S1x32x64x256, .bf16⟩
  | .local _ .vmem, ⟨17, _⟩ => ⟨S1x32x64x256, .bf16⟩
  | .local _ .vmem, ⟨18, _⟩ => ⟨S1x8x64x256, .f32⟩
  | .local _ .vmem, ⟨19, _⟩ => ⟨S1x8x64x256, .f32⟩
  | .local _ .vmem, ⟨20, _⟩ => ⟨S1x32x64x256, .f32⟩
  | .local _ .vmem, ⟨21, _⟩ => ⟨S1x32x64x256, .f32⟩
  | .local _ .vmem, ⟨22, _⟩ => ⟨S1x32x64x256, .f32⟩
  | .local _ .vmem, ⟨23, _⟩ => ⟨S1x32x64x256, .f32⟩
  | _, _ => ⟨S2x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_104 : BitVec 32 := 0#32
  let c16_i32 : BitVec 32 := 16#32
  let v115 : BitVec 32 := Scalar.addi c0_i32_104 c16_i32
  let c1_i32 : BitVec 32 := 1#32
  ⟨c0_i32_104, v115, c1_i32⟩
def k0_off1 (k0_t1 : Fin k0_t1_loop.trips) (c0_i32_138 : BitVec 32) : Fin 4 → Nat :=
  let c0_139 : Index := 0#32
  let c0_i32_104 : BitVec 32 := 0#32
  let c1_i32 : BitVec 32 := 1#32
  let arg14 : BitVec 32 := Scf.iv c0_i32_104 c1_i32 k0_t1
  let c2_i32 : BitVec 32 := 2#32
  let v157 : BitVec 32 := Scalar.muli arg14 c2_i32
  let v158 : BitVec 32 := Scalar.addi v157 c0_i32_138
  let v159 : Index := Scalar.indexCast v158
  let c0_140 : Index := 0#32
  let c0_141 : Index := 0#32
  ![0, v159.toNat, 0, 0]
def k0_mult1 (k0_t1 : Fin k0_t1_loop.trips) : BitVec 32 :=
  let c0_i32_104 : BitVec 32 := 0#32
  let c1_i32 : BitVec 32 := 1#32
  let arg14 : BitVec 32 := Scf.iv c0_i32_104 c1_i32 k0_t1
  let c512_i32 : BitVec 32 := 512#32
  let v183 : BitVec 32 := Scalar.muli arg14 c512_i32
  v183
def k0_off2 (k0_t1 : Fin k0_t1_loop.trips) : Fin 3 → Nat :=
  let c0_159 : Index := 0#32
  let c0_i32_104 : BitVec 32 := 0#32
  let c1_i32 : BitVec 32 := 1#32
  let arg14 : BitVec 32 := Scf.iv c0_i32_104 c1_i32 k0_t1
  let c512_i32 : BitVec 32 := 512#32
  let v183 : BitVec 32 := Scalar.muli arg14 c512_i32
  let v184 : BitVec 32 := v183
  let v185 : Index := Scalar.indexCast v184
  let c0_160 : Index := 0#32
  ![0, v185.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference13Ideal.lean ====
abbrev S2x32768x64 : Shape := ⟨3, ![2, 32768, 64]⟩
abbrev S2x8192x64 : Shape := ⟨3, ![2, 8192, 64]⟩
abbrev S2x32768x8192 : Shape := ⟨3, ![2, 32768, 8192]⟩
abbrev S_ : Shape := ⟨0, ![]⟩
abbrev S2x32768 : Shape := ⟨2, ![2, 32768]⟩
abbrev S2x32768x1 : Shape := ⟨3, ![2, 32768, 1]⟩
abbrev S2x64x8192 : Shape := ⟨3, ![2, 64, 8192]⟩
abbrev S2x128x256x64 : Shape := ⟨4, ![2, 128, 256, 64]⟩
abbrev S2x128x64x256 : Shape := ⟨4, ![2, 128, 64, 256]⟩
abbrev S2x32x256x64 : Shape := ⟨4, ![2, 32, 256, 64]⟩
abbrev S2x32x64x256 : Shape := ⟨4, ![2, 32, 64, 256]⟩

abbrev nBuf : Space → Nat
  | .hbm => 69
  | .vmem => 0
  | .smem => 0
  | _ => 0

abbrev bufTy : (tb : Table) → Fin (tcTables nBuf tb) → BufTy
  | .hbm, ⟨0, _⟩ => ⟨S2x32768x64, .f32⟩
  | .hbm, ⟨1, _⟩ => ⟨S2x8192x64, .f32⟩
  | .hbm, ⟨2, _⟩ => ⟨S2x8192x64, .f32⟩
  | .hbm, ⟨3, _⟩ => ⟨S2x32768x64, .f32⟩
  | .hbm, ⟨4, _⟩ => ⟨S2x32768x8192, .f32⟩
  | .hbm, ⟨5, _⟩ => ⟨S_, .f32⟩
  | .hbm, ⟨6, _⟩ => ⟨S2x32768, .f32⟩
  | .hbm, ⟨7, _⟩ => ⟨S2x32768x1, .f32⟩
  | .hbm, ⟨8, _⟩ => ⟨S2x32768x8192, .f32⟩
  | .hbm, ⟨9, _⟩ => ⟨S2x32768x8192, .i1⟩
  | .hbm, ⟨10, _⟩ => ⟨S2x32768x8192, .f32⟩
  | .hbm, ⟨11, _⟩ => ⟨S_, .f32⟩
  | .hbm, ⟨12, _⟩ => ⟨S2x32768, .f32⟩
  | .hbm, ⟨13, _⟩ => ⟨S_, .f32⟩
  | .hbm, ⟨14, _⟩ => ⟨S2x32768, .f32⟩
  | .hbm, ⟨15, _⟩ => ⟨S2x32768, .f32⟩
  | .hbm, ⟨16, _⟩ => ⟨S_, .f32⟩
  | .hbm, ⟨17, _⟩ => ⟨S2x32768, .f32⟩
  | .hbm, ⟨18, _⟩ => ⟨S2x32768, .i1⟩
  | .hbm, ⟨19, _⟩ => ⟨S_, .f32⟩
  | .hbm, ⟨20, _⟩ => ⟨S2x32768, .f32⟩
  | .hbm, ⟨21, _⟩ => ⟨S2x32768, .i1⟩
  | .hbm, ⟨22, _⟩ => ⟨S_, .f32⟩
  | .hbm, ⟨23, _⟩ => ⟨S2x32768, .f32⟩
  | .hbm, ⟨24, _⟩ => ⟨S_, .f32⟩
  | .hbm, ⟨25, _⟩ => ⟨S2x32768, .f32⟩
  | .hbm, ⟨26, _⟩ => ⟨S_, .f32⟩
  | .hbm, ⟨27, _⟩ => ⟨S2x32768, .f32⟩
  | .hbm, ⟨28, _⟩ => ⟨S2x32768, .f32⟩
  | .hbm, ⟨29, _⟩ => ⟨S2x32768, .f32⟩
  | .hbm, ⟨30, _⟩ => ⟨S2x32768x1, .f32⟩
  | .hbm, ⟨31, _⟩ => ⟨S2x32768x8192, .f32⟩
  | .hbm, ⟨32, _⟩ => ⟨S2x32768x8192, .f32⟩
  | .hbm, ⟨33, _⟩ => ⟨S2x32768x8192, .f32⟩
  | .hbm, ⟨34, _⟩ => ⟨S_, .f32⟩
  | .hbm, ⟨35, _⟩ => ⟨S2x32768, .f32⟩
  | .hbm, ⟨36, _⟩ => ⟨S2x32768x1, .f32⟩
  | .hbm, ⟨37, _⟩ => ⟨S2x32768x8192, .f32⟩
  | .hbm, ⟨38, _⟩ => ⟨S2x32768x8192, .f32⟩
  | .hbm, ⟨39, _⟩ => ⟨S2x32768x1, .f32⟩
  | .hbm, ⟨40, _⟩ => ⟨S_, .f32⟩
  | .hbm, ⟨41, _⟩ => ⟨S2x32768x1, .f32⟩
  | .hbm, ⟨42, _⟩ => ⟨S2x32768x1, .f32⟩
  | .hbm, ⟨43, _⟩ => ⟨S2x32768x64, .f32⟩
  | .hbm, ⟨44, _⟩ => ⟨S2x64x8192, .f32⟩
  | .hbm, ⟨45, _⟩ => ⟨S2x8192x64, .f32⟩
  | .hbm, ⟨46, _⟩ => ⟨S2x32768x8192, .f32⟩
  | .hbm, ⟨47, _⟩ => ⟨S2x32768x8192, .f32⟩
  | .hbm, ⟨48, _⟩ => ⟨S2x32768x8192, .f32⟩
  | .hbm, ⟨49, _⟩ => ⟨S2x32768x8192, .f32⟩
  | .hbm, ⟨50, _⟩ => ⟨S_, .f32⟩
  | .hbm, ⟨51, _⟩ => ⟨S2x32768, .f32⟩
  | .hbm, ⟨52, _⟩ => ⟨S2x32768x1, .f32⟩
  | .hbm, ⟨53, _⟩ => ⟨S2x32768x1, .f32⟩
  | .hbm, ⟨54, _⟩ => ⟨S2x32768x8192, .f32⟩
  | .hbm, ⟨55, _⟩ => ⟨S2x32768x8192, .f32⟩
  | .hbm, ⟨56, _⟩ => ⟨S_, .f32⟩
  | .hbm, ⟨57, _⟩ => ⟨S2x32768, .f32⟩
  | .hbm, ⟨58, _⟩ => ⟨S2x32768x8192, .f32⟩
  | .hbm, ⟨59, _⟩ => ⟨S2x32768x8192, .f32⟩
  | .hbm, ⟨60, _⟩ => ⟨S2x32768x8192, .f32⟩
  | .hbm, ⟨61, _⟩ => ⟨S2x8192x64, .f32⟩
  | .hbm, ⟨62, _⟩ => ⟨S2x32768x64, .f32⟩
  | .hbm, ⟨63, _⟩ => ⟨S2x128x256x64, .f32⟩
  | .hbm, ⟨64, _⟩ => ⟨S2x128x64x256, .f32⟩
  | .hbm, ⟨65, _⟩ => ⟨S2x32x256x64, .f32⟩
  | .hbm, ⟨66, _⟩ => ⟨S2x32x64x256, .f32⟩
  | .hbm, ⟨67, _⟩ => ⟨S2x32x256x64, .f32⟩
  | .hbm, ⟨68, _⟩ => ⟨S2x32x64x256, .f32⟩
  | _, _ => ⟨S2x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel14.lean ====
abbrev S4x832x1024 : Shape := ⟨3, ![4, 832, 1024]⟩
abbrev S832x1024 : Shape := ⟨2, ![832, 1024]⟩
abbrev S4x416x1024 : Shape := ⟨3, ![4, 416, 1024]⟩
abbrev S416x1024 : Shape := ⟨2, ![416, 1024]⟩
abbrev S1x416x1024 : Shape := ⟨3, ![1, 416, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x832x1024, .bf16⟩
  | .hbm, ⟨1, _⟩ => ⟨S832x1024, .f32⟩
  | .local _ .vmem, ⟨0, _⟩ => ⟨S4x416x1024, .bf16⟩
  | .local _ .vmem, ⟨1, _⟩ => ⟨S4x416x1024, .bf16⟩
  | .local _ .vmem, ⟨2, _⟩ => ⟨S416x1024, .f32⟩
  | .local _ .vmem, ⟨3, _⟩ => ⟨S416x1024, .f32⟩
  | _, _ => ⟨S4x832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S4x832x1024 : Shape := ⟨3, ![4, 832, 1024]⟩
abbrev S_ : Shape := ⟨0, ![]⟩
abbrev S832x1024 : Shape := ⟨2, ![832, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x832x1024, .bf16⟩
  | .hbm, ⟨1, _⟩ => ⟨S4x832x1024, .f32⟩
  | .hbm, ⟨2, _⟩ => ⟨S_, .f32⟩
  | .hbm, ⟨3, _⟩ => ⟨S832x1024, .f32⟩
  | _, _ => ⟨S4x832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference15Ideal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4x1024x1408 : Shape := ⟨3, ![4, 1024, 1408]⟩
abbrev S1024x1408 : Shape := ⟨2, ![1024, 1408]⟩
abbrev S4x512x1408 : Shape := ⟨3, ![4, 512, 1408]⟩
abbrev S512x1408 : Shape := ⟨2, ![512, 1408]⟩
abbrev S1x512x1408 : Shape := ⟨3, ![1, 512, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x512x1408, .bf16⟩
  | .local _ .vmem, ⟨1, _⟩ => ⟨S4x512x1408, .bf16⟩
  | .local _ .vmem, ⟨2, _⟩ => ⟨S512x1408, .f32⟩
  | .local _ .vmem, ⟨3, _⟩ => ⟨S512x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference16Ideal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .f32⟩
  | .hbm, ⟨2, _⟩ => ⟨S_, .f32⟩
  | .hbm, ⟨3, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference17Ideal.lean ====
abbrev S4x704x1024 : Shape := ⟨3, ![4, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S_, .f32⟩
  | .hbm, ⟨3, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S1x1024x832 : Shape := ⟨3, ![1, 1024, 832]⟩
abbrev S1024x832 : Shape := ⟨2, ![1024, 832]⟩
abbrev S512x832 : Shape := ⟨2, ![512, 832]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S1024x832, .f32⟩
  | .hbm, ⟨5, _⟩ => ⟨S1024x832, .f32⟩
  | .hbm, ⟨6, _⟩ => ⟨S1024x832, .f32⟩
  | .hbm, ⟨7, _⟩ => ⟨S1024x832, .f32⟩
  | .hbm, ⟨8, _⟩ => ⟨S1024x832, .f32⟩
  | .hbm, ⟨9, _⟩ => ⟨S1024x832, .f32⟩
  | .hbm, ⟨10, _⟩ => ⟨S1024x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | _, _ => ⟨S1x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1x1024x832 : Shape := ⟨3, ![1, 1024, 832]⟩
abbrev S1024x832 : Shape := ⟨2, ![1024, 832]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S1024x832, .f32⟩
  | .hbm, ⟨5, _⟩ => ⟨S1024x832, .f32⟩
  | .hbm, ⟨6, _⟩ => ⟨S1024x832, .f32⟩
  | .hbm, ⟨7, _⟩ => ⟨S1024x832, .f32⟩
  | .hbm, ⟨8, _⟩ => ⟨S_, .f32⟩
  | .hbm, ⟨9, _⟩ => ⟨S1024x832, .f32⟩
  | .hbm, ⟨10, _⟩ => ⟨S1024x832, .f32⟩
  | .hbm, ⟨11, _⟩ => ⟨S_, .f32⟩
  | .hbm, ⟨12, _⟩ => ⟨S1024x832, .f32⟩
  | .hbm, ⟨13, _⟩ => ⟨S1024x832, .f32⟩
  | .hbm, ⟨14, _⟩ => ⟨S1024x832, .f32⟩
  | .hbm, ⟨15, _⟩ => ⟨S_, .f32⟩
  | .hbm, ⟨16, _⟩ => ⟨S1024x832, .f32⟩
  | .hbm, ⟨17, _⟩ => ⟨S1024x832, .f32⟩
  | .hbm, ⟨18, _⟩ => ⟨S1024x832, .f32⟩
  | .hbm, ⟨19, _⟩ => ⟨S_, .f32⟩
  | .hbm, ⟨20, _⟩ => ⟨S1024x832, .f32⟩
  | .hbm, ⟨21, _⟩ => ⟨S1024x832, .f32⟩
  | .hbm, ⟨22, _⟩ => ⟨S1024x832, .f32⟩
  | .hbm, ⟨23, _⟩ => ⟨S_, .f32⟩
  | .hbm, ⟨24, _⟩ => ⟨S1024x832, .f32⟩
  | .hbm, ⟨25, _⟩ => ⟨S1024x832, .f32⟩
  | .hbm, ⟨26, _⟩ => ⟨S_, .f32⟩
  | .hbm, ⟨27, _⟩ => ⟨S1024x832, .f32⟩
  | .hbm, ⟨28, _⟩ => ⟨S1024x832, .f32⟩
  | .hbm, ⟨29, _⟩ => ⟨S1024x832, .f32⟩
  | .hbm, ⟨30, _⟩ => ⟨S_, .f32⟩
  | .hbm, ⟨31, _⟩ => ⟨S1024x832, .f32⟩
  | .hbm, ⟨32, _⟩ => ⟨S1024x832, .f32⟩
  | .hbm, ⟨33, _⟩ => ⟨S1024x832, .f32⟩
  | .hbm, ⟨34, _⟩ => ⟨S_, .f32⟩
  | .hbm, ⟨35, _⟩ => ⟨S1024x832, .f32⟩
  | .hbm, ⟨36, _⟩ => ⟨S1024x832, .f32⟩
  | .hbm, ⟨37, _⟩ => ⟨S1024x832, .f32⟩
  | .hbm, ⟨38, _⟩ => ⟨S_, .f32⟩
  | .hbm, ⟨39, _⟩ => ⟨S1024x832, .f32⟩
  | .hbm, ⟨40, _⟩ => ⟨S1024x832, .f32⟩
  | _, _ => ⟨S1x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S_, .f32⟩
  | .hbm, ⟨39, _⟩ => ⟨S1024x1408, .f32⟩
  | .hbm, ⟨40, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S1x704x1024 : Shape := ⟨3, ![1, 704, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DownDx.lean ====
module

public import proofs.«01_k».proof.Defs
public import proofs.«01_k».proof.Proof.Gen.KernelIdeal.Value
public import proofs.«01_k».proof.Proof.Gen.ReferenceIdeal.Read
public import Idealize.ShloMosaic.Lib.Pointwise
public import Idealize.ShloMosaic.Lib.Tactic
public import Idealize.ShloMosaic.Lib.Pipeline.ReadBack
public import Idealize.ShloMosaic.Lib.StableHlo.ReadAt

@[expose] public section
noncomputable section
namespace Cert.Proof.DownDx
open Idealize.ShloMosaic Idealize.SL.Sem Cert.KernelIdeal
open Cert.KernelIdeal.Gen Idealize.ShloMosaic.TcCoe
open Idealize.ShloMosaic.Pipeline (Dat Cfg Window)

/-- The gradient of `silu g * u` in `g`, for the cotangent `d`, in the order the body computes it. -/
def gateGrad (g u d : EReal) : EReal :=
  d * u * Ideal.logistic g + g * (d * u) * (Ideal.logistic g * (1 - Ideal.logistic g))

/-- The gradient of `silu g * u` in `u`, for the cotangent `d`. -/
def upGrad (g d : EReal) : EReal := g * Ideal.logistic g * d

/-- One block of the result from the input windows' blocks. -/
def blockOut (x0 : Vec Ideal S512x1024 .bf16) (x1 : Vec Ideal S1408x1024 .bf16) (x2 : Vec Ideal S2x512x1408 .f32) :
    Vec Ideal S2x512x1408 .bf16 := fun y =>
  if (y 0).val = 0 then
    gateGrad (x2 (ix3 0 (y 1) (y 2))) (x2 (ix3 1 (y 1) (y 2))) (∑ k : Fin 1024, x0 (ix2 (y 1) k) * x1 (ix2 (y 2) k))
  else upGrad (x2 (ix3 0 (y 1) (y 2))) (∑ k : Fin 1024, x0 (ix2 (y 1) k) * x1 (ix2 (y 2) k))

/-- The body leaves `blockOut` of its windows' blocks: each of the two stores is read at its own plane. -/
theorem out_eq (x0 : Vec Ideal S512x1024 .bf16) (x1 : Vec Ideal S1408x1024 .bf16) (x2 : Vec Ideal S2x512x1408 .f32) :
    out0_3 x0 x1 x2 = blockOut x0 x1 x2 := by
  have e2 (x : r0_2.shape.Idx) : r0_2.emb x = ix3 0 (x 1) (x 2) := funext fun a => Fin.ext (by
    have : (x 0).val < 1 := (x 0).isLt
    match a with
    | ⟨0, _⟩ => show 0 + 1 * (x 0).val = 0; omega
    | ⟨1, _⟩ => show 0 + 1 * (x 1).val = (x 1).val; omega
    | ⟨2, _⟩ => show 0 + 1 * (x 2).val = (x 2).val; omega)
  have e3 (x : r0_3.shape.Idx) : r0_3.emb x = ix3 1 (x 1) (x 2) := funext fun a => Fin.ext (by
    have : (x 0).val < 1 := (x 0).isLt
    match a with
    | ⟨0, _⟩ => show 1 + 1 * (x 0).val = 1; omega
    | ⟨1, _⟩ => show 0 + 1 * (x 1).val = (x 1).val; omega
    | ⟨2, _⟩ => show 0 + 1 * (x 2).val = (x 2).val; omega)
  funext y
  unfold out0_3
  rw [View.ld_unit_lit inb_S512x1024_S512x1024_0_0 x0 (by decide), View.ld_unit_lit inb_S1408x1024_S1408x1024_0_0 x1 (by decide)]
  refine View.canon_apply_of_pieces (Val := Elt Ideal) (blockOut x0 x1 x2) _ ?_ y (cover0_3 _ _ y)
  intro p hp x
  simp only [List.mem_cons, List.not_mem_nil, or_false] at hp
  rcases hp with rfl | rfl
  all_goals
    dsimp only at x ⊢
    first | rw [e2] | rw [e3]
    unfold blockOut gateGrad upGrad
    unfold_payloads
    pointwise
    try rfl

/-! ## The whole array -/

variable (m : (ℓ : Loc nD τ sig) → Buf (Elt Ideal) ℓ)

/-- The result array as a function of the four arguments. -/
def result (gate up : FVec Ideal S1x8192x2816 .f32) (w : FVec Ideal S1x2816x1024 .f32) (ct : FVec Ideal S1x8192x1024 .f32) :
    FVec Ideal S2x8192x2816 .bf16 := fun i =>
  if (i 0).val = 0 then
    gateGrad (gate (ix3 0 (i 1) (i 2))) (up (ix3 0 (i 1) (i 2))) (∑ k : Fin 1024, ct (ix3 0 (i 1) k) * w (ix3 0 (i 2) k))
  else upGrad (gate (ix3 0 (i 1) (i 2))) (∑ k : Fin 1024, ct (ix3 0 (i 1) k) * w (ix3 0 (i 2) k))

/-- The host code before the call, read at an index: the cotangent's rows. -/
theorem V_ct (c : Dev nD) (j : S8192x1024.Idx) :
    V m c main_v6 j = m ((c : Thread nD τ).loc main_arg3) (ix3 0 (j 0) (j 1)) := by
  unfold V; after_reads_at

/-- The weight's rows. -/
theorem V_w (c : Dev nD) (j : S2816x1024.Idx) :
    V m c main_v8 j = m ((c : Thread nD τ).loc main_arg2) (ix3 0 (j 0) (j 1)) := by
  unfold V; after_reads_at

/-- The saved pair: plane 0 is `gate`, plane 1 is `up`. -/
theorem V_gu (c : Dev nD) (j : S2x8192x2816.Idx) :
    V m c main_v4 j = if (j 0).val < 1 then m ((c : Thread nD τ).loc main_arg0) (ix3 0 (j 1) (j 2))
      else m ((c : Thread nD τ).loc main_arg1) (ix3 0 (j 1) (j 2)) := by
  unfold V; after_reads_at
  by_cases h : (j 0).val < 1
  · exact (dif_pos h).trans (if_pos h).symm
  · exact (dif_neg h).trans (if_neg h).symm

/-- The blocks each point stages and writes: row block `t % 16`, column block `t / 16`. -/
theorem idx_facts : ∀ t : Fin cfg0.N,
    win0_0.index t 0 = t.val % 16 ∧ win0_0.index t 1 = 0 ∧ win0_1.index t 0 = t.val / 16 ∧ win0_1.index t 1 = 0
    ∧ win0_2.index t 0 = 0 ∧ win0_2.index t 1 = t.val % 16 ∧ win0_2.index t 2 = t.val / 16
    ∧ win0_3.index t 0 = 0 ∧ win0_3.index t 1 = t.val % 16 ∧ win0_3.index t 2 = t.val / 16 :=
  (by decide +kernel : ∀ t : Fin grid0.N, _)

/-- The cotangent's block at point `t`, read in the argument. -/
theorem iblk0 (c : Dev nD) (t : Fin cfg0.N) (y : S512x1024.Idx) (r : Fin 8192) (h : t.val % 16 * 512 + (y 0).val = r.val) :
    iblk m c 0 t y = m ((c : Thread nD τ).loc main_arg3) (ix3 0 r (y 1)) := by
  unfold iblk
  rw [View.read_apply]
  refine (V_ct m c _).trans (congrArg (m ((c : Thread nD τ).loc main_arg3)) ?_)
  obtain ⟨h0, h1, -⟩ := idx_facts t
  funext a; apply Fin.ext
  match a with
  | ⟨0, _⟩ => rfl
  | ⟨1, _⟩ => show win0_0.index t 0 * 512 + 1 * (y 0).val = r.val; omega
  | ⟨2, _⟩ => show win0_0.index t 1 * 1024 + 1 * (y 1).val = (y 1).val; omega

/-- The weight's block at point `t`. -/
theorem iblk1 (c : Dev nD) (t : Fin cfg0.N) (y : S1408x1024.Idx) (f : Fin 2816) (h : t.val / 16 * 1408 + (y 0).val = f.val) :
    iblk m c 1 t y = m ((c : Thread nD τ).loc main_arg2) (ix3 0 f (y 1)) := by
  unfold iblk
  rw [View.read_apply]
  refine (V_w m c _).trans (congrArg (m ((c : Thread nD τ).loc main_arg2)) ?_)
  obtain ⟨-, -, h0, h1, -⟩ := idx_facts t
  funext a; apply Fin.ext
  match a with
  | ⟨0, _⟩ => rfl
  | ⟨1, _⟩ => show win0_1.index t 0 * 1408 + 1 * (y 0).val = f.val; omega
  | ⟨2, _⟩ => show win0_1.index t 1 * 1024 + 1 * (y 1).val = (y 1).val; omega

/-- The saved pair's block at point `t`. -/
theorem iblk2 (c : Dev nD) (t : Fin cfg0.N) (y : S2x512x1408.Idx) (r : Fin 8192) (f : Fin 2816)
    (hr : t.val % 16 * 512 + (y 1).val = r.val) (hf : t.val / 16 * 1408 + (y 2).val = f.val) :
    iblk m c 2 t y = if (y 0).val < 1 then m ((c : Thread nD τ).loc main_arg0) (ix3 0 r f)
      else m ((c : Thread nD τ).loc main_arg1) (ix3 0 r f) := by
  unfold iblk
  rw [View.read_apply]
  obtain ⟨-, -, -, -, h0, h1, h2, -⟩ := idx_facts t
  have he : ((cfg0.win 2).blk t).view.emb y = ix3 (y 0) r f := by
    funext a; apply Fin.ext
    match a with
    | ⟨0, _⟩ => show win0_2.index t 0 * 2 + 1 * (y 0).val = (y 0).val; omega
    | ⟨1, _⟩ => show win0_2.index t 1 * 512 + 1 * (y 1).val = r.val; omega
    | ⟨2, _⟩ => show win0_2.index t 2 * 1408 + 1 * (y 2).val = f.val; omega
  rw [he]
  exact V_gu m c _

/-- `blockOut` of the windows' blocks at point `t` is the block of `result` there. -/
theorem block_eq (c : Dev nD) (t : Fin cfg0.N) (y : S2x512x1408.Idx) (r : Fin 8192) (f : Fin 2816)
    (hr : t.val % 16 * 512 + (y 1).val = r.val) (hf : t.val / 16 * 1408 + (y 2).val = f.val) :
    blockOut (iblk m c 0 t) (iblk m c 1 t) (iblk m c 2 t) y
      = result (m ((c : Thread nD τ).loc main_arg0)) (m ((c : Thread nD τ).loc main_arg1))
        (m ((c : Thread nD τ).loc main_arg2)) (m ((c : Thread nD τ).loc main_arg3)) (ix3 (y 0) r f) := by
  unfold blockOut result
  simp only [iblk0 m c t (ix2 (y 1) _) r hr, iblk1 m c t (ix2 (y 2) _) f hf, iblk2 m c t (ix3 _ (y 1) (y 2)) r f hr hf]
  rfl

/-- What point `t` writes back is its block of `result`. -/
theorem flushed_eq (c : Dev nD) (t : Fin cfg0.N) (hf : (cfg0.win 3).flush t = true) :
    (dats m 0 c).flushed 3 t = ((cfg0.win 3).blk t).view.read (Elt Ideal)
      (result (m ((c : Thread nD τ).loc main_arg0)) (m ((c : Thread nD τ).loc main_arg1))
        (m ((c : Thread nD τ).loc main_arg2)) (m ((c : Thread nD τ).loc main_arg3))) := by
  rw [Value.flushed3, out_eq]
  funext y
  rw [View.read_apply]
  have hN : cfg0.N = 32 := N_0
  have ht := t.isLt
  obtain ⟨-, -, -, -, -, -, -, h0, h1, h2⟩ := idx_facts t
  have y1 : (y 1).val < 512 := (y 1).isLt
  have y2 : (y 2).val < 1408 := (y 2).isLt
  have he : ((cfg0.win 3).blk t).view.emb y = ix3 (y 0) (⟨t.val % 16 * 512 + (y 1).val, by omega⟩ : Fin 8192)
      (⟨t.val / 16 * 1408 + (y 2).val, by omega⟩ : Fin 2816) := by
    funext a; apply Fin.ext
    match a with
    | ⟨0, _⟩ => show win0_3.index t 0 * 2 + 1 * (y 0).val = (y 0).val; omega
    | ⟨1, _⟩ => show win0_3.index t 1 * 512 + 1 * (y 1).val = t.val % 16 * 512 + (y 1).val; omega
    | ⟨2, _⟩ => show win0_3.index t 2 * 1408 + 1 * (y 2).val = t.val / 16 * 1408 + (y 2).val; omega
  rw [he]
  exact block_eq m c t y _ _ rfl rfl

/-- Every index is in the block of some point. -/
theorem covered (i : S2x8192x2816.Idx) : ∃ t : Fin cfg0.N, (cfg0.win 3).flush t = true ∧ i ∈ ((cfg0.win 3).blk t).view.set := by
  have hN : cfg0.N = 32 := N_0
  have i0 : (i 0).val < 2 := (i 0).isLt
  have i1 : (i 1).val < 8192 := (i 1).isLt
  have i2 : (i 2).val < 2816 := (i 2).isLt
  obtain ⟨t, ht⟩ : ∃ t : Fin cfg0.N, t.val = (i 2).val / 1408 * 16 + (i 1).val / 512 := ⟨⟨_, by omega⟩, rfl⟩
  refine ⟨t, flush0_3 t, ?_⟩
  obtain ⟨-, -, -, -, -, -, -, h0, h1, h2⟩ := idx_facts t
  show i ∈ ((View.whole main_v9).slice (win0_3.rect t)).set
  rw [View.set_slice_whole, Rect.mem_set_unit]
  intro a
  match a with
  | ⟨0, _⟩ => show win0_3.index t 0 * 2 ≤ (i 0).val ∧ (i 0).val < win0_3.index t 0 * 2 + 2; omega
  | ⟨1, _⟩ => show win0_3.index t 1 * 512 ≤ (i 1).val ∧ (i 1).val < win0_3.index t 1 * 512 + 512; omega
  | ⟨2, _⟩ => show win0_3.index t 2 * 1408 ≤ (i 2).val ∧ (i 2).val < win0_3.index t 2 * 1408 + 1408; omega

/-- The result array after the run. -/
theorem final (c : Dev nD) : (dats m 0 c).arrAt 3 cfg0.N
    = result (m ((c : Thread nD τ).loc main_arg0)) (m ((c : Thread nD τ).loc main_arg1))
        (m ((c : Thread nD τ).loc main_arg2)) (m ((c : Thread nD τ).loc main_arg3)) :=
  (dats m 0 c).arrAt_eq_of_cover 3 _ (flushed_eq m c) covered

/-! ## The reference -/

open Cert.ReferenceIdeal.Read in
/-- The reference's result is the same function. -/
theorem ref_eq (gate up : FVec Ideal S1x8192x2816 .f32) (w : FVec Ideal S1x2816x1024 .f32) (ct : FVec Ideal S1x8192x1024 .f32) :
    val_main_v13 (F := Ideal) gate up w ct = result gate up w ct := by
  have hd (r : Fin 8192) (f : Fin 2816) :
      val_main_v4 (F := Ideal) w ct (ix3 0 r f) = ∑ k : Fin 1024, ct (ix3 0 r k) * w (ix3 0 f k) := by
    unfold val_main_v4 val_main_v2
    pointwise
  funext i
  obtain ⟨p, r, f, rfl⟩ : ∃ (p : Fin 2) (r : Fin 8192) (f : Fin 2816), i = ix3 p r f := ⟨i 0, i 1, i 2, eq_ix3 i⟩
  unfold val_main_v13 val_main_v12 result
  pointwise
  by_cases h : p.val < 1
  · refine (dif_pos h).trans (Eq.trans ?_ (if_pos (Nat.lt_one_iff.mp h)).symm)
    unfold val_main_v10 val_main_v8 val_main_v7 val_main_call1_v2 val_main_call1_v1 val_main_call1_v0 val_main_v6 val_main_v0_1
      val_main_call0_v7 val_main_v0_2 val_main_call0_v6 val_main_call0_v4 val_main_call0_v3 val_main_call0_v2 val_main_call0_v1
      val_main_call0_v0 val_main_call0_cst_0 val_main_call0_cst val_main_call0_cst_1 gateGrad
    pointwise
    simp only [hd]
    rfl
  · refine (dif_neg h).trans (Eq.trans ?_ (if_neg fun h' => h (Nat.lt_one_iff.mpr h')).symm)
    unfold val_main_v11 val_main_v9 val_main_v5 val_main_v0_0 val_main_v0_2 val_main_call0_v4 val_main_call0_v3 val_main_call0_v2
      val_main_call0_v1 val_main_call0_v0 val_main_call0_cst_0 val_main_call0_cst upGrad
    pointwise
    simp only [hd]
    rfl

/-! ## The claim -/

/-- `Cert.algebraic_KernelIdeal_ReferenceIdeal`: from equal arguments the call and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => result (m ((c.tc : Thread _ _).loc main_arg0)) (m ((c.tc : Thread _ _).loc main_arg1))
    (m ((c.tc : Thread _ _).loc main_arg2)) (m ((c.tc : Thread _ _).loc main_arg3)), ?_, ?_⟩
  · refine (θ_run defs _ _).mono (fun r h c => ?_) (Value.run_blocks (F := Ideal) m g)
    exact ⟨((h c).1).trans (final m c), (h c).2⟩
  · refine (θ_run (Cert.ReferenceIdeal.defs (F := Ideal)) _ _).mono (fun r h c => ?_) (Cert.ReferenceIdeal.Value.run (F := Ideal) m' g')
    refine ⟨((h c).1.trans (Cert.ReferenceIdeal.Read.val_main_v13_eq ..)).trans ?_, (h c).2⟩
    obtain ⟨h0, h1, h2, h3⟩ := hargs c
    rw [h0, h1, h2, h3]
    exact ref_eq _ _ _ _

end Cert.Proof.DownDx
-- ==== Proof.Acc.lean ====
module

public import Idealize.ShloMosaic.Lib.Pipeline.Value
public import Idealize.ShloMosaic.Lib.Pointwise

/-!
# Sums accumulated over a grid axis

What several of the calls share: the products with an accumulator add one block's product at each point of the innermost grid
axis, so what they hold at the last point of a run is a sum of block sums, and that is the sum over the whole contraction axis.
-/

@[expose] public section
noncomputable section
namespace Cert.Proof.Acc
open Idealize.ShloMosaic

/-- A value that is set to `0 + d n` at the first point of every run of `J` points and grows by `d n` at the others is the sum
of the `d`s of its run so far. -/
theorem fold {α : Type} {N : ℕ} (J : ℕ) (hJ : 0 < J) (f : ∀ n, n < N → α → EReal) (d : ℕ → α → EReal)
    (h0 : ∀ n h, n % J = 0 → ∀ y, f n h y = 0 + d n y)
    (h1 : ∀ n h, n % J ≠ 0 → ∀ y, f n h y = f (n - 1) (Nat.lt_of_le_of_lt (Nat.sub_le _ _) h) y + d n y) (n : ℕ) :
    ∀ h y, f n h y = ∑ s ∈ Finset.range (n % J + 1), d (n - n % J + s) y := by
  induction n with
  | zero => intro h y; rw [h0 0 h (Nat.zero_mod _)]; simp
  | succ n ih =>
    intro h y
    by_cases hn : (n + 1) % J = 0
    · rw [h0 _ h hn, hn]; simp
    · have hm : (n + 1) % J = n % J + 1 := by
        rw [Nat.add_mod_eq_ite] at hn ⊢
        rcases Nat.lt_or_ge 1 J with h1 | h1
        · rw [Nat.mod_eq_of_lt h1] at hn ⊢
          split at hn <;> rename_i hc
          · exact absurd (by have := Nat.mod_lt n hJ; omega) hn
          · rw [if_neg hc]
        · obtain rfl : J = 1 := by omega
          simp [Nat.mod_one] at hn
      have hle := Nat.mod_le n J
      have hs : n + 1 - (n + 1) % J = n - n % J := by omega
      have hb : f (n + 1 - 1) (Nat.lt_of_le_of_lt (Nat.sub_le _ _) h) y = _ := ih (Nat.lt_of_le_of_lt (Nat.le_succ n) h) y
      rw [h1 _ h hn, hb, hs, hm, Finset.sum_range_succ (n := n % J + 1), show n - n % J + (n % J + 1) = n + 1 by omega]

/-- `J` block sums of `K` terms are one sum of `N = J * K` terms. -/
theorem sum_blocks (J K N : ℕ) (hN : J * K = N) (g : ℕ → EReal) :
    ∑ s ∈ Finset.range J, ∑ k : Fin K, g (s * K + k.val) = ∑ k : Fin N, g k.val := by
  subst hN
  rw [← Finset.sum_range]
  induction J with
  | zero => simp
  | succ J ih => rw [Finset.sum_range_succ, ih, Nat.succ_mul, Finset.sum_range_add, ← Finset.sum_range fun x => g (J * K + x)]

/-- A sum over axes of length one, started at zero, is the one element there is. -/
theorem reduce_unit {s t : Shape} {axes : List (Fin s.rank)} (h : s.ReducesTo axes t) (x : s.Idx → EReal) (j : t.Idx) (i0 : s.Idx)
    (h0 : h.drop i0 = j) (h1 : ∀ i, h.drop i = j → i = i0) : Ideal.hostReduceAdd h x 0 j = x i0 := by
  unfold Ideal.hostReduceAdd
  rw [zero_add, Finset.filter_congr (q := (· = i0)) fun i _ => ⟨h1 i, fun e => e ▸ h0⟩]
  exact (Finset.sum_congr (Finset.filter_eq' Finset.univ i0) fun _ _ => rfl).trans
    ((Finset.sum_congr (if_pos (Finset.mem_univ i0)) fun _ _ => rfl).trans (Finset.sum_singleton ..))

/-- Where a piece of the front of a list of writes holds the index, and every piece of the front agrees with `G`, the list
leaves `G` there, whatever the earlier writes are. -/
theorem canon_front {s : Shape} {e : EltTy} {Val : EltTy → Type} [∀ e, Nonempty (Val e)] (G : s.Idx → Val e)
    (L' : List (View.Piece Val s e)) (y : s.Idx) : ∀ L : List (View.Piece Val s e), (∀ p ∈ L, ∀ x, p.2 x = G (p.1.emb x)) →
      (∃ p ∈ L, y ∈ p.1.set) → View.canon (L ++ L') y = G y
  | [], _, h => by obtain ⟨_, hm, _⟩ := h; exact absurd hm List.not_mem_nil
  | p :: L, hG, h => by
    rw [List.cons_append]
    by_cases hy : y ∈ p.1.set
    · obtain ⟨r, w⟩ := p
      obtain ⟨x, rfl⟩ : ∃ x, r.emb x = y := r.exists_idx_of_mem hy
      rw [View.canon_cons_emb]
      exact hG _ List.mem_cons_self x
    · rw [View.canon_cons_of_not_mem p _ hy]
      refine canon_front G L' y L (fun q hq => hG q (List.mem_cons_of_mem _ hq)) ?_
      obtain ⟨q, hm, hq⟩ := h
      rcases List.mem_cons.mp hm with rfl | hm
      · exact absurd hq hy
      · exact ⟨q, hm, hq⟩

end Cert.Proof.Acc
-- ==== Proof.Norm.lean ====
module

public import Idealize.ShloMosaic.Lib.Pointwise

/-!
# The gradient of a root-mean-square norm, row by row

`x * rsqrt (mean (x * x) + ε) * w` and its gradient in `x`, as functions of one row of 1024 numbers. The three constants are the
programs' own: 1024, ε and −1/2.
-/

@[expose] public section
noncomputable section
namespace Cert.Proof.Norm
open Idealize.ShloMosaic

/-- The row length 1024, ε and −1/2, as the programs spell them. -/
def cLen : EReal := Ideal.ofBits .f32 1149239296#32
def cEps : EReal := Ideal.ofBits .f32 897988541#32
def cHalf : EReal := Ideal.ofBits .f32 3204448256#32

/-- The row's mean square plus ε. -/
def ms (X : Fin 1024 → EReal) : EReal := Ideal.div (∑ k, X k * X k) cLen + cEps

/-- The row's scale. -/
def rs (X : Fin 1024 → EReal) : EReal := Ideal.rsqrt (ms X)

/-- The derivative of the scale in the mean square. -/
def drs (X : Fin 1024 → EReal) : EReal := cHalf * Ideal.div (rs X) (ms X)

/-- What the mean square's gradient contributes per element: `G` is the cotangent times the norm's weight. -/
def dms (X G : Fin 1024 → EReal) : EReal := Ideal.div ((∑ k, X k * G k) * drs X) cLen

/-- The gradient in the row, plus what comes in beside the norm. -/
def dx (X G R : Fin 1024 → EReal) (d : Fin 1024) : EReal := G d * rs X + X d * dms X G + dms X G * X d + R d

/-- The same gradient with what comes in beside the norm added first. -/
theorem dx_eq (X G R : Fin 1024 → EReal) (d : Fin 1024) :
    R d + G d * rs X + X d * dms X G + dms X G * X d = dx X G R d := by
  unfold dx
  rw [add_comm (R d), add_right_comm _ (R d), add_right_comm _ (R d)]

end Cert.Proof.Norm
-- ==== Proof.GateUpDx.lean ====
module

public import proofs.«01_k».proof.Defs
public import proofs.«01_k».proof.Proof.Acc
public import proofs.«01_k».proof.Proof.Norm
public import proofs.«01_k».proof.Proof.Gen.Kernel2Ideal.Value
public import proofs.«01_k».proof.Proof.Gen.Reference2Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The input gradient of the gate and up projection, through the norm before it

256 rows at a time: the product with the weight, summed over the two halves, then the gradient of the root-mean-square norm. The
norm weight's gradient is accumulated over the rows.
-/

@[expose] public section
set_option maxRecDepth 16384
noncomputable section
namespace Cert.Proof.GateUpDx
open Idealize.ShloMosaic Idealize.SL.Sem Cert.Kernel2Ideal
open Cert.Kernel2Ideal.Gen Idealize.ShloMosaic.TcCoe
open Idealize.ShloMosaic.Pipeline (Dat Cfg Window)

/-- A block's product with the weight's two halves: the cotangent of the norm's output. -/
def bDh (x0 : Vec Ideal S2x256x2816 .bf16) (x1 x2 : Vec Ideal S1024x2816 .bf16) (p : Fin 256) (d : Fin 1024) : EReal :=
  ∑ f : Fin 2816, x0 (ix3 0 p f) * x1 (ix2 d f) + ∑ f : Fin 2816, x0 (ix3 1 p f) * x2 (ix2 d f)

/-- The block of the input gradient. -/
def bDx (x0 : Vec Ideal S2x256x2816 .bf16) (x1 x2 : Vec Ideal S1024x2816 .bf16) (x3 : Vec Ideal S256x1024 .f32)
    (x4 : Vec Ideal S1x1024 .f32) (x5 : Vec Ideal S256x1024 .f32) : Vec Ideal S256x1024 .f32 := fun y =>
  Norm.dx (fun k => x3 (ix2 (y 0) k)) (fun k => bDh x0 x1 x2 (y 0) k * x4 (ix2 0 k)) (fun k => x5 (ix2 (y 0) k)) (y 1)

/-- What a block adds to the weight's gradient. -/
def bDn (x0 : Vec Ideal S2x256x2816 .bf16) (x1 x2 : Vec Ideal S1024x2816 .bf16) (x3 : Vec Ideal S256x1024 .f32)
    (d : Fin 1024) : EReal :=
  ∑ p : Fin 256, x3 (ix2 p d) * Norm.rs (fun k => x3 (ix2 p k)) * bDh x0 x1 x2 p d

section body
variable (c : Dev nD) (i : grid0.Coords)
  (arg1 : Memref sig .tc .vmem S2x256x2816 .bf16) (harg1 : arg1.IsWhole)
  (arg2 : Memref sig .tc .vmem S1024x2816 .bf16) (harg2 : arg2.IsWhole)
  (arg3 : Memref sig .tc .vmem S1024x2816 .bf16) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .bf16) (harg8 : arg8.IsWhole)
  (arg9 : Memref sig .tc .vmem S1x1024 .f32) (harg9 : arg9.IsWhole)
  (x0 : Vec Ideal S2x256x2816 .bf16) (x1 x2 : Vec Ideal S1024x2816 .bf16) (x3 : Vec Ideal S256x1024 .f32) (x4 : Vec Ideal S1x1024 .f32)
  (x5 : Vec Ideal S256x1024 .f32) (x8 : Vec Ideal S1x1024 .f32)

/-- The block's two planes as the body loads them. -/
abbrev pl0 : Vec Ideal S1x256x2816 .bf16 := View.ld (Val := Elt Ideal) x0 (Rect.unit ![0, 0, 0] ![1, 256, 2816] inb_S2x256x2816_S1x256x2816_0_0_0)
abbrev pl1 : Vec Ideal S1x256x2816 .bf16 := View.ld (Val := Elt Ideal) x0 (Rect.unit ![1, 0, 0] ![1, 256, 2816] inb_S2x256x2816_S1x256x2816_1_0_0)

theorem pl0_at (p : Fin 256) (f : Fin 2816) : pl0 x0 (ix3 0 p f) = x0 (ix3 0 p f) := congrArg x0 (funext fun a => Fin.ext (by
  match a with
  | ⟨0, _⟩ => rfl
  | ⟨1, _⟩ => show 0 + 1 * p.val = p.val; omega
  | ⟨2, _⟩ => show 0 + 1 * f.val = f.val; omega))

theorem pl1_at (p : Fin 256) (f : Fin 2816) : pl1 x0 (ix3 0 p f) = x0 (ix3 1 p f) := congrArg x0 (funext fun a => Fin.ext (by
  match a with
  | ⟨0, _⟩ => rfl
  | ⟨1, _⟩ => show 0 + 1 * p.val = p.val; omega
  | ⟨2, _⟩ => show 0 + 1 * f.val = f.val; omega))

theorem pay5 (p : Fin 256) (d : Fin 1024) : k0_pay5 (pl0 x0) x1 (pl1 x0) x2 (ix2 p d) = bDh x0 x1 x2 p d := by
  unfold k0_pay5 bDh
  pointwise
  exact congrArg₂ (· + ·) (Finset.sum_congr rfl fun f _ => congrArg (· * x1 (ix2 d f)) (pl0_at x0 p f))
    (Finset.sum_congr rfl fun f _ => congrArg (· * x2 (ix2 d f)) (pl1_at x0 p f))

theorem pay8 (p : Fin 256) : k0_pay8 x3 (ix2 p 0) = Norm.rs fun k => x3 (ix2 p k) := by
  unfold k0_pay8 k0_pay7 k0_pay6 Norm.rs Norm.ms Norm.cLen Norm.cEps
  pointwise

theorem pay9 (p : Fin 256) : k0_pay9 x3 (ix2 p 0) = Norm.drs fun k => x3 (ix2 p k) := by
  unfold k0_pay9 k0_pay8 k0_pay7 k0_pay6 Norm.drs Norm.rs Norm.ms Norm.cLen Norm.cEps Norm.cHalf
  pointwise

theorem pay11 (p : Fin 256) (d : Fin 1024) :
    k0_pay11 (pl0 x0) x1 (pl1 x0) x2 x4 (ix2 p d) = bDh x0 x1 x2 p d * x4 (ix2 0 d) := by
  rw [← pay5]
  unfold k0_pay11
  pointwise

/-- The stored block of the input gradient. -/
theorem pay_dx : k0_pay1 (k0_pay6 x3) (k0_pay8 x3) (k0_pay9 x3) (k0_pay11 (pl0 x0) x1 (pl1 x0) x2 x4) x5 = bDx x0 x1 x2 x3 x4 x5 := by
  funext y
  obtain ⟨p, d, rfl⟩ : ∃ (p : Fin 256) (d : Fin 1024), y = ix2 p d := ⟨y 0, y 1, eq_ix2 y⟩
  unfold k0_pay1 bDx Norm.dx Norm.dms Norm.cLen
  pointwise
  simp only [Fin.sum_univ_one]
  have h6 (d : Fin 1024) : k0_pay6 x3 (ix2 p d) = x3 (ix2 p d) := by unfold k0_pay6; pointwise
  simp only [h6, pay8, pay9, pay11]

/-- What is added to the weight's gradient. -/
theorem pay_dn (z : Vec Ideal S1x1024 .f32) :
    k0_pay3 (k0_pay10 (pl0 x0) x1 (pl1 x0) x2 x3) z = fun y => z y + bDn x0 x1 x2 x3 (y 1) := by
  funext y
  obtain ⟨u, d, rfl⟩ : ∃ (u : Fin 1) (d : Fin 1024), y = ix2 u d := ⟨y 0, y 1, eq_ix2 y⟩
  obtain rfl : u = 0 := Subsingleton.elim _ _
  unfold k0_pay3 k0_pay10 k0_pay6 bDn
  pointwise
  simp only [pay5, pay8]

theorem out_A6 (hc0 : cond0_0 i) : out0_A_6 c i arg1 harg1 arg2 harg2 arg3 harg3 arg4 harg4 arg5 harg5 arg6 harg6 arg7 harg7 arg8 harg8 arg9 harg9 hc0 x0 x1 x2 x3 x4 x5
    = bDx x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide),
    View.ld_unit_lit inb_S1x1024_S1x1024_0_0 x4 (by decide), View.ld_unit_lit inb_S256x1024_S256x1024_0_0 x5 (by decide)]
  exact pay_dx x0 x1 x2 x3 x4 x5

theorem out_A7 (hc0 : cond0_0 i) : out0_A_7 c i arg1 harg1 arg2 harg2 arg3 harg3 arg4 harg4 arg5 harg5 arg6 harg6 arg7 harg7 arg8 harg8 arg9 harg9 hc0 x0 x1 x2 x3 x4 x5
    = bDx x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide),
    View.ld_unit_lit inb_S1x1024_S1x1024_0_0 x4 (by decide), View.ld_unit_lit inb_S256x1024_S256x1024_0_0 x5 (by decide)]
  exact pay_dx x0 x1 x2 x3 x4 x5

theorem out_A8 (hc0 : cond0_0 i) : out0_A_8 c i arg1 harg1 arg2 harg2 arg3 harg3 arg4 harg4 arg5 harg5 arg6 harg6 arg7 harg7 arg8 harg8 arg9 harg9 hc0 x0 x1 x2 x3 x4 x5
    = fun y => 0 + bDn x0 x1 x2 x3 (y 1) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide), View.readCov_unit_lit _ _ _ (by decide)]
  refine (pay_dn x0 x1 x2 x3 _).trans (funext fun y => congrArg (· + bDn x0 x1 x2 x3 (y 1)) ?_)
  unfold k0_pay4
  pointwise

theorem out_B6 (hc0 : ¬cond0_0 i) : out0_B_6 c i arg1 harg1 arg2 harg2 arg3 harg3 arg4 harg4 arg5 harg5 arg6 harg6 arg7 harg7 arg8 harg8 arg9 harg9 hc0 x0 x1 x2 x3 x4 x5 x8
    = bDx x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide),
    View.ld_unit_lit inb_S1x1024_S1x1024_0_0 x4 (by decide), View.ld_unit_lit inb_S256x1024_S256x1024_0_0 x5 (by decide)]
  exact pay_dx x0 x1 x2 x3 x4 x5

theorem out_B7 (hc0 : ¬cond0_0 i) : out0_B_7 c i arg1 harg1 arg2 harg2 arg3 harg3 arg4 harg4 arg5 harg5 arg6 harg6 arg7 harg7 arg8 harg8 arg9 harg9 hc0 x0 x1 x2 x3 x4 x5 x8
    = bDx x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide),
    View.ld_unit_lit inb_S1x1024_S1x1024_0_0 x4 (by decide), View.ld_unit_lit inb_S256x1024_S256x1024_0_0 x5 (by decide)]
  exact pay_dx x0 x1 x2 x3 x4 x5

theorem out_B8 (hc0 : ¬cond0_0 i) : out0_B_8 c i arg1 harg1 arg2 harg2 arg3 harg3 arg4 harg4 arg5 harg5 arg6 harg6 arg7 harg7 arg8 harg8 arg9 harg9 hc0 x0 x1 x2 x3 x4 x5 x8
    = fun y => x8 y + bDn x0 x1 x2 x3 (y 1) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  simp only [View.readAt_eq_ld, harg1.read_unread, harg2.read_unread, harg3.read_unread, harg4.read_unread, harg5.read_unread, harg6.read_unread, harg9.read_unread]
  rw [View.canon_cons_unit_lit _ _ _ (by decide), View.ld_unit_lit inb_S1024x2816_S1024x2816_0_0 x1 (by decide),
    View.ld_unit_lit inb_S1024x2816_S1024x2816_0_0 x2 (by decide), View.ld_unit_lit inb_S256x1024_S256x1024_0_0 x3 (by decide), View.ld_unit_lit inb_S1x1024_S1x1024_0_0 x8 (by decide)]
  exact pay_dn x0 x1 x2 x3 x8

end body

/-! ## The whole arrays -/

/-- The cotangent of the norm's output: the gate's and the up projection's gradients against the weight's two halves. -/
def dh (w : FVec Ideal S1x1024x5632 .f32) (ctg ctu : FVec Ideal S1x8192x2816 .f32) (r : Fin 8192) (d : Fin 1024) : EReal :=
  ∑ f : Fin 2816, ctg (ix3 0 r f) * w (ix3 0 d ⟨f.val, by omega⟩) + ∑ f : Fin 2816, ctu (ix3 0 r f) * w (ix3 0 d ⟨2816 + f.val, by omega⟩)

/-- The input gradient. -/
def resDx (x : FVec Ideal S1x8192x1024 .f32) (nw : FVec Ideal S1x1024 .f32) (w : FVec Ideal S1x1024x5632 .f32)
    (ctg ctu : FVec Ideal S1x8192x2816 .f32) (res : FVec Ideal S1x8192x1024 .f32) (r : Fin 8192) (d : Fin 1024) : EReal :=
  Norm.dx (fun k => x (ix3 0 r k)) (fun k => dh w ctg ctu r k * nw (ix2 0 k)) (fun k => res (ix3 0 r k)) d

/-- One row's part of the norm weight's gradient. -/
def rowDn (x : FVec Ideal S1x8192x1024 .f32) (w : FVec Ideal S1x1024x5632 .f32) (ctg ctu : FVec Ideal S1x8192x2816 .f32)
    (r : Fin 8192) (d : Fin 1024) : EReal :=
  x (ix3 0 r d) * Norm.rs (fun k => x (ix3 0 r k)) * dh w ctg ctu r d

variable (m : (ℓ : Loc nD τ sig) → Buf (Elt Ideal) ℓ)

/-- The arguments of the call on device `c`. -/
abbrev aX (c : Dev nD) := m ((c : Thread nD τ).loc main_arg0)
abbrev aN (c : Dev nD) := m ((c : Thread nD τ).loc main_arg1)
abbrev aW (c : Dev nD) := m ((c : Thread nD τ).loc main_arg2)
abbrev aG (c : Dev nD) := m ((c : Thread nD τ).loc main_arg3)
abbrev aU (c : Dev nD) := m ((c : Thread nD τ).loc main_arg4)
abbrev aR (c : Dev nD) := m ((c : Thread nD τ).loc main_arg5)

theorem V_v2 (c : Dev nD) (j : S1x8192x2816.Idx) :
    StableHlo.upto hostOps0 (fun b => m (c, b)) 4 (Proc.tc.devRef main_v2) j = aG m c (ix3 0 (j 1) (j 2)) := by
  after_reads_at

theorem V_v3 (c : Dev nD) (j : S1x8192x2816.Idx) :
    StableHlo.upto hostOps0 (fun b => m (c, b)) 4 (Proc.tc.devRef main_v3) j = aU m c (ix3 0 (j 1) (j 2)) := by
  after_reads_at

/-- The gradient pair: plane 0 is the gate's, plane 1 is the up projection's. -/
theorem V_gu (c : Dev nD) (j : S2x8192x2816.Idx) :
    V m c main_v5 j = if (j 0).val < 1 then aG m c (ix3 0 (j 1) (j 2)) else aU m c (ix3 0 (j 1) (j 2)) := by
  unfold V; after_reads_at
  by_cases h : (j 0).val < 1
  · exact (dif_pos h).trans ((V_v2 m c _).trans (if_pos h).symm)
  · exact (dif_neg h).trans ((V_v3 m c _).trans (if_neg h).symm)

theorem V_w (c : Dev nD) (j : S1024x5632.Idx) : V m c main_v7 j = aW m c (ix3 0 (j 0) (j 1)) := by
  unfold V; after_reads_at

theorem V_x (c : Dev nD) (j : S8192x1024.Idx) : V m c main_v8 j = aX m c (ix3 0 (j 0) (j 1)) := by
  unfold V; after_reads_at

theorem V_r (c : Dev nD) (j : S8192x1024.Idx) : V m c main_v9 j = aR m c (ix3 0 (j 0) (j 1)) := by
  unfold V; after_reads_at

theorem V_n (c : Dev nD) (j : S1x1024.Idx) : V m c main_arg1 j = aN m c j := by
  unfold V; after_reads_at

/-- The blocks each point stages and writes. -/
theorem idx_facts : ∀ t : Fin cfg0.N,
    win0_0.index t 0 = 0 ∧ win0_0.index t 1 = t.val ∧ win0_0.index t 2 = 0
    ∧ win0_1.index t 0 = 0 ∧ win0_1.index t 1 = 0 ∧ win0_2.index t 0 = 0 ∧ win0_2.index t 1 = 1
    ∧ win0_3.index t 0 = t.val ∧ win0_3.index t 1 = 0 ∧ win0_4.index t 0 = 0 ∧ win0_4.index t 1 = 0
    ∧ win0_5.index t 0 = t.val ∧ win0_5.index t 1 = 0 ∧ win0_6.index t 0 = t.val ∧ win0_6.index t 1 = 0
    ∧ win0_7.index t 0 = t.val ∧ win0_7.index t 1 = 0 ∧ win0_8.index t 0 = 0 ∧ win0_8.index t 1 = 0 :=
  (by decide +kernel : ∀ t : Fin grid0.N, _)

/-- Row `p` of point `n`'s block. -/
abbrev row (n : ℕ) (p : Fin 256) : Fin 8192 := Fin.ofNat 8192 (n * 256 + p.val)

theorem iblk0 (c : Dev nD) (t : Fin cfg0.N) (q : Fin 2) (p : Fin 256) (f : Fin 2816) :
    iblk m c 0 t (ix3 q p f) = if q.val < 1 then aG m c (ix3 0 (row t.val p) f) else aU m c (ix3 0 (row t.val p) f) := by
  unfold iblk
  rw [View.read_apply]
  have hN : cfg0.N = 32 := N_0
  have ht := t.isLt
  obtain ⟨h0, h1, h2, -⟩ := idx_facts t
  have he : ((cfg0.win 0).blk t).view.emb (ix3 q p f) = ix3 q (row t.val p) f := by
    funext a; apply Fin.ext
    match a with
    | ⟨0, _⟩ => show win0_0.index t 0 * 2 + 1 * q.val = q.val; omega
    | ⟨1, _⟩ => show win0_0.index t 1 * 256 + 1 * p.val = (t.val * 256 + p.val) % 8192; omega
    | ⟨2, _⟩ => show win0_0.index t 2 * 2816 + 1 * f.val = f.val; omega
  rw [he]
  exact V_gu m c _

theorem iblk1 (c : Dev nD) (t : Fin cfg0.N) (d : Fin 1024) (f : Fin 2816) :
    iblk m c 1 t (ix2 d f) = aW m c (ix3 0 d ⟨f.val, by omega⟩) := by
  unfold iblk
  rw [View.read_apply]
  refine (V_w m c _).trans (congrArg (aW m c) ?_)
  obtain ⟨-, -, -, h0, h1, -⟩ := idx_facts t
  funext a; apply Fin.ext
  match a with
  | ⟨0, _⟩ => rfl
  | ⟨1, _⟩ => show win0_1.index t 0 * 1024 + 1 * d.val = d.val; omega
  | ⟨2, _⟩ => show win0_1.index t 1 * 2816 + 1 * f.val = f.val; omega

theorem iblk2 (c : Dev nD) (t : Fin cfg0.N) (d : Fin 1024) (f : Fin 2816) :
    iblk m c 2 t (ix2 d f) = aW m c (ix3 0 d ⟨2816 + f.val, by omega⟩) := by
  unfold iblk
  rw [View.read_apply]
  refine (V_w m c _).trans (congrArg (aW m c) ?_)
  obtain ⟨-, -, -, -, -, h0, h1, -⟩ := idx_facts t
  funext a; apply Fin.ext
  match a with
  | ⟨0, _⟩ => rfl
  | ⟨1, _⟩ => show win0_2.index t 0 * 1024 + 1 * d.val = d.val; omega
  | ⟨2, _⟩ => show win0_2.index t 1 * 2816 + 1 * f.val = 2816 + f.val; omega

theorem iblk3 (c : Dev nD) (t : Fin cfg0.N) (p : Fin 256) (d : Fin 1024) :
    iblk m c 3 t (ix2 p d) = aX m c (ix3 0 (row t.val p) d) := by
  unfold iblk
  rw [View.read_apply]
  refine (V_x m c _).trans (congrArg (aX m c) ?_)
  have hN : cfg0.N = 32 := N_0
  have ht := t.isLt
  obtain ⟨-, -, -, -, -, -, -, h0, h1, -⟩ := idx_facts t
  funext a; apply Fin.ext
  match a with
  | ⟨0, _⟩ => rfl
  | ⟨1, _⟩ => show win0_3.index t 0 * 256 + 1 * p.val = (t.val * 256 + p.val) % 8192; omega
  | ⟨2, _⟩ => show win0_3.index t 1 * 1024 + 1 * d.val = d.val; omega

theorem iblk4 (c : Dev nD) (t : Fin cfg0.N) (d : Fin 1024) : iblk m c 4 t (ix2 0 d) = aN m c (ix2 0 d) := by
  unfold iblk
  rw [View.read_apply]
  refine (V_n m c _).trans (congrArg (aN m c) ?_)
  obtain ⟨-, -, -, -, -, -, -, -, -, h0, h1, -⟩ := idx_facts t
  funext a; apply Fin.ext
  match a with
  | ⟨0, _⟩ => show win0_4.index t 0 * 1 + 1 * 0 = 0; omega
  | ⟨1, _⟩ => show win0_4.index t 1 * 1024 + 1 * d.val = d.val; omega

theorem iblk5 (c : Dev nD) (t : Fin cfg0.N) (p : Fin 256) (d : Fin 1024) :
    iblk m c 5 t (ix2 p d) = aR m c (ix3 0 (row t.val p) d) := by
  unfold iblk
  rw [View.read_apply]
  refine (V_r m c _).trans (congrArg (aR m c) ?_)
  have hN : cfg0.N = 32 := N_0
  have ht := t.isLt
  obtain ⟨-, -, -, -, -, -, -, -, -, -, -, h0, h1, -⟩ := idx_facts t
  funext a; apply Fin.ext
  match a with
  | ⟨0, _⟩ => rfl
  | ⟨1, _⟩ => show win0_5.index t 0 * 256 + 1 * p.val = (t.val * 256 + p.val) % 8192; omega
  | ⟨2, _⟩ => show win0_5.index t 1 * 1024 + 1 * d.val = d.val; omega

theorem bDh_eq (c : Dev nD) (t : Fin cfg0.N) (p : Fin 256) (d : Fin 1024) :
    bDh (iblk m c 0 t) (iblk m c 1 t) (iblk m c 2 t) p d = dh (aW m c) (aG m c) (aU m c) (row t.val p) d := by
  unfold bDh dh
  simp only [iblk0 m c t, iblk1 m c t, iblk2 m c t]
  rfl

/-- Point `t`'s block of the input gradient. -/
theorem bDx_eq (c : Dev nD) (t : Fin cfg0.N) (p : Fin 256) (d : Fin 1024) :
    bDx (iblk m c 0 t) (iblk m c 1 t) (iblk m c 2 t) (iblk m c 3 t) (iblk m c 4 t) (iblk m c 5 t) (ix2 p d)
      = resDx (aX m c) (aN m c) (aW m c) (aG m c) (aU m c) (aR m c) (row t.val p) d := by
  unfold bDx resDx
  show Norm.dx (fun k => iblk m c 3 t (ix2 p k)) (fun k => bDh _ _ _ p k * iblk m c 4 t (ix2 0 k)) (fun k => iblk m c 5 t (ix2 p k)) d = _
  simp only [bDh_eq m c t, iblk3 m c t, iblk4 m c t, iblk5 m c t]

/-- What point `n` adds to the norm weight's gradient, in the arguments. -/
def step (x : FVec Ideal S1x8192x1024 .f32) (w : FVec Ideal S1x1024x5632 .f32) (ctg ctu : FVec Ideal S1x8192x2816 .f32)
    (n : ℕ) (d : Fin 1024) : EReal := ∑ p : Fin 256, rowDn x w ctg ctu (row n p) d

theorem bDn_eq (c : Dev nD) (t : Fin cfg0.N) (d : Fin 1024) :
    bDn (iblk m c 0 t) (iblk m c 1 t) (iblk m c 2 t) (iblk m c 3 t) d = step (aX m c) (aW m c) (aG m c) (aU m c) t.val d := by
  unfold bDn step rowDn
  simp only [bDh_eq m c t, iblk3 m c t]

/-- What every point leaves in its block of the input gradient, and of its rounded copy. -/
theorem outs_dx (c : Dev nD) (t : Fin cfg0.N) :
    (outsAt0 m c t.val t.isLt).1 = bDx (iblk m c 0 t) (iblk m c 1 t) (iblk m c 2 t) (iblk m c 3 t) (iblk m c 4 t) (iblk m c 5 t)
    ∧ (outsAt0 m c t.val t.isLt).2.1 = bDx (iblk m c 0 t) (iblk m c 1 t) (iblk m c 2 t) (iblk m c 3 t) (iblk m c 4 t) (iblk m c 5 t) := by
  by_cases h0 : t.val % 32 = 0
  · rw [outsAt0_A m c t h0]
    dsimp only
    rw [out_A6, out_A7]
    exact ⟨rfl, rfl⟩
  · rw [outsAt0_B m c t h0]
    dsimp only
    rw [out_B6, out_B7]
    exact ⟨rfl, rfl⟩

/-- What the accumulator of the norm weight's gradient holds after point `n`. -/
theorem acc_eq (c : Dev nD) (n : ℕ) (h : n < cfg0.N) (y : S1x1024.Idx) :
    (outsAt0 m c n h).2.2 y = ∑ s ∈ Finset.range (n % 32 + 1), step (aX m c) (aW m c) (aG m c) (aU m c) (n - n % 32 + s) (y 1) :=
  Acc.fold 32 (by decide) (fun n h => (outsAt0 m c n h).2.2) (fun n y => step (aX m c) (aW m c) (aG m c) (aU m c) n (y 1))
    (fun n h hn y => by
      rw [outsAt0_A m c ⟨n, h⟩ hn, out_A8]
      exact congrArg (0 + ·) (bDn_eq m c ⟨n, h⟩ (y 1)))
    (fun n h hn y => by
      rw [outsAt0_B m c ⟨n, h⟩ hn, out_B8]
      exact congrArg (_ + ·) (bDn_eq m c ⟨n, h⟩ (y 1))) n h y

/-- The result arrays. -/
def arrDx (c : Dev nD) : FVec Ideal S8192x1024 .f32 := fun i => resDx (aX m c) (aN m c) (aW m c) (aG m c) (aU m c) (aR m c) (i 0) (i 1)
def arrDn (c : Dev nD) : FVec Ideal S1x1024 .f32 := fun i => ∑ r : Fin 8192, rowDn (aX m c) (aW m c) (aG m c) (aU m c) r (i 1)

theorem flushed6_eq (c : Dev nD) (t : Fin cfg0.N) :
    (dats m 0 c).flushed 6 t = ((cfg0.win 6).blk t).view.read (Elt Ideal) (arrDx m c) := by
  rw [Value.flushed6, (outs_dx m c t).1]
  have hN : cfg0.N = 32 := N_0
  have ht := t.isLt
  funext y
  obtain ⟨p, d, rfl⟩ : ∃ (p : Fin 256) (d : Fin 1024), y = ix2 p d := ⟨y 0, y 1, eq_ix2 y⟩
  obtain ⟨-, -, -, -, -, -, -, -, -, -, -, -, -, h0, h1, -⟩ := idx_facts t
  rw [View.read_apply]
  have he : ((cfg0.win 6).blk t).view.emb (ix2 p d) = ix2 (row t.val p) d := by
    funext a; apply Fin.ext
    match a with
    | ⟨0, _⟩ => show win0_6.index t 0 * 256 + 1 * p.val = (t.val * 256 + p.val) % 8192; omega
    | ⟨1, _⟩ => show win0_6.index t 1 * 1024 + 1 * d.val = d.val; omega
  rw [he]
  exact bDx_eq m c t p d

theorem flushed7_eq (c : Dev nD) (t : Fin cfg0.N) :
    (dats m 0 c).flushed 7 t = ((cfg0.win 7).blk t).view.read (Elt Ideal) (arrDx m c) := by
  rw [Value.flushed7, (outs_dx m c t).2]
  have hN : cfg0.N = 32 := N_0
  have ht := t.isLt
  funext y
  obtain ⟨p, d, rfl⟩ : ∃ (p : Fin 256) (d : Fin 1024), y = ix2 p d := ⟨y 0, y 1, eq_ix2 y⟩
  obtain ⟨-, -, -, -, -, -, -, -, -, -, -, -, -, -, -, h0, h1, -⟩ := idx_facts t
  rw [View.read_apply]
  have he : ((cfg0.win 7).blk t).view.emb (ix2 p d) = ix2 (row t.val p) d := by
    funext a; apply Fin.ext
    match a with
    | ⟨0, _⟩ => show win0_7.index t 0 * 256 + 1 * p.val = (t.val * 256 + p.val) % 8192; omega
    | ⟨1, _⟩ => show win0_7.index t 1 * 1024 + 1 * d.val = d.val; omega
  rw [he]
  exact bDx_eq m c t p d

/-- After the last point the accumulator holds the sum over all rows. -/
theorem block_eq (x : FVec Ideal S1x8192x1024 .f32) (w : FVec Ideal S1x1024x5632 .f32) (ctg ctu : FVec Ideal S1x8192x2816 .f32)
    (d : Fin 1024) :
    ∑ s ∈ Finset.range (31 + 1), step x w ctg ctu (0 + s) d = ∑ r : Fin 8192, rowDn x w ctg ctu r d := by
  obtain ⟨G, hG⟩ : ∃ G : ℕ → EReal, ∀ q, G q = rowDn x w ctg ctu (Fin.ofNat 8192 q) d := ⟨_, fun _ => rfl⟩
  have hstep : ∀ s ∈ Finset.range (31 + 1), step x w ctg ctu (0 + s) d = ∑ p : Fin 256, G (s * 256 + p.val) := by
    intro s _
    unfold step
    rw [Nat.zero_add]
    exact Finset.sum_congr rfl fun p _ => (hG _).symm
  rw [Finset.sum_congr rfl hstep, Acc.sum_blocks 32 256 8192 rfl G]
  refine Finset.sum_congr rfl fun r _ => ?_
  have hr : Fin.ofNat 8192 r.val = r := Fin.ext (Nat.mod_eq_of_lt r.isLt)
  rw [hG, hr]

theorem flushed8_eq (c : Dev nD) (t : Fin cfg0.N) (hf : (cfg0.win 8).flush t = true) :
    (dats m 0 c).flushed 8 t = ((cfg0.win 8).blk t).view.read (Elt Ideal) (arrDn m c) := by
  have h31 : t.val % 32 = 31 := (flush0_8 t).mp hf
  have hN : cfg0.N = 32 := N_0
  have ht := t.isLt
  rw [Value.flushed8]
  funext y
  obtain ⟨u, d, rfl⟩ : ∃ (u : Fin 1) (d : Fin 1024), y = ix2 u d := ⟨y 0, y 1, eq_ix2 y⟩
  obtain ⟨-, -, -, -, -, -, -, -, -, -, -, -, -, -, -, -, -, h0, h1⟩ := idx_facts t
  rw [View.read_apply]
  have he : ((cfg0.win 8).blk t).view.emb (ix2 u d) = ix2 u d := by
    funext a; apply Fin.ext
    match a with
    | ⟨0, _⟩ => show win0_8.index t 0 * 1 + 1 * u.val = u.val; omega
    | ⟨1, _⟩ => show win0_8.index t 1 * 1024 + 1 * d.val = d.val; omega
  rw [he]
  have e0 : t.val - 31 = 0 := by omega
  refine (acc_eq m c t.val t.isLt (ix2 u d)).trans ?_
  rw [h31, e0]
  exact block_eq _ _ _ _ d

theorem covered6 (i : S8192x1024.Idx) : ∃ t : Fin cfg0.N, (cfg0.win 6).flush t = true ∧ i ∈ ((cfg0.win 6).blk t).view.set := by
  have hN : cfg0.N = 32 := N_0
  have i0 : (i 0).val < 8192 := (i 0).isLt
  have i1 : (i 1).val < 1024 := (i 1).isLt
  obtain ⟨t, ht⟩ : ∃ t : Fin cfg0.N, t.val = (i 0).val / 256 := ⟨⟨_, by omega⟩, rfl⟩
  refine ⟨t, flush0_6 t, ?_⟩
  obtain ⟨-, -, -, -, -, -, -, -, -, -, -, -, -, h0, h1, -⟩ := idx_facts t
  show i ∈ ((View.whole main_v10_0).slice (win0_6.rect t)).set
  rw [View.set_slice_whole, Rect.mem_set_unit]
  intro a
  match a with
  | ⟨0, _⟩ => show win0_6.index t 0 * 256 ≤ (i 0).val ∧ (i 0).val < win0_6.index t 0 * 256 + 256; omega
  | ⟨1, _⟩ => show win0_6.index t 1 * 1024 ≤ (i 1).val ∧ (i 1).val < win0_6.index t 1 * 1024 + 1024; omega

theorem covered7 (i : S8192x1024.Idx) : ∃ t : Fin cfg0.N, (cfg0.win 7).flush t = true ∧ i ∈ ((cfg0.win 7).blk t).view.set := by
  have hN : cfg0.N = 32 := N_0
  have i0 : (i 0).val < 8192 := (i 0).isLt
  have i1 : (i 1).val < 1024 := (i 1).isLt
  obtain ⟨t, ht⟩ : ∃ t : Fin cfg0.N, t.val = (i 0).val / 256 := ⟨⟨_, by omega⟩, rfl⟩
  refine ⟨t, flush0_7 t, ?_⟩
  obtain ⟨-, -, -, -, -, -, -, -, -, -, -, -, -, -, -, h0, h1, -⟩ := idx_facts t
  show i ∈ ((View.whole main_v10_1).slice (win0_7.rect t)).set
  rw [View.set_slice_whole, Rect.mem_set_unit]
  intro a
  match a with
  | ⟨0, _⟩ => show win0_7.index t 0 * 256 ≤ (i 0).val ∧ (i 0).val < win0_7.index t 0 * 256 + 256; omega
  | ⟨1, _⟩ => show win0_7.index t 1 * 1024 ≤ (i 1).val ∧ (i 1).val < win0_7.index t 1 * 1024 + 1024; omega

theorem covered8 (i : S1x1024.Idx) : ∃ t : Fin cfg0.N, (cfg0.win 8).flush t = true ∧ i ∈ ((cfg0.win 8).blk t).view.set := by
  have hN : cfg0.N = 32 := N_0
  have i0 : (i 0).val < 1 := (i 0).isLt
  have i1 : (i 1).val < 1024 := (i 1).isLt
  obtain ⟨t, ht⟩ : ∃ t : Fin cfg0.N, t.val = 31 := ⟨⟨31, by omega⟩, rfl⟩
  refine ⟨t, (flush0_8 t).mpr (by omega), ?_⟩
  obtain ⟨-, -, -, -, -, -, -, -, -, -, -, -, -, -, -, -, -, h0, h1⟩ := idx_facts t
  show i ∈ ((View.whole main_v10_2).slice (win0_8.rect t)).set
  rw [View.set_slice_whole, Rect.mem_set_unit]
  intro a
  match a with
  | ⟨0, _⟩ => show win0_8.index t 0 * 1 ≤ (i 0).val ∧ (i 0).val < win0_8.index t 0 * 1 + 1; omega
  | ⟨1, _⟩ => show win0_8.index t 1 * 1024 ≤ (i 1).val ∧ (i 1).val < win0_8.index t 1 * 1024 + 1024; omega

/-- The result arrays after the run. -/
theorem final6 (c : Dev nD) : (dats m 0 c).arrAt 6 cfg0.N = arrDx m c :=
  (dats m 0 c).arrAt_eq_of_cover 6 _ (fun t _ => flushed6_eq m c t) covered6
theorem final7 (c : Dev nD) : (dats m 0 c).arrAt 7 cfg0.N = arrDx m c :=
  (dats m 0 c).arrAt_eq_of_cover 7 _ (fun t _ => flushed7_eq m c t) covered7
theorem final8 (c : Dev nD) : (dats m 0 c).arrAt 8 cfg0.N = arrDn m c :=
  (dats m 0 c).arrAt_eq_of_cover 8 _ (flushed8_eq m c) covered8

/-! ## The reference -/

section reference
open Cert.Reference2Ideal.Read
variable (x : FVec Ideal S1x8192x1024 .f32) (nw : FVec Ideal S1x1024 .f32) (w : FVec Ideal S1x1024x5632 .f32)
  (ctg ctu : FVec Ideal S1x8192x2816 .f32) (res : FVec Ideal S1x8192x1024 .f32)

theorem ref_dh (r : Fin 8192) (d : Fin 1024) : val_main_v22 (F := Ideal) w ctg ctu (ix3 0 r d) = dh w ctg ctu r d := by
  unfold val_main_v22 val_main_v21 val_main_v17 dh
  pointwise

theorem ref_rs (r : Fin 8192) : val_main_v8 (F := Ideal) x (ix3 0 r 0) = Norm.rs fun k => x (ix3 0 r k) := by
  unfold val_main_v8 val_main_v7 val_main_v6 val_main_v5 val_main_v4 val_main_v3 val_main_v2 val_main_v1
    val_main_cst val_main_cst_0 val_main_cst_1 Norm.rs Norm.ms Norm.cLen Norm.cEps
  pointwise

theorem ref_drs (r : Fin 8192) : val_main_v11 (F := Ideal) x (ix3 0 r 0) = Norm.drs fun k => x (ix3 0 r k) := by
  unfold val_main_v11 val_main_v10 val_main_v9 val_main_v8 val_main_v7 val_main_v6 val_main_v5 val_main_v4 val_main_v3 val_main_v2 val_main_v1
    val_main_cst val_main_cst_0 val_main_cst_1 val_main_cst_2 Norm.drs Norm.rs Norm.ms Norm.cLen Norm.cEps Norm.cHalf
  pointwise

theorem ref_g (r : Fin 8192) (d : Fin 1024) :
    val_main_v27 (F := Ideal) nw w ctg ctu (ix3 0 r d) = dh w ctg ctu r d * nw (ix2 0 d) := by
  rw [← ref_dh]
  unfold val_main_v27 val_main_v26 val_main_v14 val_main_v0
  pointwise

/-- The sum over a row's two unit axes. -/
theorem ref_unit (r : Fin 8192) : val_main_v38 (F := Ideal) x nw w ctg ctu (ix1 r) = val_main_v37 (F := Ideal) x nw w ctg ctu (ix3 0 r 0) := by
  refine (congrArg (fun z => Ideal.hostReduceAdd Cert.Reference2Ideal.Gen.reducesTo_S1x8192x1_S8192_d0_2 _ z (ix1 r)) Ideal.ofBits_zero_f32).trans
    (Acc.reduce_unit Cert.Reference2Ideal.Gen.reducesTo_S1x8192x1_S8192_d0_2 _ (ix1 r) (ix3 0 r 0) ?_ fun i hi => ?_)
  · funext a; apply Fin.ext
    match a with
    | ⟨0, _⟩ => exact Shape.ReducesTo.drop_apply_val_of_eq _ (ix3 0 r 0) ⟨0, by decide⟩ 1
  · have h := congrArg (fun j => (j 0).val) hi
    have h1 : (i 1).val = r.val := (Shape.ReducesTo.drop_apply_val_of_eq _ i ⟨0, by decide⟩ 1).symm.trans h
    have i0 : (i 0).val < 1 := (i 0).isLt
    have i2 : (i 2).val < 1 := (i 2).isLt
    funext a; apply Fin.ext
    match a with
    | ⟨0, _⟩ => show (i 0).val = 0; omega
    | ⟨1, _⟩ => exact h1
    | ⟨2, _⟩ => show (i 2).val = 0; omega

/-- The sum over the weight gradient's two unit axes. -/
theorem ref_unit' (d : Fin 1024) : val_main_v28 (F := Ideal) x w ctg ctu (ix1 d) = val_main_v25 (F := Ideal) x w ctg ctu (ix3 0 0 d) := by
  refine (congrArg (fun z => Ideal.hostReduceAdd Cert.Reference2Ideal.Gen.reducesTo_S1x1x1024_S1024_d0_1 _ z (ix1 d)) Ideal.ofBits_zero_f32).trans
    (Acc.reduce_unit Cert.Reference2Ideal.Gen.reducesTo_S1x1x1024_S1024_d0_1 _ (ix1 d) (ix3 0 0 d) ?_ fun i hi => ?_)
  · funext a; apply Fin.ext
    match a with
    | ⟨0, _⟩ => exact Shape.ReducesTo.drop_apply_val_of_eq _ (ix3 0 0 d) ⟨0, by decide⟩ 2
  · have h := congrArg (fun j => (j 0).val) hi
    have h1 : (i 2).val = d.val := (Shape.ReducesTo.drop_apply_val_of_eq _ i ⟨0, by decide⟩ 2).symm.trans h
    have i0 : (i 0).val < 1 := (i 0).isLt
    have i1 : (i 1).val < 1 := (i 1).isLt
    funext a; apply Fin.ext
    match a with
    | ⟨0, _⟩ => show (i 0).val = 0; omega
    | ⟨1, _⟩ => show (i 1).val = 0; omega
    | ⟨2, _⟩ => exact h1

theorem ref_dms (r : Fin 8192) (d : Fin 1024) :
    val_main_v40 (F := Ideal) x nw w ctg ctu (ix3 0 r d)
      = Norm.dms (fun k => x (ix3 0 r k)) fun k => dh w ctg ctu r k * nw (ix2 0 k) := by
  unfold val_main_v40 val_main_v39
  pointwise
  rw [ref_unit]
  unfold val_main_v37 val_main_v36 val_main_v35 val_main_v31 val_main_v30 val_main_v29
    val_main_cst_5 val_main_cst_6 Norm.dms Norm.cLen
  pointwise
  simp only [ref_drs, ref_g]

theorem ref_dx (r : Fin 8192) (d : Fin 1024) :
    val_main_v44 (F := Ideal) x nw w ctg ctu res (ix3 0 r d) = resDx x nw w ctg ctu res r d := by
  unfold val_main_v44 val_main_v43 val_main_v42 val_main_v41 val_main_v34 val_main_v33 val_main_v32 resDx
  pointwise
  simp only [ref_dms, ref_g, ref_rs]
  exact Norm.dx_eq (fun k => x (ix3 0 r k)) (fun k => dh w ctg ctu r k * nw (ix2 0 k)) (fun k => res (ix3 0 r k)) d

theorem ref_dn (d : Fin 1024) : val_main_v45 (F := Ideal) x w ctg ctu (ix2 0 d) = ∑ r : Fin 8192, rowDn x w ctg ctu r d := by
  unfold val_main_v45
  pointwise
  rw [ref_unit']
  unfold val_main_v25 val_main_v24 val_main_v23 val_main_v13 val_main_v12 val_main_cst_3 rowDn
  pointwise
  simp only [ref_dh, ref_rs]

end reference

/-! ## The claim -/

/-- `Cert.algebraic_Kernel2Ideal_Reference2Ideal`: from equal arguments the call and the reference end with equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => arrDx m c, fun c => arrDx m c, fun c => arrDn m c, ?_, ?_⟩
  · refine (θ_run defs _ _).mono (fun r h c => ?_) (Value.run_blocks (F := Ideal) m g)
    obtain ⟨h6, h7, h8, hk⟩ := h c
    exact ⟨h6.trans (final6 m c), h7.trans (final7 m c), h8.trans (final8 m c), hk⟩
  · refine (θ_run (Cert.Reference2Ideal.defs (F := Ideal)) _ _).mono (fun r h c => ?_) (Cert.Reference2Ideal.Value.run (F := Ideal) m' g')
    obtain ⟨r0, r1, r2, hk⟩ := h c
    obtain ⟨h0, h1, h2, h3, h4, h5⟩ := hargs c
    refine ⟨(r0.trans (Cert.Reference2Ideal.Read.val_main_v46_eq m' c)).trans ?_, (r1.trans (Cert.Reference2Ideal.Read.val_main_v48_eq m' c)).trans ?_,
      (r2.trans (Cert.Reference2Ideal.Read.val_main_v45_eq ..)).trans ?_, hk⟩
    · rw [h0, h1, h2, h3, h4, h5]
      funext i
      obtain ⟨r, d, rfl⟩ : ∃ (r : Fin 8192) (d : Fin 1024), i = ix2 r d := ⟨i 0, i 1, eq_ix2 i⟩
      unfold Cert.Reference2Ideal.Read.val_main_v46
      pointwise
      exact ref_dx _ _ _ _ _ _ r d
    · rw [h0, h1, h2, h3, h4, h5]
      funext i
      obtain ⟨r, d, rfl⟩ : ∃ (r : Fin 8192) (d : Fin 1024), i = ix2 r d := ⟨i 0, i 1, eq_ix2 i⟩
      unfold Cert.Reference2Ideal.Read.val_main_v48 Cert.Reference2Ideal.Read.val_main_v47
      pointwise
      exact ref_dx _ _ _ _ _ _ r d
    · rw [h0, h2, h3, h4]
      funext i
      obtain ⟨u, d, rfl⟩ : ∃ (u : Fin 1) (d : Fin 1024), i = ix2 u d := ⟨i 0, i 1, eq_ix2 i⟩
      obtain rfl : u = 0 := Subsingleton.elim _ _
      exact ref_dn _ _ _ _ d

end Cert.Proof.GateUpDx
-- ==== Proof.DownDw.lean ====
module

public import proofs.«01_k».proof.Defs
public import proofs.«01_k».proof.Proof.Acc
public import proofs.«01_k».proof.Proof.Gen.Kernel3Ideal.Value
public import proofs.«01_k».proof.Proof.Gen.Reference3Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The weight gradient of the down projection

`actᵀ · ct` over 8192 rows, 1024 at a time: the product of a block is added to a scratch buffer, which the last point of a run
transposes into the result's block.
-/

@[expose] public section
set_option maxRecDepth 16384
noncomputable section
namespace Cert.Proof.DownDw
open Idealize.ShloMosaic Idealize.SL.Sem Cert.Kernel3Ideal
open Cert.Kernel3Ideal.Gen Idealize.ShloMosaic.TcCoe
open Idealize.ShloMosaic.Pipeline (Dat Cfg Window)

/-- One block's product: 1024 rows of the cotangent against the same rows of the activations. -/
def prod (x0 : Vec Ideal S1024x512 .bf16) (x1 : Vec Ideal S1024x2816 .bf16) : Vec Ideal S512x2816 .f32 := fun y =>
  ∑ k : Fin 1024, x0 (ix2 k (y 0)) * x1 (ix2 k (y 1))

section body
variable (c : Dev nD) (i : grid0.Coords) (arg3 : Memref sig .tc .vmem S1024x512 .bf16) (harg3 : arg3.IsWhole)
  (arg4 : Memref sig .tc .vmem S1024x2816 .bf16) (harg4 : arg4.IsWhole) (arg5 : Memref sig .tc .vmem S2816x512 .f32) (harg5 : arg5.IsWhole)
  (arg6 : Memref sig .tc .vmem S512x2816 .f32) (harg6 : arg6.IsWhole)
  (x0 : Vec Ideal S1024x512 .bf16) (x1 : Vec Ideal S1024x2816 .bf16) (xs : Vec Ideal S512x2816 .f32)

/-- What the accumulating store writes: what was read plus the block's product. -/
theorem pay2 (z : Vec Ideal S512x2816 .f32) : k0_pay2 x0 x1 z = fun y => z y + prod x0 x1 y := by
  funext y
  unfold prod
  unfold_payloads
  pointwise

/-- The scratch after a run's first point: zeroed, then the first product. -/
theorem sout_A (hc0 : cond0_0 i) (hc1 : ¬cond0_1 i) (y : S512x2816.Idx) :
    sout0_A_0 c i arg3 harg3 arg4 harg4 arg5 harg5 arg6 harg6 hc0 hc1 x0 x1 y = 0 + prod x0 x1 y := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_lit _ _ _ (by decide), View.ld_unit_lit inb_S1024x512_S1024x512_0_0 x0 (by decide),
    View.ld_unit_lit inb_S1024x2816_S1024x2816_0_0 x1 (by decide), View.readCov_unit_lit _ _ _ (by decide), pay2]
  dsimp only
  unfold_payloads
  pointwise

/-- The scratch after a point inside a run. -/
theorem sout_B (hc0 : ¬cond0_0 i) (hc1 : ¬cond0_1 i) (y : S512x2816.Idx) :
    sout0_B_0 c i arg3 harg3 arg4 harg4 arg5 harg5 arg6 harg6 hc0 hc1 x0 x1 xs y = xs y + prod x0 x1 y := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x2816_S1024x2816_0_0 x1 (by decide), View.ld_unit_lit inb_S512x2816_S512x2816_0_0 xs (by decide), pay2]

/-- The scratch after a run's last point. -/
theorem sout_C (hc0 : ¬cond0_0 i) (hc1 : cond0_1 i) (y : S512x2816.Idx) :
    sout0_C_0 c i arg3 harg3 arg4 harg4 arg5 harg5 arg6 harg6 hc0 hc1 x0 x1 xs y = xs y + prod x0 x1 y := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x2816_S1024x2816_0_0 x1 (by decide), View.ld_unit_lit inb_S512x2816_S512x2816_0_0 xs (by decide), pay2]

/-- The output block a run's last point writes: the scratch, transposed. -/
theorem out_C (hc0 : ¬cond0_0 i) (hc1 : cond0_1 i) (y : S2816x512.Idx) :
    out0_C_2 c i arg3 harg3 arg4 harg4 arg5 harg5 arg6 harg6 hc0 hc1 x0 x1 xs y
      = xs (ix2 (y 1) (y 0)) + prod x0 x1 (ix2 (y 1) (y 0)) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x2816_S1024x2816_0_0 x1 (by decide), View.ld_unit_lit inb_S512x2816_S512x2816_0_0 xs (by decide),
    View.readCov_unit_lit _ _ _ (by decide), pay2]
  unfold k0_pay3
  pointwise

end body

/-! ## The whole array -/

variable (m : (ℓ : Loc nD τ sig) → Buf (Elt Ideal) ℓ)

/-- The result array as a function of the two arguments: `actᵀ · ct`. -/
def result (act : FVec Ideal S1x8192x2816 .f32) (ct : FVec Ideal S1x8192x1024 .f32) : FVec Ideal S2816x1024 .f32 := fun i =>
  ∑ k : Fin 8192, ct (ix3 0 k (i 1)) * act (ix3 0 k (i 0))

/-- The host code before the call, read at an index: the cotangent's rows. -/
theorem V_ct (c : Dev nD) (j : S8192x1024.Idx) :
    V m c main_v1 j = m ((c : Thread nD τ).loc main_arg1) (ix3 0 (j 0) (j 1)) := by
  unfold V; after_reads_at

/-- The activations' rows. -/
theorem V_act (c : Dev nD) (j : S8192x2816.Idx) :
    V m c main_v3 j = m ((c : Thread nD τ).loc main_arg0) (ix3 0 (j 0) (j 1)) := by
  unfold V; after_reads_at

/-- The blocks each point stages and writes: contraction block `t % 8`, column block `t / 8`. -/
theorem idx_facts : ∀ t : Fin cfg0.N,
    win0_0.index t 0 = t.val % 8 ∧ win0_0.index t 1 = t.val / 8
    ∧ win0_1.index t 0 = t.val % 8 ∧ win0_1.index t 1 = 0
    ∧ win0_2.index t 0 = 0 ∧ win0_2.index t 1 = t.val / 8 :=
  (by decide +kernel : ∀ t : Fin grid0.N, _)

/-- The cotangent's block at point `t`. -/
theorem iblk0 (c : Dev nD) (t : Fin cfg0.N) (y : S1024x512.Idx) :
    iblk m c 0 t y = m ((c : Thread nD τ).loc main_arg1) (ix3 0 (Fin.ofNat 8192 (t.val % 8 * 1024 + (y 0).val))
      (Fin.ofNat 1024 (t.val / 8 * 512 + (y 1).val))) := by
  unfold iblk
  rw [View.read_apply]
  refine (V_ct m c _).trans (congrArg (m ((c : Thread nD τ).loc main_arg1)) ?_)
  have hN : cfg0.N = 16 := N_0
  have ht := t.isLt
  have y0 : (y 0).val < 1024 := (y 0).isLt
  have y1 : (y 1).val < 512 := (y 1).isLt
  obtain ⟨h0, h1, -⟩ := idx_facts t
  funext a; apply Fin.ext
  match a with
  | ⟨0, _⟩ => rfl
  | ⟨1, _⟩ => show win0_0.index t 0 * 1024 + 1 * (y 0).val = (t.val % 8 * 1024 + (y 0).val) % 8192; omega
  | ⟨2, _⟩ => show win0_0.index t 1 * 512 + 1 * (y 1).val = (t.val / 8 * 512 + (y 1).val) % 1024; omega

/-- The activations' block at point `t`. -/
theorem iblk1 (c : Dev nD) (t : Fin cfg0.N) (y : S1024x2816.Idx) :
    iblk m c 1 t y = m ((c : Thread nD τ).loc main_arg0) (ix3 0 (Fin.ofNat 8192 (t.val % 8 * 1024 + (y 0).val)) (y 1)) := by
  unfold iblk
  rw [View.read_apply]
  refine (V_act m c _).trans (congrArg (m ((c : Thread nD τ).loc main_arg0)) ?_)
  have y0 : (y 0).val < 1024 := (y 0).isLt
  obtain ⟨-, -, h0, h1, -⟩ := idx_facts t
  funext a; apply Fin.ext
  match a with
  | ⟨0, _⟩ => rfl
  | ⟨1, _⟩ => show win0_1.index t 0 * 1024 + 1 * (y 0).val = (t.val % 8 * 1024 + (y 0).val) % 8192; omega
  | ⟨2, _⟩ => show win0_1.index t 1 * 2816 + 1 * (y 1).val = (y 1).val; omega

/-- The product added at point `n`, in the arguments. -/
def step (act : FVec Ideal S1x8192x2816 .f32) (ct : FVec Ideal S1x8192x1024 .f32) (n : ℕ) (y : S512x2816.Idx) : EReal :=
  ∑ k : Fin 1024, ct (ix3 0 (Fin.ofNat 8192 (n % 8 * 1024 + k.val)) (Fin.ofNat 1024 (n / 8 * 512 + (y 0).val)))
    * act (ix3 0 (Fin.ofNat 8192 (n % 8 * 1024 + k.val)) (y 1))

theorem prod_eq (c : Dev nD) (t : Fin cfg0.N) (y : S512x2816.Idx) :
    prod (iblk m c 0 t) (iblk m c 1 t) y
      = step (m ((c : Thread nD τ).loc main_arg0)) (m ((c : Thread nD τ).loc main_arg1)) t.val y := by
  unfold prod step
  simp only [iblk0 m c t, iblk1 m c t]
  rfl

/-- At every point but a run's first the scratch grows by the point's product. -/
theorem scratch_succ (c : Dev nD) (t : Fin cfg0.N) (hn : t.val % 8 ≠ 0) (y : S512x2816.Idx) :
    (outsAt0 m c t.val t.isLt).2 y = (outsAt0 m c (t.val - 1) (Nat.lt_of_le_of_lt (Nat.sub_le _ _) t.isLt)).2 y
      + step (m ((c : Thread nD τ).loc main_arg0)) (m ((c : Thread nD τ).loc main_arg1)) t.val y := by
  by_cases h7 : t.val % 8 = 7
  · rw [outsAt0_C m c t hn h7]
    dsimp only
    rw [sout_C, prod_eq]
  · rw [outsAt0_B m c t hn h7]
    dsimp only
    rw [sout_B, prod_eq]

/-- What the scratch holds after point `n`: the products of its run so far. -/
theorem acc_eq (c : Dev nD) (n : ℕ) (h : n < cfg0.N) (y : S512x2816.Idx) :
    (outsAt0 m c n h).2 y = ∑ s ∈ Finset.range (n % 8 + 1), step (m ((c : Thread nD τ).loc main_arg0))
      (m ((c : Thread nD τ).loc main_arg1)) (n - n % 8 + s) y :=
  Acc.fold 8 (by decide) (fun n h => (outsAt0 m c n h).2) _
    (fun n h hn y => by
      rw [outsAt0_A m c ⟨n, h⟩ hn (by dsimp only; omega)]
      dsimp only
      rw [sout_A, prod_eq])
    (fun n h hn y => scratch_succ m c ⟨n, h⟩ hn y) n h y

/-- What the last point of a run holds is its block of `result`. -/
theorem block_eq (act : FVec Ideal S1x8192x2816 .f32) (ct : FVec Ideal S1x8192x1024 .f32) (n : ℕ) (hn : n % 8 = 7)
    (f : Fin 2816) (y0 : Fin 512) (r : Fin 1024) (hr : n / 8 * 512 + y0.val = r.val) :
    ∑ s ∈ Finset.range (n % 8 + 1), step act ct (n - n % 8 + s) (ix2 y0 f) = result act ct (ix2 f r) := by
  have hres : result act ct (ix2 f r) = ∑ k : Fin 8192, ct (ix3 0 k r) * act (ix3 0 k f) := by
    unfold result
    rfl
  rw [hn, hres]
  obtain ⟨G, hG⟩ : ∃ G : ℕ → EReal, ∀ q, G q = ct (ix3 0 (Fin.ofNat 8192 q) r) * act (ix3 0 (Fin.ofNat 8192 q) f) :=
    ⟨_, fun _ => rfl⟩
  have hstep : ∀ s ∈ Finset.range (7 + 1), step act ct (n - 7 + s) (ix2 y0 f) = ∑ k : Fin 1024, G (s * 1024 + k.val) := by
    intro s hs
    have hs : s < 8 := Finset.mem_range.mp hs
    have e1 : (n - 7 + s) % 8 = s := by omega
    have e2 : (n - 7 + s) / 8 = n / 8 := by omega
    have e5 : Fin.ofNat 1024 (n / 8 * 512 + y0.val) = r := Fin.ext (by
      show (n / 8 * 512 + y0.val) % 1024 = r.val
      rw [hr]; exact Nat.mod_eq_of_lt r.isLt)
    unfold step
    rw [e1, e2]
    refine Finset.sum_congr rfl fun k _ => ?_
    rw [hG, ← e5]
    rfl
  rw [Finset.sum_congr rfl hstep, Acc.sum_blocks 8 1024 8192 rfl G]
  refine Finset.sum_congr rfl fun k _ => ?_
  have hk : Fin.ofNat 8192 k.val = k := Fin.ext (Nat.mod_eq_of_lt k.isLt)
  rw [hG, hk]

/-- What a run's last point writes back is its block of `result`. -/
theorem flushed_eq (c : Dev nD) (t : Fin cfg0.N) (hf : (cfg0.win 2).flush t = true) :
    (dats m 0 c).flushed 2 t = ((cfg0.win 2).blk t).view.read (Elt Ideal)
      (result (m ((c : Thread nD τ).loc main_arg0)) (m ((c : Thread nD τ).loc main_arg1))) := by
  have h7 : t.val % 8 = 7 := (flush0_2 t).mp hf
  have h0 : ¬t.val % 8 = 0 := by omega
  have hN : cfg0.N = 16 := N_0
  have ht := t.isLt
  rw [Value.flushed2_C m c t h0 h7]
  funext y
  rw [View.read_apply]
  obtain ⟨-, -, -, -, i0, i1⟩ := idx_facts t
  have y1 : (y 1).val < 512 := (y 1).isLt
  have he : ((cfg0.win 2).blk t).view.emb y = ix2 (y 0) (⟨t.val / 8 * 512 + (y 1).val, by omega⟩ : Fin 1024) := by
    funext a; apply Fin.ext
    match a with
    | ⟨0, _⟩ => show win0_2.index t 0 * 2816 + 1 * (y 0).val = (y 0).val; omega
    | ⟨1, _⟩ => show win0_2.index t 1 * 512 + 1 * (y 1).val = t.val / 8 * 512 + (y 1).val; omega
  rw [he]
  refine (out_C c _ _ _ _ _ _ _ _ _ _ _ _ _ _ y).trans ?_
  rw [prod_eq]
  refine (scratch_succ m c t h0 (ix2 (y 1) (y 0))).symm.trans ?_
  exact (acc_eq m c t.val t.isLt _).trans (block_eq _ _ t.val h7 (y 0) (y 1) _ rfl)

/-- Every index is in the block of some run's last point. -/
theorem covered (i : S2816x1024.Idx) : ∃ t : Fin cfg0.N, (cfg0.win 2).flush t = true ∧ i ∈ ((cfg0.win 2).blk t).view.set := by
  have hN : cfg0.N = 16 := N_0
  have i0 : (i 0).val < 2816 := (i 0).isLt
  have i1 : (i 1).val < 1024 := (i 1).isLt
  obtain ⟨t, ht⟩ : ∃ t : Fin cfg0.N, t.val = (i 1).val / 512 * 8 + 7 := ⟨⟨_, by omega⟩, rfl⟩
  refine ⟨t, (flush0_2 t).mpr (by omega), ?_⟩
  obtain ⟨-, -, -, -, h0, h1⟩ := idx_facts t
  show i ∈ ((View.whole main_v4).slice (win0_2.rect t)).set
  rw [View.set_slice_whole, Rect.mem_set_unit]
  intro a
  match a with
  | ⟨0, _⟩ => show win0_2.index t 0 * 2816 ≤ (i 0).val ∧ (i 0).val < win0_2.index t 0 * 2816 + 2816; omega
  | ⟨1, _⟩ => show win0_2.index t 1 * 512 ≤ (i 1).val ∧ (i 1).val < win0_2.index t 1 * 512 + 512; omega

/-- The result array after the run. -/
theorem final (c : Dev nD) : (dats m 0 c).arrAt 2 cfg0.N
    = result (m ((c : Thread nD τ).loc main_arg0)) (m ((c : Thread nD τ).loc main_arg1)) :=
  (dats m 0 c).arrAt_eq_of_cover 2 _ (flushed_eq m c) covered

/-! ## The reference -/

open Cert.Reference3Ideal.Read in
/-- The reference's result is the same function. -/
theorem ref_eq (act : FVec Ideal S1x8192x2816 .f32) (ct : FVec Ideal S1x8192x1024 .f32) :
    val_main_v3 (F := Ideal) act ct = result act ct := by
  funext i
  unfold val_main_v3 val_main_v2 result
  pointwise
  rw [Fin.sum_univ_one]

/-! ## The claim -/

/-- `Cert.algebraic_Kernel3Ideal_Reference3Ideal`: from equal arguments the call and the reference end with equal results. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => result (m ((c.tc : Thread _ _).loc main_arg0)) (m ((c.tc : Thread _ _).loc main_arg1)), ?_, ?_⟩
  · refine (θ_run defs _ _).mono (fun r h c => ?_) (Value.run_blocks (F := Ideal) m g)
    exact ⟨((h c).1).trans (final m c), (h c).2⟩
  · refine (θ_run (Cert.Reference3Ideal.defs (F := Ideal)) _ _).mono (fun r h c => ?_) (Cert.Reference3Ideal.Value.run (F := Ideal) m' g')
    refine ⟨((h c).1.trans (Cert.Reference3Ideal.Read.val_main_v3_eq ..)).trans ?_, (h c).2⟩
    obtain ⟨h0, h1⟩ := hargs c
    rw [h0, h1]
    exact ref_eq _ _

end Cert.Proof.DownDw
-- ==== Proof.GateUpDw.lean ====
module

public import proofs.«01_k».proof.Defs
public import proofs.«01_k».proof.Proof.Acc
public import proofs.«01_k».proof.Proof.Gen.Kernel4Ideal.Value
public import proofs.«01_k».proof.Proof.Gen.Reference4Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The weight gradient of the gate and up projection

Accumulated over blocks of 1024 rows, 512 rows of the weight and two of the four column shards at a time.
-/

@[expose] public section
set_option maxRecDepth 16384
noncomputable section
namespace Cert.Proof.GateUpDw
open Idealize.ShloMosaic Idealize.SL.Sem Cert.Kernel4Ideal
open Cert.Kernel4Ideal.Gen Idealize.ShloMosaic.TcCoe
open Idealize.ShloMosaic.Pipeline (Dat Cfg Window)

/-- One block's product: 1024 rows of the saved activations against the same rows of the gradient, `1408` columns per plane. -/
def prod (x0 : Vec Ideal S1024x512 .bf16) (x1 : Vec Ideal S1x1024x2816 .bf16) : Vec Ideal S2x512x1408 .f32 := fun y =>
  ∑ k : Fin 1024, x0 (ix2 k (y 1)) * x1 (ix3 0 k ⟨(y 0).val * 1408 + (y 2).val, by
    have h0 : (y 0).val < 2 := (y 0).isLt
    have h2 : (y 2).val < 1408 := (y 2).isLt
    omega⟩)

section body
variable (c : Dev nD) (i : grid0.Coords) (arg3 : Memref sig .tc .vmem S1024x512 .bf16) (harg3 : arg3.IsWhole)
  (arg4 : Memref sig .tc .vmem S1x1024x2816 .bf16) (harg4 : arg4.IsWhole) (arg5 : Memref sig .tc .vmem S2x512x1408 .f32) (harg5 : arg5.IsWhole)
  (x0 : Vec Ideal S1024x512 .bf16) (x1 : Vec Ideal S1x1024x2816 .bf16) (x2 : Vec Ideal S2x512x1408 .f32)

theorem emb0 (x : S1x512x1408.Idx) :
    (Rect.unit ![0, 0, 0] ![1, 512, 1408] inb_S2x512x1408_S1x512x1408_0_0_0).emb x = ix3 0 (x 1) (x 2) := funext fun a => Fin.ext (by
  have : (x 0).val < 1 := (x 0).isLt
  match a with
  | ⟨0, _⟩ => show 0 + 1 * (x 0).val = 0; omega
  | ⟨1, _⟩ => show 0 + 1 * (x 1).val = (x 1).val; omega
  | ⟨2, _⟩ => show 0 + 1 * (x 2).val = (x 2).val; omega)

theorem emb1 (x : S1x512x1408.Idx) :
    (Rect.unit ![1, 0, 0] ![1, 512, 1408] inb_S2x512x1408_S1x512x1408_1_0_0).emb x = ix3 1 (x 1) (x 2) := funext fun a => Fin.ext (by
  have : (x 0).val < 1 := (x 0).isLt
  match a with
  | ⟨0, _⟩ => show 1 + 1 * (x 0).val = 1; omega
  | ⟨1, _⟩ => show 0 + 1 * (x 1).val = (x 1).val; omega
  | ⟨2, _⟩ => show 0 + 1 * (x 2).val = (x 2).val; omega)

/-- What the store into plane 0 writes: what was read there plus the product's plane. -/
theorem pay3 (z : Vec Ideal S1x512x1408 .f32) (x : S1x512x1408.Idx) :
    k0_pay3 x0 x1 z x = z x + prod x0 x1 (ix3 0 (x 1) (x 2)) := by
  unfold prod
  unfold_payloads
  pointwise

/-- What the store into plane 1 writes: what was read there plus the product's plane. -/
theorem pay4 (z : Vec Ideal S1x512x1408 .f32) (x : S1x512x1408.Idx) :
    k0_pay4 x0 x1 z x = z x + prod x0 x1 (ix3 1 (x 1) (x 2)) := by
  unfold prod
  unfold_payloads
  pointwise

/-- The body's two stores add the block's product to what the accumulator held. -/
theorem stores (x2 : Vec Ideal S2x512x1408 .f32) (L' : List (View.Piece (Elt Ideal) S2x512x1408 .f32))
    (y0 y1 : Vec Ideal S1x512x1408 .f32) (h0 : ∀ x, y0 x = x2 (ix3 0 (x 1) (x 2))) (h1 : ∀ x, y1 x = x2 (ix3 1 (x 1) (x 2))) (y : S2x512x1408.Idx) :
    View.canon (Val := Elt Ideal) (⟨Rect.unit ![1, 0, 0] ![1, 512, 1408] inb_S2x512x1408_S1x512x1408_1_0_0, k0_pay4 x0 x1 y1⟩
      :: ⟨Rect.unit ![0, 0, 0] ![1, 512, 1408] inb_S2x512x1408_S1x512x1408_0_0_0, k0_pay3 x0 x1 y0⟩ :: L') y = x2 y + prod x0 x1 y := by
  refine Acc.canon_front (Val := Elt Ideal) (fun y => x2 y + prod x0 x1 y) L' y [⟨_, _⟩, ⟨_, _⟩] ?_ ?_
  · intro p hp x
    simp only [List.mem_cons, List.not_mem_nil, or_false] at hp
    rcases hp with rfl | rfl
    · exact (pay4 x0 x1 y1 x).trans ((congrArg (· + prod x0 x1 (ix3 1 (x 1) (x 2))) (h1 x)).trans
        (congrArg (fun y => x2 y + prod x0 x1 y) (emb1 x)).symm)
    · exact (pay3 x0 x1 y0 x).trans ((congrArg (· + prod x0 x1 (ix3 0 (x 1) (x 2))) (h0 x)).trans
        (congrArg (fun y => x2 y + prod x0 x1 y) (emb0 x)).symm)
  · have hy : (y 0).val < 2 := (y 0).isLt
    by_cases h : (y 0).val = 0
    · refine ⟨_, List.mem_cons_of_mem _ List.mem_cons_self, ?_⟩
      rw [Rect.mem_set_unit]
      intro a
      have := (y a).isLt
      match a with
      | ⟨0, _⟩ => show 0 ≤ (y 0).val ∧ (y 0).val < 0 + 1; omega
      | ⟨1, _⟩ => exact ⟨Nat.zero_le _, lt_of_lt_of_eq (y 1).isLt (by rfl)⟩
      | ⟨2, _⟩ => exact ⟨Nat.zero_le _, lt_of_lt_of_eq (y 2).isLt (by rfl)⟩
    · refine ⟨_, List.mem_cons_self, ?_⟩
      rw [Rect.mem_set_unit]
      intro a
      match a with
      | ⟨0, _⟩ => show 1 ≤ (y 0).val ∧ (y 0).val < 1 + 1; omega
      | ⟨1, _⟩ => exact ⟨Nat.zero_le _, lt_of_lt_of_eq (y 1).isLt (by rfl)⟩
      | ⟨2, _⟩ => exact ⟨Nat.zero_le _, lt_of_lt_of_eq (y 2).isLt (by rfl)⟩

/-- At the first point of a run the accumulator is zeroed, then holds the first product. -/
theorem out_A (hc0 : cond0_0 i) (y : S2x512x1408.Idx) :
    out0_A_2 c i arg3 harg3 arg4 harg4 arg5 harg5 hc0 x0 x1 y = 0 + prod x0 x1 y := by
  unfold out0_A_2
  rw [View.read_writes_eq_canon _ _ _ (cover0_A_2 c i arg3 harg3 arg4 harg4 arg5 harg5 hc0 x0 x1)]
  unfold kernelRun0_A
  dsimp only
  sl_unfold_words
  simp only [View.readAt_eq_ld, harg3.read_unread, harg4.read_unread]
  rw [View.ld_unit_lit inb_S1024x512_S1024x512_0_0 x0 (by decide), View.ld_unit_lit inb_S1x1024x2816_S1x1024x2816_0_0_0 x1 (by decide)]
  refine stores x0 x1 (fun _ => 0) _ _ _ (fun x => ?_) (fun x => ?_) y
  · rw [View.readCov_fill _ _ _ _ _ (by decide)]
    unfold_payloads
    pointwise
  · rw [View.readCov_skip _ _ _ _ _ (by decide), View.readCov_fill _ _ _ _ _ (by decide)]
    unfold_payloads
    pointwise

/-- At the other points the product is added to what the point before left. -/
theorem out_B (hc0 : ¬cond0_0 i) (y : S2x512x1408.Idx) :
    out0_B_2 c i arg3 harg3 arg4 harg4 arg5 harg5 hc0 x0 x1 x2 y = x2 y + prod x0 x1 y := by
  unfold out0_B_2
  rw [View.read_writes_eq_canon _ _ _ (cover0_B_2 c i arg3 harg3 arg4 harg4 arg5 harg5 hc0 x0 x1 x2)]
  unfold kernelRun0_B
  dsimp only
  sl_unfold_words
  simp only [View.readAt_eq_ld, harg3.read_unread, harg4.read_unread, harg5.read_unread]
  rw [View.ld_unit_lit inb_S1024x512_S1024x512_0_0 x0 (by decide), View.ld_unit_lit inb_S1x1024x2816_S1x1024x2816_0_0_0 x1 (by decide)]
  exact stores x0 x1 x2 _ _ _ (fun x => congrArg x2 (emb0 x)) (fun x => congrArg x2 (emb1 x)) y

end body

/-! ## The whole array -/

variable (m : (ℓ : Loc nD τ sig) → Buf (Elt Ideal) ℓ)

/-- The gradient of the product's output, the two halves side by side, read at row `k` and column `n`. -/
def gu (ctg ctu : FVec Ideal S1x8192x2816 .f32) (k : Fin 8192) (n : ℕ) : EReal :=
  if n < 2816 then ctg (ix3 0 k (Fin.ofNat 2816 n)) else ctu (ix3 0 k (Fin.ofNat 2816 (n - 2816)))

/-- The result array as a function of the three arguments: column shard `p` of `h2ᵀ · ct`. -/
def result (h2 : FVec Ideal S1x8192x1024 .f32) (ctg ctu : FVec Ideal S1x8192x2816 .f32) : FVec Ideal S4x1024x1408 .f32 := fun i =>
  ∑ k : Fin 8192, h2 (ix3 0 k (i 1)) * gu ctg ctu k ((i 0).val * 1408 + (i 2).val)

/-- The host code before the call, read at an index: the saved activations. -/
theorem V_h2 (c : Dev nD) (j : S8192x1024.Idx) :
    V m c main_v7 j = m ((c : Thread nD τ).loc main_arg0) (ix3 0 (j 0) (j 1)) := by
  unfold V; after_reads_at

theorem V_v2 (c : Dev nD) (j : S1x8192x2816.Idx) :
    StableHlo.upto hostOps0 (fun b => m (c, b)) 4 (Proc.tc.devRef main_v2) j = m ((c : Thread nD τ).loc main_arg1) (ix3 0 (j 1) (j 2)) := by
  after_reads_at

theorem V_v3 (c : Dev nD) (j : S1x8192x2816.Idx) :
    StableHlo.upto hostOps0 (fun b => m (c, b)) 4 (Proc.tc.devRef main_v3) j = m ((c : Thread nD τ).loc main_arg2) (ix3 0 (j 1) (j 2)) := by
  after_reads_at

/-- The gradient pair: plane 0 is the gate's, plane 1 is the up projection's. -/
theorem V_gu (c : Dev nD) (j : S2x8192x2816.Idx) :
    V m c main_v5 j = if (j 0).val < 1 then m ((c : Thread nD τ).loc main_arg1) (ix3 0 (j 1) (j 2))
      else m ((c : Thread nD τ).loc main_arg2) (ix3 0 (j 1) (j 2)) := by
  unfold V; after_reads_at
  by_cases h : (j 0).val < 1
  · exact (dif_pos h).trans ((V_v2 m c _).trans (if_pos h).symm)
  · exact (dif_neg h).trans ((V_v3 m c _).trans (if_neg h).symm)

/-- The blocks each point stages and writes: contraction block `t % 8`, row block `t / 16`, half `t / 8 % 2`. -/
theorem idx_facts : ∀ t : Fin cfg0.N,
    win0_0.index t 0 = t.val % 8 ∧ win0_0.index t 1 = t.val / 16
    ∧ win0_1.index t 0 = t.val / 8 % 2 ∧ win0_1.index t 1 = t.val % 8 ∧ win0_1.index t 2 = 0
    ∧ win0_2.index t 0 = t.val / 8 % 2 ∧ win0_2.index t 1 = t.val / 16 ∧ win0_2.index t 2 = 0 :=
  (by decide +kernel : ∀ t : Fin grid0.N, _)

/-- The activations' block at point `t`. -/
theorem iblk0 (c : Dev nD) (t : Fin cfg0.N) (y : S1024x512.Idx) :
    iblk m c 0 t y = m ((c : Thread nD τ).loc main_arg0) (ix3 0 (Fin.ofNat 8192 (t.val % 8 * 1024 + (y 0).val))
      (Fin.ofNat 1024 (t.val / 16 * 512 + (y 1).val))) := by
  unfold iblk
  rw [View.read_apply]
  refine (V_h2 m c _).trans (congrArg (m ((c : Thread nD τ).loc main_arg0)) ?_)
  have hN : cfg0.N = 32 := N_0
  have ht := t.isLt
  have y0 : (y 0).val < 1024 := (y 0).isLt
  have y1 : (y 1).val < 512 := (y 1).isLt
  obtain ⟨h0, h1, -⟩ := idx_facts t
  funext a; apply Fin.ext
  match a with
  | ⟨0, _⟩ => rfl
  | ⟨1, _⟩ => show win0_0.index t 0 * 1024 + 1 * (y 0).val = (t.val % 8 * 1024 + (y 0).val) % 8192; omega
  | ⟨2, _⟩ => show win0_0.index t 1 * 512 + 1 * (y 1).val = (t.val / 16 * 512 + (y 1).val) % 1024; omega

/-- The gradient's block at point `t`. -/
theorem iblk1 (c : Dev nD) (t : Fin cfg0.N) (y : S1x1024x2816.Idx) :
    iblk m c 1 t y = gu (m ((c : Thread nD τ).loc main_arg1)) (m ((c : Thread nD τ).loc main_arg2))
      (Fin.ofNat 8192 (t.val % 8 * 1024 + (y 1).val)) (t.val / 8 % 2 * 2816 + (y 2).val) := by
  unfold iblk
  rw [View.read_apply]
  have hN : cfg0.N = 32 := N_0
  have ht := t.isLt
  have y0 : (y 0).val < 1 := (y 0).isLt
  have y1 : (y 1).val < 1024 := (y 1).isLt
  have y2 : (y 2).val < 2816 := (y 2).isLt
  obtain ⟨-, -, h0, h1, h2, -⟩ := idx_facts t
  have he : ((cfg0.win 1).blk t).view.emb y = ix3 (Fin.ofNat 2 (t.val / 8 % 2)) (Fin.ofNat 8192 (t.val % 8 * 1024 + (y 1).val)) (y 2) := by
    funext a; apply Fin.ext
    match a with
    | ⟨0, _⟩ => show win0_1.index t 0 * 1 + 1 * (y 0).val = t.val / 8 % 2 % 2; omega
    | ⟨1, _⟩ => show win0_1.index t 1 * 1024 + 1 * (y 1).val = (t.val % 8 * 1024 + (y 1).val) % 8192; omega
    | ⟨2, _⟩ => show win0_1.index t 2 * 2816 + 1 * (y 2).val = (y 2).val; omega
  rw [he]
  refine (V_gu m c _).trans ?_
  unfold gu
  by_cases h : t.val / 8 % 2 = 0
  · refine (if_pos (show t.val / 8 % 2 % 2 < 1 by omega)).trans (Eq.trans (congrArg (m ((c : Thread nD τ).loc main_arg1)) ?_)
      (if_pos (show t.val / 8 % 2 * 2816 + (y 2).val < 2816 by omega)).symm)
    funext a; apply Fin.ext
    match a with
    | ⟨0, _⟩ => rfl
    | ⟨1, _⟩ => rfl
    | ⟨2, _⟩ => show (y 2).val = (t.val / 8 % 2 * 2816 + (y 2).val) % 2816; omega
  · refine (if_neg (show ¬t.val / 8 % 2 % 2 < 1 by omega)).trans (Eq.trans (congrArg (m ((c : Thread nD τ).loc main_arg2)) ?_)
      (if_neg (show ¬t.val / 8 % 2 * 2816 + (y 2).val < 2816 by omega)).symm)
    funext a; apply Fin.ext
    match a with
    | ⟨0, _⟩ => rfl
    | ⟨1, _⟩ => rfl
    | ⟨2, _⟩ => show (y 2).val = (t.val / 8 % 2 * 2816 + (y 2).val - 2816) % 2816; omega

/-- The product added at point `n`, in the arguments. -/
def step (h2 : FVec Ideal S1x8192x1024 .f32) (ctg ctu : FVec Ideal S1x8192x2816 .f32) (n : ℕ) (y : S2x512x1408.Idx) : EReal :=
  ∑ k : Fin 1024, h2 (ix3 0 (Fin.ofNat 8192 (n % 8 * 1024 + k.val)) (Fin.ofNat 1024 (n / 16 * 512 + (y 1).val)))
    * gu ctg ctu (Fin.ofNat 8192 (n % 8 * 1024 + k.val)) (n / 8 % 2 * 2816 + ((y 0).val * 1408 + (y 2).val))

theorem prod_eq (c : Dev nD) (t : Fin cfg0.N) (y : S2x512x1408.Idx) :
    prod (iblk m c 0 t) (iblk m c 1 t) y = step (m ((c : Thread nD τ).loc main_arg0)) (m ((c : Thread nD τ).loc main_arg1))
      (m ((c : Thread nD τ).loc main_arg2)) t.val y := by
  unfold prod step
  simp only [iblk0 m c t, iblk1 m c t]
  rfl

/-- What the accumulator holds after point `n`: the products of its run so far. -/
theorem acc_eq (c : Dev nD) (n : ℕ) (h : n < cfg0.N) (y : S2x512x1408.Idx) :
    outsAt0 m c n h y = ∑ s ∈ Finset.range (n % 8 + 1), step (m ((c : Thread nD τ).loc main_arg0))
      (m ((c : Thread nD τ).loc main_arg1)) (m ((c : Thread nD τ).loc main_arg2)) (n - n % 8 + s) y :=
  Acc.fold 8 (by decide) (outsAt0 m c) _
    (fun n h hn y => by
      rw [outsAt0_A m c ⟨n, h⟩ hn, out_A, prod_eq])
    (fun n h hn y => by
      rw [outsAt0_B m c ⟨n, h⟩ hn, out_B, prod_eq]) n h y

/-- What the last point of a run holds is its block of `result`. -/
theorem block_eq (h2 : FVec Ideal S1x8192x1024 .f32) (ctg ctu : FVec Ideal S1x8192x2816 .f32) (n : ℕ) (hn : n % 8 = 7) (hN : n < 32)
    (y : S2x512x1408.Idx) (p : Fin 4) (r : Fin 1024) (hp : n / 8 % 2 * 2 + (y 0).val = p.val) (hr : n / 16 * 512 + (y 1).val = r.val) :
    ∑ s ∈ Finset.range (n % 8 + 1), step h2 ctg ctu (n - n % 8 + s) y = result h2 ctg ctu (ix3 p r (y 2)) := by
  have hres : result h2 ctg ctu (ix3 p r (y 2)) = ∑ k : Fin 8192, h2 (ix3 0 k r) * gu ctg ctu k (p.val * 1408 + (y 2).val) := by
    unfold result
    rfl
  rw [hn, hres]
  obtain ⟨G, hG⟩ : ∃ G : ℕ → EReal, ∀ q, G q = h2 (ix3 0 (Fin.ofNat 8192 q) r) * gu ctg ctu (Fin.ofNat 8192 q) (p.val * 1408 + (y 2).val) :=
    ⟨_, fun _ => rfl⟩
  have hstep : ∀ s ∈ Finset.range (7 + 1), step h2 ctg ctu (n - 7 + s) y = ∑ k : Fin 1024, G (s * 1024 + k.val) := by
    intro s hs
    have hs : s < 8 := Finset.mem_range.mp hs
    have e1 : (n - 7 + s) % 8 = s := by omega
    have e2 : (n - 7 + s) / 16 = n / 16 := by omega
    have e3 : (n - 7 + s) / 8 = n / 8 := by omega
    have e4 : n / 8 % 2 * 2816 + ((y 0).val * 1408 + (y 2).val) = p.val * 1408 + (y 2).val := by omega
    have e5 : Fin.ofNat 1024 (n / 16 * 512 + (y 1).val) = r := Fin.ext (by
      show (n / 16 * 512 + (y 1).val) % 1024 = r.val
      rw [hr]; exact Nat.mod_eq_of_lt r.isLt)
    unfold step
    rw [e1, e2, e3, e4, e5]
    exact Finset.sum_congr rfl fun k _ => (hG _).symm
  rw [Finset.sum_congr rfl hstep, Acc.sum_blocks 8 1024 8192 rfl G]
  refine Finset.sum_congr rfl fun k _ => ?_
  have hk : Fin.ofNat 8192 k.val = k := Fin.ext (Nat.mod_eq_of_lt k.isLt)
  rw [hG, hk]

/-- What a run's last point writes back is its block of `result`. -/
theorem flushed_eq (c : Dev nD) (t : Fin cfg0.N) (hf : (cfg0.win 2).flush t = true) :
    (dats m 0 c).flushed 2 t = ((cfg0.win 2).blk t).view.read (Elt Ideal)
      (result (m ((c : Thread nD τ).loc main_arg0)) (m ((c : Thread nD τ).loc main_arg1)) (m ((c : Thread nD τ).loc main_arg2))) := by
  have h7 : t.val % 8 = 7 := (flush0_2 t).mp hf
  have hN : cfg0.N = 32 := N_0
  have ht := t.isLt
  rw [Value.flushed2]
  funext y
  rw [View.read_apply]
  obtain ⟨-, -, -, -, -, h0, h1, h2⟩ := idx_facts t
  have y0 : (y 0).val < 2 := (y 0).isLt
  have y1 : (y 1).val < 512 := (y 1).isLt
  have he : ((cfg0.win 2).blk t).view.emb y = ix3 (⟨t.val / 8 % 2 * 2 + (y 0).val, by omega⟩ : Fin 4)
      (⟨t.val / 16 * 512 + (y 1).val, by omega⟩ : Fin 1024) (y 2) := by
    funext a; apply Fin.ext
    match a with
    | ⟨0, _⟩ => show win0_2.index t 0 * 2 + 1 * (y 0).val = t.val / 8 % 2 * 2 + (y 0).val; omega
    | ⟨1, _⟩ => show win0_2.index t 1 * 512 + 1 * (y 1).val = t.val / 16 * 512 + (y 1).val; omega
    | ⟨2, _⟩ => show win0_2.index t 2 * 1408 + 1 * (y 2).val = (y 2).val; omega
  rw [he]
  exact (acc_eq m c t.val t.isLt y).trans (block_eq _ _ _ t.val h7 (by omega) y _ _ rfl rfl)

/-- Every index is in the block of some run's last point. -/
theorem covered (i : S4x1024x1408.Idx) : ∃ t : Fin cfg0.N, (cfg0.win 2).flush t = true ∧ i ∈ ((cfg0.win 2).blk t).view.set := by
  have hN : cfg0.N = 32 := N_0
  have i0 : (i 0).val < 4 := (i 0).isLt
  have i1 : (i 1).val < 1024 := (i 1).isLt
  have i2 : (i 2).val < 1408 := (i 2).isLt
  obtain ⟨t, ht⟩ : ∃ t : Fin cfg0.N, t.val = (i 1).val / 512 * 16 + (i 0).val / 2 * 8 + 7 := ⟨⟨_, by omega⟩, rfl⟩
  refine ⟨t, (flush0_2 t).mpr (by omega), ?_⟩
  obtain ⟨-, -, -, -, -, h0, h1, h2⟩ := idx_facts t
  show i ∈ ((View.whole main_v8).slice (win0_2.rect t)).set
  rw [View.set_slice_whole, Rect.mem_set_unit]
  intro a
  match a with
  | ⟨0, _⟩ => show win0_2.index t 0 * 2 ≤ (i 0).val ∧ (i 0).val < win0_2.index t 0 * 2 + 2; omega
  | ⟨1, _⟩ => show win0_2.index t 1 * 512 ≤ (i 1).val ∧ (i 1).val < win0_2.index t 1 * 512 + 512; omega
  | ⟨2, _⟩ => show win0_2.index t 2 * 1408 ≤ (i 2).val ∧ (i 2).val < win0_2.index t 2 * 1408 + 1408; omega

/-- The result array after the run. -/
theorem final (c : Dev nD) : (dats m 0 c).arrAt 2 cfg0.N
    = result (m ((c : Thread nD τ).loc main_arg0)) (m ((c : Thread nD τ).loc main_arg1)) (m ((c : Thread nD τ).loc main_arg2)) :=
  (dats m 0 c).arrAt_eq_of_cover 2 _ (flushed_eq m c) covered

/-! ## The reference -/

open Cert.Reference4Ideal.Read in
/-- The reference's product of the gradient with the saved activations. -/
theorem ref_dot (h2 : FVec Ideal S1x8192x1024 .f32) (ctg ctu : FVec Ideal S1x8192x2816 .f32) (n : Fin 5632) (r : Fin 1024) :
    val_main_v5 (F := Ideal) h2 ctg ctu (ix2 n r) = ∑ k : Fin 8192, h2 (ix3 0 k r) * gu ctg ctu k n.val := by
  unfold val_main_v5 val_main_v4
  pointwise
  rw [Fin.sum_univ_one]
  refine Finset.sum_congr rfl fun k _ => ?_
  rw [mul_comm]
  refine congrArg (h2 (ix3 0 k r) * ·) ?_
  unfold gu
  by_cases h : n.val < 2816
  · refine (dif_pos h).trans (Eq.trans (congrArg (fun f => ctg (ix3 0 k f)) (Fin.ext ?_)) (if_pos h).symm)
    exact (Nat.mod_eq_of_lt h).symm
  · refine (dif_neg h).trans (Eq.trans (congrArg (fun f => ctu (ix3 0 k f)) (Fin.ext ?_)) (if_neg h).symm)
    exact (Nat.mod_eq_of_lt (show n.val - 2816 < 2816 by omega)).symm

open Cert.Reference4Ideal.Read in
/-- The reference's result is the same function. -/
theorem ref_eq (h2 : FVec Ideal S1x8192x1024 .f32) (ctg ctu : FVec Ideal S1x8192x2816 .f32) :
    val_main_v15 (F := Ideal) h2 ctg ctu = result h2 ctg ctu := by
  funext i
  obtain ⟨p, r, f, rfl⟩ : ∃ (p : Fin 4) (r : Fin 1024) (f : Fin 1408), i = ix3 p r f := ⟨i 0, i 1, i 2, eq_ix3 i⟩
  unfold val_main_v15 result
  pointwise
  have hd (n : Fin 5632) (hn : n.val = p.val * 1408 + f.val) :
      val_main_v5 (F := Ideal) h2 ctg ctu (ix2 n r) = ∑ k : Fin 8192, h2 (ix3 0 k r) * gu ctg ctu k (p.val * 1408 + f.val) := by
    rw [ref_dot, hn]
  by_cases c0 : p.val < 1
  · refine (dif_pos c0).trans ?_
    unfold val_main_v11 val_main_v7 val_main_v6
    pointwise
    exact hd ⟨f.val, _⟩ (by dsimp only; omega)
  refine (dif_neg c0).trans ?_
  by_cases c1 : p.val - 1 < 1
  · refine (dif_pos c1).trans ?_
    unfold val_main_v12 val_main_v8 val_main_v6
    pointwise
    exact hd ⟨1408 + f.val, _⟩ (by dsimp only; omega)
  refine (dif_neg c1).trans ?_
  by_cases c2 : p.val - 1 - 1 < 1
  · refine (dif_pos c2).trans ?_
    unfold val_main_v13 val_main_v9 val_main_v6
    pointwise
    exact hd ⟨2816 + f.val, _⟩ (by dsimp only; omega)
  · refine (dif_neg c2).trans ?_
    unfold val_main_v14 val_main_v10 val_main_v6
    pointwise
    exact hd ⟨4224 + f.val, _⟩ (by dsimp only; omega)

/-! ## The claim -/

/-- `Cert.algebraic_Kernel4Ideal_Reference4Ideal`: from equal arguments the call and the reference end with equal results. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => result (m ((c.tc : Thread _ _).loc main_arg0)) (m ((c.tc : Thread _ _).loc main_arg1))
    (m ((c.tc : Thread _ _).loc main_arg2)), ?_, ?_⟩
  · refine (θ_run defs _ _).mono (fun r h c => ?_) (Value.run_blocks (F := Ideal) m g)
    exact ⟨((h c).1).trans (final m c), (h c).2⟩
  · refine (θ_run (Cert.Reference4Ideal.defs (F := Ideal)) _ _).mono (fun r h c => ?_) (Cert.Reference4Ideal.Value.run (F := Ideal) m' g')
    refine ⟨((h c).1.trans (Cert.Reference4Ideal.Read.val_main_v15_eq ..)).trans ?_, (h c).2⟩
    obtain ⟨h0, h1, h2⟩ := hargs c
    rw [h0, h1, h2]
    exact ref_eq _ _ _

end Cert.Proof.GateUpDw
-- ==== Proof.FfnUp.lean ====
module

public import proofs.«01_k».proof.Defs
public import proofs.«01_k».proof.Proof.Gen.Kernel6Ideal.Value
public import proofs.«01_k».proof.Proof.Gen.Reference6Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The gate and up projection with its activation

`g = h2 · w_gate`, `u = h2 · w_up` and `silu g * u`, 512 rows and 1408 columns at a time.
-/

@[expose] public section
set_option maxRecDepth 16384
noncomputable section
namespace Cert.Proof.FfnUp
open Idealize.ShloMosaic Idealize.SL.Sem Cert.Kernel6Ideal
open Cert.Kernel6Ideal.Gen Idealize.ShloMosaic.TcCoe
open Idealize.ShloMosaic.Pipeline (Dat Cfg Window)

/-- One element of a block's product. -/
def bDot (x0 : Vec Ideal S512x1024 .bf16) (x1 : Vec Ideal S1024x1408 .bf16) (p : Fin 512) (f : Fin 1408) : EReal :=
  ∑ k : Fin 1024, x0 (ix2 p k) * x1 (ix2 k f)

/-- The pair's block: plane 0 against the gate's columns, plane 1 against the up projection's. -/
def bPair (x0 : Vec Ideal S512x1024 .bf16) (x1 x2 : Vec Ideal S1024x1408 .bf16) : Vec Ideal S2x512x1408 .f32 := fun y =>
  if (y 0).val = 0 then bDot x0 x1 (y 1) (y 2) else bDot x0 x2 (y 1) (y 2)

theorem out3 (x0 : Vec Ideal S512x1024 .bf16) (x1 x2 : Vec Ideal S1024x1408 .bf16) : out0_3 x0 x1 x2 = bPair x0 x1 x2 := by
  have e2 (x : r0_2.shape.Idx) : r0_2.emb x = ix3 0 (x 1) (x 2) := funext fun a => Fin.ext (by
    have : (x 0).val < 1 := (x 0).isLt
    match a with
    | ⟨0, _⟩ => show 0 + 1 * (x 0).val = 0; omega
    | ⟨1, _⟩ => show 0 + 1 * (x 1).val = (x 1).val; omega
    | ⟨2, _⟩ => show 0 + 1 * (x 2).val = (x 2).val; omega)
  have e3 (x : r0_3.shape.Idx) : r0_3.emb x = ix3 1 (x 1) (x 2) := funext fun a => Fin.ext (by
    have : (x 0).val < 1 := (x 0).isLt
    match a with
    | ⟨0, _⟩ => show 1 + 1 * (x 0).val = 1; omega
    | ⟨1, _⟩ => show 0 + 1 * (x 1).val = (x 1).val; omega
    | ⟨2, _⟩ => show 0 + 1 * (x 2).val = (x 2).val; omega)
  funext y
  unfold out0_3
  rw [View.ld_unit_lit inb_S512x1024_S512x1024_0_0 x0 (by decide), View.ld_unit_lit inb_S1024x1408_S1024x1408_0_0 x1 (by decide),
    View.ld_unit_lit inb_S1024x1408_S1024x1408_0_0 x2 (by decide)]
  refine View.canon_apply_of_pieces (Val := Elt Ideal) (bPair x0 x1 x2) _ ?_ y (cover0_3 _ _ y)
  intro p hp x
  simp only [List.mem_cons, List.not_mem_nil, or_false] at hp
  rcases hp with rfl | rfl
  all_goals
    dsimp only at x ⊢
    first | rw [e2] | rw [e3]
    unfold bPair bDot
    unfold_payloads
    pointwise
    try rfl

theorem out4 (x0 : Vec Ideal S512x1024 .bf16) (x1 x2 : Vec Ideal S1024x1408 .bf16) (p : Fin 512) (f : Fin 1408) :
    out0_4 x0 x1 x2 (ix2 p f) = bDot x0 x1 p f * Ideal.logistic (bDot x0 x1 p f) * bDot x0 x2 p f := by
  unfold out0_4
  rw [View.canon_cons_unit_lit _ _ _ (by decide), View.ld_unit_lit inb_S512x1024_S512x1024_0_0 x0 (by decide),
    View.ld_unit_lit inb_S1024x1408_S1024x1408_0_0 x1 (by decide), View.ld_unit_lit inb_S1024x1408_S1024x1408_0_0 x2 (by decide)]
  unfold bDot
  unfold_payloads
  pointwise

/-! ## The whole arrays -/

/-- The product, from the arguments. -/
def dot (h : FVec Ideal S1x8192x1024 .f32) (w : FVec Ideal S1x1024x5632 .f32) (r : Fin 8192) (n : Fin 5632) : EReal :=
  ∑ k : Fin 1024, h (ix3 0 r k) * w (ix3 0 k n)

/-- The gate and the up projection at row `r`, column `f`. -/
def gate (h : FVec Ideal S1x8192x1024 .f32) (w : FVec Ideal S1x1024x5632 .f32) (r : Fin 8192) (f : Fin 2816) : EReal :=
  dot h w r ⟨f.val, by omega⟩
def up (h : FVec Ideal S1x8192x1024 .f32) (w : FVec Ideal S1x1024x5632 .f32) (r : Fin 8192) (f : Fin 2816) : EReal :=
  dot h w r ⟨2816 + f.val, by omega⟩

/-- The first result: the pair. -/
def resPair (h : FVec Ideal S1x8192x1024 .f32) (w : FVec Ideal S1x1024x5632 .f32) : FVec Ideal S2x8192x2816 .f32 := fun i =>
  if (i 0).val = 0 then gate h w (i 1) (i 2) else up h w (i 1) (i 2)

/-- The second result: `silu gate * up`. -/
def resAct (h : FVec Ideal S1x8192x1024 .f32) (w : FVec Ideal S1x1024x5632 .f32) : FVec Ideal S8192x2816 .bf16 := fun i =>
  gate h w (i 0) (i 1) * Ideal.logistic (gate h w (i 0) (i 1)) * up h w (i 0) (i 1)

variable (m : (ℓ : Loc nD τ sig) → Buf (Elt Ideal) ℓ)

/-- The arguments of the call on device `c`. -/
abbrev aH (c : Dev nD) := m ((c : Thread nD τ).loc main_arg0)
abbrev aW (c : Dev nD) := m ((c : Thread nD τ).loc main_arg1)

theorem V_h (c : Dev nD) (j : S8192x1024.Idx) : V m c main_v1 j = aH m c (ix3 0 (j 0) (j 1)) := by
  unfold V; after_reads_at

theorem V_w (c : Dev nD) (j : S1024x5632.Idx) : V m c main_v3 j = aW m c (ix3 0 (j 0) (j 1)) := by
  unfold V; after_reads_at

/-- The blocks each point stages and writes: row block `t % 16`, column block `t / 16`. -/
theorem idx_facts : ∀ t : Fin cfg0.N,
    win0_0.index t 0 = t.val % 16 ∧ win0_0.index t 1 = 0 ∧ win0_1.index t 0 = 0 ∧ win0_1.index t 1 = t.val / 16
    ∧ win0_2.index t 0 = 0 ∧ win0_2.index t 1 = t.val / 16 + 2
    ∧ win0_3.index t 0 = 0 ∧ win0_3.index t 1 = t.val % 16 ∧ win0_3.index t 2 = t.val / 16
    ∧ win0_4.index t 0 = t.val % 16 ∧ win0_4.index t 1 = t.val / 16 :=
  (by decide +kernel : ∀ t : Fin grid0.N, _)

theorem iblk0 (c : Dev nD) (t : Fin cfg0.N) (p : Fin 512) (k : Fin 1024) (r : Fin 8192) (h : t.val % 16 * 512 + p.val = r.val) :
    iblk m c 0 t (ix2 p k) = aH m c (ix3 0 r k) := by
  unfold iblk
  rw [View.read_apply]
  refine (V_h m c _).trans (congrArg (aH m c) ?_)
  obtain ⟨h0, h1, -⟩ := idx_facts t
  funext a; apply Fin.ext
  match a with
  | ⟨0, _⟩ => rfl
  | ⟨1, _⟩ => show win0_0.index t 0 * 512 + 1 * p.val = r.val; omega
  | ⟨2, _⟩ => show win0_0.index t 1 * 1024 + 1 * k.val = k.val; omega

theorem iblk1 (c : Dev nD) (t : Fin cfg0.N) (k : Fin 1024) (f : Fin 1408) (n : Fin 5632) (h : t.val / 16 * 1408 + f.val = n.val) :
    iblk m c 1 t (ix2 k f) = aW m c (ix3 0 k n) := by
  unfold iblk
  rw [View.read_apply]
  refine (V_w m c _).trans (congrArg (aW m c) ?_)
  obtain ⟨-, -, h0, h1, -⟩ := idx_facts t
  funext a; apply Fin.ext
  match a with
  | ⟨0, _⟩ => rfl
  | ⟨1, _⟩ => show win0_1.index t 0 * 1024 + 1 * k.val = k.val; omega
  | ⟨2, _⟩ => show win0_1.index t 1 * 1408 + 1 * f.val = n.val; omega

theorem iblk2 (c : Dev nD) (t : Fin cfg0.N) (k : Fin 1024) (f : Fin 1408) (n : Fin 5632) (h : 2816 + (t.val / 16 * 1408 + f.val) = n.val) :
    iblk m c 2 t (ix2 k f) = aW m c (ix3 0 k n) := by
  unfold iblk
  rw [View.read_apply]
  refine (V_w m c _).trans (congrArg (aW m c) ?_)
  obtain ⟨-, -, -, -, h0, h1, -⟩ := idx_facts t
  funext a; apply Fin.ext
  match a with
  | ⟨0, _⟩ => rfl
  | ⟨1, _⟩ => show win0_2.index t 0 * 1024 + 1 * k.val = k.val; omega
  | ⟨2, _⟩ => show win0_2.index t 1 * 1408 + 1 * f.val = n.val; omega

theorem gate_eq (c : Dev nD) (t : Fin cfg0.N) (p : Fin 512) (f : Fin 1408) (r : Fin 8192) (e : Fin 2816)
    (hr : t.val % 16 * 512 + p.val = r.val) (he : t.val / 16 * 1408 + f.val = e.val) :
    bDot (iblk m c 0 t) (iblk m c 1 t) p f = gate (aH m c) (aW m c) r e :=
  Finset.sum_congr rfl fun k _ => congrArg₂ (fun a b : EReal => a * b) (iblk0 m c t p k r hr) (iblk1 m c t k f _ he)

theorem up_eq (c : Dev nD) (t : Fin cfg0.N) (p : Fin 512) (f : Fin 1408) (r : Fin 8192) (e : Fin 2816)
    (hr : t.val % 16 * 512 + p.val = r.val) (he : t.val / 16 * 1408 + f.val = e.val) :
    bDot (iblk m c 0 t) (iblk m c 2 t) p f = up (aH m c) (aW m c) r e :=
  Finset.sum_congr rfl fun k _ => congrArg₂ (fun a b : EReal => a * b) (iblk0 m c t p k r hr) (iblk2 m c t k f _ (by dsimp only; omega))

theorem pair_eq (c : Dev nD) (t : Fin cfg0.N) (q : Fin 2) (p : Fin 512) (f : Fin 1408) (r : Fin 8192) (e : Fin 2816)
    (hr : t.val % 16 * 512 + p.val = r.val) (he : t.val / 16 * 1408 + f.val = e.val) :
    bPair (iblk m c 0 t) (iblk m c 1 t) (iblk m c 2 t) (ix3 q p f) = resPair (aH m c) (aW m c) (ix3 q r e) := by
  unfold bPair resPair
  show (if q.val = 0 then bDot _ _ p f else bDot _ _ p f) = if q.val = 0 then gate _ _ r e else up _ _ r e
  rw [gate_eq m c t p f r e hr he, up_eq m c t p f r e hr he]

/-- What point `t` writes back is its block of the first result. -/
theorem flushed3_eq (c : Dev nD) (t : Fin cfg0.N) :
    (dats m 0 c).flushed 3 t = ((cfg0.win 3).blk t).view.read (Elt Ideal) (resPair (aH m c) (aW m c)) := by
  rw [Value.flushed3, out3]
  funext y
  obtain ⟨q, p, f, rfl⟩ : ∃ (q : Fin 2) (p : Fin 512) (f : Fin 1408), y = ix3 q p f := ⟨y 0, y 1, y 2, eq_ix3 y⟩
  rw [View.read_apply]
  have hN : cfg0.N = 32 := N_0
  have ht := t.isLt
  obtain ⟨-, -, -, -, -, -, h0, h1, h2, -⟩ := idx_facts t
  have he : ((cfg0.win 3).blk t).view.emb (ix3 q p f) = ix3 q (⟨t.val % 16 * 512 + p.val, by omega⟩ : Fin 8192)
      (⟨t.val / 16 * 1408 + f.val, by omega⟩ : Fin 2816) := by
    funext a; apply Fin.ext
    match a with
    | ⟨0, _⟩ => show win0_3.index t 0 * 2 + 1 * q.val = q.val; omega
    | ⟨1, _⟩ => show win0_3.index t 1 * 512 + 1 * p.val = t.val % 16 * 512 + p.val; omega
    | ⟨2, _⟩ => show win0_3.index t 2 * 1408 + 1 * f.val = t.val / 16 * 1408 + f.val; omega
  rw [he]
  exact pair_eq m c t q p f _ _ rfl rfl

/-- What point `t` writes back is its block of the second result. -/
theorem flushed4_eq (c : Dev nD) (t : Fin cfg0.N) :
    (dats m 0 c).flushed 4 t = ((cfg0.win 4).blk t).view.read (Elt Ideal) (resAct (aH m c) (aW m c)) := by
  rw [Value.flushed4]
  funext y
  obtain ⟨p, f, rfl⟩ : ∃ (p : Fin 512) (f : Fin 1408), y = ix2 p f := ⟨y 0, y 1, eq_ix2 y⟩
  rw [View.read_apply]
  have hN : cfg0.N = 32 := N_0
  have ht := t.isLt
  obtain ⟨-, -, -, -, -, -, -, -, -, h0, h1⟩ := idx_facts t
  have he : ((cfg0.win 4).blk t).view.emb (ix2 p f) = ix2 (⟨t.val % 16 * 512 + p.val, by omega⟩ : Fin 8192)
      (⟨t.val / 16 * 1408 + f.val, by omega⟩ : Fin 2816) := by
    funext a; apply Fin.ext
    match a with
    | ⟨0, _⟩ => show win0_4.index t 0 * 512 + 1 * p.val = t.val % 16 * 512 + p.val; omega
    | ⟨1, _⟩ => show win0_4.index t 1 * 1408 + 1 * f.val = t.val / 16 * 1408 + f.val; omega
  rw [he]
  refine (out4 _ _ _ p f).trans ?_
  rw [gate_eq m c t p f (⟨t.val % 16 * 512 + p.val, by omega⟩ : Fin 8192) (⟨t.val / 16 * 1408 + f.val, by omega⟩ : Fin 2816) rfl rfl,
    up_eq m c t p f (⟨t.val % 16 * 512 + p.val, by omega⟩ : Fin 8192) (⟨t.val / 16 * 1408 + f.val, by omega⟩ : Fin 2816) rfl rfl]
  rfl

theorem covered3 (i : S2x8192x2816.Idx) : ∃ t : Fin cfg0.N, (cfg0.win 3).flush t = true ∧ i ∈ ((cfg0.win 3).blk t).view.set := by
  have hN : cfg0.N = 32 := N_0
  have i0 : (i 0).val < 2 := (i 0).isLt
  have i1 : (i 1).val < 8192 := (i 1).isLt
  have i2 : (i 2).val < 2816 := (i 2).isLt
  obtain ⟨t, ht⟩ : ∃ t : Fin cfg0.N, t.val = (i 2).val / 1408 * 16 + (i 1).val / 512 := ⟨⟨_, by omega⟩, rfl⟩
  refine ⟨t, flush0_3 t, ?_⟩
  obtain ⟨-, -, -, -, -, -, h0, h1, h2, -⟩ := idx_facts t
  show i ∈ ((View.whole main_v4_0).slice (win0_3.rect t)).set
  rw [View.set_slice_whole, Rect.mem_set_unit]
  intro a
  match a with
  | ⟨0, _⟩ => show win0_3.index t 0 * 2 ≤ (i 0).val ∧ (i 0).val < win0_3.index t 0 * 2 + 2; omega
  | ⟨1, _⟩ => show win0_3.index t 1 * 512 ≤ (i 1).val ∧ (i 1).val < win0_3.index t 1 * 512 + 512; omega
  | ⟨2, _⟩ => show win0_3.index t 2 * 1408 ≤ (i 2).val ∧ (i 2).val < win0_3.index t 2 * 1408 + 1408; omega

theorem covered4 (i : S8192x2816.Idx) : ∃ t : Fin cfg0.N, (cfg0.win 4).flush t = true ∧ i ∈ ((cfg0.win 4).blk t).view.set := by
  have hN : cfg0.N = 32 := N_0
  have i0 : (i 0).val < 8192 := (i 0).isLt
  have i1 : (i 1).val < 2816 := (i 1).isLt
  obtain ⟨t, ht⟩ : ∃ t : Fin cfg0.N, t.val = (i 1).val / 1408 * 16 + (i 0).val / 512 := ⟨⟨_, by omega⟩, rfl⟩
  refine ⟨t, flush0_4 t, ?_⟩
  obtain ⟨-, -, -, -, -, -, -, -, -, h0, h1⟩ := idx_facts t
  show i ∈ ((View.whole main_v4_1).slice (win0_4.rect t)).set
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 1408 ≤ (i 1).val ∧ (i 1).val < win0_4.index t 1 * 1408 + 1408; omega

/-- The result arrays after the run. -/
theorem final3 (c : Dev nD) : (dats m 0 c).arrAt 3 cfg0.N = resPair (aH m c) (aW m c) :=
  (dats m 0 c).arrAt_eq_of_cover 3 _ (fun t _ => flushed3_eq m c t) covered3
theorem final4 (c : Dev nD) : (dats m 0 c).arrAt 4 cfg0.N = resAct (aH m c) (aW m c) :=
  (dats m 0 c).arrAt_eq_of_cover 4 _ (fun t _ => flushed4_eq m c t) covered4

/-! ## The reference -/

section reference
open Cert.Reference6Ideal.Read
variable (h : FVec Ideal S1x8192x1024 .f32) (w : FVec Ideal S1x1024x5632 .f32)

theorem ref_gate (u : Fin 1) (r : Fin 8192) (f : Fin 2816) : val_main_v2 (F := Ideal) h w (ix3 u r f) = gate h w r f := by
  obtain rfl : u = 0 := Subsingleton.elim _ _
  unfold val_main_v2 val_main_v1 val_main_v0 gate dot
  pointwise
  try rfl

theorem ref_up (u : Fin 1) (r : Fin 8192) (f : Fin 2816) : val_main_v3 (F := Ideal) h w (ix3 u r f) = up h w r f := by
  obtain rfl : u = 0 := Subsingleton.elim _ _
  unfold val_main_v3 val_main_v1 val_main_v0 up dot
  pointwise
  try rfl

theorem ref_pair : val_main_v8 (F := Ideal) h w = resPair h w := by
  funext i
  obtain ⟨q, r, f, rfl⟩ : ∃ (q : Fin 2) (r : Fin 8192) (f : Fin 2816), i = ix3 q r f := ⟨i 0, i 1, i 2, eq_ix3 i⟩
  unfold val_main_v8 resPair
  pointwise
  have hq := q.isLt
  by_cases h0 : q.val < 1
  · refine (dif_pos h0).trans (Eq.trans ?_ (if_pos (show q.val = 0 by omega)).symm)
    unfold val_main_v6 val_main_v4
    pointwise
    exact ref_gate h w _ r f
  · refine (dif_neg h0).trans (Eq.trans ?_ (if_neg (show ¬q.val = 0 by omega)).symm)
    unfold val_main_v7 val_main_v5
    pointwise
    exact ref_up h w _ r f

theorem ref_act : val_main_v12 (F := Ideal) h w = resAct h w := by
  funext i
  obtain ⟨r, f, rfl⟩ : ∃ (r : Fin 8192) (f : Fin 2816), i = ix2 r f := ⟨i 0, i 1, eq_ix2 i⟩
  unfold val_main_v12 val_main_v11 val_main_v10 val_main_v9 val_main_call0_v5 val_main_call0_v4 val_main_call0_v3 val_main_call0_v2
    val_main_call0_v1 val_main_call0_v0 val_main_call0_cst val_main_call0_cst_0 resAct
  pointwise
  simp only [ref_gate, ref_up]
  try rfl

end reference

/-! ## The claim -/

/-- `Cert.algebraic_Kernel6Ideal_Reference6Ideal`: from equal arguments the call and the reference end with equal results. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => resPair (aH m c) (aW m c), fun c => resAct (aH m c) (aW m c), ?_, ?_⟩
  · refine (θ_run defs _ _).mono (fun r h c => ?_) (Value.run_blocks (F := Ideal) m g)
    exact ⟨((h c).1).trans (final3 m c), ((h c).2.1).trans (final4 m c), (h c).2.2⟩
  · refine (θ_run (Cert.Reference6Ideal.defs (F := Ideal)) _ _).mono (fun r h c => ?_) (Cert.Reference6Ideal.Value.run (F := Ideal) m' g')
    obtain ⟨h0, h1⟩ := hargs c
    refine ⟨((h c).1.trans (Cert.Reference6Ideal.Read.val_main_v8_eq ..)).trans ?_,
      ((h c).2.1.trans (Cert.Reference6Ideal.Read.val_main_v12_eq ..)).trans ?_, (h c).2.2⟩
    · rw [h0, h1]
      exact ref_pair _ _
    · rw [h0, h1]
      exact ref_act _ _

end Cert.Proof.FfnUp
-- ==== Proof.MmIn.lean ====
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The input projection

`h1 · w_in`, 512 rows at a time against the whole weight.
-/

@[expose] public section
set_option maxRecDepth 16384
noncomputable section
namespace Cert.Proof.MmIn
open Idealize.ShloMosaic Idealize.SL.Sem Cert.Kernel7Ideal
open Cert.Kernel7Ideal.Gen Idealize.ShloMosaic.TcCoe
open Idealize.ShloMosaic.Pipeline (Dat Cfg Window)

/-- One block of the result: 512 rows against the weight. -/
def blockOut (x0 : Vec Ideal S512x1024 .bf16) (x1 : Vec Ideal S1024x3328 .bf16) : Vec Ideal S512x3328 .f32 := fun y =>
  ∑ k : Fin 1024, x0 (ix2 (y 0) k) * x1 (ix2 k (y 1))

/-- The body leaves `blockOut` of its windows' blocks. -/
theorem out_eq (x0 : Vec Ideal S512x1024 .bf16) (x1 : Vec Ideal S1024x3328 .bf16) : out0_2 x0 x1 = blockOut x0 x1 := by
  unfold out0_2
  rw [View.canon_cons_unit_lit _ _ _ (by decide), View.ld_unit_lit inb_S512x1024_S512x1024_0_0 x0 (by decide),
    View.ld_unit_lit inb_S1024x3328_S1024x3328_0_0 x1 (by decide)]
  funext y
  unfold blockOut
  unfold_payloads
  pointwise

/-! ## The whole array -/

variable (m : (ℓ : Loc nD τ sig) → Buf (Elt Ideal) ℓ)

/-- The result array as a function of the two arguments. -/
def result (h : FVec Ideal S1x8192x1024 .f32) (w : FVec Ideal S1x1024x3328 .f32) : FVec Ideal S8192x3328 .f32 := fun i =>
  ∑ k : Fin 1024, h (ix3 0 (i 0) k) * w (ix3 0 k (i 1))

/-- The host code before the call, read at an index: the normalised rows. -/
theorem V_h (c : Dev nD) (j : S8192x1024.Idx) :
    V m c main_v1 j = m ((c : Thread nD τ).loc main_arg0) (ix3 0 (j 0) (j 1)) := by
  unfold V; after_reads_at

/-- The weight's rows. -/
theorem V_w (c : Dev nD) (j : S1024x3328.Idx) :
    V m c main_v3 j = m ((c : Thread nD τ).loc main_arg1) (ix3 0 (j 0) (j 1)) := by
  unfold V; after_reads_at

/-- The blocks each point stages and writes: row block `t`. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- The rows' block at point `t`. -/
theorem iblk0 (c : Dev nD) (t : Fin cfg0.N) (p : Fin 512) (k : Fin 1024) (r : Fin 8192) (h : t.val * 512 + p.val = r.val) :
    iblk m c 0 t (ix2 p k) = m ((c : Thread nD τ).loc main_arg0) (ix3 0 r k) := by
  unfold iblk
  rw [View.read_apply]
  refine (V_h m c _).trans (congrArg (m ((c : Thread nD τ).loc main_arg0)) ?_)
  obtain ⟨h0, h1, -⟩ := idx_facts t
  funext a; apply Fin.ext
  match a with
  | ⟨0, _⟩ => rfl
  | ⟨1, _⟩ => show win0_0.index t 0 * 512 + 1 * p.val = r.val; omega
  | ⟨2, _⟩ => show win0_0.index t 1 * 1024 + 1 * k.val = k.val; omega

/-- The weight's block at point `t` is the whole weight. -/
theorem iblk1 (c : Dev nD) (t : Fin cfg0.N) (k : Fin 1024) (e : Fin 3328) :
    iblk m c 1 t (ix2 k e) = m ((c : Thread nD τ).loc main_arg1) (ix3 0 k e) := by
  unfold iblk
  rw [View.read_apply]
  refine (V_w m c _).trans (congrArg (m ((c : Thread nD τ).loc main_arg1)) ?_)
  obtain ⟨-, -, h0, h1, -⟩ := idx_facts t
  funext a; apply Fin.ext
  match a with
  | ⟨0, _⟩ => rfl
  | ⟨1, _⟩ => show win0_1.index t 0 * 1024 + 1 * k.val = k.val; omega
  | ⟨2, _⟩ => show win0_1.index t 1 * 3328 + 1 * e.val = e.val; omega

/-- `blockOut` of the windows' blocks at point `t` is the block of `result` there. -/
theorem block_eq (c : Dev nD) (t : Fin cfg0.N) (p : Fin 512) (e : Fin 3328) (r : Fin 8192) (h : t.val * 512 + p.val = r.val) :
    blockOut (iblk m c 0 t) (iblk m c 1 t) (ix2 p e)
      = result (m ((c : Thread nD τ).loc main_arg0)) (m ((c : Thread nD τ).loc main_arg1)) (ix2 r e) :=
  Finset.sum_congr rfl fun k _ => congrArg₂ (· * ·) (iblk0 m c t p k r h) (iblk1 m c t k e)

/-- What point `t` writes back is its block of `result`. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Value.flushed2, out_eq]
  funext y
  obtain ⟨p, e, rfl⟩ : ∃ (p : Fin 512) (e : Fin 3328), y = ix2 p e := ⟨y 0, y 1, eq_ix2 y⟩
  rw [View.read_apply]
  have hN : cfg0.N = 16 := N_0
  have ht := t.isLt
  obtain ⟨-, -, -, -, h0, h1⟩ := idx_facts t
  have he : ((cfg0.win 2).blk t).view.emb (ix2 p e) = ix2 (⟨t.val * 512 + p.val, by omega⟩ : Fin 8192) e := by
    funext a; apply Fin.ext
    match a with
    | ⟨0, _⟩ => show win0_2.index t 0 * 512 + 1 * p.val = t.val * 512 + p.val; omega
    | ⟨1, _⟩ => show win0_2.index t 1 * 3328 + 1 * e.val = e.val; omega
  rw [he]
  exact block_eq m c t p e _ rfl

/-- Every index is in the block of some point. -/
theorem covered (i : S8192x3328.Idx) : ∃ t : Fin cfg0.N, (cfg0.win 2).flush t = true ∧ i ∈ ((cfg0.win 2).blk t).view.set := by
  have hN : cfg0.N = 16 := N_0
  have i0 : (i 0).val < 8192 := (i 0).isLt
  have i1 : (i 1).val < 3328 := (i 1).isLt
  obtain ⟨t, ht⟩ : ∃ t : Fin cfg0.N, t.val = (i 0).val / 512 := ⟨⟨_, by omega⟩, rfl⟩
  refine ⟨t, flush0_2 t, ?_⟩
  obtain ⟨-, -, -, -, h0, h1⟩ := idx_facts t
  show i ∈ ((View.whole main_v4).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 3328 ≤ (i 1).val ∧ (i 1).val < win0_2.index t 1 * 3328 + 3328; omega

/-- The result array after the run. -/
theorem final (c : Dev nD) : (dats m 0 c).arrAt 2 cfg0.N
    = result (m ((c : Thread nD τ).loc main_arg0)) (m ((c : Thread nD τ).loc main_arg1)) :=
  (dats m 0 c).arrAt_eq_of_cover 2 _ (fun t _ => flushed_eq m c t) covered

/-! ## The reference -/

open Cert.Reference7Ideal.Read in
/-- The reference's result is the same function. -/
theorem ref_eq (h : FVec Ideal S1x8192x1024 .f32) (w : FVec Ideal S1x1024x3328 .f32) :
    val_main_v2 (F := Ideal) h w = result h w := by
  funext i
  unfold val_main_v2 val_main_v1 val_main_v0 result
  pointwise

/-! ## The claim -/

/-- `Cert.algebraic_Kernel7Ideal_Reference7Ideal`: from equal arguments the call and the reference end with equal results. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => result (m ((c.tc : Thread _ _).loc main_arg0)) (m ((c.tc : Thread _ _).loc main_arg1)), ?_, ?_⟩
  · refine (θ_run defs _ _).mono (fun r h c => ?_) (Value.run_blocks (F := Ideal) m g)
    exact ⟨((h c).1).trans (final m c), (h c).2⟩
  · refine (θ_run (Cert.Reference7Ideal.defs (F := Ideal)) _ _).mono (fun r h c => ?_) (Cert.Reference7Ideal.Value.run (F := Ideal) m' g')
    refine ⟨((h c).1.trans (Cert.Reference7Ideal.Read.val_main_v2_eq ..)).trans ?_, (h c).2⟩
    obtain ⟨h0, h1⟩ := hargs c
    rw [h0, h1]
    exact ref_eq _ _

end Cert.Proof.MmIn
-- ==== Proof.MmInDw.lean ====
module

public import proofs.«01_k».proof.Defs
public import proofs.«01_k».proof.Proof.Acc
public import proofs.«01_k».proof.Proof.Gen.Kernel8Ideal.Value
public import proofs.«01_k».proof.Proof.Gen.Reference8Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The weight gradient of the input projection

`ctᵀ · h1` over 8192 rows, 1024 at a time: the product of a block is added to a scratch buffer, which the last point of a run
transposes into the result's block.
-/

@[expose] public section
set_option maxRecDepth 16384
noncomputable section
namespace Cert.Proof.MmInDw
open Idealize.ShloMosaic Idealize.SL.Sem Cert.Kernel8Ideal
open Cert.Kernel8Ideal.Gen Idealize.ShloMosaic.TcCoe
open Idealize.ShloMosaic.Pipeline (Dat Cfg Window)

/-- One block's product: 1024 rows of the activations against the same rows of the cotangent. -/
def prod (x0 : Vec Ideal S1024x512 .bf16) (x1 : Vec Ideal S1024x3328 .bf16) : Vec Ideal S512x3328 .f32 := fun y =>
  ∑ k : Fin 1024, x0 (ix2 k (y 0)) * x1 (ix2 k (y 1))

section body
variable (c : Dev nD) (i : grid0.Coords) (arg3 : Memref sig .tc .vmem S1024x512 .bf16) (harg3 : arg3.IsWhole)
  (arg4 : Memref sig .tc .vmem S1024x3328 .bf16) (harg4 : arg4.IsWhole) (arg5 : Memref sig .tc .vmem S3328x512 .f32) (harg5 : arg5.IsWhole)
  (arg6 : Memref sig .tc .vmem S512x3328 .f32) (harg6 : arg6.IsWhole)
  (x0 : Vec Ideal S1024x512 .bf16) (x1 : Vec Ideal S1024x3328 .bf16) (xs : Vec Ideal S512x3328 .f32)

/-- What the accumulating store writes: what was read plus the block's product. -/
theorem pay2 (z : Vec Ideal S512x3328 .f32) : k0_pay2 x0 x1 z = fun y => z y + prod x0 x1 y := by
  funext y
  unfold prod
  unfold_payloads
  pointwise

/-- The scratch after a run's first point: zeroed, then the first product. -/
theorem sout_A (hc0 : cond0_0 i) (hc1 : ¬cond0_1 i) (y : S512x3328.Idx) :
    sout0_A_0 c i arg3 harg3 arg4 harg4 arg5 harg5 arg6 harg6 hc0 hc1 x0 x1 y = 0 + prod x0 x1 y := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  simp only [View.readAt_eq_ld, harg3.read_unread, harg4.read_unread]
  rw [View.canon_cons_unit_lit _ _ _ (by decide), View.ld_unit_lit inb_S1024x512_S1024x512_0_0 x0 (by decide),
    View.ld_unit_lit inb_S1024x3328_S1024x3328_0_0 x1 (by decide), View.readCov_unit_lit _ _ _ (by decide), pay2]
  dsimp only
  unfold_payloads
  pointwise

/-- The scratch after a point inside a run. -/
theorem sout_B (hc0 : ¬cond0_0 i) (hc1 : ¬cond0_1 i) (y : S512x3328.Idx) :
    sout0_B_0 c i arg3 harg3 arg4 harg4 arg5 harg5 arg6 harg6 hc0 hc1 x0 x1 xs y = xs y + prod x0 x1 y := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x3328_S1024x3328_0_0 x1 (by decide), View.ld_unit_lit inb_S512x3328_S512x3328_0_0 xs (by decide), pay2]

/-- The scratch after a run's last point. -/
theorem sout_C (hc0 : ¬cond0_0 i) (hc1 : cond0_1 i) (y : S512x3328.Idx) :
    sout0_C_0 c i arg3 harg3 arg4 harg4 arg5 harg5 arg6 harg6 hc0 hc1 x0 x1 xs y = xs y + prod x0 x1 y := by
  unfold sout0_C_0
  rw [View.read_writes_eq_canon _ _ _ (scover0_C_0 c i arg3 harg3 arg4 harg4 arg5 harg5 arg6 harg6 hc0 hc1 x0 x1 xs)]
  unfold kernelRun0_C
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x3328_S1024x3328_0_0 x1 (by decide), View.ld_unit_lit inb_S512x3328_S512x3328_0_0 xs (by decide), pay2]

/-- The output block a run's last point writes: the scratch, transposed. -/
theorem out_C (hc0 : ¬cond0_0 i) (hc1 : cond0_1 i) (y : S3328x512.Idx) :
    out0_C_2 c i arg3 harg3 arg4 harg4 arg5 harg5 arg6 harg6 hc0 hc1 x0 x1 xs y
      = xs (ix2 (y 1) (y 0)) + prod x0 x1 (ix2 (y 1) (y 0)) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  simp only [View.readAt_eq_ld, harg3.read_unread, harg4.read_unread, harg6.read_unread]
  rw [View.canon_cons_unit_lit _ _ _ (by decide), View.ld_unit_lit inb_S1024x512_S1024x512_0_0 x0 (by decide),
    View.ld_unit_lit inb_S1024x3328_S1024x3328_0_0 x1 (by decide), View.ld_unit_lit inb_S512x3328_S512x3328_0_0 xs (by decide),
    View.readCov_unit_lit _ _ _ (by decide), pay2]
  unfold k0_pay3
  pointwise

end body

/-! ## The whole array -/

variable (m : (ℓ : Loc nD τ sig) → Buf (Elt Ideal) ℓ)

/-- The result array as a function of the two arguments: `ctᵀ · h1`. -/
def result (ct : FVec Ideal S1x8192x3328 .f32) (h1 : FVec Ideal S1x8192x1024 .f32) : FVec Ideal S3328x1024 .f32 := fun i =>
  ∑ k : Fin 8192, h1 (ix3 0 k (i 1)) * ct (ix3 0 k (i 0))

/-- The host code before the call, read at an index: the activations' rows. -/
theorem V_h1 (c : Dev nD) (j : S8192x1024.Idx) :
    V m c main_v1 j = m ((c : Thread nD τ).loc main_arg0) (ix3 0 (j 0) (j 1)) := by
  unfold V; after_reads_at

/-- The cotangent's rows. -/
theorem V_ct (c : Dev nD) (j : S8192x3328.Idx) :
    V m c main_v3 j = m ((c : Thread nD τ).loc main_arg1) (ix3 0 (j 0) (j 1)) := by
  unfold V; after_reads_at

/-- The blocks each point stages and writes: contraction block `t % 8`, column block `t / 8`. -/
theorem idx_facts : ∀ t : Fin cfg0.N,
    win0_0.index t 0 = t.val % 8 ∧ win0_0.index t 1 = t.val / 8
    ∧ win0_1.index t 0 = t.val % 8 ∧ win0_1.index t 1 = 0
    ∧ win0_2.index t 0 = 0 ∧ win0_2.index t 1 = t.val / 8 :=
  (by decide +kernel : ∀ t : Fin grid0.N, _)

/-- The activations' block at point `t`. -/
theorem iblk0 (c : Dev nD) (t : Fin cfg0.N) (y : S1024x512.Idx) :
    iblk m c 0 t y = m ((c : Thread nD τ).loc main_arg0) (ix3 0 (Fin.ofNat 8192 (t.val % 8 * 1024 + (y 0).val))
      (Fin.ofNat 1024 (t.val / 8 * 512 + (y 1).val))) := by
  unfold iblk
  rw [View.read_apply]
  refine (V_h1 m c _).trans (congrArg (m ((c : Thread nD τ).loc main_arg0)) ?_)
  have hN : cfg0.N = 16 := N_0
  have ht := t.isLt
  have y0 : (y 0).val < 1024 := (y 0).isLt
  have y1 : (y 1).val < 512 := (y 1).isLt
  obtain ⟨h0, h1, -⟩ := idx_facts t
  funext a; apply Fin.ext
  match a with
  | ⟨0, _⟩ => rfl
  | ⟨1, _⟩ => show win0_0.index t 0 * 1024 + 1 * (y 0).val = (t.val % 8 * 1024 + (y 0).val) % 8192; omega
  | ⟨2, _⟩ => show win0_0.index t 1 * 512 + 1 * (y 1).val = (t.val / 8 * 512 + (y 1).val) % 1024; omega

/-- The cotangent's block at point `t`. -/
theorem iblk1 (c : Dev nD) (t : Fin cfg0.N) (y : S1024x3328.Idx) :
    iblk m c 1 t y = m ((c : Thread nD τ).loc main_arg1) (ix3 0 (Fin.ofNat 8192 (t.val % 8 * 1024 + (y 0).val)) (y 1)) := by
  unfold iblk
  rw [View.read_apply]
  refine (V_ct m c _).trans (congrArg (m ((c : Thread nD τ).loc main_arg1)) ?_)
  have y0 : (y 0).val < 1024 := (y 0).isLt
  obtain ⟨-, -, h0, h1, -⟩ := idx_facts t
  funext a; apply Fin.ext
  match a with
  | ⟨0, _⟩ => rfl
  | ⟨1, _⟩ => show win0_1.index t 0 * 1024 + 1 * (y 0).val = (t.val % 8 * 1024 + (y 0).val) % 8192; omega
  | ⟨2, _⟩ => show win0_1.index t 1 * 3328 + 1 * (y 1).val = (y 1).val; omega

/-- The product added at point `n`, in the arguments. -/
def step (ct : FVec Ideal S1x8192x3328 .f32) (h1 : FVec Ideal S1x8192x1024 .f32) (n : ℕ) (y : S512x3328.Idx) : EReal :=
  ∑ k : Fin 1024, h1 (ix3 0 (Fin.ofNat 8192 (n % 8 * 1024 + k.val)) (Fin.ofNat 1024 (n / 8 * 512 + (y 0).val)))
    * ct (ix3 0 (Fin.ofNat 8192 (n % 8 * 1024 + k.val)) (y 1))

theorem prod_eq (c : Dev nD) (t : Fin cfg0.N) (y : S512x3328.Idx) :
    prod (iblk m c 0 t) (iblk m c 1 t) y
      = step (m ((c : Thread nD τ).loc main_arg1)) (m ((c : Thread nD τ).loc main_arg0)) t.val y := by
  unfold prod step
  simp only [iblk0 m c t, iblk1 m c t]
  rfl

/-- At every point but a run's first the scratch grows by the point's product. -/
theorem scratch_succ (c : Dev nD) (t : Fin cfg0.N) (hn : t.val % 8 ≠ 0) (y : S512x3328.Idx) :
    (outsAt0 m c t.val t.isLt).2 y = (outsAt0 m c (t.val - 1) (Nat.lt_of_le_of_lt (Nat.sub_le _ _) t.isLt)).2 y
      + step (m ((c : Thread nD τ).loc main_arg1)) (m ((c : Thread nD τ).loc main_arg0)) t.val y := by
  by_cases h7 : t.val % 8 = 7
  · rw [outsAt0_C m c t hn h7]
    dsimp only
    rw [sout_C, prod_eq]
  · rw [outsAt0_B m c t hn h7]
    dsimp only
    rw [sout_B, prod_eq]

/-- What the scratch holds after point `n`: the products of its run so far. -/
theorem acc_eq (c : Dev nD) (n : ℕ) (h : n < cfg0.N) (y : S512x3328.Idx) :
    (outsAt0 m c n h).2 y = ∑ s ∈ Finset.range (n % 8 + 1), step (m ((c : Thread nD τ).loc main_arg1))
      (m ((c : Thread nD τ).loc main_arg0)) (n - n % 8 + s) y :=
  Acc.fold 8 (by decide) (fun n h => (outsAt0 m c n h).2) _
    (fun n h hn y => by
      rw [outsAt0_A m c ⟨n, h⟩ hn (by dsimp only; omega)]
      dsimp only
      rw [sout_A, prod_eq])
    (fun n h hn y => scratch_succ m c ⟨n, h⟩ hn y) n h y

/-- What the last point of a run holds is its block of `result`. -/
theorem block_eq (ct : FVec Ideal S1x8192x3328 .f32) (h1 : FVec Ideal S1x8192x1024 .f32) (n : ℕ) (hn : n % 8 = 7)
    (f : Fin 3328) (y0 : Fin 512) (r : Fin 1024) (hr : n / 8 * 512 + y0.val = r.val) :
    ∑ s ∈ Finset.range (n % 8 + 1), step ct h1 (n - n % 8 + s) (ix2 y0 f) = result ct h1 (ix2 f r) := by
  have hres : result ct h1 (ix2 f r) = ∑ k : Fin 8192, h1 (ix3 0 k r) * ct (ix3 0 k f) := by
    unfold result
    rfl
  rw [hn, hres]
  obtain ⟨G, hG⟩ : ∃ G : ℕ → EReal, ∀ q, G q = h1 (ix3 0 (Fin.ofNat 8192 q) r) * ct (ix3 0 (Fin.ofNat 8192 q) f) :=
    ⟨_, fun _ => rfl⟩
  have hstep : ∀ s ∈ Finset.range (7 + 1), step ct h1 (n - 7 + s) (ix2 y0 f) = ∑ k : Fin 1024, G (s * 1024 + k.val) := by
    intro s hs
    have hs : s < 8 := Finset.mem_range.mp hs
    have e1 : (n - 7 + s) % 8 = s := by omega
    have e2 : (n - 7 + s) / 8 = n / 8 := by omega
    have e5 : Fin.ofNat 1024 (n / 8 * 512 + y0.val) = r := Fin.ext (by
      show (n / 8 * 512 + y0.val) % 1024 = r.val
      rw [hr]; exact Nat.mod_eq_of_lt r.isLt)
    unfold step
    rw [e1, e2]
    refine Finset.sum_congr rfl fun k _ => ?_
    rw [hG, ← e5]
    rfl
  rw [Finset.sum_congr rfl hstep, Acc.sum_blocks 8 1024 8192 rfl G]
  refine Finset.sum_congr rfl fun k _ => ?_
  have hk : Fin.ofNat 8192 k.val = k := Fin.ext (Nat.mod_eq_of_lt k.isLt)
  rw [hG, hk]

/-- What a run's last point writes back is its block of `result`. -/
theorem flushed_eq (c : Dev nD) (t : Fin cfg0.N) (hf : (cfg0.win 2).flush t = true) :
    (dats m 0 c).flushed 2 t = ((cfg0.win 2).blk t).view.read (Elt Ideal)
      (result (m ((c : Thread nD τ).loc main_arg1)) (m ((c : Thread nD τ).loc main_arg0))) := by
  have h7 : t.val % 8 = 7 := (flush0_2 t).mp hf
  have h0 : ¬t.val % 8 = 0 := by omega
  have hN : cfg0.N = 16 := N_0
  have ht := t.isLt
  rw [Value.flushed2_C m c t h0 h7]
  funext y
  rw [View.read_apply]
  obtain ⟨-, -, -, -, i0, i1⟩ := idx_facts t
  have y1 : (y 1).val < 512 := (y 1).isLt
  have he : ((cfg0.win 2).blk t).view.emb y = ix2 (y 0) (⟨t.val / 8 * 512 + (y 1).val, by omega⟩ : Fin 1024) := by
    funext a; apply Fin.ext
    match a with
    | ⟨0, _⟩ => show win0_2.index t 0 * 3328 + 1 * (y 0).val = (y 0).val; omega
    | ⟨1, _⟩ => show win0_2.index t 1 * 512 + 1 * (y 1).val = t.val / 8 * 512 + (y 1).val; omega
  rw [he]
  refine (out_C c _ _ _ _ _ _ _ _ _ _ _ _ _ _ y).trans ?_
  rw [prod_eq]
  refine (scratch_succ m c t h0 (ix2 (y 1) (y 0))).symm.trans ?_
  exact (acc_eq m c t.val t.isLt _).trans (block_eq _ _ t.val h7 (y 0) (y 1) _ rfl)

/-- Every index is in the block of some run's last point. -/
theorem covered (i : S3328x1024.Idx) : ∃ t : Fin cfg0.N, (cfg0.win 2).flush t = true ∧ i ∈ ((cfg0.win 2).blk t).view.set := by
  have hN : cfg0.N = 16 := N_0
  have i0 : (i 0).val < 3328 := (i 0).isLt
  have i1 : (i 1).val < 1024 := (i 1).isLt
  obtain ⟨t, ht⟩ : ∃ t : Fin cfg0.N, t.val = (i 1).val / 512 * 8 + 7 := ⟨⟨_, by omega⟩, rfl⟩
  refine ⟨t, (flush0_2 t).mpr (by omega), ?_⟩
  obtain ⟨-, -, -, -, h0, h1⟩ := idx_facts t
  show i ∈ ((View.whole main_v4).slice (win0_2.rect t)).set
  rw [View.set_slice_whole, Rect.mem_set_unit]
  intro a
  match a with
  | ⟨0, _⟩ => show win0_2.index t 0 * 3328 ≤ (i 0).val ∧ (i 0).val < win0_2.index t 0 * 3328 + 3328; omega
  | ⟨1, _⟩ => show win0_2.index t 1 * 512 ≤ (i 1).val ∧ (i 1).val < win0_2.index t 1 * 512 + 512; omega

/-- The result array after the run. -/
theorem final (c : Dev nD) : (dats m 0 c).arrAt 2 cfg0.N
    = result (m ((c : Thread nD τ).loc main_arg1)) (m ((c : Thread nD τ).loc main_arg0)) :=
  (dats m 0 c).arrAt_eq_of_cover 2 _ (flushed_eq m c) covered

/-! ## The reference -/

/-- `result` with the factors in the reference's order. -/
theorem result_comm (ct : FVec Ideal S1x8192x3328 .f32) (h1 : FVec Ideal S1x8192x1024 .f32) (i : S3328x1024.Idx) :
    result ct h1 i = ∑ k : Fin 8192, ct (ix3 0 k (i 0)) * h1 (ix3 0 k (i 1)) := by
  unfold result
  exact Finset.sum_congr rfl fun k _ => mul_comm _ _

open Cert.Reference8Ideal.Read in
/-- The reference's result is the same function. -/
theorem ref_eq (h1 : FVec Ideal S1x8192x1024 .f32) (ct : FVec Ideal S1x8192x3328 .f32) :
    val_main_v4 (F := Ideal) h1 ct = result ct h1 := by
  funext i
  rw [result_comm]
  unfold val_main_v4 val_main_v3 val_main_v2
  pointwise
  rw [Fin.sum_univ_one]

/-! ## The claim -/

/-- `Cert.algebraic_Kernel8Ideal_Reference8Ideal`: from equal arguments the call and the reference end with equal results. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => result (m ((c.tc : Thread _ _).loc main_arg1)) (m ((c.tc : Thread _ _).loc main_arg0)), ?_, ?_⟩
  · refine (θ_run defs _ _).mono (fun r h c => ?_) (Value.run_blocks (F := Ideal) m g)
    exact ⟨((h c).1).trans (final m c), (h c).2⟩
  · refine (θ_run (Cert.Reference8Ideal.defs (F := Ideal)) _ _).mono (fun r h c => ?_) (Cert.Reference8Ideal.Value.run (F := Ideal) m' g')
    refine ⟨((h c).1.trans (Cert.Reference8Ideal.Read.val_main_v4_eq ..)).trans ?_, (h c).2⟩
    obtain ⟨e0, e1⟩ := hargs c
    rw [e0, e1]
    exact ref_eq _ _

end Cert.Proof.MmInDw
-- ==== Proof.MmOut.lean ====
module

public import proofs.«01_k».proof.Defs
public import proofs.«01_k».proof.Proof.Gen.Kernel9Ideal.Value
public import proofs.«01_k».proof.Proof.Gen.Reference9Ideal.Read
public import proofs.«01_k».proof.Proof.Norm
public import Idealize.ShloMosaic.Lib.Pointwise
public import Idealize.ShloMosaic.Lib.StableHlo.ReadAt
public import Idealize.ShloMosaic.Lib.Tactic
public import Idealize.ShloMosaic.Lib.Pipeline.ReadBack

/-!
# The output projection with the residual and the second norm

`mix · w_out + x`, 512 rows at a time against the whole weight, and the root-mean-square norm of each row of it.
-/

@[expose] public section
set_option maxRecDepth 16384
noncomputable section
namespace Cert.Proof.MmOut
open Idealize.ShloMosaic Idealize.SL.Sem Cert.Kernel9Ideal
open Cert.Kernel9Ideal.Gen Idealize.ShloMosaic.TcCoe
open Idealize.ShloMosaic.Pipeline (Dat Cfg Window)

/-- One element of a block of the sum: a row against a column of the weight, plus the residual. -/
def bSum (x0 : Vec Ideal S512x1024 .bf16) (x1 : Vec Ideal S1024x1024 .bf16) (x2 : Vec Ideal S512x1024 .f32) (p : Fin 512) (d : Fin 1024) : EReal :=
  ∑ k : Fin 1024, x0 (ix2 p k) * x1 (ix2 k d) + x2 (ix2 p d)

theorem pay1 (x0 : Vec Ideal S512x1024 .bf16) (x1 : Vec Ideal S1024x1024 .bf16) (x2 : Vec Ideal S512x1024 .f32) (p : Fin 512) (d : Fin 1024) :
    k0_pay1 x0 x1 x2 (ix2 p d) = bSum x0 x1 x2 p d := by
  unfold k0_pay1 bSum
  pointwise

theorem out4 (x0 : Vec Ideal S512x1024 .bf16) (x1 : Vec Ideal S1024x1024 .bf16) (x2 : Vec Ideal S512x1024 .f32) (x3 : Vec Ideal S1x1024 .f32)
    (p : Fin 512) (d : Fin 1024) : out0_4 x0 x1 x2 x3 (ix2 p d) = bSum x0 x1 x2 p d := by
  unfold out0_4
  rw [View.canon_cons_unit_lit _ _ _ (by decide), View.ld_unit_lit inb_S512x1024_S512x1024_0_0 x0 (by decide),
    View.ld_unit_lit inb_S1024x1024_S1024x1024_0_0 x1 (by decide), View.ld_unit_lit inb_S512x1024_S512x1024_0_0 x2 (by decide)]
  exact pay1 x0 x1 x2 p d

theorem out5 (x0 : Vec Ideal S512x1024 .bf16) (x1 : Vec Ideal S1024x1024 .bf16) (x2 : Vec Ideal S512x1024 .f32) (x3 : Vec Ideal S1x1024 .f32)
    (p : Fin 512) (d : Fin 1024) :
    out0_5 x0 x1 x2 x3 (ix2 p d) = bSum x0 x1 x2 p d * Norm.rs (fun k => bSum x0 x1 x2 p k) * x3 (ix2 0 d) := by
  unfold out0_5
  rw [View.canon_cons_unit_lit _ _ _ (by decide), View.ld_unit_lit inb_S512x1024_S512x1024_0_0 x0 (by decide),
    View.ld_unit_lit inb_S1024x1024_S1024x1024_0_0 x1 (by decide), View.ld_unit_lit inb_S512x1024_S512x1024_0_0 x2 (by decide),
    View.ld_unit_lit inb_S1x1024_S1x1024_0_0 x3 (by decide)]
  unfold k0_pay2 Norm.rs Norm.ms Norm.cLen Norm.cEps
  pointwise
  simp only [pay1]

/-! ## The whole arrays -/

/-- The sum, from the arguments. -/
def sum (mix : FVec Ideal S1x8192x1024 .f32) (w : FVec Ideal S1x1024x1024 .f32) (x : FVec Ideal S1x8192x1024 .f32) (r : Fin 8192) (d : Fin 1024) : EReal :=
  ∑ k : Fin 1024, mix (ix3 0 r k) * w (ix3 0 k d) + x (ix3 0 r d)

/-- The first result: the sum. -/
def result0 (mix : FVec Ideal S1x8192x1024 .f32) (w : FVec Ideal S1x1024x1024 .f32) (x : FVec Ideal S1x8192x1024 .f32) : FVec Ideal S8192x1024 .f32 :=
  fun i => sum mix w x (i 0) (i 1)

/-- The second result: the sum's rows normalised. -/
def result1 (mix : FVec Ideal S1x8192x1024 .f32) (w : FVec Ideal S1x1024x1024 .f32) (x : FVec Ideal S1x8192x1024 .f32) (nw : FVec Ideal S1x1024 .f32) :
    FVec Ideal S8192x1024 .bf16 :=
  fun i => sum mix w x (i 0) (i 1) * Norm.rs (fun k => sum mix w x (i 0) k) * nw (ix2 0 (i 1))

variable (m : (ℓ : Loc nD τ sig) → Buf (Elt Ideal) ℓ)

/-- The arguments of the call on device `c`. -/
abbrev aM (c : Dev nD) := m ((c : Thread nD τ).loc main_arg0)
abbrev aW (c : Dev nD) := m ((c : Thread nD τ).loc main_arg1)
abbrev aX (c : Dev nD) := m ((c : Thread nD τ).loc main_arg2)
abbrev aN (c : Dev nD) := m ((c : Thread nD τ).loc main_arg3)

theorem V_m (c : Dev nD) (j : S8192x1024.Idx) : V m c main_v1 j = aM m c (ix3 0 (j 0) (j 1)) := by
  unfold V; after_reads_at

theorem V_w (c : Dev nD) (j : S1024x1024.Idx) : V m c main_v3 j = aW m c (ix3 0 (j 0) (j 1)) := by
  unfold V; after_reads_at

theorem V_x (c : Dev nD) (j : S8192x1024.Idx) : V m c main_v4 j = aX m c (ix3 0 (j 0) (j 1)) := by
  unfold V; after_reads_at

theorem V_n (c : Dev nD) (j : S1x1024.Idx) : V m c main_arg3 j = aN m c j := by
  unfold V; after_reads_at

/-- The blocks each point stages and writes: row block `t`. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 :=
  (by decide +kernel : ∀ t : Fin grid0.N, _)

theorem iblk0 (c : Dev nD) (t : Fin cfg0.N) (p : Fin 512) (k : Fin 1024) (r : Fin 8192) (h : t.val * 512 + p.val = r.val) :
    iblk m c 0 t (ix2 p k) = aM m c (ix3 0 r k) := by
  unfold iblk
  rw [View.read_apply]
  refine (V_m m c _).trans (congrArg (aM m c) ?_)
  obtain ⟨h0, h1, -⟩ := idx_facts t
  funext a; apply Fin.ext
  match a with
  | ⟨0, _⟩ => rfl
  | ⟨1, _⟩ => show win0_0.index t 0 * 512 + 1 * p.val = r.val; omega
  | ⟨2, _⟩ => show win0_0.index t 1 * 1024 + 1 * k.val = k.val; omega

theorem iblk1 (c : Dev nD) (t : Fin cfg0.N) (k : Fin 1024) (e : Fin 1024) :
    iblk m c 1 t (ix2 k e) = aW m c (ix3 0 k e) := by
  unfold iblk
  rw [View.read_apply]
  refine (V_w m c _).trans (congrArg (aW m c) ?_)
  obtain ⟨-, -, h0, h1, -⟩ := idx_facts t
  funext a; apply Fin.ext
  match a with
  | ⟨0, _⟩ => rfl
  | ⟨1, _⟩ => show win0_1.index t 0 * 1024 + 1 * k.val = k.val; omega
  | ⟨2, _⟩ => show win0_1.index t 1 * 1024 + 1 * e.val = e.val; omega

theorem iblk2 (c : Dev nD) (t : Fin cfg0.N) (p : Fin 512) (k : Fin 1024) (r : Fin 8192) (h : t.val * 512 + p.val = r.val) :
    iblk m c 2 t (ix2 p k) = aX m c (ix3 0 r k) := by
  unfold iblk
  rw [View.read_apply]
  refine (V_x m c _).trans (congrArg (aX m c) ?_)
  obtain ⟨-, -, -, -, h0, h1, -⟩ := idx_facts t
  funext a; apply Fin.ext
  match a with
  | ⟨0, _⟩ => rfl
  | ⟨1, _⟩ => show win0_2.index t 0 * 512 + 1 * p.val = r.val; omega
  | ⟨2, _⟩ => show win0_2.index t 1 * 1024 + 1 * k.val = k.val; omega

theorem iblk3 (c : Dev nD) (t : Fin cfg0.N) (d : Fin 1024) : iblk m c 3 t (ix2 0 d) = aN m c (ix2 0 d) := by
  unfold iblk
  rw [View.read_apply]
  refine (V_n m c _).trans (congrArg (aN m c) ?_)
  obtain ⟨-, -, -, -, -, -, h0, h1, -⟩ := idx_facts t
  funext a; apply Fin.ext
  match a with
  | ⟨0, _⟩ => show win0_3.index t 0 * 1 + 1 * 0 = 0; omega
  | ⟨1, _⟩ => show win0_3.index t 1 * 1024 + 1 * d.val = d.val; omega

theorem bSum_eq (c : Dev nD) (t : Fin cfg0.N) (p : Fin 512) (d : Fin 1024) (r : Fin 8192) (h : t.val * 512 + p.val = r.val) :
    bSum (iblk m c 0 t) (iblk m c 1 t) (iblk m c 2 t) p d = sum (aM m c) (aW m c) (aX m c) r d :=
  congrArg₂ (· + ·) (Finset.sum_congr rfl fun k _ => congrArg₂ (· * ·) (iblk0 m c t p k r h) (iblk1 m c t k d)) (iblk2 m c t p d r h)

/-- What point `t` writes back is its block of the first result. -/
theorem flushed4_eq (c : Dev nD) (t : Fin cfg0.N) :
    (dats m 0 c).flushed 4 t = ((cfg0.win 4).blk t).view.read (Elt Ideal) (result0 (aM m c) (aW m c) (aX m c)) := by
  rw [Value.flushed4]
  funext y
  obtain ⟨p, e, rfl⟩ : ∃ (p : Fin 512) (e : Fin 1024), y = ix2 p e := ⟨y 0, y 1, eq_ix2 y⟩
  rw [View.read_apply]
  have hN : cfg0.N = 16 := N_0
  have ht := t.isLt
  obtain ⟨-, -, -, -, -, -, -, -, h0, h1, -⟩ := idx_facts t
  have he : ((cfg0.win 4).blk t).view.emb (ix2 p e) = ix2 (⟨t.val * 512 + p.val, by omega⟩ : Fin 8192) e := by
    funext a; apply Fin.ext
    match a with
    | ⟨0, _⟩ => show win0_4.index t 0 * 512 + 1 * p.val = t.val * 512 + p.val; omega
    | ⟨1, _⟩ => show win0_4.index t 1 * 1024 + 1 * e.val = e.val; omega
  rw [he]
  exact (out4 _ _ _ _ p e).trans (bSum_eq m c t p e _ rfl)

/-- What point `t` writes back is its block of the second result. -/
theorem flushed5_eq (c : Dev nD) (t : Fin cfg0.N) :
    (dats m 0 c).flushed 5 t = ((cfg0.win 5).blk t).view.read (Elt Ideal) (result1 (aM m c) (aW m c) (aX m c) (aN m c)) := by
  rw [Value.flushed5]
  funext y
  obtain ⟨p, e, rfl⟩ : ∃ (p : Fin 512) (e : Fin 1024), y = ix2 p e := ⟨y 0, y 1, eq_ix2 y⟩
  rw [View.read_apply]
  have hN : cfg0.N = 16 := N_0
  have ht := t.isLt
  obtain ⟨-, -, -, -, -, -, -, -, -, -, h0, h1⟩ := idx_facts t
  have he : ((cfg0.win 5).blk t).view.emb (ix2 p e) = ix2 (⟨t.val * 512 + p.val, by omega⟩ : Fin 8192) e := by
    funext a; apply Fin.ext
    match a with
    | ⟨0, _⟩ => show win0_5.index t 0 * 512 + 1 * p.val = t.val * 512 + p.val; omega
    | ⟨1, _⟩ => show win0_5.index t 1 * 1024 + 1 * e.val = e.val; omega
  rw [he]
  refine (out5 _ _ _ _ p e).trans (congrArg₂ (· * ·) (congrArg₂ (· * ·) (bSum_eq m c t p e _ rfl) (congrArg Norm.rs ?_)) (iblk3 m c t e))
  exact funext fun k => bSum_eq m c t p k _ rfl

/-- Every index is in the block of some point, in both results. -/
theorem covered4 (i : S8192x1024.Idx) : ∃ t : Fin cfg0.N, (cfg0.win 4).flush t = true ∧ i ∈ ((cfg0.win 4).blk t).view.set := by
  have hN : cfg0.N = 16 := N_0
  have i0 : (i 0).val < 8192 := (i 0).isLt
  have i1 : (i 1).val < 1024 := (i 1).isLt
  obtain ⟨t, ht⟩ : ∃ t : Fin cfg0.N, t.val = (i 0).val / 512 := ⟨⟨_, by omega⟩, rfl⟩
  refine ⟨t, flush0_4 t, ?_⟩
  obtain ⟨-, -, -, -, -, -, -, -, h0, h1, -⟩ := idx_facts t
  show i ∈ ((View.whole main_v5_0).slice (win0_4.rect t)).set
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 1024 ≤ (i 1).val ∧ (i 1).val < win0_4.index t 1 * 1024 + 1024; omega

theorem covered5 (i : S8192x1024.Idx) : ∃ t : Fin cfg0.N, (cfg0.win 5).flush t = true ∧ i ∈ ((cfg0.win 5).blk t).view.set := by
  have hN : cfg0.N = 16 := N_0
  have i0 : (i 0).val < 8192 := (i 0).isLt
  have i1 : (i 1).val < 1024 := (i 1).isLt
  obtain ⟨t, ht⟩ : ∃ t : Fin cfg0.N, t.val = (i 0).val / 512 := ⟨⟨_, by omega⟩, rfl⟩
  refine ⟨t, flush0_5 t, ?_⟩
  obtain ⟨-, -, -, -, -, -, -, -, -, -, h0, h1⟩ := idx_facts t
  show i ∈ ((View.whole main_v5_1).slice (win0_5.rect t)).set
  rw [View.set_slice_whole, Rect.mem_set_unit]
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

/-- The result arrays after the run. -/
theorem final4 (c : Dev nD) : (dats m 0 c).arrAt 4 cfg0.N = result0 (aM m c) (aW m c) (aX m c) :=
  (dats m 0 c).arrAt_eq_of_cover 4 _ (fun t _ => flushed4_eq m c t) covered4

theorem final5 (c : Dev nD) : (dats m 0 c).arrAt 5 cfg0.N = result1 (aM m c) (aW m c) (aX m c) (aN m c) :=
  (dats m 0 c).arrAt_eq_of_cover 5 _ (fun t _ => flushed5_eq m c t) covered5

/-! ## The reference -/

section reference
open Cert.Reference9Ideal.Read
variable (mix : FVec Ideal S1x8192x1024 .f32) (w : FVec Ideal S1x1024x1024 .f32) (x : FVec Ideal S1x8192x1024 .f32) (nw : FVec Ideal S1x1024 .f32)

theorem ref_sum (u : Fin 1) (r : Fin 8192) (d : Fin 1024) : val_main_v2 (F := Ideal) mix w x (ix3 u r d) = sum mix w x r d := by
  obtain rfl : u = 0 := Subsingleton.elim _ _
  unfold val_main_v2 val_main_v1 val_main_v0 sum
  pointwise
  exact add_comm _ _

theorem ref_rs (u : Fin 1) (r : Fin 8192) (v : Fin 1) : val_main_v12 (F := Ideal) mix w x (ix3 u r v) = Norm.rs fun k => sum mix w x r k := by
  unfold val_main_v12 val_main_v11 val_main_v10 val_main_v9 val_main_v8 val_main_v7 val_main_v6 val_main_v5 val_main_cst val_main_cst_0 val_main_cst_1
    Norm.rs Norm.ms Norm.cLen Norm.cEps
  pointwise
  simp only [ref_sum]

theorem ref_eq0 : val_main_v3 (F := Ideal) mix w x = result0 mix w x := by
  funext i
  unfold val_main_v3 result0
  pointwise
  exact ref_sum mix w x _ _ _

theorem ref_eq1 : val_main_v19 (F := Ideal) mix w x nw = result1 mix w x nw := by
  funext i
  obtain ⟨r, d, rfl⟩ : ∃ (r : Fin 8192) (d : Fin 1024), i = ix2 r d := ⟨i 0, i 1, eq_ix2 i⟩
  unfold val_main_v19 val_main_v18 val_main_v17 val_main_v16 val_main_v15 val_main_v14 val_main_v13 val_main_v4 result1
  pointwise
  rw [ref_sum, ref_rs]

end reference

/-! ## The claim -/

/-- `Cert.algebraic_Kernel9Ideal_Reference9Ideal`: from equal arguments the call and the reference end with equal results. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => result0 (aM m c) (aW m c) (aX m c), fun c => result1 (aM m c) (aW m c) (aX m c) (aN m c), ?_, ?_⟩
  · refine (θ_run defs _ _).mono (fun r h c => ?_) (Value.run_blocks (F := Ideal) m g)
    exact ⟨((h c).1).trans (final4 m c), ((h c).2.1).trans (final5 m c), (h c).2.2⟩
  · refine (θ_run (Cert.Reference9Ideal.defs (F := Ideal)) _ _).mono (fun r h c => ?_) (Cert.Reference9Ideal.Value.run (F := Ideal) m' g')
    obtain ⟨h0, h1, h2, h3⟩ := hargs c
    refine ⟨((h c).1.trans (Cert.Reference9Ideal.Read.val_main_v3_eq ..)).trans ?_,
      ((h c).2.1.trans (Cert.Reference9Ideal.Read.val_main_v19_eq ..)).trans ?_, (h c).2.2⟩
    · rw [h0, h1, h2]
      exact ref_eq0 _ _ _
    · rw [h0, h1, h2, h3]
      exact ref_eq1 _ _ _ _

end Cert.Proof.MmOut
-- ==== Proof.MmOutDx.lean ====
module

public import proofs.«01_k».proof.Defs
public import proofs.«01_k».proof.Proof.Gen.Kernel10Ideal.Value
public import proofs.«01_k».proof.Proof.Gen.Reference10Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The output projection's gradient in its input

`ct · w_outᵀ`, 512 rows at a time against the whole weight.
-/

@[expose] public section
set_option maxRecDepth 16384
noncomputable section
namespace Cert.Proof.MmOutDx
open Idealize.ShloMosaic Idealize.SL.Sem Cert.Kernel10Ideal
open Cert.Kernel10Ideal.Gen Idealize.ShloMosaic.TcCoe
open Idealize.ShloMosaic.Pipeline (Dat Cfg Window)

/-- One block of the result: 512 rows against the weight. -/
def blockOut (x0 : Vec Ideal S512x1024 .bf16) (x1 : Vec Ideal S1024x1024 .bf16) : Vec Ideal S512x1024 .f32 := fun y =>
  ∑ k : Fin 1024, x0 (ix2 (y 0) k) * x1 (ix2 (y 1) k)

/-- The body leaves `blockOut` of its windows' blocks. -/
theorem out_eq (x0 : Vec Ideal S512x1024 .bf16) (x1 : Vec Ideal S1024x1024 .bf16) : out0_2 x0 x1 = blockOut x0 x1 := by
  unfold out0_2
  rw [View.canon_cons_unit_lit _ _ _ (by decide), View.ld_unit_lit inb_S512x1024_S512x1024_0_0 x0 (by decide),
    View.ld_unit_lit inb_S1024x1024_S1024x1024_0_0 x1 (by decide)]
  funext y
  unfold blockOut
  unfold_payloads
  pointwise

/-! ## The whole array -/

variable (m : (ℓ : Loc nD τ sig) → Buf (Elt Ideal) ℓ)

/-- The result array as a function of the two arguments. -/
def result (w : FVec Ideal S1x1024x1024 .f32) (h : FVec Ideal S1x8192x1024 .f32) : FVec Ideal S8192x1024 .f32 := fun i =>
  ∑ k : Fin 1024, h (ix3 0 (i 0) k) * w (ix3 0 (i 1) k)

/-- The host code before the call, read at an index: the cotangent's rows. -/
theorem V_h (c : Dev nD) (j : S8192x1024.Idx) :
    V m c main_v1 j = m ((c : Thread nD τ).loc main_arg1) (ix3 0 (j 0) (j 1)) := by
  unfold V; after_reads_at

/-- The weight's rows. -/
theorem V_w (c : Dev nD) (j : S1024x1024.Idx) :
    V m c main_v3 j = m ((c : Thread nD τ).loc main_arg0) (ix3 0 (j 0) (j 1)) := by
  unfold V; after_reads_at

/-- The blocks each point stages and writes: row block `t`. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- The rows' block at point `t`. -/
theorem iblk0 (c : Dev nD) (t : Fin cfg0.N) (p : Fin 512) (k : Fin 1024) (r : Fin 8192) (h : t.val * 512 + p.val = r.val) :
    iblk m c 0 t (ix2 p k) = m ((c : Thread nD τ).loc main_arg1) (ix3 0 r k) := by
  unfold iblk
  rw [View.read_apply]
  refine (V_h m c _).trans (congrArg (m ((c : Thread nD τ).loc main_arg1)) ?_)
  obtain ⟨h0, h1, -⟩ := idx_facts t
  funext a; apply Fin.ext
  match a with
  | ⟨0, _⟩ => rfl
  | ⟨1, _⟩ => show win0_0.index t 0 * 512 + 1 * p.val = r.val; omega
  | ⟨2, _⟩ => show win0_0.index t 1 * 1024 + 1 * k.val = k.val; omega

/-- The weight's block at point `t` is the whole weight. -/
theorem iblk1 (c : Dev nD) (t : Fin cfg0.N) (k : Fin 1024) (e : Fin 1024) :
    iblk m c 1 t (ix2 k e) = m ((c : Thread nD τ).loc main_arg0) (ix3 0 k e) := by
  unfold iblk
  rw [View.read_apply]
  refine (V_w m c _).trans (congrArg (m ((c : Thread nD τ).loc main_arg0)) ?_)
  obtain ⟨-, -, h0, h1, -⟩ := idx_facts t
  funext a; apply Fin.ext
  match a with
  | ⟨0, _⟩ => rfl
  | ⟨1, _⟩ => show win0_1.index t 0 * 1024 + 1 * k.val = k.val; omega
  | ⟨2, _⟩ => show win0_1.index t 1 * 1024 + 1 * e.val = e.val; omega

/-- `blockOut` of the windows' blocks at point `t` is the block of `result` there. -/
theorem block_eq (c : Dev nD) (t : Fin cfg0.N) (p : Fin 512) (e : Fin 1024) (r : Fin 8192) (h : t.val * 512 + p.val = r.val) :
    blockOut (iblk m c 0 t) (iblk m c 1 t) (ix2 p e)
      = result (m ((c : Thread nD τ).loc main_arg0)) (m ((c : Thread nD τ).loc main_arg1)) (ix2 r e) :=
  Finset.sum_congr rfl fun k _ => congrArg₂ (· * ·) (iblk0 m c t p k r h) (iblk1 m c t e k)

/-- What point `t` writes back is its block of `result`. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Value.flushed2, out_eq]
  funext y
  obtain ⟨p, e, rfl⟩ : ∃ (p : Fin 512) (e : Fin 1024), y = ix2 p e := ⟨y 0, y 1, eq_ix2 y⟩
  rw [View.read_apply]
  have hN : cfg0.N = 16 := N_0
  have ht := t.isLt
  obtain ⟨-, -, -, -, h0, h1⟩ := idx_facts t
  have he : ((cfg0.win 2).blk t).view.emb (ix2 p e) = ix2 (⟨t.val * 512 + p.val, by omega⟩ : Fin 8192) e := by
    funext a; apply Fin.ext
    match a with
    | ⟨0, _⟩ => show win0_2.index t 0 * 512 + 1 * p.val = t.val * 512 + p.val; omega
    | ⟨1, _⟩ => show win0_2.index t 1 * 1024 + 1 * e.val = e.val; omega
  rw [he]
  exact block_eq m c t p e _ rfl

/-- Every index is in the block of some point. -/
theorem covered (i : S8192x1024.Idx) : ∃ t : Fin cfg0.N, (cfg0.win 2).flush t = true ∧ i ∈ ((cfg0.win 2).blk t).view.set := by
  have hN : cfg0.N = 16 := N_0
  have i0 : (i 0).val < 8192 := (i 0).isLt
  have i1 : (i 1).val < 1024 := (i 1).isLt
  obtain ⟨t, ht⟩ : ∃ t : Fin cfg0.N, t.val = (i 0).val / 512 := ⟨⟨_, by omega⟩, rfl⟩
  refine ⟨t, flush0_2 t, ?_⟩
  obtain ⟨-, -, -, -, h0, h1⟩ := idx_facts t
  show i ∈ ((View.whole main_v4).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N
    = result (m ((c : Thread nD τ).loc main_arg0)) (m ((c : Thread nD τ).loc main_arg1)) :=
  (dats m 0 c).arrAt_eq_of_cover 2 _ (fun t _ => flushed_eq m c t) covered

/-! ## The reference -/

open Cert.Reference10Ideal.Read in
/-- The reference's result is the same function. -/
theorem ref_eq (w : FVec Ideal S1x1024x1024 .f32) (h : FVec Ideal S1x8192x1024 .f32) :
    val_main_v4 (F := Ideal) w h = result w h := by
  funext i
  unfold val_main_v4 val_main_v3 val_main_v1 result
  pointwise

/-! ## The claim -/

/-- `Cert.algebraic_Kernel10Ideal_Reference10Ideal`: from equal arguments the call and the reference end with equal results. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => result (m ((c.tc : Thread _ _).loc main_arg0)) (m ((c.tc : Thread _ _).loc main_arg1)), ?_, ?_⟩
  · refine (θ_run defs _ _).mono (fun r h c => ?_) (Value.run_blocks (F := Ideal) m g)
    exact ⟨((h c).1).trans (final m c), (h c).2⟩
  · refine (θ_run (Cert.Reference10Ideal.defs (F := Ideal)) _ _).mono (fun r h c => ?_) (Cert.Reference10Ideal.Value.run (F := Ideal) m' g')
    refine ⟨((h c).1.trans (Cert.Reference10Ideal.Read.val_main_v4_eq ..)).trans ?_, (h c).2⟩
    obtain ⟨h0, h1⟩ := hargs c
    rw [h0, h1]
    exact ref_eq _ _

end Cert.Proof.MmOutDx
-- ==== Proof.MmOutDw.lean ====
module

public import proofs.«01_k».proof.Defs
public import proofs.«01_k».proof.Proof.Acc
public import proofs.«01_k».proof.Proof.Gen.Kernel11Ideal.Value
public import proofs.«01_k».proof.Proof.Gen.Reference11Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The weight gradient of the output projection

`ctᵀ · mix` over 8192 rows, 1024 at a time: the product of a block is added to the result's block, which a run's first point
zeroes.
-/

@[expose] public section
set_option maxRecDepth 16384
noncomputable section
namespace Cert.Proof.MmOutDw
open Idealize.ShloMosaic Idealize.SL.Sem Cert.Kernel11Ideal
open Cert.Kernel11Ideal.Gen Idealize.ShloMosaic.TcCoe
open Idealize.ShloMosaic.Pipeline (Dat Cfg Window)

/-- One block's product: 1024 rows of the activations against the same rows of the cotangent. -/
def prod (x0 : Vec Ideal S1024x512 .bf16) (x1 : Vec Ideal S1024x1024 .bf16) : Vec Ideal S512x1024 .f32 := fun y =>
  ∑ k : Fin 1024, x0 (ix2 k (y 0)) * x1 (ix2 k (y 1))

section body
variable (c : Dev nD) (i : grid0.Coords) (arg3 : Memref sig .tc .vmem S1024x512 .bf16) (harg3 : arg3.IsWhole)
  (arg4 : Memref sig .tc .vmem S1024x1024 .bf16) (harg4 : arg4.IsWhole) (arg5 : Memref sig .tc .vmem S512x1024 .f32) (harg5 : arg5.IsWhole)
  (x0 : Vec Ideal S1024x512 .bf16) (x1 : Vec Ideal S1024x1024 .bf16) (x2 : Vec Ideal S512x1024 .f32)

/-- What the accumulating store writes: what was read plus the block's product. -/
theorem pay2 (z : Vec Ideal S512x1024 .f32) : k0_pay2 x0 x1 z = fun y => z y + prod x0 x1 y := by
  funext y
  unfold prod
  unfold_payloads
  pointwise

/-- The block after a run's first point: zeroed, then the first product. -/
theorem out_A (hc0 : cond0_0 i) (y : S512x1024.Idx) :
    out0_A_2 c i arg3 harg3 arg4 harg4 arg5 harg5 hc0 x0 x1 y = 0 + prod x0 x1 y := by
  unfold out0_A_2
  rw [View.read_writes_eq_canon _ _ _ (cover0_A_2 c i arg3 harg3 arg4 harg4 arg5 harg5 hc0 x0 x1)]
  unfold kernelRun0_A
  dsimp only
  sl_unfold_words
  simp only [View.readAt_eq_ld, harg3.read_unread, harg4.read_unread]
  rw [View.canon_cons_unit_lit _ _ _ (by decide), View.ld_unit_lit inb_S1024x512_S1024x512_0_0 x0 (by decide),
    View.ld_unit_lit inb_S1024x1024_S1024x1024_0_0 x1 (by decide), View.readCov_unit_lit _ _ _ (by decide), pay2]
  dsimp only
  unfold_payloads
  pointwise

/-- At the other points the product is added to what the point before left. -/
theorem out_B (hc0 : ¬cond0_0 i) (y : S512x1024.Idx) :
    out0_B_2 c i arg3 harg3 arg4 harg4 arg5 harg5 hc0 x0 x1 x2 y = x2 y + prod x0 x1 y := by
  unfold out0_B_2
  rw [View.read_writes_eq_canon _ _ _ (cover0_B_2 c i arg3 harg3 arg4 harg4 arg5 harg5 hc0 x0 x1 x2)]
  unfold kernelRun0_B
  dsimp only
  sl_unfold_words
  simp only [View.readAt_eq_ld, harg3.read_unread, harg4.read_unread, harg5.read_unread]
  rw [View.canon_cons_unit_lit _ _ _ (by decide), View.ld_unit_lit inb_S1024x512_S1024x512_0_0 x0 (by decide),
    View.ld_unit_lit inb_S1024x1024_S1024x1024_0_0 x1 (by decide), View.ld_unit_lit inb_S512x1024_S512x1024_0_0 x2 (by decide), pay2]

end body

/-! ## The whole array -/

variable (m : (ℓ : Loc nD τ sig) → Buf (Elt Ideal) ℓ)

/-- The result array as a function of the two arguments: `ctᵀ · mix`. -/
def result (ct : FVec Ideal S1x8192x1024 .f32) (mix : FVec Ideal S1x8192x1024 .f32) : FVec Ideal S1024x1024 .f32 := fun i =>
  ∑ k : Fin 8192, mix (ix3 0 k (i 0)) * ct (ix3 0 k (i 1))

/-- The host code before the call, read at an index: the activations' rows. -/
theorem V_mix (c : Dev nD) (j : S8192x1024.Idx) :
    V m c main_v1 j = m ((c : Thread nD τ).loc main_arg0) (ix3 0 (j 0) (j 1)) := by
  unfold V; after_reads_at

/-- The cotangent's rows. -/
theorem V_ct (c : Dev nD) (j : S8192x1024.Idx) :
    V m c main_v3 j = m ((c : Thread nD τ).loc main_arg1) (ix3 0 (j 0) (j 1)) := by
  unfold V; after_reads_at

/-- The blocks each point stages and writes: contraction block `t % 8`, row block `t / 8`. -/
theorem idx_facts : ∀ t : Fin cfg0.N,
    win0_0.index t 0 = t.val % 8 ∧ win0_0.index t 1 = t.val / 8
    ∧ win0_1.index t 0 = t.val % 8 ∧ win0_1.index t 1 = 0
    ∧ win0_2.index t 0 = t.val / 8 ∧ win0_2.index t 1 = 0 :=
  (by decide +kernel : ∀ t : Fin grid0.N, _)

/-- The activations' block at point `t`. -/
theorem iblk0 (c : Dev nD) (t : Fin cfg0.N) (y : S1024x512.Idx) :
    iblk m c 0 t y = m ((c : Thread nD τ).loc main_arg0) (ix3 0 (Fin.ofNat 8192 (t.val % 8 * 1024 + (y 0).val))
      (Fin.ofNat 1024 (t.val / 8 * 512 + (y 1).val))) := by
  unfold iblk
  rw [View.read_apply]
  refine (V_mix m c _).trans (congrArg (m ((c : Thread nD τ).loc main_arg0)) ?_)
  have hN : cfg0.N = 16 := N_0
  have ht := t.isLt
  have y0 : (y 0).val < 1024 := (y 0).isLt
  have y1 : (y 1).val < 512 := (y 1).isLt
  obtain ⟨h0, h1, -⟩ := idx_facts t
  funext a; apply Fin.ext
  match a with
  | ⟨0, _⟩ => rfl
  | ⟨1, _⟩ => show win0_0.index t 0 * 1024 + 1 * (y 0).val = (t.val % 8 * 1024 + (y 0).val) % 8192; omega
  | ⟨2, _⟩ => show win0_0.index t 1 * 512 + 1 * (y 1).val = (t.val / 8 * 512 + (y 1).val) % 1024; omega

/-- The cotangent's block at point `t`. -/
theorem iblk1 (c : Dev nD) (t : Fin cfg0.N) (y : S1024x1024.Idx) :
    iblk m c 1 t y = m ((c : Thread nD τ).loc main_arg1) (ix3 0 (Fin.ofNat 8192 (t.val % 8 * 1024 + (y 0).val)) (y 1)) := by
  unfold iblk
  rw [View.read_apply]
  refine (V_ct m c _).trans (congrArg (m ((c : Thread nD τ).loc main_arg1)) ?_)
  have y0 : (y 0).val < 1024 := (y 0).isLt
  obtain ⟨-, -, h0, h1, -⟩ := idx_facts t
  funext a; apply Fin.ext
  match a with
  | ⟨0, _⟩ => rfl
  | ⟨1, _⟩ => show win0_1.index t 0 * 1024 + 1 * (y 0).val = (t.val % 8 * 1024 + (y 0).val) % 8192; omega
  | ⟨2, _⟩ => show win0_1.index t 1 * 1024 + 1 * (y 1).val = (y 1).val; omega

/-- The product added at point `n`, in the arguments. -/
def step (ct : FVec Ideal S1x8192x1024 .f32) (mix : FVec Ideal S1x8192x1024 .f32) (n : ℕ) (y : S512x1024.Idx) : EReal :=
  ∑ k : Fin 1024, mix (ix3 0 (Fin.ofNat 8192 (n % 8 * 1024 + k.val)) (Fin.ofNat 1024 (n / 8 * 512 + (y 0).val)))
    * ct (ix3 0 (Fin.ofNat 8192 (n % 8 * 1024 + k.val)) (y 1))

theorem prod_eq (c : Dev nD) (t : Fin cfg0.N) (y : S512x1024.Idx) :
    prod (iblk m c 0 t) (iblk m c 1 t) y
      = step (m ((c : Thread nD τ).loc main_arg1)) (m ((c : Thread nD τ).loc main_arg0)) t.val y := by
  unfold prod step
  simp only [iblk0 m c t, iblk1 m c t]
  rfl

/-- What the result's block holds after point `n`: the products of its run so far. -/
theorem acc_eq (c : Dev nD) (n : ℕ) (h : n < cfg0.N) (y : S512x1024.Idx) :
    outsAt0 m c n h y = ∑ s ∈ Finset.range (n % 8 + 1), step (m ((c : Thread nD τ).loc main_arg1))
      (m ((c : Thread nD τ).loc main_arg0)) (n - n % 8 + s) y :=
  Acc.fold 8 (by decide) (outsAt0 m c) _
    (fun n h hn y => by
      rw [outsAt0_A m c ⟨n, h⟩ hn, out_A, prod_eq])
    (fun n h hn y => by
      rw [outsAt0_B m c ⟨n, h⟩ hn, out_B, prod_eq]) n h y

/-- What the last point of a run holds is its block of `result`. -/
theorem block_eq (ct : FVec Ideal S1x8192x1024 .f32) (mix : FVec Ideal S1x8192x1024 .f32) (n : ℕ) (hn : n % 8 = 7)
    (f : Fin 1024) (y0 : Fin 512) (r : Fin 1024) (hr : n / 8 * 512 + y0.val = r.val) :
    ∑ s ∈ Finset.range (n % 8 + 1), step ct mix (n - n % 8 + s) (ix2 y0 f) = result ct mix (ix2 r f) := by
  have hres : result ct mix (ix2 r f) = ∑ k : Fin 8192, mix (ix3 0 k r) * ct (ix3 0 k f) := by
    unfold result
    rfl
  rw [hn, hres]
  obtain ⟨G, hG⟩ : ∃ G : ℕ → EReal, ∀ q, G q = mix (ix3 0 (Fin.ofNat 8192 q) r) * ct (ix3 0 (Fin.ofNat 8192 q) f) :=
    ⟨_, fun _ => rfl⟩
  have hstep : ∀ s ∈ Finset.range (7 + 1), step ct mix (n - 7 + s) (ix2 y0 f) = ∑ k : Fin 1024, G (s * 1024 + k.val) := by
    intro s hs
    have hs : s < 8 := Finset.mem_range.mp hs
    have e1 : (n - 7 + s) % 8 = s := by omega
    have e2 : (n - 7 + s) / 8 = n / 8 := by omega
    have e5 : Fin.ofNat 1024 (n / 8 * 512 + y0.val) = r := Fin.ext (by
      show (n / 8 * 512 + y0.val) % 1024 = r.val
      rw [hr]; exact Nat.mod_eq_of_lt r.isLt)
    unfold step
    rw [e1, e2]
    refine Finset.sum_congr rfl fun k _ => ?_
    rw [hG, ← e5]
    rfl
  rw [Finset.sum_congr rfl hstep, Acc.sum_blocks 8 1024 8192 rfl G]
  refine Finset.sum_congr rfl fun k _ => ?_
  have hk : Fin.ofNat 8192 k.val = k := Fin.ext (Nat.mod_eq_of_lt k.isLt)
  rw [hG, hk]

/-- What a run's last point writes back is its block of `result`. -/
theorem flushed_eq (c : Dev nD) (t : Fin cfg0.N) (hf : (cfg0.win 2).flush t = true) :
    (dats m 0 c).flushed 2 t = ((cfg0.win 2).blk t).view.read (Elt Ideal)
      (result (m ((c : Thread nD τ).loc main_arg1)) (m ((c : Thread nD τ).loc main_arg0))) := by
  have h7 : t.val % 8 = 7 := (flush0_2 t).mp hf
  have hN : cfg0.N = 16 := N_0
  have ht := t.isLt
  rw [Value.flushed2]
  funext y
  rw [View.read_apply]
  obtain ⟨-, -, -, -, i0, i1⟩ := idx_facts t
  have y0 : (y 0).val < 512 := (y 0).isLt
  have he : ((cfg0.win 2).blk t).view.emb y = ix2 (⟨t.val / 8 * 512 + (y 0).val, by omega⟩ : Fin 1024) (y 1) := by
    funext a; apply Fin.ext
    match a with
    | ⟨0, _⟩ => show win0_2.index t 0 * 512 + 1 * (y 0).val = t.val / 8 * 512 + (y 0).val; omega
    | ⟨1, _⟩ => show win0_2.index t 1 * 1024 + 1 * (y 1).val = (y 1).val; omega
  rw [he]
  exact ((acc_eq m c t.val t.isLt y).trans (congrArg (fun y => ∑ s ∈ Finset.range (t.val % 8 + 1),
    step (m ((c : Thread nD τ).loc main_arg1)) (m ((c : Thread nD τ).loc main_arg0)) (t.val - t.val % 8 + s) y) (eq_ix2 y))).trans
    (block_eq _ _ t.val h7 (y 1) (y 0) _ rfl)

/-- Every index is in the block of some run's last point. -/
theorem covered (i : S1024x1024.Idx) : ∃ t : Fin cfg0.N, (cfg0.win 2).flush t = true ∧ i ∈ ((cfg0.win 2).blk t).view.set := by
  have hN : cfg0.N = 16 := N_0
  have i0 : (i 0).val < 1024 := (i 0).isLt
  have i1 : (i 1).val < 1024 := (i 1).isLt
  obtain ⟨t, ht⟩ : ∃ t : Fin cfg0.N, t.val = (i 0).val / 512 * 8 + 7 := ⟨⟨_, by omega⟩, rfl⟩
  refine ⟨t, (flush0_2 t).mpr (by omega), ?_⟩
  obtain ⟨-, -, -, -, h0, h1⟩ := idx_facts t
  show i ∈ ((View.whole main_v4).slice (win0_2.rect t)).set
  rw [View.set_slice_whole, Rect.mem_set_unit]
  intro a
  match a with
  | ⟨0, _⟩ => show win0_2.index t 0 * 512 ≤ (i 0).val ∧ (i 0).val < win0_2.index t 0 * 512 + 512; omega
  | ⟨1, _⟩ => show win0_2.index t 1 * 1024 ≤ (i 1).val ∧ (i 1).val < win0_2.index t 1 * 1024 + 1024; omega

/-- The result array after the run. -/
theorem final (c : Dev nD) : (dats m 0 c).arrAt 2 cfg0.N
    = result (m ((c : Thread nD τ).loc main_arg1)) (m ((c : Thread nD τ).loc main_arg0)) :=
  (dats m 0 c).arrAt_eq_of_cover 2 _ (flushed_eq m c) covered

/-! ## The reference -/

/-- `result` with the factors in the reference's order. -/
theorem result_comm (ct : FVec Ideal S1x8192x1024 .f32) (mix : FVec Ideal S1x8192x1024 .f32) (i : S1024x1024.Idx) :
    result ct mix i = ∑ k : Fin 8192, ct (ix3 0 k (i 1)) * mix (ix3 0 k (i 0)) := by
  unfold result
  exact Finset.sum_congr rfl fun k _ => mul_comm _ _

open Cert.Reference11Ideal.Read in
/-- The reference's result is the same function. -/
theorem ref_eq (mix : FVec Ideal S1x8192x1024 .f32) (ct : FVec Ideal S1x8192x1024 .f32) :
    val_main_v3 (F := Ideal) mix ct = result ct mix := by
  funext i
  rw [result_comm]
  unfold val_main_v3 val_main_v2
  pointwise
  rw [Fin.sum_univ_one]

/-! ## The claim -/

/-- `Cert.algebraic_Kernel11Ideal_Reference11Ideal`: from equal arguments the call and the reference end with equal results. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => result (m ((c.tc : Thread _ _).loc main_arg1)) (m ((c.tc : Thread _ _).loc main_arg0)), ?_, ?_⟩
  · refine (θ_run defs _ _).mono (fun r h c => ?_) (Value.run_blocks (F := Ideal) m g)
    exact ⟨((h c).1).trans (final m c), (h c).2⟩
  · refine (θ_run (Cert.Reference11Ideal.defs (F := Ideal)) _ _).mono (fun r h c => ?_) (Cert.Reference11Ideal.Value.run (F := Ideal) m' g')
    refine ⟨((h c).1.trans (Cert.Reference11Ideal.Read.val_main_v3_eq ..)).trans ?_, (h c).2⟩
    obtain ⟨e0, e1⟩ := hargs c
    rw [e0, e1]
    exact ref_eq _ _

end Cert.Proof.MmOutDw
-- ==== Proof.MmInDx.lean ====
module

public import proofs.«01_k».proof.Defs
public import proofs.«01_k».proof.Proof.Acc
public import proofs.«01_k».proof.Proof.Norm
public import proofs.«01_k».proof.Proof.Gen.Kernel12Ideal.Value
public import proofs.«01_k».proof.Proof.Gen.Reference12Ideal.Read
public import Idealize.ShloMosaic.Lib.Pointwise
public import Idealize.ShloMosaic.Lib.Tactic
public import Idealize.ShloMosaic.Lib.Pipeline.ReadBack
public import Idealize.ShloMosaic.Lib.StableHlo.ReadAt

/-!
# The gradient of the input projection and the first norm

`x ↦ norm1 x · w_in` on 8192 rows: the gradient in `x`, added to what comes in beside the norm, and in the norm's weight, 256 rows at
a time; the weight's gradient accumulates over the points.
-/

@[expose] public section
set_option maxRecDepth 16384
noncomputable section
namespace Cert.Proof.MmInDx
open Idealize.ShloMosaic Idealize.SL.Sem Cert.Kernel12Ideal
open Cert.Kernel12Ideal.Gen Idealize.ShloMosaic.TcCoe
open Idealize.ShloMosaic.Pipeline (Dat Cfg Window)

/-- A block's product with the weight: the cotangent of the norm's output. -/
def bDh (x0 : Vec Ideal S256x3328 .bf16) (x1 : Vec Ideal S1024x3328 .bf16) (p : Fin 256) (d : Fin 1024) : EReal :=
  ∑ f : Fin 3328, x0 (ix2 p f) * x1 (ix2 d f)

/-- The block of the input gradient. -/
def bDx (x0 : Vec Ideal S256x3328 .bf16) (x1 : Vec Ideal S1024x3328 .bf16) (x2 : Vec Ideal S256x1024 .f32)
    (x3 : Vec Ideal S1x1024 .f32) (x4 : Vec Ideal S256x1024 .f32) : Vec Ideal S256x1024 .f32 := fun y =>
  Norm.dx (fun k => x2 (ix2 (y 0) k)) (fun k => bDh x0 x1 (y 0) k * x3 (ix2 0 k)) (fun k => x4 (ix2 (y 0) k)) (y 1)

/-- What a block adds to the weight's gradient. -/
def bDn (x0 : Vec Ideal S256x3328 .bf16) (x1 : Vec Ideal S1024x3328 .bf16) (x2 : Vec Ideal S256x1024 .f32) (d : Fin 1024) : EReal :=
  ∑ p : Fin 256, x2 (ix2 p d) * Norm.rs (fun k => x2 (ix2 p k)) * bDh x0 x1 p d

section body
variable (c : Dev nD) (i : grid0.Coords)
  (arg1 : Memref sig .tc .vmem S256x3328 .bf16) (harg1 : arg1.IsWhole)
  (arg2 : Memref sig .tc .vmem S1024x3328 .bf16) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x1024 .f32) (harg7 : arg7.IsWhole)
  (x0 : Vec Ideal S256x3328 .bf16) (x1 : Vec Ideal S1024x3328 .bf16) (x2 : Vec Ideal S256x1024 .f32) (x3 : Vec Ideal S1x1024 .f32)
  (x4 : Vec Ideal S256x1024 .f32) (x6 : Vec Ideal S1x1024 .f32)

theorem pay4 (p : Fin 256) (d : Fin 1024) : k0_pay4 x0 x1 (ix2 p d) = bDh x0 x1 p d := by
  unfold k0_pay4 bDh
  pointwise

theorem pay5 (p : Fin 256) (d : Fin 1024) : k0_pay5 x2 (ix2 p d) = x2 (ix2 p d) := by
  unfold k0_pay5
  pointwise

theorem pay7 (p : Fin 256) : k0_pay7 x2 (ix2 p 0) = Norm.rs fun k => x2 (ix2 p k) := by
  unfold k0_pay7 k0_pay6 k0_pay5 Norm.rs Norm.ms Norm.cLen Norm.cEps
  pointwise

theorem pay6 (p : Fin 256) : k0_pay6 x2 (ix2 p 0) = Norm.ms fun k => x2 (ix2 p k) := by
  unfold k0_pay6 k0_pay5 Norm.ms Norm.cLen Norm.cEps
  pointwise

theorem pay9 (p : Fin 256) (d : Fin 1024) : k0_pay9 x0 x1 x3 (ix2 p d) = bDh x0 x1 p d * x3 (ix2 0 d) := by
  rw [← pay4]
  unfold k0_pay9
  pointwise

theorem pay11 (p : Fin 256) :
    k0_pay11 x0 x1 x2 x3 (ix2 p 0) = Norm.dms (fun k => x2 (ix2 p k)) (fun k => bDh x0 x1 p k * x3 (ix2 0 k)) := by
  unfold k0_pay11 Norm.dms Norm.drs Norm.cLen Norm.cHalf
  pointwise
  simp only [Fin.sum_univ_one, pay5, pay6, pay7, pay9]

/-- The stored block of the input gradient. -/
theorem pay_dx : k0_pay1 (k0_pay5 x2) (k0_pay10 x0 x1 x2 x3) (k0_pay11 x0 x1 x2 x3) x4 = bDx x0 x1 x2 x3 x4 := by
  funext y
  obtain ⟨p, d, rfl⟩ : ∃ (p : Fin 256) (d : Fin 1024), y = ix2 p d := ⟨y 0, y 1, eq_ix2 y⟩
  unfold k0_pay1 k0_pay10 bDx Norm.dx
  pointwise
  simp only [pay5, pay7, pay9, pay11]

/-- What is added to the weight's gradient. -/
theorem pay_dn (z : Vec Ideal S1x1024 .f32) : k0_pay2 (k0_pay8 x0 x1 x2) z = fun y => z y + bDn x0 x1 x2 (y 1) := by
  funext y
  obtain ⟨u, d, rfl⟩ : ∃ (u : Fin 1) (d : Fin 1024), y = ix2 u d := ⟨y 0, y 1, eq_ix2 y⟩
  obtain rfl : u = 0 := Subsingleton.elim _ _
  unfold k0_pay2 k0_pay8 bDn
  pointwise
  simp only [pay4, pay5, pay7]

theorem out_A5 (hc0 : cond0_0 i) : out0_A_5 c i arg1 harg1 arg2 harg2 arg3 harg3 arg4 harg4 arg5 harg5 arg6 harg6 arg7 harg7 hc0 x0 x1 x2 x3 x4
    = bDx x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread, harg7.read_unread]
  rw [View.canon_cons_unit_lit _ _ _ (by decide), View.ld_unit_lit inb_S256x3328_S256x3328_0_0 x0 (by decide),
    View.ld_unit_lit inb_S1024x3328_S1024x3328_0_0 x1 (by decide), View.ld_unit_lit inb_S256x1024_S256x1024_0_0 x2 (by decide),
    View.ld_unit_lit inb_S1x1024_S1x1024_0_0 x3 (by decide), View.ld_unit_lit inb_S256x1024_S256x1024_0_0 x4 (by decide)]
  exact pay_dx x0 x1 x2 x3 x4

theorem out_A6 (hc0 : cond0_0 i) : out0_A_6 c i arg1 harg1 arg2 harg2 arg3 harg3 arg4 harg4 arg5 harg5 arg6 harg6 arg7 harg7 hc0 x0 x1 x2 x3 x4
    = fun y => 0 + bDn x0 x1 x2 (y 1) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread, harg7.read_unread]
  rw [View.canon_cons_unit_lit _ _ _ (by decide), View.ld_unit_lit inb_S256x3328_S256x3328_0_0 x0 (by decide),
    View.ld_unit_lit inb_S1024x3328_S1024x3328_0_0 x1 (by decide), View.ld_unit_lit inb_S256x1024_S256x1024_0_0 x2 (by decide), View.readCov_unit_lit _ _ _ (by decide)]
  refine (pay_dn x0 x1 x2 _).trans (funext fun y => congrArg (· + bDn x0 x1 x2 (y 1)) ?_)
  unfold k0_pay3
  pointwise

theorem out_B5 (hc0 : ¬cond0_0 i) : out0_B_5 c i arg1 harg1 arg2 harg2 arg3 harg3 arg4 harg4 arg5 harg5 arg6 harg6 arg7 harg7 hc0 x0 x1 x2 x3 x4 x6
    = bDx x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 x6)]
  unfold kernelRun0_B
  dsimp only
  sl_unfold_words
  simp only [View.readAt_eq_ld, harg1.read_unread, harg2.read_unread, harg3.read_unread, harg4.read_unread, harg5.read_unread, harg7.read_unread]
  rw [View.canon_cons_unit_lit _ _ _ (by decide), View.ld_unit_lit inb_S256x3328_S256x3328_0_0 x0 (by decide),
    View.ld_unit_lit inb_S1024x3328_S1024x3328_0_0 x1 (by decide), View.ld_unit_lit inb_S256x1024_S256x1024_0_0 x2 (by decide),
    View.ld_unit_lit inb_S1x1024_S1x1024_0_0 x3 (by decide), View.ld_unit_lit inb_S256x1024_S256x1024_0_0 x4 (by decide)]
  exact pay_dx x0 x1 x2 x3 x4

theorem out_B6 (hc0 : ¬cond0_0 i) : out0_B_6 c i arg1 harg1 arg2 harg2 arg3 harg3 arg4 harg4 arg5 harg5 arg6 harg6 arg7 harg7 hc0 x0 x1 x2 x3 x4 x6
    = fun y => x6 y + bDn x0 x1 x2 (y 1) := by
  unfold out0_B_6
  rw [View.read_writes_eq_canon _ _ _ (cover0_B_6 c i arg1 harg1 arg2 harg2 arg3 harg3 arg4 harg4 arg5 harg5 arg6 harg6 arg7 harg7 hc0 x0 x1 x2 x3 x4 x6)]
  unfold kernelRun0_B
  dsimp only
  sl_unfold_words
  simp only [View.readAt_eq_ld, harg1.read_unread, harg2.read_unread, harg3.read_unread, harg4.read_unread, harg5.read_unread, harg7.read_unread]
  rw [View.canon_cons_unit_lit _ _ _ (by decide), View.ld_unit_lit inb_S256x3328_S256x3328_0_0 x0 (by decide),
    View.ld_unit_lit inb_S1024x3328_S1024x3328_0_0 x1 (by decide), View.ld_unit_lit inb_S256x1024_S256x1024_0_0 x2 (by decide), View.ld_unit_lit inb_S1x1024_S1x1024_0_0 x6 (by decide)]
  exact pay_dn x0 x1 x2 x6

end body

/-! ## The whole arrays -/

/-- The cotangent of the norm's output. -/
def dh (w : FVec Ideal S1x1024x3328 .f32) (ct : FVec Ideal S1x8192x3328 .f32) (r : Fin 8192) (d : Fin 1024) : EReal :=
  ∑ f : Fin 3328, ct (ix3 0 r f) * w (ix3 0 d f)

/-- The input gradient. -/
def resDx (x : FVec Ideal S1x8192x1024 .f32) (nw : FVec Ideal S1x1024 .f32) (w : FVec Ideal S1x1024x3328 .f32)
    (ct : FVec Ideal S1x8192x3328 .f32) (res : FVec Ideal S1x8192x1024 .f32) (r : Fin 8192) (d : Fin 1024) : EReal :=
  Norm.dx (fun k => x (ix3 0 r k)) (fun k => dh w ct r k * nw (ix2 0 k)) (fun k => res (ix3 0 r k)) d

/-- One row's part of the norm weight's gradient. -/
def rowDn (x : FVec Ideal S1x8192x1024 .f32) (w : FVec Ideal S1x1024x3328 .f32) (ct : FVec Ideal S1x8192x3328 .f32)
    (r : Fin 8192) (d : Fin 1024) : EReal :=
  x (ix3 0 r d) * Norm.rs (fun k => x (ix3 0 r k)) * dh w ct r d

variable (m : (ℓ : Loc nD τ sig) → Buf (Elt Ideal) ℓ)

/-- The arguments of the call on device `c`. -/
abbrev aX (c : Dev nD) := m ((c : Thread nD τ).loc main_arg0)
abbrev aN (c : Dev nD) := m ((c : Thread nD τ).loc main_arg1)
abbrev aW (c : Dev nD) := m ((c : Thread nD τ).loc main_arg2)
abbrev aC (c : Dev nD) := m ((c : Thread nD τ).loc main_arg3)
abbrev aR (c : Dev nD) := m ((c : Thread nD τ).loc main_arg4)

theorem V_c (c : Dev nD) (j : S8192x3328.Idx) : V m c main_v1 j = aC m c (ix3 0 (j 0) (j 1)) := by
  unfold V; after_reads_at

theorem V_w (c : Dev nD) (j : S1024x3328.Idx) : V m c main_v3 j = aW m c (ix3 0 (j 0) (j 1)) := by
  unfold V; after_reads_at

theorem V_x (c : Dev nD) (j : S8192x1024.Idx) : V m c main_v4 j = aX m c (ix3 0 (j 0) (j 1)) := by
  unfold V; after_reads_at

theorem V_r (c : Dev nD) (j : S8192x1024.Idx) : V m c main_v5 j = aR m c (ix3 0 (j 0) (j 1)) := by
  unfold V; after_reads_at

theorem V_n (c : Dev nD) (j : S1x1024.Idx) : V m c main_arg1 j = aN m c j := by
  unfold V; after_reads_at

/-- The blocks each point stages and writes. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = 0 ∧ win0_6.index t 1 = 0 :=
  (by decide +kernel : ∀ t : Fin grid0.N, _)

/-- Row `p` of point `n`'s block. -/
abbrev row (n : ℕ) (p : Fin 256) : Fin 8192 := Fin.ofNat 8192 (n * 256 + p.val)

theorem iblk0 (c : Dev nD) (t : Fin cfg0.N) (p : Fin 256) (d : Fin 3328) : iblk m c 0 t (ix2 p d) = aC m c (ix3 0 (row t.val p) d) := by
  unfold iblk
  rw [View.read_apply]
  refine (V_c m c _).trans (congrArg (aC m c) ?_)
  have hN : cfg0.N = 32 := N_0
  have ht := t.isLt
  obtain ⟨h0, h1, -⟩ := idx_facts t
  funext a; apply Fin.ext
  match a with
  | ⟨0, _⟩ => rfl
  | ⟨1, _⟩ => show win0_0.index t 0 * 256 + 1 * p.val = (t.val * 256 + p.val) % 8192; omega
  | ⟨2, _⟩ => show win0_0.index t 1 * 3328 + 1 * d.val = d.val; omega

theorem iblk1 (c : Dev nD) (t : Fin cfg0.N) (d : Fin 1024) (f : Fin 3328) : iblk m c 1 t (ix2 d f) = aW m c (ix3 0 d f) := by
  unfold iblk
  rw [View.read_apply]
  refine (V_w m c _).trans (congrArg (aW m c) ?_)
  obtain ⟨-, -, h0, h1, -⟩ := idx_facts t
  funext a; apply Fin.ext
  match a with
  | ⟨0, _⟩ => rfl
  | ⟨1, _⟩ => show win0_1.index t 0 * 1024 + 1 * d.val = d.val; omega
  | ⟨2, _⟩ => show win0_1.index t 1 * 3328 + 1 * f.val = f.val; omega

theorem iblk2 (c : Dev nD) (t : Fin cfg0.N) (p : Fin 256) (d : Fin 1024) : iblk m c 2 t (ix2 p d) = aX m c (ix3 0 (row t.val p) d) := by
  unfold iblk
  rw [View.read_apply]
  refine (V_x m c _).trans (congrArg (aX m c) ?_)
  have hN : cfg0.N = 32 := N_0
  have ht := t.isLt
  obtain ⟨-, -, -, -, h0, h1, -⟩ := idx_facts t
  funext a; apply Fin.ext
  match a with
  | ⟨0, _⟩ => rfl
  | ⟨1, _⟩ => show win0_2.index t 0 * 256 + 1 * p.val = (t.val * 256 + p.val) % 8192; omega
  | ⟨2, _⟩ => show win0_2.index t 1 * 1024 + 1 * d.val = d.val; omega

theorem iblk3 (c : Dev nD) (t : Fin cfg0.N) (d : Fin 1024) : iblk m c 3 t (ix2 0 d) = aN m c (ix2 0 d) := by
  unfold iblk
  rw [View.read_apply]
  refine (V_n m c _).trans (congrArg (aN m c) ?_)
  obtain ⟨-, -, -, -, -, -, h0, h1, -⟩ := idx_facts t
  funext a; apply Fin.ext
  match a with
  | ⟨0, _⟩ => show win0_3.index t 0 * 1 + 1 * 0 = 0; omega
  | ⟨1, _⟩ => show win0_3.index t 1 * 1024 + 1 * d.val = d.val; omega

theorem iblk4 (c : Dev nD) (t : Fin cfg0.N) (p : Fin 256) (d : Fin 1024) : iblk m c 4 t (ix2 p d) = aR m c (ix3 0 (row t.val p) d) := by
  unfold iblk
  rw [View.read_apply]
  refine (V_r m c _).trans (congrArg (aR m c) ?_)
  have hN : cfg0.N = 32 := N_0
  have ht := t.isLt
  obtain ⟨-, -, -, -, -, -, -, -, h0, h1, -⟩ := idx_facts t
  funext a; apply Fin.ext
  match a with
  | ⟨0, _⟩ => rfl
  | ⟨1, _⟩ => show win0_4.index t 0 * 256 + 1 * p.val = (t.val * 256 + p.val) % 8192; omega
  | ⟨2, _⟩ => show win0_4.index t 1 * 1024 + 1 * d.val = d.val; omega

theorem bDh_eq (c : Dev nD) (t : Fin cfg0.N) (p : Fin 256) (d : Fin 1024) :
    bDh (iblk m c 0 t) (iblk m c 1 t) p d = dh (aW m c) (aC m c) (row t.val p) d := by
  unfold bDh dh
  simp only [iblk0 m c t, iblk1 m c t]

/-- Point `t`'s block of the input gradient. -/
theorem bDx_eq (c : Dev nD) (t : Fin cfg0.N) (p : Fin 256) (d : Fin 1024) :
    bDx (iblk m c 0 t) (iblk m c 1 t) (iblk m c 2 t) (iblk m c 3 t) (iblk m c 4 t) (ix2 p d)
      = resDx (aX m c) (aN m c) (aW m c) (aC m c) (aR m c) (row t.val p) d := by
  unfold bDx resDx
  show Norm.dx (fun k => iblk m c 2 t (ix2 p k)) (fun k => bDh _ _ p k * iblk m c 3 t (ix2 0 k)) (fun k => iblk m c 4 t (ix2 p k)) d = _
  simp only [bDh_eq m c t, iblk2 m c t, iblk3 m c t, iblk4 m c t]

/-- What point `n` adds to the norm weight's gradient, in the arguments. -/
def step (x : FVec Ideal S1x8192x1024 .f32) (w : FVec Ideal S1x1024x3328 .f32) (ct : FVec Ideal S1x8192x3328 .f32)
    (n : ℕ) (d : Fin 1024) : EReal := ∑ p : Fin 256, rowDn x w ct (row n p) d

theorem bDn_eq (c : Dev nD) (t : Fin cfg0.N) (d : Fin 1024) :
    bDn (iblk m c 0 t) (iblk m c 1 t) (iblk m c 2 t) d = step (aX m c) (aW m c) (aC m c) t.val d := by
  unfold bDn step rowDn
  simp only [bDh_eq m c t, iblk2 m c t]

/-- What every point leaves in its block of the input gradient. -/
theorem outs_dx (c : Dev nD) (t : Fin cfg0.N) :
    (outsAt0 m c t.val t.isLt).1 = bDx (iblk m c 0 t) (iblk m c 1 t) (iblk m c 2 t) (iblk m c 3 t) (iblk m c 4 t) := by
  by_cases h0 : t.val % 32 = 0
  · rw [outsAt0_A m c t h0]
    dsimp only
    rw [out_A5]
  · rw [outsAt0_B m c t h0]
    dsimp only
    rw [out_B5]

/-- What the accumulator of the norm weight's gradient holds after point `n`. -/
theorem acc_eq (c : Dev nD) (n : ℕ) (h : n < cfg0.N) (y : S1x1024.Idx) :
    (outsAt0 m c n h).2 y = ∑ s ∈ Finset.range (n % 32 + 1), step (aX m c) (aW m c) (aC m c) (n - n % 32 + s) (y 1) :=
  Acc.fold 32 (by decide) (fun n h => (outsAt0 m c n h).2) (fun n y => step (aX m c) (aW m c) (aC m c) n (y 1))
    (fun n h hn y => by
      rw [outsAt0_A m c ⟨n, h⟩ hn, out_A6]
      exact congrArg (0 + ·) (bDn_eq m c ⟨n, h⟩ (y 1)))
    (fun n h hn y => by
      rw [outsAt0_B m c ⟨n, h⟩ hn, out_B6]
      exact congrArg (_ + ·) (bDn_eq m c ⟨n, h⟩ (y 1))) n h y

/-- The result arrays. -/
def arrDx (c : Dev nD) : FVec Ideal S8192x1024 .f32 := fun i => resDx (aX m c) (aN m c) (aW m c) (aC m c) (aR m c) (i 0) (i 1)
def arrDn (c : Dev nD) : FVec Ideal S1x1024 .f32 := fun i => ∑ r : Fin 8192, rowDn (aX m c) (aW m c) (aC m c) r (i 1)

theorem flushed5_eq (c : Dev nD) (t : Fin cfg0.N) :
    (dats m 0 c).flushed 5 t = ((cfg0.win 5).blk t).view.read (Elt Ideal) (arrDx m c) := by
  rw [Value.flushed5, outs_dx m c t]
  have hN : cfg0.N = 32 := N_0
  have ht := t.isLt
  funext y
  obtain ⟨p, d, rfl⟩ : ∃ (p : Fin 256) (d : Fin 1024), y = ix2 p d := ⟨y 0, y 1, eq_ix2 y⟩
  obtain ⟨-, -, -, -, -, -, -, -, -, -, h0, h1, -⟩ := idx_facts t
  rw [View.read_apply]
  have he : ((cfg0.win 5).blk t).view.emb (ix2 p d) = ix2 (row t.val p) d := by
    funext a; apply Fin.ext
    match a with
    | ⟨0, _⟩ => show win0_5.index t 0 * 256 + 1 * p.val = (t.val * 256 + p.val) % 8192; omega
    | ⟨1, _⟩ => show win0_5.index t 1 * 1024 + 1 * d.val = d.val; omega
  rw [he]
  exact bDx_eq m c t p d

/-- After the last point the accumulator holds the sum over all rows. -/
theorem block_eq (x : FVec Ideal S1x8192x1024 .f32) (w : FVec Ideal S1x1024x3328 .f32) (ct : FVec Ideal S1x8192x3328 .f32)
    (d : Fin 1024) :
    ∑ s ∈ Finset.range (31 + 1), step x w ct (0 + s) d = ∑ r : Fin 8192, rowDn x w ct r d := by
  obtain ⟨G, hG⟩ : ∃ G : ℕ → EReal, ∀ q, G q = rowDn x w ct (Fin.ofNat 8192 q) d := ⟨_, fun _ => rfl⟩
  have hstep : ∀ s ∈ Finset.range (31 + 1), step x w ct (0 + s) d = ∑ p : Fin 256, G (s * 256 + p.val) := by
    intro s _
    unfold step
    rw [Nat.zero_add]
    exact Finset.sum_congr rfl fun p _ => (hG _).symm
  rw [Finset.sum_congr rfl hstep, Acc.sum_blocks 32 256 8192 rfl G]
  refine Finset.sum_congr rfl fun r _ => ?_
  have hr : Fin.ofNat 8192 r.val = r := Fin.ext (Nat.mod_eq_of_lt r.isLt)
  rw [hG, hr]

theorem flushed6_eq (c : Dev nD) (t : Fin cfg0.N) (hf : (cfg0.win 6).flush t = true) :
    (dats m 0 c).flushed 6 t = ((cfg0.win 6).blk t).view.read (Elt Ideal) (arrDn m c) := by
  have h31 : t.val % 32 = 31 := (flush0_6 t).mp hf
  have hN : cfg0.N = 32 := N_0
  have ht := t.isLt
  rw [Value.flushed6]
  funext y
  obtain ⟨u, d, rfl⟩ : ∃ (u : Fin 1) (d : Fin 1024), y = ix2 u d := ⟨y 0, y 1, eq_ix2 y⟩
  obtain ⟨-, -, -, -, -, -, -, -, -, -, -, -, h0, h1⟩ := idx_facts t
  rw [View.read_apply]
  have he : ((cfg0.win 6).blk t).view.emb (ix2 u d) = ix2 u d := by
    funext a; apply Fin.ext
    match a with
    | ⟨0, _⟩ => show win0_6.index t 0 * 1 + 1 * u.val = u.val; omega
    | ⟨1, _⟩ => show win0_6.index t 1 * 1024 + 1 * d.val = d.val; omega
  rw [he]
  have e0 : t.val - 31 = 0 := by omega
  refine (acc_eq m c t.val t.isLt (ix2 u d)).trans ?_
  rw [h31, e0]
  exact block_eq _ _ _ d

theorem covered5 (i : S8192x1024.Idx) : ∃ t : Fin cfg0.N, (cfg0.win 5).flush t = true ∧ i ∈ ((cfg0.win 5).blk t).view.set := by
  have hN : cfg0.N = 32 := N_0
  have i0 : (i 0).val < 8192 := (i 0).isLt
  have i1 : (i 1).val < 1024 := (i 1).isLt
  obtain ⟨t, ht⟩ : ∃ t : Fin cfg0.N, t.val = (i 0).val / 256 := ⟨⟨_, by omega⟩, rfl⟩
  refine ⟨t, flush0_5 t, ?_⟩
  obtain ⟨-, -, -, -, -, -, -, -, -, -, h0, h1, -⟩ := idx_facts t
  show i ∈ ((View.whole main_v6_0).slice (win0_5.rect t)).set
  rw [View.set_slice_whole, Rect.mem_set_unit]
  intro a
  match a with
  | ⟨0, _⟩ => show win0_5.index t 0 * 256 ≤ (i 0).val ∧ (i 0).val < win0_5.index t 0 * 256 + 256; omega
  | ⟨1, _⟩ => show win0_5.index t 1 * 1024 ≤ (i 1).val ∧ (i 1).val < win0_5.index t 1 * 1024 + 1024; omega

theorem covered6 (i : S1x1024.Idx) : ∃ t : Fin cfg0.N, (cfg0.win 6).flush t = true ∧ i ∈ ((cfg0.win 6).blk t).view.set := by
  have hN : cfg0.N = 32 := N_0
  have i0 : (i 0).val < 1 := (i 0).isLt
  have i1 : (i 1).val < 1024 := (i 1).isLt
  obtain ⟨t, ht⟩ : ∃ t : Fin cfg0.N, t.val = 31 := ⟨⟨31, by omega⟩, rfl⟩
  refine ⟨t, (flush0_6 t).mpr (by omega), ?_⟩
  obtain ⟨-, -, -, -, -, -, -, -, -, -, -, -, h0, h1⟩ := idx_facts t
  show i ∈ ((View.whole main_v6_1).slice (win0_6.rect t)).set
  rw [View.set_slice_whole, Rect.mem_set_unit]
  intro a
  match a with
  | ⟨0, _⟩ => show win0_6.index t 0 * 1 ≤ (i 0).val ∧ (i 0).val < win0_6.index t 0 * 1 + 1; omega
  | ⟨1, _⟩ => show win0_6.index t 1 * 1024 ≤ (i 1).val ∧ (i 1).val < win0_6.index t 1 * 1024 + 1024; omega

/-- The result arrays after the run. -/
theorem final5 (c : Dev nD) : (dats m 0 c).arrAt 5 cfg0.N = arrDx m c :=
  (dats m 0 c).arrAt_eq_of_cover 5 _ (fun t _ => flushed5_eq m c t) covered5
theorem final6 (c : Dev nD) : (dats m 0 c).arrAt 6 cfg0.N = arrDn m c :=
  (dats m 0 c).arrAt_eq_of_cover 6 _ (flushed6_eq m c) covered6

/-! ## The reference -/

section reference
open Cert.Reference12Ideal.Read
variable (x : FVec Ideal S1x8192x1024 .f32) (nw : FVec Ideal S1x1024 .f32) (w : FVec Ideal S1x1024x3328 .f32)
  (ct : FVec Ideal S1x8192x3328 .f32) (res : FVec Ideal S1x8192x1024 .f32)

theorem ref_dh (r : Fin 8192) (d : Fin 1024) : val_main_v19 (F := Ideal) w ct (ix3 0 r d) = dh w ct r d := by
  unfold val_main_v19 val_main_v17 dh
  pointwise

theorem ref_rs (r : Fin 8192) : val_main_v8 (F := Ideal) x (ix3 0 r 0) = Norm.rs fun k => x (ix3 0 r k) := by
  unfold val_main_v8 val_main_v7 val_main_v6 val_main_v5 val_main_v4 val_main_v3 val_main_v2 val_main_v1
    val_main_cst val_main_cst_0 val_main_cst_1 Norm.rs Norm.ms Norm.cLen Norm.cEps
  pointwise

theorem ref_drs (r : Fin 8192) : val_main_v11 (F := Ideal) x (ix3 0 r 0) = Norm.drs fun k => x (ix3 0 r k) := by
  unfold val_main_v11 val_main_v10 val_main_v9 val_main_v8 val_main_v7 val_main_v6 val_main_v5 val_main_v4 val_main_v3 val_main_v2 val_main_v1
    val_main_cst val_main_cst_0 val_main_cst_1 val_main_cst_2 Norm.drs Norm.rs Norm.ms Norm.cLen Norm.cEps Norm.cHalf
  pointwise

theorem ref_g (r : Fin 8192) (d : Fin 1024) :
    val_main_v24 (F := Ideal) nw w ct (ix3 0 r d) = dh w ct r d * nw (ix2 0 d) := by
  rw [← ref_dh]
  unfold val_main_v24 val_main_v23 val_main_v14 val_main_v0
  pointwise

/-- The sum over a row's two unit axes. -/
theorem ref_unit (r : Fin 8192) : val_main_v35 (F := Ideal) x nw w ct (ix1 r) = val_main_v34 (F := Ideal) x nw w ct (ix3 0 r 0) := by
  refine (congrArg (fun z => Ideal.hostReduceAdd Cert.Reference12Ideal.Gen.reducesTo_S1x8192x1_S8192_d0_2 _ z (ix1 r)) Ideal.ofBits_zero_f32).trans
    (Acc.reduce_unit Cert.Reference12Ideal.Gen.reducesTo_S1x8192x1_S8192_d0_2 _ (ix1 r) (ix3 0 r 0) ?_ fun i hi => ?_)
  · funext a; apply Fin.ext
    match a with
    | ⟨0, _⟩ => exact Shape.ReducesTo.drop_apply_val_of_eq _ (ix3 0 r 0) ⟨0, by decide⟩ 1
  · have h := congrArg (fun j => (j 0).val) hi
    have h1 : (i 1).val = r.val := (Shape.ReducesTo.drop_apply_val_of_eq _ i ⟨0, by decide⟩ 1).symm.trans h
    have i0 : (i 0).val < 1 := (i 0).isLt
    have i2 : (i 2).val < 1 := (i 2).isLt
    funext a; apply Fin.ext
    match a with
    | ⟨0, _⟩ => show (i 0).val = 0; omega
    | ⟨1, _⟩ => exact h1
    | ⟨2, _⟩ => show (i 2).val = 0; omega

/-- The sum over the weight gradient's two unit axes. -/
theorem ref_unit' (d : Fin 1024) : val_main_v25 (F := Ideal) x w ct (ix1 d) = val_main_v22 (F := Ideal) x w ct (ix3 0 0 d) := by
  refine (congrArg (fun z => Ideal.hostReduceAdd Cert.Reference12Ideal.Gen.reducesTo_S1x1x1024_S1024_d0_1 _ z (ix1 d)) Ideal.ofBits_zero_f32).trans
    (Acc.reduce_unit Cert.Reference12Ideal.Gen.reducesTo_S1x1x1024_S1024_d0_1 _ (ix1 d) (ix3 0 0 d) ?_ fun i hi => ?_)
  · funext a; apply Fin.ext
    match a with
    | ⟨0, _⟩ => exact Shape.ReducesTo.drop_apply_val_of_eq _ (ix3 0 0 d) ⟨0, by decide⟩ 2
  · have h := congrArg (fun j => (j 0).val) hi
    have h1 : (i 2).val = d.val := (Shape.ReducesTo.drop_apply_val_of_eq _ i ⟨0, by decide⟩ 2).symm.trans h
    have i0 : (i 0).val < 1 := (i 0).isLt
    have i1 : (i 1).val < 1 := (i 1).isLt
    funext a; apply Fin.ext
    match a with
    | ⟨0, _⟩ => show (i 0).val = 0; omega
    | ⟨1, _⟩ => show (i 1).val = 0; omega
    | ⟨2, _⟩ => exact h1

theorem ref_dms (r : Fin 8192) (d : Fin 1024) :
    val_main_v37 (F := Ideal) x nw w ct (ix3 0 r d)
      = Norm.dms (fun k => x (ix3 0 r k)) fun k => dh w ct r k * nw (ix2 0 k) := by
  unfold val_main_v37 val_main_v36
  pointwise
  rw [ref_unit]
  unfold val_main_v34 val_main_v33 val_main_v32 val_main_v28 val_main_v27 val_main_v26
    val_main_cst_5 val_main_cst_6 Norm.dms Norm.cLen
  pointwise
  simp only [ref_drs, ref_g]

theorem ref_dx (r : Fin 8192) (d : Fin 1024) :
    val_main_v41 (F := Ideal) x nw w ct res (ix3 0 r d) = resDx x nw w ct res r d := by
  unfold val_main_v41 val_main_v40 val_main_v39 val_main_v38 val_main_v31 val_main_v30 val_main_v29 resDx
  pointwise
  simp only [ref_dms, ref_g, ref_rs]
  exact Norm.dx_eq (fun k => x (ix3 0 r k)) (fun k => dh w ct r k * nw (ix2 0 k)) (fun k => res (ix3 0 r k)) d

theorem ref_dn (d : Fin 1024) : val_main_v42 (F := Ideal) x w ct (ix2 0 d) = ∑ r : Fin 8192, rowDn x w ct r d := by
  unfold val_main_v42
  pointwise
  rw [ref_unit']
  unfold val_main_v22 val_main_v21 val_main_v20 val_main_v13 val_main_v12 val_main_cst_3 rowDn
  pointwise
  simp only [ref_dh, ref_rs]

end reference

/-! ## The claim -/

/-- `Cert.algebraic_Kernel12Ideal_Reference12Ideal`: from equal arguments the call and the reference end with equal results. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => arrDx m c, fun c => arrDn m c, ?_, ?_⟩
  · refine (θ_run defs _ _).mono (fun r h c => ?_) (Value.run_blocks (F := Ideal) m g)
    obtain ⟨h5, h6, hk⟩ := h c
    exact ⟨h5.trans (final5 m c), h6.trans (final6 m c), hk⟩
  · refine (θ_run (Cert.Reference12Ideal.defs (F := Ideal)) _ _).mono (fun r h c => ?_) (Cert.Reference12Ideal.Value.run (F := Ideal) m' g')
    obtain ⟨r0, r1, hk⟩ := h c
    obtain ⟨h0, h1, h2, h3, h4⟩ := hargs c
    refine ⟨(r0.trans (Cert.Reference12Ideal.Read.val_main_v43_eq m' c)).trans ?_, (r1.trans (Cert.Reference12Ideal.Read.val_main_v42_eq ..)).trans ?_, hk⟩
    · rw [h0, h1, h2, h3, h4]
      funext i
      obtain ⟨r, d, rfl⟩ : ∃ (r : Fin 8192) (d : Fin 1024), i = ix2 r d := ⟨i 0, i 1, eq_ix2 i⟩
      unfold Cert.Reference12Ideal.Read.val_main_v43
      pointwise
      exact ref_dx _ _ _ _ _ r d
    · rw [h0, h2, h3]
      funext i
      obtain ⟨u, d, rfl⟩ : ∃ (u : Fin 1) (d : Fin 1024), i = ix2 u d := ⟨i 0, i 1, eq_ix2 i⟩
      obtain rfl : u = 0 := Subsingleton.elim _ _
      exact ref_dn _ _ _ d

end Cert.Proof.MmInDx
-- ==== Proof.FaTrip.lean ====
module

public import proofs.«01_k».proof.Proof.Gen.Kernel13Ideal.Loops
public import Idealize.ShloMosaic.Lib.Pipeline.ReadBack
public import Idealize.ShloMosaic.Lib.VecWindow
public import Idealize.ShloMosaic.Lib.WritesUnit

/-!
# One trip over the key blocks

A trip of the backward attention's loop takes the eight query strips of its point one by one against the same 512 keys. Here the
trip is put in terms of one strip: strip `c` adds to its query gradient, and to the two key tiles of the trip.
-/

@[expose] public section
set_option maxRecDepth 16384
noncomputable section
namespace Cert.Proof.FaTrip
open Idealize.ShloMosaic Idealize.SL.Sem Cert.Kernel13Ideal
open Cert.Kernel13Ideal.Gen Idealize.ShloMosaic.TcCoe

variable {F : FTy → Type} [FloatOps F]

/-- Strip `c` of a window of 256-row strips. -/
def rowS (c : Fin 8) : Rect S1x8x256x128 :=
  Rect.unit ![0, c.val, 0, 0] S1x1x256x128.size (by revert c; decide)

/-- Strip `c` of a window of transposed strips. -/
def rowT (c : Fin 8) : Rect S1x8x64x256 :=
  Rect.unit ![0, c.val, 0, 0] S1x1x64x256.size (by revert c; decide)

/-- The trip's key tile `e`. -/
abbrev tile (k : Fin k0_t1_loop.trips) (e : Fin 2) : Rect S1x32x64x256 :=
  Rect.unit (k0_off1 k (BitVec.ofNat 32 e.val)) S1x1x64x256.size (k0_off1_inb k e)

variable (c : Dev nD) (i : grid0.Coords)
  (arg2 : Memref sig .tc .vmem S1x8x256x128 .bf16) (harg2 : arg2.IsWhole) (arg3 : Memref sig .tc .vmem S1x8x64x256 .bf16) (harg3 : arg3.IsWhole)
  (arg4 : Memref sig .tc .vmem S1x8x256x128 .bf16) (harg4 : arg4.IsWhole) (arg5 : Memref sig .tc .vmem S1x8x64x256 .bf16) (harg5 : arg5.IsWhole)
  (arg6 : Memref sig .tc .vmem S1x8x64x256 .f32) (harg6 : arg6.IsWhole) (arg7 : Memref sig .tc .vmem S1x8x256x128 .f32) (harg7 : arg7.IsWhole)
  (arg8 : Memref sig .tc .vmem S1x8192x128 .bf16) (harg8 : arg8.IsWhole) (arg9 : Memref sig .tc .vmem S1x32x64x256 .bf16) (harg9 : arg9.IsWhole)
  (arg10 : Memref sig .tc .vmem S1x32x64x256 .bf16) (harg10 : arg10.IsWhole) (arg11 : Memref sig .tc .vmem S1x8x64x256 .f32) (harg11 : arg11.IsWhole)
  (arg12 : Memref sig .tc .vmem S1x32x64x256 .f32) (harg12 : arg12.IsWhole) (arg13 : Memref sig .tc .vmem S1x32x64x256 .f32) (harg13 : arg13.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty) (X9 : BufTy.Contents (Elt F) arg9.view.ty) (X10 : BufTy.Contents (Elt F) arg10.view.ty)
  (k : Fin k0_t1_loop.trips)

/-- The trip's keys, the 64 features over 128 rows with zeros below, and its values likewise. -/
def keysT (k : Fin k0_t1_loop.trips) : FVec F S128x512 .bf16 :=
  k0_pay3 (View.readAt (Elt F) arg9.view (tile k 0).toLoadRect X9) (View.readAt (Elt F) arg9.view (tile k 1).toLoadRect X9)

def valuesT (k : Fin k0_t1_loop.trips) : FVec F S128x512 .bf16 :=
  k0_pay4 (View.readAt (Elt F) arg10.view (tile k 0).toLoadRect X10) (View.readAt (Elt F) arg10.view (tile k 1).toLoadRect X10)

/-- The trip's keys, one a row. -/
def keysS (k : Fin k0_t1_loop.trips) : FVec F S512x128 .bf16 :=
  k0_pay5 (View.readAt (Elt F) arg8.view (Rect.unit (s := S1x8192x128) (k0_off2 k) S1x512x128.size (k0_off2_inb k)).toLoadRect X8)

/-- The log-sum-exp of strip `s`, one row of 128 equal lanes per query. -/
def lseS (s : Fin 8) : FVec F S256x128 .f32 := k0_pay143 (View.readAt (Elt F) arg7.view (rowS s).toLoadRect X7)

/-- The row sums of cotangent times output of strip `s`, laid out the same way. -/
def dotS (s : Fin 8) : FVec F S256x128 .f32 :=
  k0_pay157 (View.readAt (Elt F) arg5.view (rowT s).toLoadRect X5) (View.readAt (Elt F) arg6.view (rowT s).toLoadRect X6)

/-- Strip `s`'s scores against the trip's keys, and the same product of its cotangent with the values. -/
def scoreS (k : Fin k0_t1_loop.trips) (s : Fin 8) : FVec F S256x512 .f32 :=
  k0_pay6 (keysT arg9 X9 k) (View.readAt (Elt F) arg2.view (rowS s).toLoadRect X2)

def dprobS (k : Fin k0_t1_loop.trips) (s : Fin 8) : FVec F S256x512 .f32 :=
  k0_pay7 (valuesT arg10 X10 k) (View.readAt (Elt F) arg4.view (rowS s).toLoadRect X4)

/-- The gradient of the scores. -/
def dscoreS (k : Fin k0_t1_loop.trips) (s : Fin 8) : FVec F S256x512 .bf16 :=
  k0_pay27 (lseS arg7 X7 s) (dotS arg5 arg6 X5 X6 s) (scoreS arg2 arg9 X2 X9 k s) (dprobS arg4 arg10 X4 X10 k s)

/-- What strip `s` adds to the gradient of the trip's values, and of its keys. -/
def dvS (k : Fin k0_t1_loop.trips) (s : Fin 8) : FVec F S64x512 .f32 :=
  k0_pay28 (lseS arg7 X7 s) (scoreS arg2 arg9 X2 X9 k s) (View.readAt (Elt F) arg5.view (rowT s).toLoadRect X5)

def dkS (k : Fin k0_t1_loop.trips) (s : Fin 8) : FVec F S64x512 .f32 :=
  k0_pay29 (lseS arg7 X7 s) (dotS arg5 arg6 X5 X6 s) (scoreS arg2 arg9 X2 X9 k s) (dprobS arg4 arg10 X4 X10 k s)
    (View.readAt (Elt F) arg3.view (rowT s).toLoadRect X3)

/-- Strip `s`'s query gradient after the trip. -/
def dqS (k : Fin k0_t1_loop.trips) (s : Fin 8) (acc : FVec F S256x128 .f32) : FVec F S256x128 .f32 :=
  k0_pay34 acc (keysS arg8 X8 k) (dscoreS arg2 arg4 arg5 arg6 arg7 arg9 arg10 X2 X4 X5 X6 X7 X9 X10 k s)

/-- What the trip carries on. -/
theorem trip_value (acc : FVec F S256x128 .f32 × FVec F S256x128 .f32 × FVec F S256x128 .f32 × FVec F S256x128 .f32 × FVec F S256x128 .f32 × FVec F S256x128 .f32 × FVec F S256x128 .f32 × FVec F S256x128 .f32)
    (f12 : BufTy.Contents (Elt F) arg12.view.ty) (f13 : BufTy.Contents (Elt F) arg13.view.ty) :
    tripR_k0_t1 (F := F) Variants.none c none i arg2 harg2 arg3 harg3 arg4 harg4 arg5 harg5 arg6 harg6 arg7 harg7 arg8 harg8 arg9 harg9
        arg10 harg10 arg11 harg11 arg12 harg12 arg13 harg13
        (lseS arg7 X7 0) (lseS arg7 X7 1) (lseS arg7 X7 2) (lseS arg7 X7 3) (lseS arg7 X7 4) (lseS arg7 X7 5) (lseS arg7 X7 6) (lseS arg7 X7 7)
        (dotS arg5 arg6 X5 X6 0) (dotS arg5 arg6 X5 X6 1) (dotS arg5 arg6 X5 X6 2) (dotS arg5 arg6 X5 X6 3) (dotS arg5 arg6 X5 X6 4)
        (dotS arg5 arg6 X5 X6 5) (View.readAt (Elt F) arg5.view (rowT 6).toLoadRect X5) (View.readAt (Elt F) arg6.view (rowT 6).toLoadRect X6)
        (View.readAt (Elt F) arg5.view (rowT 7).toLoadRect X5) (View.readAt (Elt F) arg6.view (rowT 7).toLoadRect X6)
        X2 X3 X4 X5 X8 X9 X10 k acc f12 f13
      = (let d := dqS arg2 arg4 arg5 arg6 arg7 arg8 arg9 arg10 X2 X4 X5 X6 X7 X8 X9 X10 k
         (d 0 acc.1, d 1 acc.2.1, d 2 acc.2.2.1, d 3 acc.2.2.2.1, d 4 acc.2.2.2.2.1, d 5 acc.2.2.2.2.2.1, d 6 acc.2.2.2.2.2.2.1,
           d 7 acc.2.2.2.2.2.2.2)) := by
  unfold tripR_k0_t1 trip_k0_t1
  rfl

/-- A 64 by 256 key tile of the window at the offset `o`. -/
abbrev tileAt (o : Fin 4 → ℕ) (h : ∀ a, o a + S1x1x64x256.size a ≤ S1x32x64x256.size a) : Rect S1x32x64x256 := Rect.unit o S1x1x64x256.size h

section grow
variable (v : View sig .tc .vmem S1x32x64x256 .f32) (f : BufTy.Contents (Elt F) v.ty) (o0 o1 : Fin 4 → ℕ)
  (h0 : ∀ a, o0 a + S1x1x64x256.size a ≤ S1x32x64x256.size a) (h1 : ∀ a, o1 a + S1x1x64x256.size a ≤ S1x32x64x256.size a)

/-- The stores of the strips `ds`, the last one first: each adds its two halves to what the two key tiles hold. -/
def grow : List (FVec F S64x512 .f32) → List (View.Piece (Elt F) S1x32x64x256 .f32)
  | [] => []
  | [d] => [⟨tileAt o1 h1, k0_pay32 d (View.readAt (Elt F) v (tileAt o1 h1).toLoadRect f)⟩,
      ⟨tileAt o0 h0, k0_pay30 d (View.readAt (Elt F) v (tileAt o0 h0).toLoadRect f)⟩]
  | d :: d' :: ds =>
      ⟨tileAt o1 h1, k0_pay32 d (v.readCov (⟨tileAt o0 h0, k0_pay30 d (v.readCov (grow (d' :: ds)) (tileAt o0 h0).toLoadRect)⟩ :: grow (d' :: ds))
          (tileAt o1 h1).toLoadRect)⟩ ::
        ⟨tileAt o0 h0, k0_pay30 d (v.readCov (grow (d' :: ds)) (tileAt o0 h0).toLoadRect)⟩ :: grow (d' :: ds)

/-- What a list of strips leaves in the trip's tiles, from what they hold before. -/
def sum0 (a : Vec F S1x1x64x256 .f32) (ds : List (FVec F S64x512 .f32)) : Vec F S1x1x64x256 .f32 := ds.foldr (fun d a => k0_pay30 d a) a
def sum1 (a : Vec F S1x1x64x256 .f32) (ds : List (FVec F S64x512 .f32)) : Vec F S1x1x64x256 .f32 := ds.foldr (fun d a => k0_pay32 d a) a

theorem cov_first (o : Fin 4 → ℕ) (h : ∀ a, o a + S1x1x64x256.size a ≤ S1x32x64x256.size a) (w : Vec F S1x1x64x256 .f32) (L) :
    v.readCov (⟨tileAt o h, w⟩ :: L) (tileAt o h).toLoadRect = w := View.readCov_cons_toLoadRect v (tileAt o h) w L

theorem cov_second (o o' : Fin 4 → ℕ) (h h') (w w' : Vec F S1x1x64x256 .f32) (L)
    (hd : Disjoint (tileAt o h).set (tileAt o' h').toLoadRect.set) :
    v.readCov (⟨tileAt o h, w⟩ :: ⟨tileAt o' h', w'⟩ :: L) (tileAt o' h').toLoadRect = w' := by
  rw [View.readCov_cons_of_disjoint v ⟨tileAt o h, w⟩ _ _ hd]
  exact cov_first v o' h' w' L

theorem grow_eq (hd : Disjoint (tileAt o0 h0).set (tileAt o1 h1).toLoadRect.set) (hd' : Disjoint (tileAt o1 h1).set (tileAt o0 h0).toLoadRect.set)
    (ds : List (FVec F S64x512 .f32)) :  ∀ (d : FVec F S64x512 .f32),
      (grow v f o0 o1 h0 h1 (d :: ds) = ⟨tileAt o1 h1, sum1 (View.readAt (Elt F) v (tileAt o1 h1).toLoadRect f) (d :: ds)⟩ ::
        ⟨tileAt o0 h0, sum0 (View.readAt (Elt F) v (tileAt o0 h0).toLoadRect f) (d :: ds)⟩ :: grow v f o0 o1 h0 h1 ds) := by
  induction ds with
  | nil => intro d; rfl
  | cons d' ds ih =>
    intro d
    have ih := ih d'
    generalize hw1 : sum1 (View.readAt (Elt F) v (tileAt o1 h1).toLoadRect f) (d' :: ds) = w1 at ih
    generalize hw0 : sum0 (View.readAt (Elt F) v (tileAt o0 h0).toLoadRect f) (d' :: ds) = w0 at ih
    have e0 : v.readCov (grow v f o0 o1 h0 h1 (d' :: ds)) (tileAt o0 h0).toLoadRect = w0 := by
      rw [ih]; exact cov_second v o1 o0 h1 h0 w1 w0 _ hd'
    have e1 (w : Vec F S1x1x64x256 .f32) : v.readCov (⟨tileAt o0 h0, w⟩ :: grow v f o0 o1 h0 h1 (d' :: ds)) (tileAt o1 h1).toLoadRect = w1 := by
      rw [ih]; exact cov_second v o0 o1 h0 h1 w w1 _ hd
    have s0 : sum0 (View.readAt (Elt F) v (tileAt o0 h0).toLoadRect f) (d :: d' :: ds) = k0_pay30 d w0 := by rw [← hw0]; rfl
    have s1 : sum1 (View.readAt (Elt F) v (tileAt o1 h1).toLoadRect f) (d :: d' :: ds) = k0_pay32 d w1 := by rw [← hw1]; rfl
    rw [s0, s1, grow.eq_3, e1, e0]
end grow

/-- What the trip stores, for the keys and for the values. -/
theorem trip_stores (acc : FVec F S256x128 .f32 × FVec F S256x128 .f32 × FVec F S256x128 .f32 × FVec F S256x128 .f32 × FVec F S256x128 .f32 × FVec F S256x128 .f32 × FVec F S256x128 .f32 × FVec F S256x128 .f32)
    (f12 : BufTy.Contents (Elt F) arg12.view.ty) (f13 : BufTy.Contents (Elt F) arg13.view.ty) :
    tripL_k0_t1 (F := F) Variants.none c none i arg2 harg2 arg3 harg3 arg4 harg4 arg5 harg5 arg6 harg6 arg7 harg7 arg8 harg8 arg9 harg9
        arg10 harg10 arg11 harg11 arg12 harg12 arg13 harg13
        (lseS arg7 X7 0) (lseS arg7 X7 1) (lseS arg7 X7 2) (lseS arg7 X7 3) (lseS arg7 X7 4) (lseS arg7 X7 5) (lseS arg7 X7 6) (lseS arg7 X7 7)
        (dotS arg5 arg6 X5 X6 0) (dotS arg5 arg6 X5 X6 1) (dotS arg5 arg6 X5 X6 2) (dotS arg5 arg6 X5 X6 3) (dotS arg5 arg6 X5 X6 4)
        (dotS arg5 arg6 X5 X6 5) (View.readAt (Elt F) arg5.view (rowT 6).toLoadRect X5) (View.readAt (Elt F) arg6.view (rowT 6).toLoadRect X6)
        (View.readAt (Elt F) arg5.view (rowT 7).toLoadRect X5) (View.readAt (Elt F) arg6.view (rowT 7).toLoadRect X6)
        X2 X3 X4 X5 X8 X9 X10 k acc f12 f13
      = (let d := dkS arg2 arg3 arg4 arg5 arg6 arg7 arg9 arg10 X2 X3 X4 X5 X6 X7 X9 X10 k
         let w := dvS arg2 arg5 arg7 arg9 X2 X5 X7 X9 k
         (grow arg12.view f12 _ _ (k0_off1_inb k 0) (k0_off1_inb k 1) [d 7, d 6, d 5, d 4, d 3, d 2, d 1, d 0],
           grow arg13.view f13 _ _ (k0_off1_inb k 0) (k0_off1_inb k 1) [w 7, w 6, w 5, w 4, w 3, w 2, w 1, w 0])) := by
  unfold tripL_k0_t1 trip_k0_t1
  rfl

end Cert.Proof.FaTrip
-- ==== Proof.FaStrip.lean ====
module

public import proofs.«01_k».proof.Proof.FaTrip
public import Idealize.ShloMosaic.Lib.Pipeline.ValueKit

/-!
# One strip of queries against one trip's keys, entry by entry
-/

@[expose] public section
set_option maxRecDepth 16384
noncomputable section
namespace Cert.Proof.FaStrip
open Idealize.ShloMosaic Idealize.SL.Sem Cert.Kernel13Ideal
open Cert.Kernel13Ideal.Gen Idealize.ShloMosaic.TcCoe

open Cert.Proof.FaTrip

/-- The trip's key tiles are rows `2 k` and `2 k + 1` of the window. -/
theorem off1_eq : ∀ (k : Fin k0_t1_loop.trips) (e : Fin 2), k0_off1 k (BitVec.ofNat 32 e.val) = ![0, 2 * k.val + e.val, 0, 0] := by decide

/-- The trip's keys, as rows, are rows `512 k` and after. -/
theorem off2_eq : ∀ k : Fin k0_t1_loop.trips, k0_off2 k = ![0, 512 * k.val, 0] := by decide

theorem trips_eq : k0_t1_loop.trips = 16 := by decide

theorem lt_trips (k : Fin k0_t1_loop.trips) : k.val < 16 := trips_eq ▸ k.isLt

/-- Strip `s` of a window, read at row `a` and lane `l`. -/
theorem ld_rowS {e : EltTy} (x : Vec Ideal S1x8x256x128 e) (s : Fin 8) (y : S1x1x256x128.Idx) :
    View.ld (Val := Elt Ideal) x (rowS s) y = x (ix4 0 s (y 2) (y 3)) := by
  refine View.ld_unit_apply_of (Val := Elt Ideal) x _ _ _ y _ fun a => ?_
  have h0 : (y 0).val < 1 := (y 0).isLt
  have h1 : (y 1).val < 1 := (y 1).isLt
  match a with
  | ⟨0, _⟩ => show 0 = 0 + (y 0).val; omega
  | ⟨1, _⟩ => show s.val = s.val + (y 1).val; omega
  | ⟨2, _⟩ => show (y 2).val = 0 + (y 2).val; omega
  | ⟨3, _⟩ => show (y 3).val = 0 + (y 3).val; omega

/-- Strip `s` of a transposed window. -/
theorem ld_rowT {e : EltTy} (x : Vec Ideal S1x8x64x256 e) (s : Fin 8) (y : S1x1x64x256.Idx) :
    View.ld (Val := Elt Ideal) x (rowT s) y = x (ix4 0 s (y 2) (y 3)) := by
  refine View.ld_unit_apply_of (Val := Elt Ideal) x _ _ _ y _ fun a => ?_
  have h0 : (y 0).val < 1 := (y 0).isLt
  have h1 : (y 1).val < 1 := (y 1).isLt
  match a with
  | ⟨0, _⟩ => show 0 = 0 + (y 0).val; omega
  | ⟨1, _⟩ => show s.val = s.val + (y 1).val; omega
  | ⟨2, _⟩ => show (y 2).val = 0 + (y 2).val; omega
  | ⟨3, _⟩ => show (y 3).val = 0 + (y 3).val; omega

/-- Key tile `e` of trip `k`. -/
theorem ld_tile {e : EltTy} (x : Vec Ideal S1x32x64x256 e) (k : Fin k0_t1_loop.trips) (t : Fin 2) (y : S1x1x64x256.Idx) :
    View.ld (Val := Elt Ideal) x (tile k t) y = x (ix4 0 ⟨2 * k.val + t.val, by have := lt_trips k; omega⟩ (y 2) (y 3)) := by
  refine View.ld_unit_apply_of (Val := Elt Ideal) x _ _ _ y _ fun a => ?_
  refine Eq.trans ?_ (congrArg (· + (y a).val) (congrFun (off1_eq k t) a)).symm
  have h0 : (y 0).val < 1 := (y 0).isLt
  have h1 : (y 1).val < 1 := (y 1).isLt
  match a with
  | ⟨0, _⟩ => show 0 = 0 + (y 0).val; omega
  | ⟨1, _⟩ => show 2 * k.val + t.val = 2 * k.val + t.val + (y 1).val; omega
  | ⟨2, _⟩ => show (y 2).val = 0 + (y 2).val; omega
  | ⟨3, _⟩ => show (y 3).val = 0 + (y 3).val; omega

/-- The trip's keys as rows. -/
theorem ld_rows {e : EltTy} (x : Vec Ideal S1x8192x128 e) (k : Fin k0_t1_loop.trips) (y : S1x512x128.Idx) :
    View.ld (Val := Elt Ideal) x (Rect.unit (s := S1x8192x128) (k0_off2 k) S1x512x128.size (k0_off2_inb k)) y
      = x (ix3 0 ⟨512 * k.val + (y 1).val, by have := lt_trips k; have h : (y 1).val < 512 := (y 1).isLt; omega⟩ (y 2)) := by
  refine View.ld_unit_apply_of (Val := Elt Ideal) x _ _ _ y _ fun a => ?_
  refine Eq.trans ?_ (congrArg (· + (y a).val) (congrFun (off2_eq k) a)).symm
  have h0 : (y 0).val < 1 := (y 0).isLt
  match a with
  | ⟨0, _⟩ => show 0 = 0 + (y 0).val; omega
  | ⟨1, _⟩ => show 512 * k.val + (y 1).val = 512 * k.val + (y 1).val; rfl
  | ⟨2, _⟩ => show (y 2).val = 0 + (y 2).val; omega

theorem pay3_apply (a b : Vec Ideal S1x1x64x256 .bf16) (y : S128x512.Idx) :
    k0_pay3 a b y = if h : (y 0).val < 64 then (if h' : (y 1).val < 256 then a (ix4 0 0 ⟨(y 0).val, h⟩ ⟨(y 1).val, h'⟩)
      else b (ix4 0 0 ⟨(y 0).val, h⟩ ⟨(y 1).val - 256, by have h : (y 1).val < 512 := (y 1).isLt; omega⟩)) else 0 := by
  unfold_payloads
  pointwise

theorem pay6_apply (w : Vec Ideal S128x512 .bf16) (x : Vec Ideal S1x1x256x128 .bf16) (y : S256x512.Idx) :
    k0_pay6 w x y = ∑ l : Fin 128, x (ix4 0 0 (y 0) l) * w (ix2 l (y 1)) := by
  unfold_payloads
  pointwise

/-- Four quarters of 128 lanes side by side: lane `j` of the whole is lane `j % 128` of its quarter. -/
theorem quarters {α : Type} (n : Fin 512) (f : Fin 512 → Fin 128 → α) :
    (if h : n.val < 128 then f n ⟨n.val, h⟩ else if h : n.val - 128 < 128 then f ⟨128 + (n.val - 128), by omega⟩ ⟨n.val - 128, h⟩
      else if h : n.val - 128 - 128 < 128 then f ⟨256 + (n.val - 128 - 128), by omega⟩ ⟨n.val - 128 - 128, h⟩
      else f ⟨384 + (n.val - 128 - 128 - 128), by omega⟩ ⟨n.val - 128 - 128 - 128, by omega⟩) = f n ⟨n.val % 128, Nat.mod_lt _ (by decide)⟩ := by
  have key (p : ℕ) (q : ℕ) (hp : p < 512) (hq : q < 128) (ep : p = n.val) (eq : q = n.val % 128) :
      f ⟨p, hp⟩ ⟨q, hq⟩ = f n ⟨n.val % 128, Nat.mod_lt _ (by decide)⟩ := by subst eq; exact congrArg (f · _) (Fin.ext ep)
  split_ifs
  · exact key n.val _ n.isLt _ rfl (by omega)
  · exact key _ _ _ _ (by omega) (by omega)
  · exact key _ _ _ _ (by omega) (by omega)
  · exact key _ _ _ _ (by omega) (by omega)

theorem pay27_apply (m d : FVec Ideal S256x128 .f32) (s p : FVec Ideal S256x512 .f32) (a : Fin 256) (j : Fin 512) :
    k0_pay27 m d s p (ix2 a j) = Ideal.exp (s (ix2 a j) - m (ix2 a ⟨j.val % 128, Nat.mod_lt _ (by decide)⟩))
      * (p (ix2 a j) - d (ix2 a ⟨j.val % 128, Nat.mod_lt _ (by decide)⟩)) := by
  unfold_payloads
  pointwise
  exact quarters j (fun n l => Ideal.exp (s (ix2 a n) - m (ix2 a l)) * (p (ix2 a n) - d (ix2 a l)))

theorem pay28_apply (m : FVec Ideal S256x128 .f32) (s : FVec Ideal S256x512 .f32) (x : Vec Ideal S1x1x64x256 .bf16) (l : Fin 64) (j : Fin 512) :
    k0_pay28 m s x (ix2 l j) = ∑ a : Fin 256, x (ix4 0 0 l a) * Ideal.exp (s (ix2 a j) - m (ix2 a ⟨j.val % 128, Nat.mod_lt _ (by decide)⟩)) := by
  unfold_payloads
  pointwise
  exact Finset.sum_congr rfl fun a _ => congrArg (x (ix4 0 0 l a) * ·) (quarters j (fun n i => Ideal.exp (s (ix2 a n) - m (ix2 a i))))

theorem pay29_apply (m d : FVec Ideal S256x128 .f32) (s p : FVec Ideal S256x512 .f32) (x : Vec Ideal S1x1x64x256 .bf16) (l : Fin 64) (j : Fin 512) :
    k0_pay29 m d s p x (ix2 l j) = ∑ a : Fin 256, x (ix4 0 0 l a) * k0_pay27 m d s p (ix2 a j) := by
  unfold k0_pay29
  pointwise

theorem pay157_apply (x : Vec Ideal S1x1x64x256 .bf16) (z : Vec Ideal S1x1x64x256 .f32) (y : S256x128.Idx) :
    k0_pay157 x z y = ∑ l : Fin 64, x (ix4 0 0 l (y 0)) * z (ix4 0 0 l (y 0)) := by
  unfold_payloads
  pointwise

theorem pay30_apply (d : FVec Ideal S64x512 .f32) (x : Vec Ideal S1x1x64x256 .f32) (y : S1x1x64x256.Idx) :
    k0_pay30 d x y = x y + d (ix2 (y 2) ⟨(y 3).val, by have h : (y 3).val < 256 := (y 3).isLt; omega⟩) := by
  unfold_payloads
  pointwise

theorem pay32_apply (d : FVec Ideal S64x512 .f32) (x : Vec Ideal S1x1x64x256 .f32) (y : S1x1x64x256.Idx) :
    k0_pay32 d x y = x y + d (ix2 (y 2) ⟨256 + (y 3).val, by have h : (y 3).val < 256 := (y 3).isLt; omega⟩) := by
  unfold_payloads
  pointwise

theorem pay34_apply (acc : FVec Ideal S256x128 .f32) (w : FVec Ideal S512x128 .bf16) (x : FVec Ideal S256x512 .bf16) (y : S256x128.Idx) :
    k0_pay34 acc w x y = acc y + ∑ b : Fin 512, x (ix2 (y 0) b) * w (ix2 b (y 1)) := by
  unfold_payloads
  pointwise

/-- The sum over the 128 rows of a zero-padded operand is the sum over its 64 rows. -/
theorem sum_pad (f g : Fin 128 → EReal) (h : Fin 64 → EReal) (hg : ∀ l : Fin 64, g ⟨l.val, by omega⟩ = h l)
    (h0 : ∀ l : Fin 128, 64 ≤ l.val → g l = 0) : ∑ l, f l * g l = ∑ l : Fin 64, f ⟨l.val, by omega⟩ * h l := by
  refine (Fin.sum_univ_add (a := 64) (b := 64) (fun l : Fin 128 => f l * g l)).trans ?_
  have hz : ∑ l : Fin 64, f (Fin.natAdd 64 l) * g (Fin.natAdd 64 l) = 0 :=
    Finset.sum_eq_zero fun l _ => by rw [h0 _ (by show 64 ≤ 64 + l.val; omega), mul_zero]
  refine (congrArg₂ (· + ·) (Finset.sum_congr rfl fun l _ => congrArg (f ⟨l.val, by omega⟩ * ·) (hg l)) hz).trans (add_zero _)

section strip
variable (arg2 : Memref sig .tc .vmem S1x8x256x128 .bf16) (arg3 : Memref sig .tc .vmem S1x8x64x256 .bf16)
  (arg4 : Memref sig .tc .vmem S1x8x256x128 .bf16) (arg5 : Memref sig .tc .vmem S1x8x64x256 .bf16)
  (arg6 : Memref sig .tc .vmem S1x8x64x256 .f32) (arg7 : Memref sig .tc .vmem S1x8x256x128 .f32)
  (arg8 : Memref sig .tc .vmem S1x8192x128 .bf16) (arg9 : Memref sig .tc .vmem S1x32x64x256 .bf16)
  (arg10 : Memref sig .tc .vmem S1x32x64x256 .bf16)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty) (X10 : BufTy.Contents (Elt Ideal) arg10.view.ty)
  (x0 : Vec Ideal S1x8x256x128 .bf16) (x1 : Vec Ideal S1x8x64x256 .bf16) (x2 : Vec Ideal S1x8x256x128 .bf16) (x3 : Vec Ideal S1x8x64x256 .bf16)
  (x4 : Vec Ideal S1x8x64x256 .f32) (x5 : Vec Ideal S1x8x256x128 .f32) (x6 : Vec Ideal S1x8192x128 .bf16) (x7 x8 : Vec Ideal S1x32x64x256 .bf16)
  (h2 : arg2.view.read (Elt Ideal) X2 = x0) (h3 : arg3.view.read (Elt Ideal) X3 = x1) (h4 : arg4.view.read (Elt Ideal) X4 = x2)
  (h5 : arg5.view.read (Elt Ideal) X5 = x3) (h6 : arg6.view.read (Elt Ideal) X6 = x4) (h7 : arg7.view.read (Elt Ideal) X7 = x5)
  (h8 : arg8.view.read (Elt Ideal) X8 = x6) (h9 : arg9.view.read (Elt Ideal) X9 = x7) (h10 : arg10.view.read (Elt Ideal) X10 = x8)
  (k : Fin k0_t1_loop.trips) (s : Fin 8)

/-- A query row times a key's features, the keys in tiles of 256. -/
def rowDot (x : Vec Ideal S1x8x256x128 .bf16) (w : Vec Ideal S1x32x64x256 .bf16) (s : Fin 8) (a : Fin 256) (n : Fin 8192) : EReal :=
  ∑ l : Fin 64, x (ix4 0 s a ⟨l.val, by omega⟩) * w (ix4 0 ⟨n.val / 256, by omega⟩ l ⟨n.val % 256, Nat.mod_lt _ (by decide)⟩)

/-- Key `j` of trip `k`. -/
def keyOf (k : Fin k0_t1_loop.trips) (j : Fin 512) : Fin 8192 := ⟨512 * k.val + j.val, by have := lt_trips k; omega⟩

theorem product_apply (x : Vec Ideal S1x8x256x128 .bf16) (w : Vec Ideal S1x32x64x256 .bf16) (a : Fin 256) (j : Fin 512) :
    k0_pay6 (k0_pay3 (View.ld (Val := Elt Ideal) w (tile k 0)) (View.ld (Val := Elt Ideal) w (tile k 1)))
      (View.ld (Val := Elt Ideal) x (rowS s)) (ix2 a j) = rowDot x w s a (keyOf k j) := by
  refine (pay6_apply _ _ _).trans ?_
  have hk := lt_trips k
  refine (sum_pad (fun l => View.ld (Val := Elt Ideal) x (rowS s) (ix4 0 0 a l)) _
    (fun l => w (ix4 0 ⟨(keyOf k j).val / 256, by omega⟩ l ⟨(keyOf k j).val % 256, Nat.mod_lt _ (by decide)⟩)) (fun l => ?_) (fun l hl => ?_)).trans ?_
  · refine (pay3_apply _ _ _).trans ?_
    refine (dif_pos (show l.val < 64 from l.isLt)).trans ?_
    split_ifs with h
    · refine (ld_tile w k 0 _).trans (congrArg w ?_)
      have h : j.val < 256 := h
      refine congrArg₂ (fun p q => ix4 (n0 := 1) (n1 := 32) (n2 := 64) (n3 := 256) 0 p l q) (Fin.ext ?_) (Fin.ext ?_)
      · show 2 * k.val + 0 = (512 * k.val + j.val) / 256; omega
      · show j.val = (512 * k.val + j.val) % 256; omega
    · refine (ld_tile w k 1 _).trans (congrArg w ?_)
      have h : ¬ j.val < 256 := h
      refine congrArg₂ (fun p q => ix4 (n0 := 1) (n1 := 32) (n2 := 64) (n3 := 256) 0 p l q) (Fin.ext ?_) (Fin.ext ?_)
      · show 2 * k.val + 1 = (512 * k.val + j.val) / 256; omega
      · show j.val - 256 = (512 * k.val + j.val) % 256; omega
  · refine (pay3_apply _ _ _).trans ?_
    exact dif_neg (show ¬ l.val < 64 from not_lt.mpr hl)
  · exact Finset.sum_congr rfl fun l _ => congrArg (· * _) (ld_rowS x s _)

/-- A score's probability, from the log-sum-exp of its row. -/
def prob (s : Fin 8) (a : Fin 256) (n : Fin 8192) : EReal :=
  Ideal.exp (rowDot x0 x7 s a n - x5 (ix4 0 s a ⟨n.val % 128, Nat.mod_lt _ (by decide)⟩))

/-- The gradient of a score. -/
def dscore (s : Fin 8) (a : Fin 256) (n : Fin 8192) : EReal :=
  prob x0 x5 x7 s a n * (rowDot x2 x8 s a n - ∑ l : Fin 64, x3 (ix4 0 s l a) * x4 (ix4 0 s l a))

include h2 h9 in
theorem score_apply (a : Fin 256) (j : Fin 512) : scoreS arg2 arg9 X2 X9 k s (ix2 a j) = rowDot x0 x7 s a (keyOf k j) := by
  unfold scoreS keysT
  rw [View.readAt_eq_ld, View.readAt_eq_ld, View.readAt_eq_ld, h2, h9]
  exact product_apply k s x0 x7 a j

include h4 h10 in
theorem dprob_apply (a : Fin 256) (j : Fin 512) : dprobS arg4 arg10 X4 X10 k s (ix2 a j) = rowDot x2 x8 s a (keyOf k j) := by
  unfold dprobS valuesT
  rw [View.readAt_eq_ld, View.readAt_eq_ld, View.readAt_eq_ld, h4, h10]
  exact product_apply k s x2 x8 a j

include h7 in
theorem lse_apply (a : Fin 256) (j : Fin 128) : lseS arg7 X7 s (ix2 a j) = x5 (ix4 0 s a j) := by
  unfold lseS
  rw [View.readAt_eq_ld, h7]
  refine Eq.trans ?_ (ld_rowS x5 s (ix4 0 0 a j))
  unfold_payloads
  pointwise

include h5 h6 in
theorem dot_apply (a : Fin 256) (j : Fin 128) :
    dotS arg5 arg6 X5 X6 s (ix2 a j) = ∑ l : Fin 64, x3 (ix4 0 s l a) * x4 (ix4 0 s l a) := by
  unfold dotS
  rw [View.readAt_eq_ld, View.readAt_eq_ld, h5, h6]
  refine (pay157_apply _ _ _).trans ?_
  exact Finset.sum_congr rfl fun l _ => congrArg₂ (· * ·) (ld_rowT x3 s _) (ld_rowT x4 s _)

theorem mod_key (k : Fin k0_t1_loop.trips) (j : Fin 512) : (⟨j.val % 128, Nat.mod_lt _ (by decide)⟩ : Fin 128)
    = ⟨(keyOf k j).val % 128, Nat.mod_lt _ (by decide)⟩ := Fin.ext (by show j.val % 128 = (512 * k.val + j.val) % 128; omega)

include h2 h4 h5 h6 h7 h9 h10 in
theorem dscore_apply (a : Fin 256) (j : Fin 512) :
    dscoreS arg2 arg4 arg5 arg6 arg7 arg9 arg10 X2 X4 X5 X6 X7 X9 X10 k s (ix2 a j) = dscore x0 x2 x3 x4 x5 x7 x8 s a (keyOf k j) := by
  unfold dscoreS dscore prob
  rw [pay27_apply, score_apply arg2 arg9 X2 X9 x0 x7 h2 h9, dprob_apply arg4 arg10 X4 X10 x2 x8 h4 h10, lse_apply arg7 X7 x5 h7,
    dot_apply arg5 arg6 X5 X6 x3 x4 h5 h6, mod_key k j]

include h2 h5 h7 h9 in
theorem dv_apply (l : Fin 64) (j : Fin 512) :
    dvS arg2 arg5 arg7 arg9 X2 X5 X7 X9 k s (ix2 l j) = ∑ a : Fin 256, x3 (ix4 0 s l a) * prob x0 x5 x7 s a (keyOf k j) := by
  unfold dvS prob
  refine (pay28_apply _ _ _ _ _).trans ?_
  refine Finset.sum_congr rfl fun a _ => ?_
  rw [score_apply arg2 arg9 X2 X9 x0 x7 h2 h9, lse_apply arg7 X7 x5 h7, mod_key k j, View.readAt_eq_ld, h5]
  exact congrArg (· * _) (ld_rowT x3 s _)

include h2 h3 h4 h5 h6 h7 h9 h10 in
theorem dk_apply (l : Fin 64) (j : Fin 512) :
    dkS arg2 arg3 arg4 arg5 arg6 arg7 arg9 arg10 X2 X3 X4 X5 X6 X7 X9 X10 k s (ix2 l j)
      = ∑ a : Fin 256, x1 (ix4 0 s l a) * dscore x0 x2 x3 x4 x5 x7 x8 s a (keyOf k j) := by
  unfold dkS
  refine (pay29_apply _ _ _ _ _ _ _).trans ?_
  refine Finset.sum_congr rfl fun a _ => congrArg₂ (· * ·) ?_ ?_
  · rw [View.readAt_eq_ld, h3]
    exact ld_rowT x1 s _
  · exact dscore_apply arg2 arg4 arg5 arg6 arg7 arg9 arg10 X2 X4 X5 X6 X7 X9 X10 x0 x2 x3 x4 x5 x7 x8 h2 h4 h5 h6 h7 h9 h10 k s a j

include h2 h4 h5 h6 h7 h8 h9 h10 in
theorem dq_apply (acc : FVec Ideal S256x128 .f32) (a : Fin 256) (l : Fin 128) :
    dqS arg2 arg4 arg5 arg6 arg7 arg8 arg9 arg10 X2 X4 X5 X6 X7 X8 X9 X10 k s acc (ix2 a l)
      = acc (ix2 a l) + ∑ j : Fin 512, dscore x0 x2 x3 x4 x5 x7 x8 s a (keyOf k j) * x6 (ix3 0 (keyOf k j) l) := by
  unfold dqS
  refine (pay34_apply _ _ _ _).trans ?_
  refine congrArg (acc (ix2 a l) + ·) (Finset.sum_congr rfl fun j _ => congrArg₂ (· * ·) ?_ ?_)
  · exact dscore_apply arg2 arg4 arg5 arg6 arg7 arg9 arg10 X2 X4 X5 X6 X7 X9 X10 x0 x2 x3 x4 x5 x7 x8 h2 h4 h5 h6 h7 h9 h10 k s a j
  · unfold keysS
    rw [View.readAt_eq_ld, h8]
    refine Eq.trans ?_ (ld_rows x6 k (ix3 0 j l))
    unfold k0_pay5
    pointwise
end strip

end Cert.Proof.FaStrip
-- ==== Proof.FaLoop.lean ====
module

public import proofs.«01_k».proof.Proof.FaStrip
public import proofs.«01_k».proof.Proof.Acc

/-!
# The loop over the key blocks

What the sixteen trips of a point leave: each strip's query gradient summed over all the keys, and each key tile with the strips'
contributions added to what it held.
-/

@[expose] public section
set_option maxRecDepth 16384
noncomputable section
namespace Cert.Proof.FaLoop
open Idealize.ShloMosaic Idealize.SL.Sem Cert.Kernel13Ideal
open Cert.Kernel13Ideal.Gen Idealize.ShloMosaic.TcCoe

open Cert.Proof.FaTrip Cert.Proof.FaStrip

/-- A load of a key tile, from a buffer's contents. -/
theorem readAt_tile (v : View sig .tc .vmem S1x32x64x256 .f32) (f : BufTy.Contents (Elt Ideal) v.ty) (k : Fin k0_t1_loop.trips) (t : Fin 2)
    (y : S1x1x64x256.Idx) : View.readAt (Elt Ideal) v (tile k t).toLoadRect f y
      = v.read (Elt Ideal) f (ix4 0 ⟨2 * k.val + t.val, by have := lt_trips k; omega⟩ (y 2) (y 3)) :=
  ld_tile (v.read (Elt Ideal) f) k t y

theorem sum0_apply (a : Vec Ideal S1x1x64x256 .f32) (ds : List (FVec Ideal S64x512 .f32)) (y : S1x1x64x256.Idx) :
    sum0 a ds y = a y + (ds.map fun d => d (ix2 (y 2) ⟨(y 3).val, by have h : (y 3).val < 256 := (y 3).isLt; omega⟩)).sum := by
  induction ds with
  | nil => exact (add_zero _).symm
  | cons d ds ih =>
    refine (pay30_apply d (sum0 a ds) y).trans ?_
    rw [ih, List.map_cons, List.sum_cons, add_assoc, add_comm (List.sum _)]

theorem sum1_apply (a : Vec Ideal S1x1x64x256 .f32) (ds : List (FVec Ideal S64x512 .f32)) (y : S1x1x64x256.Idx) :
    sum1 a ds y = a y + (ds.map fun d => d (ix2 (y 2) ⟨256 + (y 3).val, by have h : (y 3).val < 256 := (y 3).isLt; omega⟩)).sum := by
  induction ds with
  | nil => exact (add_zero _).symm
  | cons d ds ih =>
    refine (pay32_apply d (sum1 a ds) y).trans ?_
    rw [ih, List.map_cons, List.sum_cons, add_assoc, add_comm (List.sum _)]

theorem tiles_disjoint (k : Fin k0_t1_loop.trips) (t t' : Fin 2) (h : t ≠ t') :
    Disjoint (tile k t).set (tile k t').toLoadRect.set := by
  refine Rect.unit_disjoint (inb := k0_off1_inb k t) (inb' := k0_off1_inb k t') 1 ?_
  rw [off1_eq, off1_eq]
  show 2 * k.val + t.val + 1 ≤ 2 * k.val + t'.val ∨ 2 * k.val + t'.val + 1 ≤ 2 * k.val + t.val
  have := Fin.val_ne_of_ne h
  omega

/-- The stores of a trip's strips add them to the two tiles of the trip and leave the others. -/
theorem read_grow (v : View sig .tc .vmem S1x32x64x256 .f32) (f : BufTy.Contents (Elt Ideal) v.ty) (k : Fin k0_t1_loop.trips)
    (ds : List (FVec Ideal S64x512 .f32)) (p : Fin 32) (l : Fin 64) (b : Fin 256) :
    v.read (Elt Ideal) (v.writes (Elt Ideal) f (grow v f _ _ (k0_off1_inb k 0) (k0_off1_inb k 1) ds)) (ix4 0 p l b)
      = v.read (Elt Ideal) f (ix4 0 p l b) + if p.val / 2 = k.val then
          (ds.map fun d => d (ix2 l ⟨256 * (p.val % 2) + b.val, by omega⟩)).sum else 0 := by
  induction ds with
  | nil =>
    refine Eq.trans (?_ : _ = v.read (Elt Ideal) f (ix4 0 p l b)) ?_
    · rfl
    · split_ifs
      · exact (add_zero _).symm
      · exact (add_zero _).symm
  | cons d ds ih =>
    rw [grow_eq v f _ _ (k0_off1_inb k 0) (k0_off1_inb k 1) (tiles_disjoint k 0 1 (by decide)) (tiles_disjoint k 1 0 (by decide))]
    by_cases h1 : p.val = 2 * k.val + 1
    · refine (View.read_writes_cons_unit_of_mem v f (k0_off1_inb k 1) _ _ (ix4 0 p l b) (ix4 0 0 l b) (off1_eq k 1) (fun a => ?_)).trans ?_
      · match a with
        | ⟨0, _⟩ => rfl
        | ⟨1, _⟩ => show p.val = 2 * k.val + 1 + 0; omega
        | ⟨2, _⟩ => show l.val = 0 + l.val; omega
        | ⟨3, _⟩ => show b.val = 0 + b.val; omega
      · refine (sum1_apply _ _ _).trans (congrArg₂ (· + ·) ((readAt_tile v f k 1 _).trans ?_) ?_)
        · exact congrArg (v.read (Elt Ideal) f) (congrArg (fun p => ix4 (n0 := 1) (n1 := 32) (n2 := 64) (n3 := 256) 0 p l b) (Fin.ext h1.symm))
        · rw [if_pos (by omega)]
          refine congrArg List.sum (List.map_congr_left fun d _ => congrArg d (congrArg (ix2 (n0 := 64) (n1 := 512) l) (Fin.ext ?_)))
          show 256 + b.val = 256 * (p.val % 2) + b.val
          omega
    · refine (View.read_writes_cons_unit_of_not_mem v f (k0_off1_inb k 1) _ _ (ix4 0 p l b) (off1_eq k 1) 1 ?_).trans ?_
      · show p.val < 2 * k.val + 1 ∨ 2 * k.val + 1 + 1 ≤ p.val
        omega
      by_cases h0 : p.val = 2 * k.val
      · refine (View.read_writes_cons_unit_of_mem v f (k0_off1_inb k 0) _ _ (ix4 0 p l b) (ix4 0 0 l b) (off1_eq k 0) (fun a => ?_)).trans ?_
        · match a with
          | ⟨0, _⟩ => rfl
          | ⟨1, _⟩ => show p.val = 2 * k.val + 0 + 0; omega
          | ⟨2, _⟩ => show l.val = 0 + l.val; omega
          | ⟨3, _⟩ => show b.val = 0 + b.val; omega
        · refine (sum0_apply _ _ _).trans (congrArg₂ (· + ·) ((readAt_tile v f k 0 _).trans ?_) ?_)
          · exact congrArg (v.read (Elt Ideal) f) (congrArg (fun p => ix4 (n0 := 1) (n1 := 32) (n2 := 64) (n3 := 256) 0 p l b) (Fin.ext h0.symm))
          · rw [if_pos (by omega)]
            refine congrArg List.sum (List.map_congr_left fun d _ => congrArg d (congrArg (ix2 (n0 := 64) (n1 := 512) l) (Fin.ext ?_)))
            show b.val = 256 * (p.val % 2) + b.val
            omega
      · refine (View.read_writes_cons_unit_of_not_mem v f (k0_off1_inb k 0) _ _ (ix4 0 p l b) (off1_eq k 0) 1 ?_).trans ?_
        · show p.val < 2 * k.val + 0 ∨ 2 * k.val + 0 + 1 ≤ p.val
          omega
        · rw [ih, if_neg (by omega), if_neg (by omega)]

/-- The eight query gradients that the loop carries. -/
abbrev Carried := FVec Ideal S256x128 .f32 × FVec Ideal S256x128 .f32 × FVec Ideal S256x128 .f32 × FVec Ideal S256x128 .f32
  × FVec Ideal S256x128 .f32 × FVec Ideal S256x128 .f32 × FVec Ideal S256x128 .f32 × FVec Ideal S256x128 .f32

/-- Strip `s`'s. -/
def part (t : Carried) (s : Fin 8) : FVec Ideal S256x128 .f32 :=
  match s with
  | 0 => t.1 | 1 => t.2.1 | 2 => t.2.2.1 | 3 => t.2.2.2.1 | 4 => t.2.2.2.2.1 | 5 => t.2.2.2.2.2.1 | 6 => t.2.2.2.2.2.2.1 | 7 => t.2.2.2.2.2.2.2

theorem list_sum (d : Fin 8 → EReal) : d 7 + (d 6 + (d 5 + (d 4 + (d 3 + (d 2 + (d 1 + (d 0 + 0))))))) = ∑ s, d s := by
  rw [Fin.sum_univ_eight, add_zero]
  ac_rfl

/-- Strip by strip, the carried values after one more trip. -/
def step (d : Fin 8 → FVec Ideal S256x128 .f32 → FVec Ideal S256x128 .f32) (t : Carried) : Carried :=
  (d 0 t.1, d 1 t.2.1, d 2 t.2.2.1, d 3 t.2.2.2.1, d 4 t.2.2.2.2.1, d 5 t.2.2.2.2.2.1, d 6 t.2.2.2.2.2.2.1, d 7 t.2.2.2.2.2.2.2)

theorem part_step (d : Fin 8 → FVec Ideal S256x128 .f32 → FVec Ideal S256x128 .f32) (t : Carried) (s : Fin 8) :
    part (step d t) s = d s (part t s) :=
  match s with
  | 0 => rfl | 1 => rfl | 2 => rfl | 3 => rfl | 4 => rfl | 5 => rfl | 6 => rfl | 7 => rfl

/-- What a trip's eight strips add to its tiles, the last one first. -/
def strips (d : Fin 8 → FVec Ideal S64x512 .f32) : List (FVec Ideal S64x512 .f32) := [d 7, d 6, d 5, d 4, d 3, d 2, d 1, d 0]

/-- The carried values and the stores of two buffers. -/
abbrev St := Carried × List (View.Piece (Elt Ideal) S1x32x64x256 .f32) × List (View.Piece (Elt Ideal) S1x32x64x256 .f32)

section loop
variable (x0 : Vec Ideal S1x8x256x128 .bf16) (x1 : Vec Ideal S1x8x64x256 .bf16) (x2 : Vec Ideal S1x8x256x128 .bf16) (x3 : Vec Ideal S1x8x64x256 .bf16)
  (x4 : Vec Ideal S1x8x64x256 .f32) (x5 : Vec Ideal S1x8x256x128 .f32) (x6 : Vec Ideal S1x8192x128 .bf16) (x7 x8 : Vec Ideal S1x32x64x256 .bf16)

/-- What a key adds to a query's gradient. -/
def dqTerm (s : Fin 8) (a : Fin 256) (l : Fin 128) (n : ℕ) : EReal :=
  dscore x0 x2 x3 x4 x5 x7 x8 s a (Fin.ofNat 8192 n) * x6 (ix3 0 (Fin.ofNat 8192 n) l)

/-- What a strip adds to a key's gradient, and to a value's. -/
def dkTerm (s : Fin 8) (l : Fin 64) (n : Fin 8192) : EReal :=
  ∑ a : Fin 256, x1 (ix4 0 s l a) * dscore x0 x2 x3 x4 x5 x7 x8 s a n

def dvTerm (s : Fin 8) (l : Fin 64) (n : Fin 8192) : EReal :=
  ∑ a : Fin 256, x3 (ix4 0 s l a) * prob x0 x5 x7 s a n

theorem keyOf_eq (k : Fin k0_t1_loop.trips) (j : Fin 512) : keyOf k j = Fin.ofNat 8192 (k.val * 512 + j.val) := Fin.ext (by
  have := lt_trips k
  show 512 * k.val + j.val = (k.val * 512 + j.val) % 8192
  omega)

/-- The key of a tile's row and lane. -/
def keyAt (p : Fin 32) (b : Fin 256) : Fin 8192 := ⟨256 * p.val + b.val, by omega⟩

theorem keyOf_at (k : Fin k0_t1_loop.trips) (p : Fin 32) (b : Fin 256) (h : p.val / 2 = k.val) :
    keyOf k ⟨256 * (p.val % 2) + b.val, by omega⟩ = keyAt p b := Fin.ext (by
  show 512 * k.val + (256 * (p.val % 2) + b.val) = 256 * p.val + b.val
  omega)

/-- Adding to the tiles of trip `k` what they get, trip after trip. -/
theorem if_step (x z : EReal) (p n : ℕ) : (x + if p < n then z else 0) + (if p = n then z else 0) = x + if p < n + 1 then z else 0 := by
  rw [add_assoc]
  refine congrArg (x + ·) ?_
  by_cases h : p < n
  · rw [if_pos h, if_neg (by omega), if_pos (by omega), add_zero]
  · by_cases h' : p = n
    · rw [if_neg h, if_pos h', if_pos (by omega), zero_add]
    · rw [if_neg h, if_neg h', if_neg (by omega), add_zero]

/-- Query gradients that every trip adds to add up over the trips. -/
theorem carried (T : ℕ → Carried) (d : Fin k0_t1_loop.trips → Fin 8 → FVec Ideal S256x128 .f32 → FVec Ideal S256x128 .f32)
    (hT : ∀ (n : ℕ) (hn : n < k0_t1_loop.trips), T (n + 1) = step (d ⟨n, hn⟩) (T n)) (s : Fin 8) (a : Fin 256) (l : Fin 128)
    (hd : ∀ (k : Fin k0_t1_loop.trips) (acc : FVec Ideal S256x128 .f32), d k s acc (ix2 a l)
      = acc (ix2 a l) + ∑ j : Fin 512, dscore x0 x2 x3 x4 x5 x7 x8 s a (keyOf k j) * x6 (ix3 0 (keyOf k j) l))
    (n : ℕ) (hn : n ≤ 16) : part (T n) s (ix2 a l) = part (T 0) s (ix2 a l)
      + ∑ t ∈ Finset.range n, ∑ j : Fin 512, dqTerm x0 x2 x3 x4 x5 x6 x7 x8 s a l (t * 512 + j.val) := by
  induction n with
  | zero => rw [Finset.sum_range_zero, add_zero]
  | succ n ih =>
    have hk : n < k0_t1_loop.trips := by rw [trips_eq]; omega
    rw [hT n hk, part_step, hd, ih (by omega), Finset.sum_range_succ, add_assoc]
    refine congrArg (_ + ·) (congrArg (_ + ·) (Finset.sum_congr rfl fun j _ => ?_))
    rw [keyOf_eq]; rfl

/-- Tiles that every trip's strips add to hold, after the trips, what they held and the strips' contributions. -/
theorem stored (v : View sig .tc .vmem S1x32x64x256 .f32) (G : BufTy.Contents (Elt Ideal) v.ty)
    (T : ℕ → List (View.Piece (Elt Ideal) S1x32x64x256 .f32)) (h0 : T 0 = []) (d : Fin k0_t1_loop.trips → Fin 8 → FVec Ideal S64x512 .f32)
    (hT : ∀ (n : ℕ) (hn : n < k0_t1_loop.trips), T (n + 1)
      = grow v (v.writes (Elt Ideal) G (T n)) _ _ (k0_off1_inb ⟨n, hn⟩ 0) (k0_off1_inb ⟨n, hn⟩ 1) (strips (d ⟨n, hn⟩)) ++ T n)
    (g : Fin 8 → Fin 64 → Fin 8192 → EReal) (hd : ∀ k s l j, d k s (ix2 l j) = g s l (keyOf k j))
    (n : ℕ) (hn : n ≤ 16) (p : Fin 32) (l : Fin 64) (b : Fin 256) :
    v.read (Elt Ideal) (v.writes (Elt Ideal) G (T n)) (ix4 0 p l b)
      = v.read (Elt Ideal) G (ix4 0 p l b) + if p.val / 2 < n then ∑ s, g s l (keyAt p b) else 0 := by
  induction n with
  | zero => rw [if_neg (Nat.not_lt_zero _), add_zero, h0]; rfl
  | succ n ih =>
    have hk : n < k0_t1_loop.trips := by rw [trips_eq]; omega
    rw [hT n hk, View.writes_append]
    refine (read_grow v _ ⟨n, hk⟩ _ p l b).trans (Eq.trans ?_ (if_step _ _ (p.val / 2) n))
    refine congrArg₂ (· + ·) (ih (by omega)) ?_
    by_cases h : p.val / 2 = n
    · rw [if_pos h, if_pos h]
      have hd (s : Fin 8) := hd ⟨n, hk⟩ s l ⟨256 * (p.val % 2) + b.val, by omega⟩
      rw [keyOf_at ⟨n, hk⟩ p b h] at hd
      exact (list_sum (fun s => d ⟨n, hk⟩ s (ix2 l ⟨256 * (p.val % 2) + b.val, by omega⟩))).trans (Finset.sum_congr rfl fun s _ => hd s)
    · rw [if_neg h, if_neg h]
end loop

section state
variable (c : Dev nD) (i : grid0.Coords) (arg2 : Memref sig .tc .vmem S1x8x256x128 .bf16) (arg3 : Memref sig .tc .vmem S1x8x64x256 .bf16)
  (arg4 : Memref sig .tc .vmem S1x8x256x128 .bf16) (arg5 : Memref sig .tc .vmem S1x8x64x256 .bf16)
  (arg6 : Memref sig .tc .vmem S1x8x64x256 .f32) (arg7 : Memref sig .tc .vmem S1x8x256x128 .f32)
  (arg8 : Memref sig .tc .vmem S1x8192x128 .bf16) (arg9 : Memref sig .tc .vmem S1x32x64x256 .bf16)
  (arg10 : Memref sig .tc .vmem S1x32x64x256 .bf16)
  (arg11 : Memref sig .tc .vmem S1x8x64x256 .f32) (arg12 arg13 : Memref sig .tc .vmem S1x32x64x256 .f32)
  (harg2 : arg2.IsWhole) (harg3 : arg3.IsWhole) (harg4 : arg4.IsWhole) (harg5 : arg5.IsWhole) (harg6 : arg6.IsWhole) (harg7 : arg7.IsWhole)
  (harg8 : arg8.IsWhole) (harg9 : arg9.IsWhole) (harg10 : arg10.IsWhole) (harg11 : arg11.IsWhole) (harg12 : arg12.IsWhole) (harg13 : arg13.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty) (X10 : BufTy.Contents (Elt Ideal) arg10.view.ty)
  (G12 : BufTy.Contents (Elt Ideal) arg12.view.ty) (G13 : BufTy.Contents (Elt Ideal) arg13.view.ty) (init : Carried)
  (x0 : Vec Ideal S1x8x256x128 .bf16) (x1 : Vec Ideal S1x8x64x256 .bf16) (x2 : Vec Ideal S1x8x256x128 .bf16) (x3 : Vec Ideal S1x8x64x256 .bf16)
  (x4 : Vec Ideal S1x8x64x256 .f32) (x5 : Vec Ideal S1x8x256x128 .f32) (x6 : Vec Ideal S1x8192x128 .bf16) (x7 x8 : Vec Ideal S1x32x64x256 .bf16)
  (h2 : arg2.view.read (Elt Ideal) X2 = x0) (h3 : arg3.view.read (Elt Ideal) X3 = x1) (h4 : arg4.view.read (Elt Ideal) X4 = x2)
  (h5 : arg5.view.read (Elt Ideal) X5 = x3) (h6 : arg6.view.read (Elt Ideal) X6 = x4) (h7 : arg7.view.read (Elt Ideal) X7 = x5)
  (h8 : arg8.view.read (Elt Ideal) X8 = x6) (h9 : arg9.view.read (Elt Ideal) X9 = x7) (h10 : arg10.view.read (Elt Ideal) X10 = x8)

/-- The carried values and the stores after `n` trips. -/
def state (n : ℕ) : St := st_k0_t1 (F := Ideal) Variants.none c none i arg2 harg2 arg3 harg3 arg4 harg4 arg5 harg5 arg6 harg6 arg7 harg7 arg8 harg8 arg9 harg9 arg10 harg10 arg11 harg11 arg12 harg12 arg13 harg13
    (lseS arg7 X7 0) (lseS arg7 X7 1) (lseS arg7 X7 2) (lseS arg7 X7 3) (lseS arg7 X7 4) (lseS arg7 X7 5) (lseS arg7 X7 6) (lseS arg7 X7 7)
    (dotS arg5 arg6 X5 X6 0) (dotS arg5 arg6 X5 X6 1) (dotS arg5 arg6 X5 X6 2) (dotS arg5 arg6 X5 X6 3) (dotS arg5 arg6 X5 X6 4)
    (dotS arg5 arg6 X5 X6 5) (View.readAt (Elt Ideal) arg5.view (rowT 6).toLoadRect X5) (View.readAt (Elt Ideal) arg6.view (rowT 6).toLoadRect X6)
    (View.readAt (Elt Ideal) arg5.view (rowT 7).toLoadRect X5) (View.readAt (Elt Ideal) arg6.view (rowT 7).toLoadRect X6)
    X2 X3 X4 X5 X8 X9 X10 G12 G13 init n

/-- One more trip. -/
theorem state_succ (n : ℕ) (hn : n < k0_t1_loop.trips) (t : St) (ht : state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n = t) : state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init (n + 1)
    = (step (dqS arg2 arg4 arg5 arg6 arg7 arg8 arg9 arg10 X2 X4 X5 X6 X7 X8 X9 X10 ⟨n, hn⟩) t.1,
      grow arg12.view (arg12.view.writes (Elt Ideal) G12 t.2.1) _ _ (k0_off1_inb ⟨n, hn⟩ 0) (k0_off1_inb ⟨n, hn⟩ 1)
        (strips (dkS arg2 arg3 arg4 arg5 arg6 arg7 arg9 arg10 X2 X3 X4 X5 X6 X7 X9 X10 ⟨n, hn⟩)) ++ t.2.1,
      grow arg13.view (arg13.view.writes (Elt Ideal) G13 t.2.2) _ _ (k0_off1_inb ⟨n, hn⟩ 0) (k0_off1_inb ⟨n, hn⟩ 1)
        (strips (dvS arg2 arg5 arg7 arg9 X2 X5 X7 X9 ⟨n, hn⟩)) ++ t.2.2) := by
  unfold state at *
  refine (st_k0_t1_succ (F := Ideal) Variants.none c none i arg2 harg2 arg3 harg3 arg4 harg4 arg5 harg5 arg6 harg6 arg7 harg7 arg8 harg8 arg9 harg9 arg10 harg10 arg11 harg11 arg12 harg12 arg13 harg13
    (lseS arg7 X7 0) (lseS arg7 X7 1) (lseS arg7 X7 2) (lseS arg7 X7 3) (lseS arg7 X7 4) (lseS arg7 X7 5) (lseS arg7 X7 6) (lseS arg7 X7 7)
    (dotS arg5 arg6 X5 X6 0) (dotS arg5 arg6 X5 X6 1) (dotS arg5 arg6 X5 X6 2) (dotS arg5 arg6 X5 X6 3) (dotS arg5 arg6 X5 X6 4)
    (dotS arg5 arg6 X5 X6 5) (View.readAt (Elt Ideal) arg5.view (rowT 6).toLoadRect X5) (View.readAt (Elt Ideal) arg6.view (rowT 6).toLoadRect X6)
    (View.readAt (Elt Ideal) arg5.view (rowT 7).toLoadRect X5) (View.readAt (Elt Ideal) arg6.view (rowT 7).toLoadRect X6)
    X2 X3 X4 X5 X8 X9 X10 G12 G13 init ⟨n, hn⟩).trans ?_
  rw [ht]
  refine Prod.ext (trip_value ..) (Prod.ext ?_ ?_)
  · exact congrArg (fun L => L.1 ++ t.2.1) (trip_stores c i arg2 harg2 arg3 harg3 arg4 harg4 arg5 harg5 arg6 harg6 arg7 harg7 arg8 harg8 arg9 harg9 arg10 harg10 arg11 harg11 arg12 harg12 arg13 harg13 X2 X3 X4 X5 X6 X7 X8 X9 X10 ⟨n, hn⟩ t.1 _ _)
  · exact congrArg (fun L => L.2 ++ t.2.2) (trip_stores c i arg2 harg2 arg3 harg3 arg4 harg4 arg5 harg5 arg6 harg6 arg7 harg7 arg8 harg8 arg9 harg9 arg10 harg10 arg11 harg11 arg12 harg12 arg13 harg13 X2 X3 X4 X5 X6 X7 X8 X9 X10 ⟨n, hn⟩ t.1 _ _)

include h2 h4 h5 h6 h7 h8 h9 h10 in
/-- The query gradients after the loop. -/
theorem carried_end (s : Fin 8) (a : Fin 256) (l : Fin 128) : part (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init 16).1 s (ix2 a l) = part init s (ix2 a l)
      + ∑ n : Fin 8192, dqTerm x0 x2 x3 x4 x5 x6 x7 x8 s a l n.val := by
  rw [← Acc.sum_blocks 16 512 8192 rfl]
  exact carried x0 x2 x3 x4 x5 x6 x7 x8 (fun n => (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n).1) _
    (fun n hn => congrArg Prod.fst (state_succ c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n hn _ rfl)) s a l
    (fun k acc => dq_apply arg2 arg4 arg5 arg6 arg7 arg8 arg9 arg10 X2 X4 X5 X6 X7 X8 X9 X10
      x0 x2 x3 x4 x5 x6 x7 x8 h2 h4 h5 h6 h7 h8 h9 h10 k s acc a l) 16 (le_refl _)

include h2 h3 h4 h5 h6 h7 h9 h10 in
/-- The key gradients after the loop. -/
theorem stored12 (p : Fin 32) (l : Fin 64) (b : Fin 256) :
    arg12.view.read (Elt Ideal) (arg12.view.writes (Elt Ideal) G12 (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init 16).2.1) (ix4 0 p l b)
      = arg12.view.read (Elt Ideal) G12 (ix4 0 p l b) + ∑ s, dkTerm x0 x1 x2 x3 x4 x5 x7 x8 s l (keyAt p b) := by
  refine (stored arg12.view G12 (fun n => (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n).2.1) rfl _
    (fun n hn => congrArg (fun t => t.2.1) (state_succ c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n hn _ rfl))
    (dkTerm x0 x1 x2 x3 x4 x5 x7 x8) (fun k s l j => dk_apply arg2 arg3 arg4 arg5 arg6 arg7 arg9 arg10 X2 X3 X4 X5 X6 X7 X9 X10
        x0 x1 x2 x3 x4 x5 x7 x8 h2 h3 h4 h5 h6 h7 h9 h10 k s l j) 16 (le_refl _) p l b).trans ?_
  rw [if_pos (by omega)]

include h2 h5 h7 h9 in
/-- The value gradients after the loop. -/
theorem stored13 (p : Fin 32) (l : Fin 64) (b : Fin 256) :
    arg13.view.read (Elt Ideal) (arg13.view.writes (Elt Ideal) G13 (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init 16).2.2) (ix4 0 p l b)
      = arg13.view.read (Elt Ideal) G13 (ix4 0 p l b) + ∑ s, dvTerm x0 x3 x5 x7 s l (keyAt p b) := by
  refine (stored arg13.view G13 (fun n => (state c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n).2.2) rfl _
    (fun n hn => congrArg (fun t => t.2.2) (state_succ c i arg2 arg3 arg4 arg5 arg6 arg7 arg8 arg9 arg10 arg11 arg12 arg13 harg2 harg3 harg4 harg5 harg6 harg7 harg8 harg9 harg10 harg11 harg12 harg13 X2 X3 X4 X5 X6 X7 X8 X9 X10 G12 G13 init n hn _ rfl))
    (dvTerm x0 x3 x5 x7) (fun k s l j => dv_apply arg2 arg5 arg7 arg9 X2 X5 X7 X9 x0 x3 x5 x7 h2 h5 h7 h9 k s l j) 16 (le_refl _) p l b).trans ?_
  rw [if_pos (by omega)]
end state

end Cert.Proof.FaLoop
-- ==== Proof.FaBody.lean ====
module

public import proofs.«01_k».proof.Proof.FaLoop
public import proofs.«01_k».proof.Proof.Gen.Kernel13Ideal.Frame

/-!
# The body of the backward attention

What one point's run leaves in its three output windows, in terms of the blocks it is given.
-/

@[expose] public section
set_option maxRecDepth 16384
noncomputable section
namespace Cert.Proof.FaBody
open Idealize.ShloMosaic Idealize.SL.Sem Cert.Kernel13Ideal
open Cert.Kernel13Ideal.Gen Idealize.ShloMosaic.TcCoe

open Cert.Proof.FaTrip Cert.Proof.FaStrip Cert.Proof.FaLoop

/-- The carried gradients start at zero. -/
def start : Carried := (k0_pay159, k0_pay160, k0_pay161, k0_pay162, k0_pay163, k0_pay164, k0_pay165, k0_pay166)

theorem zero_apply (x : S256x128.Idx) : k0_pay159 (F := Ideal) x = 0 := by unfold_payloads; pointwise

theorem start_apply (s : Fin 8) (a : Fin 256) (l : Fin 128) : part start s (ix2 a l) = 0 :=
  match s with
  | 0 => zero_apply (ix2 a l)
  | 1 => zero_apply (ix2 a l)
  | 2 => zero_apply (ix2 a l)
  | 3 => zero_apply (ix2 a l)
  | 4 => zero_apply (ix2 a l)
  | 5 => zero_apply (ix2 a l)
  | 6 => zero_apply (ix2 a l)
  | 7 => zero_apply (ix2 a l)

/-- The first point of a group zeroes both accumulators. -/
def zeros12 : List (View.Piece (Elt Ideal) S1x32x64x256 .f32) :=
  [⟨Rect.unit ![0, 0, 0, 0] S1x32x64x256.size inb_S1x32x64x256_S1x32x64x256_0_0_0_0, k0_pay141 (F := Ideal)⟩]

def zeros13 : List (View.Piece (Elt Ideal) S1x32x64x256 .f32) :=
  [⟨Rect.unit ![0, 0, 0, 0] S1x32x64x256.size inb_S1x32x64x256_S1x32x64x256_0_0_0_0, k0_pay142 (F := Ideal)⟩]

/-- A fill of the whole window, read back. -/
theorem read_fill (v : View sig .tc .vmem S1x32x64x256 .f32) (f : BufTy.Contents (Elt Ideal) v.ty) (w : Vec Ideal S1x32x64x256 .f32) (y : S1x32x64x256.Idx) :
    v.read (Elt Ideal) (v.writes (Elt Ideal) f [⟨Rect.unit ![0, 0, 0, 0] S1x32x64x256.size inb_S1x32x64x256_S1x32x64x256_0_0_0_0, w⟩]) y = w y :=
  View.read_writes_cons_unit_of_mem v f inb_S1x32x64x256_S1x32x64x256_0_0_0_0 w [] y y rfl (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The stores of the eight query gradients, transposed and without the padding lanes. -/
def outs (t : Carried) : List (View.Piece (Elt Ideal) S1x8x64x256 .f32) :=
  [⟨rowT 7, k0_pay2 (part t 7)⟩, ⟨rowT 6, k0_pay1 (k0_pay176 (part t 6))⟩, ⟨rowT 5, k0_pay175 (part t 5)⟩, ⟨rowT 4, k0_pay174 (part t 4)⟩,
    ⟨rowT 3, k0_pay173 (part t 3)⟩, ⟨rowT 2, k0_pay172 (part t 2)⟩, ⟨rowT 1, k0_pay171 (part t 1)⟩, ⟨rowT 0, k0_pay170 (k0_pay169 (part t 0))⟩]

/-- An entry of a stored query gradient. -/
def outAt (t : Carried) (y : S1x8x64x256.Idx) : EReal := part t (y 1) (ix2 (y 3) ⟨(y 2).val, by have h : (y 2).val < 64 := (y 2).isLt; omega⟩)

theorem emb_rowT (s : Fin 8) (x : S1x1x64x256.Idx) : (rowT s).emb x = ix4 0 s (x 2) (x 3) := funext fun a => Fin.ext (by
  have h0 : (x 0).val < 1 := (x 0).isLt
  have h1 : (x 1).val < 1 := (x 1).isLt
  match a with
  | ⟨0, _⟩ => show 0 + 1 * (x 0).val = 0; omega
  | ⟨1, _⟩ => show s.val + 1 * (x 1).val = s.val; omega
  | ⟨2, _⟩ => show 0 + 1 * (x 2).val = (x 2).val; omega
  | ⟨3, _⟩ => show 0 + 1 * (x 3).val = (x 3).val; omega)

theorem pay0_apply (x : FVec Ideal S256x128 .f32) (y : S1x1x64x256.Idx) :
    k0_pay170 (k0_pay169 x) y = x (ix2 (y 3) ⟨(y 2).val, by have h : (y 2).val < 64 := (y 2).isLt; omega⟩) := by unfold_payloads; pointwise
theorem pay171_apply (x : FVec Ideal S256x128 .f32) (y : S1x1x64x256.Idx) :
    k0_pay171 x y = x (ix2 (y 3) ⟨(y 2).val, by have h : (y 2).val < 64 := (y 2).isLt; omega⟩) := by unfold_payloads; pointwise
theorem pay172_eq : k0_pay172 (F := Ideal) = k0_pay171 := rfl
theorem pay173_eq : k0_pay173 (F := Ideal) = k0_pay171 := rfl
theorem pay174_eq : k0_pay174 (F := Ideal) = k0_pay171 := rfl
theorem pay175_eq : k0_pay175 (F := Ideal) = k0_pay171 := rfl
theorem pay6_eq (x : FVec Ideal S256x128 .f32) : k0_pay1 (F := Ideal) (k0_pay176 x) = k0_pay171 x := rfl
theorem pay7_eq : k0_pay2 (F := Ideal) = k0_pay171 := rfl

theorem outs_canon (t : Carried) (y : S1x8x64x256.Idx) : View.canon (Val := Elt Ideal) (outs t) y = outAt t y := by
  refine Acc.canon_front (Val := Elt Ideal) (outAt t) [] y (outs t) ?_ ?_
  · have key (s : Fin 8) (p : View.Piece (Elt Ideal) S1x8x64x256 .f32) (h : p = ⟨rowT s, k0_pay171 (part t s)⟩) : ∀ x, p.2 x = outAt t (p.1.emb x) := by
      subst h
      intro x
      show k0_pay171 (part t s) x = outAt t ((rowT s).emb x)
      exact (pay171_apply (part t s) x).trans (congrArg (outAt t) (emb_rowT s x).symm)
    intro p hp
    rcases List.mem_cons.mp hp with h | hp
    · exact key 7 p h
    rcases List.mem_cons.mp hp with h | hp
    · exact key 6 p h
    rcases List.mem_cons.mp hp with h | hp
    · exact key 5 p h
    rcases List.mem_cons.mp hp with h | hp
    · exact key 4 p h
    rcases List.mem_cons.mp hp with h | hp
    · exact key 3 p h
    rcases List.mem_cons.mp hp with h | hp
    · exact key 2 p h
    rcases List.mem_cons.mp hp with h | hp
    · exact key 1 p h
    rcases List.mem_cons.mp hp with h | hp
    · exact key 0 p h
    exact absurd hp List.not_mem_nil
  · have hm (s : Fin 8) (hs : y 1 = s) : y ∈ (rowT s).set := by
      unfold rowT
      rw [Rect.mem_set_unit]
      intro a
      match a with
      | ⟨0, _⟩ => exact ⟨Nat.zero_le _, lt_of_lt_of_eq (y 0).isLt (by rfl)⟩
      | ⟨1, _⟩ => rw [← hs]; exact ⟨le_refl (y 1).val, Nat.lt_succ_self (y 1).val⟩
      | ⟨2, _⟩ => exact ⟨Nat.zero_le _, lt_of_lt_of_eq (y 2).isLt (by rfl)⟩
      | ⟨3, _⟩ => exact ⟨Nat.zero_le _, lt_of_lt_of_eq (y 3).isLt (by rfl)⟩
    obtain ⟨s, hs⟩ : ∃ s : Fin 8, y 1 = s := ⟨y 1, rfl⟩
    unfold outs
    match s, hs with
    | 0, hs => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hm 0 hs⟩
    | 1, hs => exact ⟨_, (List.mem_cons_of_mem _ (List.mem_cons_of_mem _ (List.mem_cons_of_mem _ (List.mem_cons_of_mem _ (List.mem_cons_of_mem _ (List.mem_cons_of_mem _ List.mem_cons_self)))))), hm 1 hs⟩
    | 2, hs => exact ⟨_, (List.mem_cons_of_mem _ (List.mem_cons_of_mem _ (List.mem_cons_of_mem _ (List.mem_cons_of_mem _ (List.mem_cons_of_mem _ List.mem_cons_self))))), hm 2 hs⟩
    | 3, hs => exact ⟨_, (List.mem_cons_of_mem _ (List.mem_cons_of_mem _ (List.mem_cons_of_mem _ (List.mem_cons_of_mem _ List.mem_cons_self)))), hm 3 hs⟩
    | 4, hs => exact ⟨_, (List.mem_cons_of_mem _ (List.mem_cons_of_mem _ (List.mem_cons_of_mem _ List.mem_cons_self))), hm 4 hs⟩
    | 5, hs => exact ⟨_, (List.mem_cons_of_mem _ (List.mem_cons_of_mem _ List.mem_cons_self)), hm 5 hs⟩
    | 6, hs => exact ⟨_, (List.mem_cons_of_mem _ List.mem_cons_self), hm 6 hs⟩
    | 7, hs => exact ⟨_, List.mem_cons_self, hm 7 hs⟩

section body
variable (c : Dev nD) (i : grid0.Coords) (arg2 : Memref sig .tc .vmem S1x8x256x128 .bf16) (arg3 : Memref sig .tc .vmem S1x8x64x256 .bf16)
  (arg4 : Memref sig .tc .vmem S1x8x256x128 .bf16) (arg5 : Memref sig .tc .vmem S1x8x64x256 .bf16)
  (arg6 : Memref sig .tc .vmem S1x8x64x256 .f32) (arg7 : Memref sig .tc .vmem S1x8x256x128 .f32)
  (arg8 : Memref sig .tc .vmem S1x8192x128 .bf16) (arg9 : Memref sig .tc .vmem S1x32x64x256 .bf16)
  (arg10 : Memref sig .tc .vmem S1x32x64x256 .bf16)
  (arg11 : Memref sig .tc .vmem S1x8x64x256 .f32) (arg12 arg13 : Memref sig .tc .vmem S1x32x64x256 .f32)
  (harg2 : arg2.IsWhole) (harg3 : arg3.IsWhole) (harg4 : arg4.IsWhole) (harg5 : arg5.IsWhole) (harg6 : arg6.IsWhole) (harg7 : arg7.IsWhole)
  (harg8 : arg8.IsWhole) (harg9 : arg9.IsWhole) (harg10 : arg10.IsWhole) (harg11 : arg11.IsWhole) (harg12 : arg12.IsWhole) (harg13 : arg13.IsWhole)
  (x0 : Vec Ideal S1x8x256x128 .bf16) (x1 : Vec Ideal S1x8x64x256 .bf16) (x2 : Vec Ideal S1x8x256x128 .bf16) (x3 : Vec Ideal S1x8x64x256 .bf16)
  (x4 : Vec Ideal S1x8x64x256 .f32) (x5 : Vec Ideal S1x8x256x128 .f32) (x6 : Vec Ideal S1x8192x128 .bf16) (x7 x8 : Vec Ideal S1x32x64x256 .bf16)
  (xo10 xo11 : Vec Ideal S1x32x64x256 .f32)

/-- What a point makes of its blocks: the query gradients, and the contributions to the key and the value gradients. -/
def dqBlk : Vec Ideal S1x8x64x256 .f32 := fun y =>
  ∑ n : Fin 8192, dqTerm x0 x2 x3 x4 x5 x6 x7 x8 (y 1) (y 3) ⟨(y 2).val, by have h : (y 2).val < 64 := (y 2).isLt; omega⟩ n.val

def dkBlk : Vec Ideal S1x32x64x256 .f32 := fun y => ∑ s, dkTerm x0 x1 x2 x3 x4 x5 x7 x8 s (y 2) (keyAt (y 1) (y 3))

def dvBlk : Vec Ideal S1x32x64x256 .f32 := fun y => ∑ s, dvTerm x0 x3 x5 x7 s (y 2) (keyAt (y 1) (y 3))

theorem eta4 (y : S1x32x64x256.Idx) : y = ix4 0 (y 1) (y 2) (y 3) := funext fun a => by
  match a with
  | ⟨0, _⟩ => exact Fin.ext (by have h0 : (y 0).val < 1 := (y 0).isLt; show (y 0).val = 0; omega)
  | ⟨1, _⟩ => rfl
  | ⟨2, _⟩ => rfl
  | ⟨3, _⟩ => rfl

theorem run_A_9 (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 = outs (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start k0_t1_loop.trips).1 := rfl
theorem run_A_10 (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 = (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start k0_t1_loop.trips).2.1 ++ zeros12 := rfl
theorem run_A_11 (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 = (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start k0_t1_loop.trips).2.2 ++ zeros13 := rfl

theorem out_A_9 (hc0 : cond0_0 i) (y : S1x8x64x256.Idx) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = dqBlk x0 x2 x3 x4 x5 x6 x7 x8 y := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), run_A_9, trips_eq]
  refine (outs_canon _ y).trans ?_
  unfold outAt
  exact (carried_end c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start x0 x2 x3 x4 x5 x6 x7 x8 (harg2.read_unread x0) (harg4.read_unread x2) (harg5.read_unread x3) (harg6.read_unread x4) (harg7.read_unread x5) (harg8.read_unread x6) (harg9.read_unread x7) (harg10.read_unread x8) (y 1) (y 3) _).trans
    ((congrArg (· + _) (start_apply (y 1) (y 3) _)).trans (zero_add _))

theorem out_A_10 (hc0 : cond0_0 i) (y : S1x32x64x256.Idx) : out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = 0 + dkBlk x0 x1 x2 x3 x4 x5 x7 x8 y := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8),
    ← View.read_writes_eq_canon arg12.view arg12.view.junk _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), run_A_10, View.writes_append, trips_eq, eta4 y]
  refine (stored12 c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start x0 x1 x2 x3 x4 x5 x7 x8 (harg2.read_unread x0) (harg3.read_unread x1) (harg4.read_unread x2) (harg5.read_unread x3) (harg6.read_unread x4) (harg7.read_unread x5) (harg9.read_unread x7) (harg10.read_unread x8) (y 1) (y 2) (y 3)).trans (congrArg (· + _) ?_)
  refine (read_fill arg12.view _ _ _).trans ?_
  unfold_payloads
  pointwise

theorem out_A_11 (hc0 : cond0_0 i) (y : S1x32x64x256.Idx) : out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = 0 + dvBlk x0 x3 x5 x7 y := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8),
    ← View.read_writes_eq_canon arg13.view arg13.view.junk _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), run_A_11, View.writes_append, trips_eq, eta4 y]
  refine (stored13 c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (arg12.view.writes (Elt Ideal) arg12.view.junk zeros12) (arg13.view.writes (Elt Ideal) arg13.view.junk zeros13) start x0 x3 x5 x7 (harg2.read_unread x0) (harg5.read_unread x3) (harg7.read_unread x5) (harg9.read_unread x7) (y 1) (y 2) (y 3)).trans (congrArg (· + _) ?_)
  refine (read_fill arg13.view _ _ _).trans ?_
  unfold_payloads
  pointwise

theorem run_B_9 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).1 = outs (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start k0_t1_loop.trips).1 := rfl
theorem run_B_10 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.1 = (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start k0_t1_loop.trips).2.1 := rfl
theorem run_B_11 (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11).2.2.1 = (state c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start k0_t1_loop.trips).2.2 := rfl

theorem out_B_9 (hc0 : ¬cond0_0 i) (y : S1x8x64x256.Idx) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 y = dqBlk x0 x2 x3 x4 x5 x6 x7 x8 y := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11), run_B_9, trips_eq]
  refine (outs_canon _ y).trans ?_
  unfold outAt
  exact (carried_end c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start x0 x2 x3 x4 x5 x6 x7 x8 (harg2.read_unread x0) (harg4.read_unread x2) (harg5.read_unread x3) (harg6.read_unread x4) (harg7.read_unread x5) (harg8.read_unread x6) (harg9.read_unread x7) (harg10.read_unread x8) (y 1) (y 3) _).trans
    ((congrArg (· + _) (start_apply (y 1) (y 3) _)).trans (zero_add _))

theorem out_B_10 (hc0 : ¬cond0_0 i) (y : S1x32x64x256.Idx) : out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 y = xo10 y + dkBlk x0 x1 x2 x3 x4 x5 x7 x8 y := by
  unfold out0_B_10
  rw [run_B_10, trips_eq, eta4 y]
  refine (stored12 c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start x0 x1 x2 x3 x4 x5 x7 x8 (harg2.read_unread x0) (harg3.read_unread x1) (harg4.read_unread x2) (harg5.read_unread x3) (harg6.read_unread x4) (harg7.read_unread x5) (harg9.read_unread x7) (harg10.read_unread x8) (y 1) (y 2) (y 3)).trans (congrArg (· + _) ?_)
  exact congrFun (harg12.read_unread xo10) _

theorem out_B_11 (hc0 : ¬cond0_0 i) (y : S1x32x64x256.Idx) : out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 y = xo11 y + dvBlk x0 x3 x5 x7 y := by
  unfold out0_B_11
  rw [run_B_11, trips_eq, eta4 y]
  refine (stored13 c i arg2 arg3 arg4 arg5 arg6 arg7 arg8 arg9 arg10 arg11 arg12 arg13 harg2 harg3 harg4 harg5 harg6 harg7 harg8 harg9 harg10 harg11 harg12 harg13 (harg2.unread x0) (harg3.unread x1) (harg4.unread x2) (harg5.unread x3) (harg6.unread x4) (harg7.unread x5) (harg8.unread x6) (harg9.unread x7) (harg10.unread x8) (harg12.unread xo10) (harg13.unread xo11) start x0 x3 x5 x7 (harg2.read_unread x0) (harg5.read_unread x3) (harg7.read_unread x5) (harg9.read_unread x7) (y 1) (y 2) (y 3)).trans (congrArg (· + _) ?_)
  exact congrFun (harg13.read_unread xo11) _

end body

end Cert.Proof.FaBody
-- ==== Proof.FaPoint.lean ====
module

public import proofs.«01_k».proof.Defs
public import proofs.«01_k».proof.Proof.Acc
public import proofs.«01_k».proof.Proof.FaBody
public import proofs.«01_k».proof.Proof.Gen.Kernel13Ideal.Value
public import proofs.«01_k».proof.Proof.Gen.Reference13Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The backward attention, a point's blocks

The gradients of `exp(q · kᵀ - lse) · v` normalised by `lse`, in `q`, `k` and `v`, two groups of 32768 query rows against 8192 keys. A point
takes 2048 query rows (8 strips of 256) of a group against all its keys; the key and value gradients are summed over the 16 points of a group.
-/

@[expose] public section
set_option maxRecDepth 16384
noncomputable section
namespace Cert.Proof.FaPoint
open Idealize.ShloMosaic Idealize.SL.Sem Cert.Kernel13Ideal
open Cert.Kernel13Ideal.Gen Idealize.ShloMosaic.TcCoe
open Idealize.ShloMosaic.Pipeline (Dat Cfg Window)
open Cert.Proof.FaStrip Cert.Proof.FaLoop Cert.Proof.FaBody

/-! ## The mathematics -/

variable (q : FVec Ideal S2x32768x64 .f32) (k v : FVec Ideal S2x8192x64 .f32) (o : FVec Ideal S2x32768x64 .f32) (lse : FVec Ideal S2x32768 .f32)
    (ct : FVec Ideal S2x32768x64 .f32)

/-- The softmax weight of query row `r` and key `n` of group `g`. -/
def soft (g : Fin 2) (r : Fin 32768) (n : Fin 8192) : EReal :=
  Ideal.exp ((∑ l : Fin 64, q (ix3 g r l) * k (ix3 g n l)) - lse (ix2 g r))

/-- The gradient in the score of query row `r` and key `n`. -/
def dsoft (g : Fin 2) (r : Fin 32768) (n : Fin 8192) : EReal :=
  soft q k lse g r n * ((∑ l : Fin 64, ct (ix3 g r l) * v (ix3 g n l)) - ∑ l : Fin 64, ct (ix3 g r l) * o (ix3 g r l))

/-- Row `b` of strip `p`. -/
def rowAt (p : Fin 128) (b : Fin 256) : Fin 32768 := ⟨256 * p.val + b.val, by omega⟩

/-- The query gradient, by strips of 256 rows, transposed. -/
def resultQ : FVec Ideal S2x128x64x256 .f32 := fun i =>
  ∑ n : Fin 8192, dsoft q k v o lse ct (i 0) (rowAt (i 1) (i 3)) n * k (ix3 (i 0) n (i 2))

/-- What a query row adds to the key gradient, and to the value gradient. -/
def keyTerm (g : Fin 2) (r : Fin 32768) (n : Fin 8192) (l : Fin 64) : EReal := dsoft q k v o lse ct g r n * q (ix3 g r l)

def valueTerm (g : Fin 2) (r : Fin 32768) (n : Fin 8192) (l : Fin 64) : EReal := soft q k lse g r n * ct (ix3 g r l)

/-- The key and value gradients, by blocks of 256 keys, transposed. -/
def resultK : FVec Ideal S2x32x64x256 .f32 := fun i => ∑ r : Fin 32768, keyTerm q k v o lse ct (i 0) r (keyAt (i 1) (i 3)) (i 2)

def resultV : FVec Ideal S2x32x64x256 .f32 := fun i => ∑ r : Fin 32768, valueTerm q k lse ct (i 0) r (keyAt (i 1) (i 3)) (i 2)

/-! ## What the forward pass saves -/

/-- The score of query row `r` and key `n` of group `g`. -/
def score (g : Fin 2) (r : Fin 32768) (n : Fin 8192) : EReal := ∑ l : Fin 64, q (ix3 g r l) * k (ix3 g n l)

/-- The largest score of a row. -/
def top (g : Fin 2) (r : Fin 32768) : EReal := Finset.univ.fold max ⊥ fun n : Fin 8192 => score q k g r n

/-- The sum of a row's shifted exponentials. -/
def total (g : Fin 2) (r : Fin 32768) : EReal := ∑ n : Fin 8192, Ideal.exp (score q k g r n - top q k g r)

/-- The attention's output. -/
def fwdOut : FVec Ideal S2x32768x64 .f32 := fun i =>
  ∑ n : Fin 8192, Ideal.div (Ideal.exp (score q k (i 0) (i 1) n - top q k (i 0) (i 1))) (total q k (i 0) (i 1)) * v (ix3 (i 0) n (i 2))

/-- The logarithm of the sum of a row's exponentials. -/
def fwdLse : FVec Ideal S2x32768 .f32 := fun i => top q k (i 0) (i 1) + Ideal.log (total q k (i 0) (i 1))

/-! ## A point's blocks -/

/-- The nine blocks of a point are those of the rows `row` of group `g`. -/
structure Blocks (x0 : Vec Ideal S1x8x256x128 .bf16) (x1 : Vec Ideal S1x8x64x256 .bf16) (x2 : Vec Ideal S1x8x256x128 .bf16)
    (x3 : Vec Ideal S1x8x64x256 .bf16) (x4 : Vec Ideal S1x8x64x256 .f32) (x5 : Vec Ideal S1x8x256x128 .f32) (x6 : Vec Ideal S1x8192x128 .bf16)
    (x7 x8 : Vec Ideal S1x32x64x256 .bf16) (g : Fin 2) (row : Fin 8 → Fin 256 → Fin 32768) : Prop where
  b0 : ∀ s a (l : Fin 64), x0 (ix4 0 s a ⟨l.val, by omega⟩) = q (ix3 g (row s a) l)
  b1 : ∀ s l a, x1 (ix4 0 s l a) = q (ix3 g (row s a) l)
  b2 : ∀ s a (l : Fin 64), x2 (ix4 0 s a ⟨l.val, by omega⟩) = ct (ix3 g (row s a) l)
  b3 : ∀ s l a, x3 (ix4 0 s l a) = ct (ix3 g (row s a) l)
  b4 : ∀ s l a, x4 (ix4 0 s l a) = o (ix3 g (row s a) l)
  b5 : ∀ s a b, x5 (ix4 0 s a b) = lse (ix2 g (row s a))
  b6 : ∀ n (l : Fin 64), x6 (ix3 0 n ⟨l.val, by omega⟩) = k (ix3 g n l)
  b7 : ∀ p l b, x7 (ix4 0 p l b) = k (ix3 g (keyAt p b) l)
  b8 : ∀ p l b, x8 (ix4 0 p l b) = v (ix3 g (keyAt p b) l)

section blocks
variable {q k v o lse ct}
  {x0 : Vec Ideal S1x8x256x128 .bf16} {x1 : Vec Ideal S1x8x64x256 .bf16} {x2 : Vec Ideal S1x8x256x128 .bf16}
  {x3 : Vec Ideal S1x8x64x256 .bf16} {x4 : Vec Ideal S1x8x64x256 .f32} {x5 : Vec Ideal S1x8x256x128 .f32} {x6 : Vec Ideal S1x8192x128 .bf16}
  {x7 x8 : Vec Ideal S1x32x64x256 .bf16} {g : Fin 2} {row : Fin 8 → Fin 256 → Fin 32768}
  (B : Blocks q k v o lse ct x0 x1 x2 x3 x4 x5 x6 x7 x8 g row)

theorem key_split (n : Fin 8192) : keyAt ⟨n.val / 256, by omega⟩ ⟨n.val % 256, Nat.mod_lt _ (by decide)⟩ = n := Fin.ext (by
  show 256 * (n.val / 256) + n.val % 256 = n.val; omega)

include B

theorem prob_eq (s : Fin 8) (a : Fin 256) (n : Fin 8192) : prob x0 x5 x7 s a n = soft q k lse g (row s a) n := by
  unfold prob soft rowDot
  simp only [B.b0, B.b5, B.b7, key_split]

theorem dscore_eq (s : Fin 8) (a : Fin 256) (n : Fin 8192) :
    dscore x0 x2 x3 x4 x5 x7 x8 s a n = dsoft q k v o lse ct g (row s a) n := by
  unfold dscore dsoft
  rw [prob_eq B]
  unfold rowDot
  simp only [B.b2, B.b3, B.b4, B.b8, key_split]

theorem dqBlk_eq (s : Fin 8) (l : Fin 64) (a : Fin 256) : dqBlk x0 x2 x3 x4 x5 x6 x7 x8 (ix4 0 s l a)
    = ∑ n : Fin 8192, dsoft q k v o lse ct g (row s a) n * k (ix3 g n l) := by
  unfold dqBlk dqTerm
  refine Finset.sum_congr rfl fun n _ => ?_
  have hn : Fin.ofNat 8192 n.val = n := Fin.ext (Nat.mod_eq_of_lt n.isLt)
  rw [hn]
  exact congrArg₂ (· * ·) (dscore_eq B s a n) (B.b6 n l)

theorem dkBlk_eq (p : Fin 32) (l : Fin 64) (b : Fin 256) : dkBlk x0 x1 x2 x3 x4 x5 x7 x8 (ix4 0 p l b)
    = ∑ s, ∑ a, keyTerm q k v o lse ct g (row s a) (keyAt p b) l := by
  unfold dkBlk dkTerm keyTerm
  refine Finset.sum_congr rfl fun s _ => Finset.sum_congr rfl fun a _ => ?_
  exact (congrArg₂ (· * ·) (B.b1 s l a) (dscore_eq B s a _)).trans (mul_comm _ _)

theorem dvBlk_eq (p : Fin 32) (l : Fin 64) (b : Fin 256) : dvBlk x0 x3 x5 x7 (ix4 0 p l b)
    = ∑ s, ∑ a, valueTerm q k lse ct g (row s a) (keyAt p b) l := by
  unfold dvBlk dvTerm valueTerm
  refine Finset.sum_congr rfl fun s _ => Finset.sum_congr rfl fun a _ => ?_
  exact (congrArg₂ (· * ·) (B.b3 s l a) (prob_eq B s a _)).trans (mul_comm _ _)

end blocks

/-! ## The host code before the call, read at an index -/

variable (m : (ℓ : Loc nD τ sig) → Buf (Elt Ideal) ℓ)

/-- The group and the rows of point `t`. -/
def grp (t : ℕ) : Fin 2 := Fin.ofNat 2 (t / 16)

def row (t : ℕ) (s : Fin 8) (a : Fin 256) : Fin 32768 := Fin.ofNat 32768 (t % 16 * 2048 + (s.val * 256 + a.val))

theorem ofNat_eq (n p : ℕ) [NeZero n] (h : p < n) : (⟨p, h⟩ : Fin n) = Fin.ofNat n p := Fin.ext (Nat.mod_eq_of_lt h).symm

/-- The queries by rows, in the first 64 lanes. -/
theorem V_q (c : Dev nD) (j : S2x128x256x128.Idx) (h : (j 3).val < 64) : V m c main_v21 j = m ((c : Thread nD τ).loc main_arg0) (ix3 (j 0) ⟨(j 1).val * 256 + (j 2).val, by have h1 : (j 1).val < 128 := (j 1).isLt; have h2 : (j 2).val < 256 := (j 2).isLt; omega⟩ ⟨(j 3).val, h⟩) := by
  unfold V; after_reads_at
  exact dif_pos h

/-- The queries by columns. -/
theorem V_qt (c : Dev nD) (j : S2x128x64x256.Idx) : V m c main_v23 j = m ((c : Thread nD τ).loc main_arg0) (ix3 (j 0) ⟨(j 1).val * 256 + (j 3).val, by have h1 : (j 1).val < 128 := (j 1).isLt; have h2 : (j 3).val < 256 := (j 3).isLt; omega⟩ (j 2)) := by
  unfold V; after_reads_at

/-- The output's gradient by rows. -/
theorem V_c (c : Dev nD) (j : S2x128x256x128.Idx) (h : (j 3).val < 64) : V m c main_v26 j = m ((c : Thread nD τ).loc main_arg3) (ix3 (j 0) ⟨(j 1).val * 256 + (j 2).val, by have h1 : (j 1).val < 128 := (j 1).isLt; have h2 : (j 2).val < 256 := (j 2).isLt; omega⟩ ⟨(j 3).val, h⟩) := by
  unfold V; after_reads_at
  exact dif_pos h

/-- The output's gradient by columns. -/
theorem V_ct (c : Dev nD) (j : S2x128x64x256.Idx) : V m c main_v28 j = m ((c : Thread nD τ).loc main_arg3) (ix3 (j 0) ⟨(j 1).val * 256 + (j 3).val, by have h1 : (j 1).val < 128 := (j 1).isLt; have h2 : (j 3).val < 256 := (j 3).isLt; omega⟩ (j 2)) := by
  unfold V; after_reads_at

/-! ## The output and the rows' logarithms

The host computes both before it lays the operands out; its operations are read in four stretches, so that no value is spelled twice. -/

section
variable {F : FTy → Type} [FloatOps F]

/-- The scores and the largest score of a row. -/
abbrev opsA : List (HloOp τ sig (Elt F)) :=
  [ StableHlo.binary main_arg0 main_arg1 main_v0 ((fun l r => Host.dotGeneral dot_S2x32768x64_S2x8192x64_S2x32768x8192_2_2_1_1_0_0 none l r) : (⟨S2x32768x64, .f32⟩ : BufTy).Contents (Elt F) → (⟨S2x8192x64, .f32⟩ : BufTy).Contents (Elt F) → (⟨S2x32768x8192, .f32⟩ : BufTy).Contents (Elt F)),
    StableHlo.nullary main_cst (constant S_ .f32 0xFF800000#32),
    StableHlo.binary main_v0 main_cst main_v1 ((fun x v => Host.reduce FloatOps.maximumf x v reducesTo_S2x32768x8192_S2x32768_d2 h_S_) : (⟨S2x32768x8192, .f32⟩ : BufTy).Contents (Elt F) → (⟨S_, .f32⟩ : BufTy).Contents (Elt F) → (⟨S2x32768, .f32⟩ : BufTy).Contents (Elt F)) ]

/-- The shifted exponentials. -/
abbrev opsB : List (HloOp τ sig (Elt F)) :=
  [ StableHlo.unary main_v1 main_v2 (broadcastInDim S2x32768x1 ![0, 1] bcast_S2x32768_S2x32768x1_0_1 : (⟨S2x32768, .f32⟩ : BufTy).Contents (Elt F) → (⟨S2x32768x1, .f32⟩ : BufTy).Contents (Elt F)),
    StableHlo.unary main_v2 main_v3 (broadcastInDim S2x32768x8192 ![0, 1, 2] bcast_S2x32768x1_S2x32768x8192_0_1_2 : (⟨S2x32768x1, .f32⟩ : BufTy).Contents (Elt F) → (⟨S2x32768x8192, .f32⟩ : BufTy).Contents (Elt F)),
    StableHlo.binary main_v0 main_v3 main_v4 (subf : (⟨S2x32768x8192, .f32⟩ : BufTy).Contents (Elt F) → (⟨S2x32768x8192, .f32⟩ : BufTy).Contents (Elt F) → (⟨S2x32768x8192, .f32⟩ : BufTy).Contents (Elt F)),
    StableHlo.unary main_v4 main_v5 (Host.exp : (⟨S2x32768x8192, .f32⟩ : BufTy).Contents (Elt F) → (⟨S2x32768x8192, .f32⟩ : BufTy).Contents (Elt F)) ]

/-- The sums, the output and the rows' logarithms. -/
abbrev opsC : List (HloOp τ sig (Elt F)) :=
  [ StableHlo.nullary main_cst_0 (constant S_ .f32 0x00000000#32),
    StableHlo.binary main_v5 main_cst_0 main_v6 ((fun x v => Host.reduceAdd x v reducesTo_S2x32768x8192_S2x32768_d2 h_S_) : (⟨S2x32768x8192, .f32⟩ : BufTy).Contents (Elt F) → (⟨S_, .f32⟩ : BufTy).Contents (Elt F) → (⟨S2x32768, .f32⟩ : BufTy).Contents (Elt F)),
    StableHlo.unary main_v6 main_v7 (broadcastInDim S2x32768x1 ![0, 1] bcast_S2x32768_S2x32768x1_0_1 : (⟨S2x32768, .f32⟩ : BufTy).Contents (Elt F) → (⟨S2x32768x1, .f32⟩ : BufTy).Contents (Elt F)),
    StableHlo.unary main_v7 main_v8 (broadcastInDim S2x32768x8192 ![0, 1, 2] bcast_S2x32768x1_S2x32768x8192_0_1_2 : (⟨S2x32768x1, .f32⟩ : BufTy).Contents (Elt F) → (⟨S2x32768x8192, .f32⟩ : BufTy).Contents (Elt F)),
    StableHlo.binary main_v5 main_v8 main_v9 (Host.divf : (⟨S2x32768x8192, .f32⟩ : BufTy).Contents (Elt F) → (⟨S2x32768x8192, .f32⟩ : BufTy).Contents (Elt F) → (⟨S2x32768x8192, .f32⟩ : BufTy).Contents (Elt F)),
    StableHlo.binary main_v9 main_arg2 main_v10 ((fun l r => Host.dotGeneral dot_S2x32768x8192_S2x8192x64_S2x32768x64_2_1_1_2_0_0 none l r) : (⟨S2x32768x8192, .f32⟩ : BufTy).Contents (Elt F) → (⟨S2x8192x64, .f32⟩ : BufTy).Contents (Elt F) → (⟨S2x32768x64, .f32⟩ : BufTy).Contents (Elt F)),
    StableHlo.unary main_v7 main_v11 (Host.log : (⟨S2x32768x1, .f32⟩ : BufTy).Contents (Elt F) → (⟨S2x32768x1, .f32⟩ : BufTy).Contents (Elt F)),
    StableHlo.binary main_v2 main_v11 main_v12 (addf : (⟨S2x32768x1, .f32⟩ : BufTy).Contents (Elt F) → (⟨S2x32768x1, .f32⟩ : BufTy).Contents (Elt F) → (⟨S2x32768x1, .f32⟩ : BufTy).Contents (Elt F)) ]

/-- The layout that the attention's kernel takes. -/
abbrev opsD : List (HloOp τ sig (Elt F)) :=
  [ StableHlo.unary main_arg0 main_v13 ((truncf .bf16 · bitsLt_bf16_f32) : (⟨S2x32768x64, .f32⟩ : BufTy).Contents (Elt F) → (⟨S2x32768x64, .bf16⟩ : BufTy).Contents (Elt F)),
    StableHlo.unary main_arg1 main_v14 ((truncf .bf16 · bitsLt_bf16_f32) : (⟨S2x8192x64, .f32⟩ : BufTy).Contents (Elt F) → (⟨S2x8192x64, .bf16⟩ : BufTy).Contents (Elt F)),
    StableHlo.unary main_arg2 main_v15 ((truncf .bf16 · bitsLt_bf16_f32) : (⟨S2x8192x64, .f32⟩ : BufTy).Contents (Elt F) → (⟨S2x8192x64, .bf16⟩ : BufTy).Contents (Elt F)),
    StableHlo.unary main_arg3 main_v16 ((truncf .bf16 · bitsLt_bf16_f32) : (⟨S2x32768x64, .f32⟩ : BufTy).Contents (Elt F) → (⟨S2x32768x64, .bf16⟩ : BufTy).Contents (Elt F)),
    StableHlo.reshape main_v12 main_v17 (rfl : (.f32 : EltTy) = .f32) shapeCasts_S2x32768x1_S2x128x256x1,
    StableHlo.unary main_v17 main_v18 (broadcastInDim S2x128x256x128 ![0, 1, 2, 3] bcast_S2x128x256x1_S2x128x256x128_0_1_2_3 : (⟨S2x128x256x1, .f32⟩ : BufTy).Contents (Elt F) → (⟨S2x128x256x128, .f32⟩ : BufTy).Contents (Elt F)),
    StableHlo.reshape main_v13 main_v19 (rfl : (.bf16 : EltTy) = .bf16) shapeCasts_S2x32768x64_S2x128x256x64,
    StableHlo.nullary main_cst_1 (constant S_ .bf16 0x0000#16),
    StableHlo.unary main_cst_1 main_v20 (broadcastInDim S2x128x256x64 ![] bcast_S_S2x128x256x64 : (⟨S_, .bf16⟩ : BufTy).Contents (Elt F) → (⟨S2x128x256x64, .bf16⟩ : BufTy).Contents (Elt F)),
    StableHlo.binary main_v19 main_v20 main_v21 ((fun a b => concatenate S2x128x256x128 3 [⟨S2x128x256x64, a⟩, ⟨S2x128x256x64, b⟩] concatenates_S2x128x256x64_S2x128x256x64_S2x128x256x128_d3) : (⟨S2x128x256x64, .bf16⟩ : BufTy).Contents (Elt F) → (⟨S2x128x256x64, .bf16⟩ : BufTy).Contents (Elt F) → (⟨S2x128x256x128, .bf16⟩ : BufTy).Contents (Elt F)),
    StableHlo.reshape main_v13 main_v22 (rfl : (.bf16 : EltTy) = .bf16) shapeCasts_S2x32768x64_S2x128x256x64,
    StableHlo.unary main_v22 main_v23 ((transpose S2x128x64x256 [0, 1, 3, 2] · transposes_S2x128x256x64_S2x128x64x256_0_1_3_2) : (⟨S2x128x256x64, .bf16⟩ : BufTy).Contents (Elt F) → (⟨S2x128x64x256, .bf16⟩ : BufTy).Contents (Elt F)),
    StableHlo.reshape main_v16 main_v24 (rfl : (.bf16 : EltTy) = .bf16) shapeCasts_S2x32768x64_S2x128x256x64,
    StableHlo.nullary main_cst_2 (constant S_ .bf16 0x0000#16),
    StableHlo.unary main_cst_2 main_v25 (broadcastInDim S2x128x256x64 ![] bcast_S_S2x128x256x64 : (⟨S_, .bf16⟩ : BufTy).Contents (Elt F) → (⟨S2x128x256x64, .bf16⟩ : BufTy).Contents (Elt F)),
    StableHlo.binary main_v24 main_v25 main_v26 ((fun a b => concatenate S2x128x256x128 3 [⟨S2x128x256x64, a⟩, ⟨S2x128x256x64, b⟩] concatenates_S2x128x256x64_S2x128x256x64_S2x128x256x128_d3) : (⟨S2x128x256x64, .bf16⟩ : BufTy).Contents (Elt F) → (⟨S2x128x256x64, .bf16⟩ : BufTy).Contents (Elt F) → (⟨S2x128x256x128, .bf16⟩ : BufTy).Contents (Elt F)),
    StableHlo.reshape main_v16 main_v27 (rfl : (.bf16 : EltTy) = .bf16) shapeCasts_S2x32768x64_S2x128x256x64,
    StableHlo.unary main_v27 main_v28 ((transpose S2x128x64x256 [0, 1, 3, 2] · transposes_S2x128x256x64_S2x128x64x256_0_1_3_2) : (⟨S2x128x256x64, .bf16⟩ : BufTy).Contents (Elt F) → (⟨S2x128x64x256, .bf16⟩ : BufTy).Contents (Elt F)),
    StableHlo.reshape main_v10 main_v29 (rfl : (.f32 : EltTy) = .f32) shapeCasts_S2x32768x64_S2x128x256x64,
    StableHlo.unary main_v29 main_v30 ((transpose S2x128x64x256 [0, 1, 3, 2] · transposes_S2x128x256x64_S2x128x64x256_0_1_3_2) : (⟨S2x128x256x64, .f32⟩ : BufTy).Contents (Elt F) → (⟨S2x128x64x256, .f32⟩ : BufTy).Contents (Elt F)),
    StableHlo.reshape main_v14 main_v31 (rfl : (.bf16 : EltTy) = .bf16) shapeCasts_S2x8192x64_S2x32x256x64,
    StableHlo.nullary main_cst_3 (constant S_ .bf16 0x0000#16),
    StableHlo.unary main_cst_3 main_v32 (broadcastInDim S2x32x256x64 ![] bcast_S_S2x32x256x64 : (⟨S_, .bf16⟩ : BufTy).Contents (Elt F) → (⟨S2x32x256x64, .bf16⟩ : BufTy).Contents (Elt F)),
    StableHlo.binary main_v31 main_v32 main_v33 ((fun a b => concatenate S2x32x256x128 3 [⟨S2x32x256x64, a⟩, ⟨S2x32x256x64, b⟩] concatenates_S2x32x256x64_S2x32x256x64_S2x32x256x128_d3) : (⟨S2x32x256x64, .bf16⟩ : BufTy).Contents (Elt F) → (⟨S2x32x256x64, .bf16⟩ : BufTy).Contents (Elt F) → (⟨S2x32x256x128, .bf16⟩ : BufTy).Contents (Elt F)),
    StableHlo.reshape main_v33 main_v34 (rfl : (.bf16 : EltTy) = .bf16) shapeCasts_S2x32x256x128_S2x8192x128,
    StableHlo.reshape main_v14 main_v35 (rfl : (.bf16 : EltTy) = .bf16) shapeCasts_S2x8192x64_S2x32x256x64,
    StableHlo.unary main_v35 main_v36 ((transpose S2x32x64x256 [0, 1, 3, 2] · transposes_S2x32x256x64_S2x32x64x256_0_1_3_2) : (⟨S2x32x256x64, .bf16⟩ : BufTy).Contents (Elt F) → (⟨S2x32x64x256, .bf16⟩ : BufTy).Contents (Elt F)),
    StableHlo.reshape main_v15 main_v37 (rfl : (.bf16 : EltTy) = .bf16) shapeCasts_S2x8192x64_S2x32x256x64,
    StableHlo.unary main_v37 main_v38 ((transpose S2x32x64x256 [0, 1, 3, 2] · transposes_S2x32x256x64_S2x32x64x256_0_1_3_2) : (⟨S2x32x256x64, .bf16⟩ : BufTy).Contents (Elt F) → (⟨S2x32x64x256, .bf16⟩ : BufTy).Contents (Elt F)) ]

end

theorem host_split (W : Valuation τ sig (Elt Ideal)) :
    StableHlo.after (hostOps0 (F := Ideal)) W =
      StableHlo.after (opsD (F := Ideal)) (StableHlo.after (opsC (F := Ideal)) (StableHlo.after (opsB (F := Ideal)) (StableHlo.after (opsA (F := Ideal)) W))) :=
  rfl

section
variable (W : Valuation τ sig (Elt Ideal))

theorem read_score (j : S2x32768x8192.Idx) :
    StableHlo.after (opsA (F := Ideal)) W (Proc.tc.devRef main_v0) j = score (W (Proc.tc.devRef main_arg0)) (W (Proc.tc.devRef main_arg1)) (j 0) (j 1) (j 2) := by
  unfold score
  after_reads_at

theorem bottom_eq : Ideal.ofBits FTy.f32 4286578688#32 = ⊥ := by simp [Ideal.ofBits, Ideal.ieee]

theorem read_top (j : S2x32768.Idx) :
    StableHlo.after (opsA (F := Ideal)) W (Proc.tc.devRef main_v1) j = top (W (Proc.tc.devRef main_arg0)) (W (Proc.tc.devRef main_arg1)) (j 0) (j 1) := by
  unfold top score
  after_reads_at
  rw [bottom_eq]

theorem read_exp (a : Fin 2 → Fin 32768 → Fin 8192 → EReal) (b : Fin 2 → Fin 32768 → EReal)
    (ha : ∀ j : S2x32768x8192.Idx, W (Proc.tc.devRef main_v0) j = a (j 0) (j 1) (j 2))
    (hb : ∀ j : S2x32768.Idx, W (Proc.tc.devRef main_v1) j = b (j 0) (j 1)) (j : S2x32768x8192.Idx) :
    StableHlo.after (opsB (F := Ideal)) W (Proc.tc.devRef main_v5) j = Ideal.exp (a (j 0) (j 1) (j 2) - b (j 0) (j 1)) := by
  refine Eq.trans ?_ (congrArg Ideal.exp (congrArg₂ (fun x y : EReal => x - y) (ha j) (hb (ix2 (j 0) (j 1)))))
  after_reads_at

theorem read_column (b : Fin 2 → Fin 32768 → EReal)
    (hb : ∀ j : S2x32768.Idx, W (Proc.tc.devRef main_v1) j = b (j 0) (j 1)) (j : S2x32768x1.Idx) :
    StableHlo.after (opsB (F := Ideal)) W (Proc.tc.devRef main_v2) j = b (j 0) (j 1) := by
  refine Eq.trans ?_ (hb (ix2 (j 0) (j 1)))
  after_reads_at

theorem read_out (p : Fin 2 → Fin 32768 → Fin 8192 → EReal) (w : FVec Ideal S2x8192x64 .f32)
    (hp : ∀ j : S2x32768x8192.Idx, W (Proc.tc.devRef main_v5) j = p (j 0) (j 1) (j 2)) (hw : W (Proc.tc.devRef main_arg2) = w) (j : S2x32768x64.Idx) :
    StableHlo.after (opsC (F := Ideal)) W (Proc.tc.devRef main_v10) j =
      ∑ n : Fin 8192, Ideal.div (p (j 0) (j 1) n) (∑ n : Fin 8192, p (j 0) (j 1) n) * w (ix3 (j 0) n (j 2)) := by
  subst hw
  obtain rfl : p = fun g r n => W (Proc.tc.devRef main_v5) (ix3 g r n) := by funext g r n; exact (hp (ix3 g r n)).symm
  after_reads_at

theorem read_log (p : Fin 2 → Fin 32768 → Fin 8192 → EReal) (b : Fin 2 → Fin 32768 → EReal)
    (hp : ∀ j : S2x32768x8192.Idx, W (Proc.tc.devRef main_v5) j = p (j 0) (j 1) (j 2))
    (hb : ∀ j : S2x32768x1.Idx, W (Proc.tc.devRef main_v2) j = b (j 0) (j 1)) (j : S2x32768x1.Idx) :
    StableHlo.after (opsC (F := Ideal)) W (Proc.tc.devRef main_v12) j = b (j 0) (j 1) + Ideal.log (∑ n : Fin 8192, p (j 0) (j 1) n) := by
  refine Eq.trans ?_ (congrArg (fun x : EReal => x + Ideal.log (∑ n : Fin 8192, p (j 0) (j 1) n)) (hb j))
  obtain rfl : p = fun g r n => W (Proc.tc.devRef main_v5) (ix3 g r n) := by funext g r n; exact (hp (ix3 g r n)).symm
  after_reads_at

theorem read_columns (j : S2x128x64x256.Idx) :
    StableHlo.after (opsD (F := Ideal)) W (Proc.tc.devRef main_v30) j =
      W (Proc.tc.devRef main_v10) (ix3 (j 0) ⟨(j 1).val * 256 + (j 3).val, by have h1 : (j 1).val < 128 := (j 1).isLt; have h2 : (j 3).val < 256 := (j 3).isLt; omega⟩ (j 2)) := by
  after_reads_at

theorem read_lanes (j : S2x128x256x128.Idx) :
    StableHlo.after (opsD (F := Ideal)) W (Proc.tc.devRef main_v18) j =
      W (Proc.tc.devRef main_v12) (ix3 (j 0) ⟨(j 1).val * 256 + (j 2).val, by have h1 : (j 1).val < 128 := (j 1).isLt; have h2 : (j 2).val < 256 := (j 2).isLt; omega⟩ 0) := by
  after_reads_at

theorem keep_values : StableHlo.after (opsB (F := Ideal)) (StableHlo.after (opsA (F := Ideal)) W) (Proc.tc.devRef main_arg2) = W (Proc.tc.devRef main_arg2) := by
  after_reads_simp

/-- The output that the program computes. -/
theorem out_at (j : S2x32768x64.Idx) :
    StableHlo.after (opsC (F := Ideal)) (StableHlo.after (opsB (F := Ideal)) (StableHlo.after (opsA (F := Ideal)) W)) (Proc.tc.devRef main_v10) j =
      fwdOut (W (Proc.tc.devRef main_arg0)) (W (Proc.tc.devRef main_arg1)) (W (Proc.tc.devRef main_arg2)) j :=
  read_out _
    (fun g r n => Ideal.exp (score (W (Proc.tc.devRef main_arg0)) (W (Proc.tc.devRef main_arg1)) g r n - top (W (Proc.tc.devRef main_arg0)) (W (Proc.tc.devRef main_arg1)) g r))
    (W (Proc.tc.devRef main_arg2)) (read_exp _ _ _ (read_score W) (read_top W)) (keep_values W) j

/-- The rows' logarithms that the program computes. -/
theorem lse_at (j : S2x32768x1.Idx) :
    StableHlo.after (opsC (F := Ideal)) (StableHlo.after (opsB (F := Ideal)) (StableHlo.after (opsA (F := Ideal)) W)) (Proc.tc.devRef main_v12) j =
      fwdLse (W (Proc.tc.devRef main_arg0)) (W (Proc.tc.devRef main_arg1)) (ix2 (j 0) (j 1)) :=
  read_log _
    (fun g r n => Ideal.exp (score (W (Proc.tc.devRef main_arg0)) (W (Proc.tc.devRef main_arg1)) g r n - top (W (Proc.tc.devRef main_arg0)) (W (Proc.tc.devRef main_arg1)) g r))
    (top (W (Proc.tc.devRef main_arg0)) (W (Proc.tc.devRef main_arg1))) (read_exp _ _ _ (read_score W) (read_top W)) (read_column _ _ (read_top W)) j

end

/-- The output by columns. -/
theorem V_o (c : Dev nD) (j : S2x128x64x256.Idx) : V m c main_v30 j = fwdOut (m ((c : Thread nD τ).loc main_arg0)) (m ((c : Thread nD τ).loc main_arg1)) (m ((c : Thread nD τ).loc main_arg2)) (ix3 (j 0) ⟨(j 1).val * 256 + (j 3).val, by have h1 : (j 1).val < 128 := (j 1).isLt; have h2 : (j 3).val < 256 := (j 3).isLt; omega⟩ (j 2)) := by
  unfold V; rw [host_split]; exact (read_columns _ j).trans (out_at _ _)

/-- The rows' logarithms, in every lane. -/
theorem V_lse (c : Dev nD) (j : S2x128x256x128.Idx) : V m c main_v18 j = fwdLse (m ((c : Thread nD τ).loc main_arg0)) (m ((c : Thread nD τ).loc main_arg1)) (ix2 (j 0) ⟨(j 1).val * 256 + (j 2).val, by have h1 : (j 1).val < 128 := (j 1).isLt; have h2 : (j 2).val < 256 := (j 2).isLt; omega⟩) := by
  unfold V; rw [host_split]; exact (read_lanes _ j).trans (lse_at _ _)

attribute [local irreducible] fwdOut fwdLse

theorem V_v31 (c : Dev nD) (j : S2x32x256x64.Idx) :
    StableHlo.upto hostOps0 (fun b => m (c, b)) 38 (Proc.tc.devRef main_v31) j = m ((c : Thread nD τ).loc main_arg1) (ix3 (j 0) ⟨(j 1).val * 256 + (j 2).val, by have h1 : (j 1).val < 32 := (j 1).isLt; have h2 : (j 2).val < 256 := (j 2).isLt; omega⟩ (j 3)) := by
  after_reads_at

/-- The keys by rows, in the first 64 lanes. -/
theorem V_k (c : Dev nD) (j : S2x8192x128.Idx) (h : (j 2).val < 64) : V m c main_v34 j = m ((c : Thread nD τ).loc main_arg1) (ix3 (j 0) (j 1) ⟨(j 2).val, h⟩) := by
  unfold V; after_reads_at
  refine (dif_pos h).trans ((V_v31 m c _).trans (congrArg (m ((c : Thread nD τ).loc main_arg1)) ?_))
  funext a; apply Fin.ext
  match a with
  | ⟨0, _⟩ => rfl
  | ⟨1, _⟩ => show (j 1).val / 256 * 256 + (j 1).val % 256 = (j 1).val; omega
  | ⟨2, _⟩ => rfl

/-- The keys and the values by columns. -/
theorem V_kt (c : Dev nD) (j : S2x32x64x256.Idx) : V m c main_v36 j = m ((c : Thread nD τ).loc main_arg1) (ix3 (j 0) ⟨(j 1).val * 256 + (j 3).val, by have h1 : (j 1).val < 32 := (j 1).isLt; have h2 : (j 3).val < 256 := (j 3).isLt; omega⟩ (j 2)) := by
  unfold V; after_reads_at

theorem V_vt (c : Dev nD) (j : S2x32x64x256.Idx) : V m c main_v38 j = m ((c : Thread nD τ).loc main_arg2) (ix3 (j 0) ⟨(j 1).val * 256 + (j 3).val, by have h1 : (j 1).val < 32 := (j 1).isLt; have h2 : (j 3).val < 256 := (j 3).isLt; omega⟩ (j 2)) := by
  unfold V; after_reads_at

theorem idx0 : ∀ t : Fin cfg0.N, win0_0.index t 0 = t.val / 16 ∧ win0_0.index t 1 = t.val % 16 ∧ win0_0.index t 2 = 0 ∧ win0_0.index t 3 = 0 :=
  (by decide +kernel : ∀ t : Fin grid0.N, _)
theorem idx1 : ∀ t : Fin cfg0.N, win0_1.index t 0 = t.val / 16 ∧ win0_1.index t 1 = t.val % 16 ∧ win0_1.index t 2 = 0 ∧ win0_1.index t 3 = 0 :=
  (by decide +kernel : ∀ t : Fin grid0.N, _)
theorem idx2 : ∀ t : Fin cfg0.N, win0_2.index t 0 = t.val / 16 ∧ win0_2.index t 1 = t.val % 16 ∧ win0_2.index t 2 = 0 ∧ win0_2.index t 3 = 0 :=
  (by decide +kernel : ∀ t : Fin grid0.N, _)
theorem idx3 : ∀ t : Fin cfg0.N, win0_3.index t 0 = t.val / 16 ∧ win0_3.index t 1 = t.val % 16 ∧ win0_3.index t 2 = 0 ∧ win0_3.index t 3 = 0 :=
  (by decide +kernel : ∀ t : Fin grid0.N, _)
theorem idx4 : ∀ t : Fin cfg0.N, win0_4.index t 0 = t.val / 16 ∧ win0_4.index t 1 = t.val % 16 ∧ win0_4.index t 2 = 0 ∧ win0_4.index t 3 = 0 :=
  (by decide +kernel : ∀ t : Fin grid0.N, _)
theorem idx5 : ∀ t : Fin cfg0.N, win0_5.index t 0 = t.val / 16 ∧ win0_5.index t 1 = t.val % 16 ∧ win0_5.index t 2 = 0 ∧ win0_5.index t 3 = 0 :=
  (by decide +kernel : ∀ t : Fin grid0.N, _)
theorem idx6 : ∀ t : Fin cfg0.N, win0_6.index t 0 = t.val / 16 ∧ win0_6.index t 1 = 0 ∧ win0_6.index t 2 = 0 :=
  (by decide +kernel : ∀ t : Fin grid0.N, _)
theorem idx7 : ∀ t : Fin cfg0.N, win0_7.index t 0 = t.val / 16 ∧ win0_7.index t 1 = 0 ∧ win0_7.index t 2 = 0 ∧ win0_7.index t 3 = 0 :=
  (by decide +kernel : ∀ t : Fin grid0.N, _)
theorem idx8 : ∀ t : Fin cfg0.N, win0_8.index t 0 = t.val / 16 ∧ win0_8.index t 1 = 0 ∧ win0_8.index t 2 = 0 ∧ win0_8.index t 3 = 0 :=
  (by decide +kernel : ∀ t : Fin grid0.N, _)
theorem idx9 : ∀ t : Fin cfg0.N, win0_9.index t 0 = t.val / 16 ∧ win0_9.index t 1 = t.val % 16 ∧ win0_9.index t 2 = 0 ∧ win0_9.index t 3 = 0 :=
  (by decide +kernel : ∀ t : Fin grid0.N, _)
theorem idx10 : ∀ t : Fin cfg0.N, win0_10.index t 0 = t.val / 16 ∧ win0_10.index t 1 = 0 ∧ win0_10.index t 2 = 0 ∧ win0_10.index t 3 = 0 :=
  (by decide +kernel : ∀ t : Fin grid0.N, _)
theorem idx11 : ∀ t : Fin cfg0.N, win0_11.index t 0 = t.val / 16 ∧ win0_11.index t 1 = 0 ∧ win0_11.index t 2 = 0 ∧ win0_11.index t 3 = 0 :=
  (by decide +kernel : ∀ t : Fin grid0.N, _)

theorem iblk0 (c : Dev nD) (t : Fin cfg0.N) (s : Fin 8) (a' : Fin 256) (l : Fin 64) : iblk m c 0 t (ix4 0 s a' ⟨l.val, by omega⟩) = m ((c : Thread nD τ).loc main_arg0) (ix3 (grp t.val) (row t.val s a') l) := by
  unfold iblk
  rw [View.read_apply]
  have hN : cfg0.N = 32 := N_0
  have ht := t.isLt
  obtain ⟨h0, h1, h2, h3⟩ := idx0 t
  refine (V_q m c _ (by show win0_0.index t 3 * 128 + 1 * l.val < 64; omega)).trans (congrArg (m ((c : Thread nD τ).loc main_arg0)) ?_)
  funext a; apply Fin.ext
  match a with
  | ⟨0, _⟩ => show win0_0.index t 0 * 1 + 1 * 0 = t.val / 16 % 2; omega
  | ⟨1, _⟩ => show (win0_0.index t 1 * 8 + 1 * s.val) * 256 + (win0_0.index t 2 * 256 + 1 * a'.val) = (t.val % 16 * 2048 + (s.val * 256 + a'.val)) % 32768; omega
  | ⟨2, _⟩ => show win0_0.index t 3 * 128 + 1 * l.val = l.val; omega

theorem iblk2 (c : Dev nD) (t : Fin cfg0.N) (s : Fin 8) (a' : Fin 256) (l : Fin 64) : iblk m c 2 t (ix4 0 s a' ⟨l.val, by omega⟩) = m ((c : Thread nD τ).loc main_arg3) (ix3 (grp t.val) (row t.val s a') l) := by
  unfold iblk
  rw [View.read_apply]
  have hN : cfg0.N = 32 := N_0
  have ht := t.isLt
  obtain ⟨h0, h1, h2, h3⟩ := idx2 t
  refine (V_c m c _ (by show win0_2.index t 3 * 128 + 1 * l.val < 64; omega)).trans (congrArg (m ((c : Thread nD τ).loc main_arg3)) ?_)
  funext a; apply Fin.ext
  match a with
  | ⟨0, _⟩ => show win0_2.index t 0 * 1 + 1 * 0 = t.val / 16 % 2; omega
  | ⟨1, _⟩ => show (win0_2.index t 1 * 8 + 1 * s.val) * 256 + (win0_2.index t 2 * 256 + 1 * a'.val) = (t.val % 16 * 2048 + (s.val * 256 + a'.val)) % 32768; omega
  | ⟨2, _⟩ => show win0_2.index t 3 * 128 + 1 * l.val = l.val; omega

theorem iblk1 (c : Dev nD) (t : Fin cfg0.N) (s : Fin 8) (l : Fin 64) (a' : Fin 256) : iblk m c 1 t (ix4 0 s l a') = m ((c : Thread nD τ).loc main_arg0) (ix3 (grp t.val) (row t.val s a') l) := by
  unfold iblk
  rw [View.read_apply]
  have hN : cfg0.N = 32 := N_0
  have ht := t.isLt
  obtain ⟨h0, h1, h2, h3⟩ := idx1 t
  refine (V_qt m c _).trans (congrArg (m ((c : Thread nD τ).loc main_arg0)) ?_)
  funext a; apply Fin.ext
  match a with
  | ⟨0, _⟩ => show win0_1.index t 0 * 1 + 1 * 0 = t.val / 16 % 2; omega
  | ⟨1, _⟩ => show (win0_1.index t 1 * 8 + 1 * s.val) * 256 + (win0_1.index t 3 * 256 + 1 * a'.val) = (t.val % 16 * 2048 + (s.val * 256 + a'.val)) % 32768; omega
  | ⟨2, _⟩ => show win0_1.index t 2 * 64 + 1 * l.val = l.val; omega

theorem iblk3 (c : Dev nD) (t : Fin cfg0.N) (s : Fin 8) (l : Fin 64) (a' : Fin 256) : iblk m c 3 t (ix4 0 s l a') = m ((c : Thread nD τ).loc main_arg3) (ix3 (grp t.val) (row t.val s a') l) := by
  unfold iblk
  rw [View.read_apply]
  have hN : cfg0.N = 32 := N_0
  have ht := t.isLt
  obtain ⟨h0, h1, h2, h3⟩ := idx3 t
  refine (V_ct m c _).trans (congrArg (m ((c : Thread nD τ).loc main_arg3)) ?_)
  funext a; apply Fin.ext
  match a with
  | ⟨0, _⟩ => show win0_3.index t 0 * 1 + 1 * 0 = t.val / 16 % 2; omega
  | ⟨1, _⟩ => show (win0_3.index t 1 * 8 + 1 * s.val) * 256 + (win0_3.index t 3 * 256 + 1 * a'.val) = (t.val % 16 * 2048 + (s.val * 256 + a'.val)) % 32768; omega
  | ⟨2, _⟩ => show win0_3.index t 2 * 64 + 1 * l.val = l.val; omega

theorem iblk4 (c : Dev nD) (t : Fin cfg0.N) (s : Fin 8) (l : Fin 64) (a' : Fin 256) : iblk m c 4 t (ix4 0 s l a') = fwdOut (m ((c : Thread nD τ).loc main_arg0)) (m ((c : Thread nD τ).loc main_arg1)) (m ((c : Thread nD τ).loc main_arg2)) (ix3 (grp t.val) (row t.val s a') l) := by
  obtain ⟨A, hA⟩ : ∃ A : FVec Ideal S2x128x64x256 .f32, V m c main_v30 = A := ⟨_, rfl⟩
  have hB : V m c (Pipeline.arrRef spec0 4) = A := hA
  unfold iblk
  rw [hB, View.read_apply]
  have hN : cfg0.N = 32 := N_0
  have ht := t.isLt
  obtain ⟨h0, h1, h2, h3⟩ := idx4 t
  refine (congrFun hA _).symm.trans ((V_o m c _).trans (congrArg (fwdOut (m ((c : Thread nD τ).loc main_arg0)) (m ((c : Thread nD τ).loc main_arg1)) (m ((c : Thread nD τ).loc main_arg2))) ?_))
  funext a; apply Fin.ext
  match a with
  | ⟨0, _⟩ => show win0_4.index t 0 * 1 + 1 * 0 = t.val / 16 % 2; omega
  | ⟨1, _⟩ => show (win0_4.index t 1 * 8 + 1 * s.val) * 256 + (win0_4.index t 3 * 256 + 1 * a'.val) = (t.val % 16 * 2048 + (s.val * 256 + a'.val)) % 32768; omega
  | ⟨2, _⟩ => show win0_4.index t 2 * 64 + 1 * l.val = l.val; omega

theorem iblk5 (c : Dev nD) (t : Fin cfg0.N) (s : Fin 8) (a' : Fin 256) (b : Fin 128) : iblk m c 5 t (ix4 0 s a' b) = fwdLse (m ((c : Thread nD τ).loc main_arg0)) (m ((c : Thread nD τ).loc main_arg1)) (ix2 (grp t.val) (row t.val s a')) := by
  obtain ⟨A, hA⟩ : ∃ A : FVec Ideal S2x128x256x128 .f32, V m c main_v18 = A := ⟨_, rfl⟩
  have hB : V m c (Pipeline.arrRef spec0 5) = A := hA
  unfold iblk
  rw [hB, View.read_apply]
  have hN : cfg0.N = 32 := N_0
  have ht := t.isLt
  obtain ⟨h0, h1, h2, h3⟩ := idx5 t
  refine (congrFun hA _).symm.trans ((V_lse m c _).trans (congrArg (fwdLse (m ((c : Thread nD τ).loc main_arg0)) (m ((c : Thread nD τ).loc main_arg1))) ?_))
  funext a; apply Fin.ext
  match a with
  | ⟨0, _⟩ => show win0_5.index t 0 * 1 + 1 * 0 = t.val / 16 % 2; omega
  | ⟨1, _⟩ => show (win0_5.index t 1 * 8 + 1 * s.val) * 256 + (win0_5.index t 2 * 256 + 1 * a'.val) = (t.val % 16 * 2048 + (s.val * 256 + a'.val)) % 32768; omega

theorem iblk6 (c : Dev nD) (t : Fin cfg0.N) (n : Fin 8192) (l : Fin 64) : iblk m c 6 t (ix3 0 n ⟨l.val, by omega⟩) = m ((c : Thread nD τ).loc main_arg1) (ix3 (grp t.val) n l) := by
  obtain ⟨A, hA⟩ : ∃ A : FVec Ideal S2x8192x128 .bf16, V m c main_v34 = A := ⟨_, rfl⟩
  have hB : V m c (Pipeline.arrRef spec0 6) = A := hA
  unfold iblk
  rw [hB, View.read_apply]
  have hN : cfg0.N = 32 := N_0
  have ht := t.isLt
  obtain ⟨h0, h1, h2⟩ := idx6 t
  refine (congrFun hA _).symm.trans ((V_k m c _ (by show win0_6.index t 2 * 128 + 1 * l.val < 64; omega)).trans (congrArg (m ((c : Thread nD τ).loc main_arg1)) ?_))
  funext a; apply Fin.ext
  match a with
  | ⟨0, _⟩ => show win0_6.index t 0 * 1 + 1 * 0 = t.val / 16 % 2; omega
  | ⟨1, _⟩ => show win0_6.index t 1 * 8192 + 1 * n.val = n.val; omega
  | ⟨2, _⟩ => show win0_6.index t 2 * 128 + 1 * l.val = l.val; omega

theorem iblk7 (c : Dev nD) (t : Fin cfg0.N) (p : Fin 32) (l : Fin 64) (b : Fin 256) : iblk m c 7 t (ix4 0 p l b) = m ((c : Thread nD τ).loc main_arg1) (ix3 (grp t.val) (keyAt p b) l) := by
  unfold iblk
  rw [View.read_apply]
  have hN : cfg0.N = 32 := N_0
  have ht := t.isLt
  obtain ⟨h0, h1, h2, h3⟩ := idx7 t
  refine (V_kt m c _).trans (congrArg (m ((c : Thread nD τ).loc main_arg1)) ?_)
  funext a; apply Fin.ext
  match a with
  | ⟨0, _⟩ => show win0_7.index t 0 * 1 + 1 * 0 = t.val / 16 % 2; omega
  | ⟨1, _⟩ => show (win0_7.index t 1 * 32 + 1 * p.val) * 256 + (win0_7.index t 3 * 256 + 1 * b.val) = 256 * p.val + b.val; omega
  | ⟨2, _⟩ => show win0_7.index t 2 * 64 + 1 * l.val = l.val; omega

theorem iblk8 (c : Dev nD) (t : Fin cfg0.N) (p : Fin 32) (l : Fin 64) (b : Fin 256) : iblk m c 8 t (ix4 0 p l b) = m ((c : Thread nD τ).loc main_arg2) (ix3 (grp t.val) (keyAt p b) l) := by
  unfold iblk
  rw [View.read_apply]
  have hN : cfg0.N = 32 := N_0
  have ht := t.isLt
  obtain ⟨h0, h1, h2, h3⟩ := idx8 t
  refine (V_vt m c _).trans (congrArg (m ((c : Thread nD τ).loc main_arg2)) ?_)
  funext a; apply Fin.ext
  match a with
  | ⟨0, _⟩ => show win0_8.index t 0 * 1 + 1 * 0 = t.val / 16 % 2; omega
  | ⟨1, _⟩ => show (win0_8.index t 1 * 32 + 1 * p.val) * 256 + (win0_8.index t 3 * 256 + 1 * b.val) = 256 * p.val + b.val; omega
  | ⟨2, _⟩ => show win0_8.index t 2 * 64 + 1 * l.val = l.val; omega

/-- The windows' blocks at point `t` are those of its rows. -/
theorem blocks (c : Dev nD) (t : Fin cfg0.N) : Blocks (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))
    (iblk m c 0 t) (iblk m c 1 t) (iblk m c 2 t) (iblk m c 3 t) (iblk m c 4 t) (iblk m c 5 t) (iblk m c 6 t) (iblk m c 7 t) (iblk m c 8 t) (grp t.val) (row t.val) where
  b0 := iblk0 m c t
  b1 := iblk1 m c t
  b2 := iblk2 m c t
  b3 := iblk3 m c t
  b4 := iblk4 m c t
  b5 := iblk5 m c t
  b6 := iblk6 m c t
  b7 := iblk7 m c t
  b8 := iblk8 m c t

end Cert.Proof.FaPoint
-- ==== Proof.FaSoft.lean ====
module

public import Idealize.ShloMosaic.Lib.Pointwise
public import Idealize.ShloMosaic.Lib.IdealHost

/-!
# Softmax over the reals

The weights `exp sₙ / Σ exp sₘ`, written with any shift of the scores, and the gradient through them, for scores that are real numbers.
-/

@[expose] public section
noncomputable section
namespace Cert.Proof.FaSoft
open Idealize.ShloMosaic

variable {ι : Type} [Fintype ι]

/-- A finite sum of real numbers, taken over the extended reals. -/
theorem coe_sum (f : ι → ℝ) : ∑ m, (f m : EReal) = ((∑ m, f m : ℝ) : EReal) :=
  (map_sum (⟨⟨fun x : ℝ => (x : EReal), EReal.coe_zero⟩, EReal.coe_add⟩ : ℝ →+ EReal) f Finset.univ).symm

/-- A finite sum of products of real numbers. -/
theorem coe_dot (f g : ι → ℝ) : ∑ m, (f m : EReal) * (g m : EReal) = ((∑ m, f m * g m : ℝ) : EReal) :=
  (Finset.sum_congr rfl fun m _ => (EReal.coe_mul (f m) (g m)).symm).trans (coe_sum fun m => f m * g m)

/-- The quotient of two reals, the divisor not zero. -/
theorem coe_quot (x : ℝ) {y : ℝ} (h : y ≠ 0) : Ideal.div (x : EReal) (y : EReal) = ((x / y : ℝ) : EReal) := by
  rw [Ideal.div_coe h, ← EReal.coe_mul]
  exact congrArg _ (by ring)

theorem coe_exp_sub (x t : ℝ) : Ideal.exp ((x : EReal) - (t : EReal)) = ((Real.exp (x - t) : ℝ) : EReal) := by
  rw [← EReal.coe_sub, Ideal.exp_coe]

/-- The softmax weights. -/
def weight (s : ι → ℝ) (n : ι) : ℝ := Real.exp (s n) / ∑ m, Real.exp (s m)

/-- The gradient in the scores, of a gradient `d` in the weights. -/
def dscore (s d : ι → ℝ) (n : ι) : ℝ := weight s n * (d n - ∑ m, weight s m * d m)

variable [Nonempty ι]

theorem total_pos (s : ι → ℝ) : 0 < ∑ m, Real.exp (s m) := Finset.sum_pos (fun m _ => Real.exp_pos _) Finset.univ_nonempty

/-- The largest of finitely many reals is a real. -/
theorem max_real (s : ι → ℝ) : ∃ t : ℝ, Finset.univ.fold max (⊥ : EReal) (fun n => (s n : EReal)) = (t : EReal) := by
  have h : Finset.univ.fold max (⊥ : EReal) (fun n => (s n : EReal)) = Finset.univ.sup fun n => (s n : EReal) := rfl
  obtain ⟨n, _, hn⟩ := Finset.exists_mem_eq_sup Finset.univ Finset.univ_nonempty fun n => (s n : EReal)
  exact ⟨s n, h.trans hn⟩

theorem total_shift (s : ι → ℝ) (t : ℝ) : ∑ m, Real.exp (s m - t) = (∑ m, Real.exp (s m)) / Real.exp t := by
  rw [Finset.sum_div]
  exact Finset.sum_congr rfl fun m _ => Real.exp_sub _ _

theorem weight_shift (s : ι → ℝ) (t : ℝ) (n : ι) : Real.exp (s n - t) / ∑ m, Real.exp (s m - t) = weight s n := by
  rw [total_shift, Real.exp_sub, weight]
  have h1 := (total_pos s).ne'
  have h2 := (Real.exp_pos t).ne'
  field_simp

theorem total_coe (s : ι → ℝ) (t : ℝ) : ∑ m, Ideal.exp ((s m : EReal) - (t : EReal)) = ((∑ m, Real.exp (s m - t) : ℝ) : EReal) := by
  rw [← coe_sum]
  exact Finset.sum_congr rfl fun m _ => coe_exp_sub _ _

/-- The weights as quotients of shifted exponentials. -/
theorem quot_eq (s : ι → ℝ) (t : ℝ) (n : ι) :
    Ideal.div (Ideal.exp ((s n : EReal) - (t : EReal))) (∑ m, Ideal.exp ((s m : EReal) - (t : EReal))) = (weight s n : EReal) := by
  rw [total_coe, coe_exp_sub, coe_quot _ (total_pos fun m => s m - t).ne', weight_shift]

/-- The weights from the logarithm of the sum of the exponentials. -/
theorem lse_eq (s : ι → ℝ) (t : ℝ) (n : ι) :
    Ideal.exp ((s n : EReal) - ((t : EReal) + Ideal.log (∑ m, Ideal.exp ((s m : EReal) - (t : EReal))))) = (weight s n : EReal) := by
  have hp := total_pos fun m => s m - t
  rw [total_coe, Ideal.log_coe, if_neg (not_le.mpr hp), ← EReal.coe_add, coe_exp_sub, ← weight_shift s t n]
  refine congrArg _ ?_
  rw [← sub_sub, Real.exp_sub, Real.exp_log hp]

/-- The derivative of a quotient of shifted exponentials is the gradient in the scores. -/
theorem quot_grad (s d : ι → ℝ) (t : ℝ) (n : ι) :
    (Ideal.div (d n : EReal) (∑ m, Ideal.exp ((s m : EReal) - (t : EReal)))
      + -(∑ m, (d m : EReal) * Ideal.div 1 ((∑ m, Ideal.exp ((s m : EReal) - (t : EReal))) * ∑ m, Ideal.exp ((s m : EReal) - (t : EReal)))
        * Ideal.exp ((s m : EReal) - (t : EReal)))) * Ideal.exp ((s n : EReal) - (t : EReal)) = (dscore s d n : EReal) := by
  have hp := total_pos fun m => s m - t
  have h1 : ∀ m, (d m : EReal) * Ideal.div 1 ((∑ m, Ideal.exp ((s m : EReal) - (t : EReal))) * ∑ m, Ideal.exp ((s m : EReal) - (t : EReal)))
      * Ideal.exp ((s m : EReal) - (t : EReal))
      = ((weight s m * d m / (∑ m, Real.exp (s m - t)) : ℝ) : EReal) := by
    intro m
    rw [total_coe, coe_exp_sub, ← EReal.coe_mul, ← EReal.coe_one, coe_quot _ (mul_pos hp hp).ne', ← EReal.coe_mul, ← EReal.coe_mul,
      ← weight_shift s t m]
    refine congrArg _ ?_
    have := hp.ne'
    field_simp
  rw [Finset.sum_congr rfl fun m _ => h1 m, coe_sum, total_coe, coe_exp_sub, coe_quot _ hp.ne', ← EReal.coe_neg, ← EReal.coe_add,
    ← EReal.coe_mul, dscore, ← Finset.sum_div]
  refine congrArg _ ?_
  rw [← weight_shift s t n]
  have := hp.ne'
  field_simp
  ring

end Cert.Proof.FaSoft
-- ==== Proof.FaRef.lean ====
module

public import proofs.«01_k».proof.Defs
public import proofs.«01_k».proof.Proof.FaPoint
public import proofs.«01_k».proof.Proof.FaSoft
public import proofs.«01_k».proof.Proof.Gen.Reference13Ideal.Read
public import Idealize.ShloMosaic.Lib.Pointwise
public import Idealize.ShloMosaic.Lib.Tactic

/-!
# The backward attention, the reference

On finite arguments the weights that the kernel computes from the saved logarithms, and those that the reference takes from the quotient, are the
softmax of the scores; and both programs' gradients in the scores are the softmax's.
-/

@[expose] public section
set_option maxRecDepth 16384
noncomputable section
namespace Cert.Proof.FaRef
open Idealize.ShloMosaic Idealize.SL.Sem Cert.Kernel13Ideal
open Cert.Kernel13Ideal.Gen Idealize.ShloMosaic.TcCoe
open Cert.Proof.FaStrip Cert.Proof.FaPoint Cert.Proof.FaSoft

variable {q : FVec Ideal S2x32768x64 .f32} {k v : FVec Ideal S2x8192x64 .f32} {ct : FVec Ideal S2x32768x64 .f32}
  {Q C : Fin 2 → Fin 32768 → Fin 64 → ℝ} {K W : Fin 2 → Fin 8192 → Fin 64 → ℝ}
  (hq : ∀ g r l, q (ix3 g r l) = (Q g r l : EReal)) (hk : ∀ g n l, k (ix3 g n l) = (K g n l : EReal))
  (hv : ∀ g n l, v (ix3 g n l) = (W g n l : EReal)) (hc : ∀ g r l, ct (ix3 g r l) = (C g r l : EReal))

/-- The scores, and the gradients in the weights, as real numbers. -/
def dots {a b : ℕ} (X : Fin 2 → Fin a → Fin 64 → ℝ) (Y : Fin 2 → Fin b → Fin 64 → ℝ) (g : Fin 2) (r : Fin a) (n : Fin b) : ℝ := ∑ l, X g r l * Y g n l

include hq hk in
theorem score_coe (g : Fin 2) (r : Fin 32768) (n : Fin 8192) : score q k g r n = (dots Q K g r n : EReal) := by
  unfold score
  rw [Finset.sum_congr rfl fun l _ => congrArg₂ (fun x y : EReal => x * y) (hq g r l) (hk g n l)]
  exact coe_dot _ _

include hq hk in
theorem top_coe (g : Fin 2) (r : Fin 32768) : ∃ t : ℝ, top q k g r = (t : EReal) := by
  unfold top
  rw [funext fun n => score_coe hq hk g r n]
  exact max_real _

include hq hk in
theorem total_eq (g : Fin 2) (r : Fin 32768) {t : ℝ} (ht : top q k g r = (t : EReal)) :
    total q k g r = ∑ n, Ideal.exp ((dots Q K g r n : EReal) - (t : EReal)) := by
  unfold total
  exact Finset.sum_congr rfl fun n _ => by rw [score_coe hq hk, ht]

include hq hk in
/-- The kernel's weights. -/
theorem soft_coe (g : Fin 2) (r : Fin 32768) (n : Fin 8192) : soft q k (fwdLse q k) g r n = (weight (dots Q K g r) n : EReal) := by
  obtain ⟨t, ht⟩ := top_coe hq hk g r
  have e : fwdLse q k (ix2 g r) = (t : EReal) + Ideal.log (∑ n, Ideal.exp ((dots Q K g r n : EReal) - (t : EReal))) := by
    rw [← total_eq hq hk g r ht]
    unfold fwdLse
    exact congrArg (· + _) ht
  have e2 : (∑ l : Fin 64, q (ix3 g r l) * k (ix3 g n l)) = (dots Q K g r n : EReal) := score_coe hq hk g r n
  unfold soft
  rw [e, e2]
  exact lse_eq _ t n

/-- The softmax as a quotient. -/
def quot (q : FVec Ideal S2x32768x64 .f32) (k : FVec Ideal S2x8192x64 .f32) (g : Fin 2) (r : Fin 32768) (n : Fin 8192) : EReal :=
  Ideal.div (Ideal.exp (score q k g r n - top q k g r)) (total q k g r)

include hq hk in
theorem quot_coe (g : Fin 2) (r : Fin 32768) (n : Fin 8192) : quot q k g r n = (weight (dots Q K g r) n : EReal) := by
  obtain ⟨t, ht⟩ := top_coe hq hk g r
  unfold quot
  rw [total_eq hq hk g r ht, score_coe hq hk, ht]
  exact quot_eq _ t n

theorem fwdOut_apply (g : Fin 2) (r : Fin 32768) (l : Fin 64) : fwdOut q k v (ix3 g r l) = ∑ n, quot q k g r n * v (ix3 g n l) := by
  unfold fwdOut quot
  rfl

include hq hk hv in
theorem out_coe (g : Fin 2) (r : Fin 32768) (l : Fin 64) : fwdOut q k v (ix3 g r l) = ((∑ n, weight (dots Q K g r) n * W g n l : ℝ) : EReal) := by
  rw [fwdOut_apply, Finset.sum_congr rfl fun n _ => congrArg₂ (fun x y : EReal => x * y) (quot_coe hq hk g r n) (hv g n l)]
  exact coe_dot _ _

include hv hc in
theorem grad_coe (g : Fin 2) (r : Fin 32768) (n : Fin 8192) : (∑ l : Fin 64, ct (ix3 g r l) * v (ix3 g n l)) = (dots C W g r n : EReal) := by
  rw [Finset.sum_congr rfl fun l _ => congrArg₂ (fun x y : EReal => x * y) (hc g r l) (hv g n l)]
  exact coe_dot _ _

theorem swap (X : Fin 64 → ℝ) (P : Fin 8192 → ℝ) (Y : Fin 8192 → Fin 64 → ℝ) : ∑ l, X l * ∑ n, P n * Y n l = ∑ n, P n * ∑ l, X l * Y n l := by
  simp only [Finset.mul_sum]
  rw [Finset.sum_comm]
  exact Finset.sum_congr rfl fun n _ => Finset.sum_congr rfl fun l _ => by ring

include hq hk hv hc in
/-- The kernel's gradient in the scores. -/
theorem dsoft_coe (g : Fin 2) (r : Fin 32768) (n : Fin 8192) :
    dsoft q k v (fwdOut q k v) (fwdLse q k) ct g r n = (dscore (dots Q K g r) (dots C W g r) n : EReal) := by
  unfold dsoft
  rw [soft_coe hq hk, grad_coe hv hc, Finset.sum_congr rfl fun l _ => congrArg₂ (fun x y : EReal => x * y) (hc g r l) (out_coe hq hk hv g r l), coe_dot,
    ← EReal.coe_sub, ← EReal.coe_mul, swap]
  rfl

/-! ## The reference, stage by stage -/

open Cert.Reference13Ideal.Read

theorem ref_scores (g : Fin 2) (r : Fin 32768) (n : Fin 8192) : val_main_v0 (F := Ideal) q k (ix3 g r n) = score q k g r n := by
  unfold val_main_v0 score
  pointwise

theorem ref_max (A : FVec Ideal S2x32768x8192 .f32) (b : FVec Ideal S_ .f32) (hb : ∀ i, b i = (⊥ : EReal)) (g : Fin 2) (r : Fin 32768) :
    Host.reduce (FloatOps.maximumf (F := Ideal) (φ := .f32)) A b Cert.Kernel13Ideal.Gen.facts.reducesTo_S2x32768x8192_S2x32768_d2 Cert.Kernel13Ideal.Gen.facts.h_S_ (ix2 g r)
      = Finset.univ.fold max ⊥ fun n : Fin 8192 => A (ix3 g r n) := by
  pointwise
  rw [hb]

theorem ref_row (g : Fin 2) (r : Fin 32768) : val_main_v1 (F := Ideal) q k (ix2 g r) = top q k g r := by
  refine (ref_max (val_main_v0 (F := Ideal) q k) (val_main_cst (F := Ideal)) (fun _ => bottom_eq) g r).trans ?_
  unfold top
  exact congrArg (fun f : Fin 8192 → EReal => Finset.univ.fold max ⊥ f) (funext fun n => ref_scores g r n)

theorem max_bottom (x y : EReal) (h : y = ⊥) : FloatOps.maximumf (F := Ideal) (φ := .f32) y x = x := by
  subst h
  exact max_eq_right (bot_le : (⊥ : EReal) ≤ x)

theorem ref_bottom (i : S2x32768.Idx) : val_main_v7 (F := Ideal) i = (⊥ : EReal) := by
  rw [val_main_v7_apply]
  exact bottom_eq

theorem ref_top (g : Fin 2) (r : Fin 32768) : val_main_v8 (F := Ideal) q k (ix2 g r) = top q k g r := by
  rw [val_main_v8_apply, ref_row]
  exact max_bottom _ _ (ref_bottom _)

theorem ref_exp (g : Fin 2) (r : Fin 32768) (n : Fin 8192) : val_main_v21 (F := Ideal) q k (ix3 g r n) = Ideal.exp (score q k g r n - top q k g r) := by
  rw [← ref_top]
  unfold val_main_v21 val_main_v20 val_main_v19 val_main_v18 val_main_v0 score
  pointwise

theorem ref_total (g : Fin 2) (r : Fin 32768) : val_main_v22 (F := Ideal) q k (ix2 g r) = total q k g r := by
  unfold total
  rw [← Finset.sum_congr rfl fun n _ => ref_exp g r n]
  unfold val_main_v22 val_main_cst_7
  pointwise

theorem ref_quot (g : Fin 2) (r : Fin 32768) (n : Fin 8192) : val_main_v25 (F := Ideal) q k (ix3 g r n) = quot q k g r n := by
  unfold quot
  rw [← ref_exp, ← ref_total]
  unfold val_main_v25 val_main_v24 val_main_v23
  pointwise

theorem ref_grad (g : Fin 2) (r : Fin 32768) (n : Fin 8192) : val_main_v32 (F := Ideal) v ct (ix3 g r n) = ∑ l : Fin 64, ct (ix3 g r l) * v (ix3 g n l) := by
  unfold val_main_v32
  pointwise

theorem ref_stage (g : Fin 2) (r : Fin 32768) (n : Fin 8192) : val_main_v44 (F := Ideal) q k v ct (ix3 g r n)
    = (Ideal.div (val_main_v32 (F := Ideal) v ct (ix3 g r n)) (val_main_v22 (F := Ideal) q k (ix2 g r))
      + -(∑ n : Fin 8192, val_main_v32 (F := Ideal) v ct (ix3 g r n)
          * Ideal.div 1 (val_main_v22 (F := Ideal) q k (ix2 g r) * val_main_v22 (F := Ideal) q k (ix2 g r)) * val_main_v21 (F := Ideal) q k (ix3 g r n)))
      * val_main_v21 (F := Ideal) q k (ix3 g r n) := by
  unfold val_main_v44 val_main_v43 val_main_v42 val_main_v41 val_main_v40 val_main_v39 val_main_v38 val_main_v37 val_main_v36 val_main_v35 val_main_v34
    val_main_v33 val_main_v28 val_main_v27 val_main_v26 val_main_v23 val_main_cst_8 val_main_cst_9 val_main_cst_10
  pointwise
  rw [Fin.sum_univ_one]

include hq hk hv hc in
/-- The reference's gradient in the scores. -/
theorem ref_dscore (g : Fin 2) (r : Fin 32768) (n : Fin 8192) : val_main_v44 (F := Ideal) q k v ct (ix3 g r n) = (dscore (dots Q K g r) (dots C W g r) n : EReal) := by
  obtain ⟨t, ht⟩ := top_coe hq hk g r
  have e1 : ∀ n, val_main_v21 (F := Ideal) q k (ix3 g r n) = Ideal.exp ((dots Q K g r n : EReal) - (t : EReal)) := fun n => by
    rw [ref_exp, score_coe hq hk, ht]
  have e2 : ∀ n, val_main_v32 (F := Ideal) v ct (ix3 g r n) = (dots C W g r n : EReal) := fun n => by
    rw [ref_grad]; exact grad_coe hv hc g r n
  have e3 : val_main_v22 (F := Ideal) q k (ix2 g r) = ∑ n, Ideal.exp ((dots Q K g r n : EReal) - (t : EReal)) := by
    rw [ref_total]; exact total_eq hq hk g r ht
  rw [ref_stage, e3, e2 n, e1 n, Finset.sum_congr rfl fun n _ => congrArg₂ (fun x y : EReal => x * Ideal.div 1 ((∑ n, Ideal.exp ((dots Q K g r n : EReal) - (t : EReal))) * ∑ n, Ideal.exp ((dots Q K g r n : EReal) - (t : EReal))) * y) (e2 n) (e1 n)]
  exact quot_grad _ _ t n

include hq hk hv hc in
theorem ref_dsoft (g : Fin 2) (r : Fin 32768) (n : Fin 8192) :
    val_main_v44 (F := Ideal) q k v ct (ix3 g r n) = dsoft q k v (fwdOut q k v) (fwdLse q k) ct g r n :=
  (ref_dscore hq hk hv hc g r n).trans (dsoft_coe hq hk hv hc g r n).symm

include hq hk in
theorem ref_soft (g : Fin 2) (r : Fin 32768) (n : Fin 8192) : val_main_v25 (F := Ideal) q k (ix3 g r n) = soft q k (fwdLse q k) g r n :=
  (ref_quot g r n).trans ((quot_coe hq hk g r n).trans (soft_coe hq hk g r n).symm)

/-! ## The results -/

include hq hk hv hc in
theorem ref_Q : val_main_v48 (F := Ideal) q k v ct = resultQ q k v (fwdOut q k v) (fwdLse q k) ct := by
  funext i
  unfold val_main_v48 val_main_v47 val_main_v46 resultQ
  pointwise
  refine Finset.sum_congr rfl fun n _ => congrArg₂ (fun x y : EReal => x * y) ?_ rfl
  refine Eq.trans ?_ (ref_dsoft hq hk hv hc (i 0) (rowAt (i 1) (i 3)) n)
  exact congrArg (fun r => val_main_v44 (F := Ideal) q k v ct (ix3 (i 0) r n)) (Fin.ext (by
    show (i 1).val * 256 + (i 3).val = 256 * (i 1).val + (i 3).val; omega))

include hq hk hv hc in
theorem ref_K : val_main_v50 (F := Ideal) q k v ct = resultK q k v (fwdOut q k v) (fwdLse q k) ct := by
  funext i
  unfold val_main_v50 val_main_v49 val_main_v45 resultK keyTerm
  pointwise
  refine Finset.sum_congr rfl fun r _ => congrArg₂ (fun x y : EReal => x * y) ?_ rfl
  refine Eq.trans ?_ (ref_dsoft hq hk hv hc (i 0) r (FaLoop.keyAt (i 1) (i 3)))
  exact congrArg (fun n => val_main_v44 (F := Ideal) q k v ct (ix3 (i 0) r n)) (Fin.ext (by
    show (i 1).val * 256 + (i 3).val = 256 * (i 1).val + (i 3).val; omega))

include hq hk in
theorem ref_V : val_main_v52 (F := Ideal) q k ct = resultV q k (fwdLse q k) ct := by
  funext i
  unfold val_main_v52 val_main_v51 val_main_v31 val_main_v30 resultV valueTerm
  pointwise
  refine Finset.sum_congr rfl fun r _ => (mul_comm _ _).trans (congrArg₂ (fun x y : EReal => x * y) ?_ rfl)
  refine Eq.trans ?_ (ref_soft hq hk (i 0) r (FaLoop.keyAt (i 1) (i 3)))
  exact congrArg (fun n => val_main_v25 (F := Ideal) q k (ix3 (i 0) r n)) (Fin.ext (by
    show (i 1).val * 256 + (i 3).val = 256 * (i 1).val + (i 3).val; omega))

end Cert.Proof.FaRef
-- ==== Proof.FaBwd.lean ====
module

public import proofs.«01_k».proof.Defs
public import proofs.«01_k».proof.Proof.Acc
public import proofs.«01_k».proof.Proof.FaPoint
public import proofs.«01_k».proof.Proof.FaRef
public import proofs.«01_k».proof.Proof.Gen.Kernel13Ideal.Value
public import proofs.«01_k».proof.Proof.Gen.Reference13Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The backward attention

The gradients of softmax attention in `q`, `k` and `v`, from the saved output and logarithms, two groups of 32768 query rows against 8192 keys. A point
takes 2048 query rows (8 strips of 256) of a group against all its keys; the key and value gradients are summed over the 16 points of a group.
-/

@[expose] public section
set_option maxRecDepth 16384
noncomputable section
namespace Cert.Proof.FaBwd
open Idealize.ShloMosaic Idealize.SL.Sem Cert.Kernel13Ideal
open Cert.Kernel13Ideal.Gen Idealize.ShloMosaic.TcCoe
open Idealize.ShloMosaic.Pipeline (Dat Cfg Window)
open Cert.Proof.FaStrip Cert.Proof.FaLoop Cert.Proof.FaBody Cert.Proof.FaPoint

variable (m : (ℓ : Loc nD τ sig) → Buf (Elt Ideal) ℓ)
variable (q : FVec Ideal S2x32768x64 .f32) (k v : FVec Ideal S2x8192x64 .f32) (o : FVec Ideal S2x32768x64 .f32) (lse : FVec Ideal S2x32768 .f32)
    (ct : FVec Ideal S2x32768x64 .f32)

attribute [local irreducible] fwdOut fwdLse

/-! ## The query gradient -/

theorem fst_apply {ι A B C : Type} {o : (ι → A) × B × C} {a : ι → A} {b : B × C} (h : o = (a, b)) (y : ι) : o.1 y = a y :=
  congrArg (fun o => o.1 y) h

theorem outs_dq (c : Dev nD) (t : Fin cfg0.N) (y : S1x8x64x256.Idx) :
    (outsAt0 m c t.val t.isLt).1 y = dqBlk (iblk m c 0 t) (iblk m c 2 t) (iblk m c 3 t) (iblk m c 4 t) (iblk m c 5 t) (iblk m c 6 t) (iblk m c 7 t) (iblk m c 8 t) y := by
  by_cases h : t.val % 16 = 0
  · exact (fst_apply (outsAt0_A m c t h) y).trans (out_A_9 c (grid0.coords t) _ _ _ _ _ _ _ _ _ _ _ _ _ _ _ _ _ _ _ _ _ _ _ _ _ _ _ _ _ _ _ _ _ _ y)
  · exact (fst_apply (outsAt0_B m c t h) y).trans (out_B_9 c (grid0.coords t) _ _ _ _ _ _ _ _ _ _ _ _ _ _ _ _ _ _ _ _ _ _ _ _ _ _ _ _ _ _ _ _ _ _ _ _ y)

theorem outQ (c : Dev nD) (t : Fin cfg0.N) (s : Fin 8) (l : Fin 64) (a : Fin 256) : (outsAt0 m c t.val t.isLt).1 (ix4 0 s l a)
    = ∑ n : Fin 8192, dsoft (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) (grp t.val) (row t.val s a) n * m ((c : Thread nD τ).loc main_arg1) (ix3 (grp t.val) n l) := by
  exact (outs_dq m c t (ix4 0 s l a)).trans (dqBlk_eq (blocks m c t) s l a)

theorem flushedQ (c : Dev nD) (t : Fin cfg0.N) : (dats m 0 c).flushed 9 t = ((cfg0.win 9).blk t).view.read (Elt Ideal) (resultQ (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))) := by
  rw [Value.flushed9]
  funext y
  obtain ⟨z, s, l, a, rfl⟩ : ∃ (z : Fin 1) (s : Fin 8) (l : Fin 64) (a : Fin 256), y = ix4 z s l a := ⟨y 0, y 1, y 2, y 3, eq_ix4 y⟩
  obtain rfl : z = 0 := Subsingleton.elim _ _
  rw [View.read_apply]
  have hN : cfg0.N = 32 := N_0
  have ht := t.isLt
  obtain ⟨h0, h1, h2, h3⟩ := idx9 t
  have he : ((cfg0.win 9).blk t).view.emb (ix4 0 s l a) = ix4 (grp t.val) (⟨t.val % 16 * 8 + s.val, by omega⟩ : Fin 128) l a := by
    funext b; apply Fin.ext
    match b with
    | ⟨0, _⟩ => show win0_9.index t 0 * 1 + 1 * 0 = t.val / 16 % 2; omega
    | ⟨1, _⟩ => show win0_9.index t 1 * 8 + 1 * s.val = t.val % 16 * 8 + s.val; omega
    | ⟨2, _⟩ => show win0_9.index t 2 * 64 + 1 * l.val = l.val; omega
    | ⟨3, _⟩ => show win0_9.index t 3 * 256 + 1 * a.val = a.val; omega
  rw [he]
  have hr : row t.val s a = rowAt ⟨t.val % 16 * 8 + s.val, by omega⟩ a := Fin.ext (by
    show (t.val % 16 * 2048 + (s.val * 256 + a.val)) % 32768 = 256 * (t.val % 16 * 8 + s.val) + a.val; omega)
  refine (outQ m c t s l a).trans ?_
  rw [hr]
  rfl

theorem coveredQ (i : S2x128x64x256.Idx) : ∃ t : Fin cfg0.N, (cfg0.win 9).flush t = true ∧ i ∈ ((cfg0.win 9).blk t).view.set := by
  have hN : cfg0.N = 32 := N_0
  have i0 : (i 0).val < 2 := (i 0).isLt
  have i1 : (i 1).val < 128 := (i 1).isLt
  have i2 : (i 2).val < 64 := (i 2).isLt
  have i3 : (i 3).val < 256 := (i 3).isLt
  obtain ⟨t, ht⟩ : ∃ t : Fin cfg0.N, t.val = (i 0).val * 16 + (i 1).val / 8 := ⟨⟨_, by omega⟩, rfl⟩
  refine ⟨t, flush0_9 t, ?_⟩
  obtain ⟨h0, h1, h2, h3⟩ := idx9 t
  show i ∈ ((View.whole main_v39_0).slice (win0_9.rect t)).set
  rw [View.set_slice_whole, Rect.mem_set_unit]
  intro a
  match a with
  | ⟨0, _⟩ => show win0_9.index t 0 * 1 ≤ (i 0).val ∧ (i 0).val < win0_9.index t 0 * 1 + 1; omega
  | ⟨1, _⟩ => show win0_9.index t 1 * 8 ≤ (i 1).val ∧ (i 1).val < win0_9.index t 1 * 8 + 8; omega
  | ⟨2, _⟩ => show win0_9.index t 2 * 64 ≤ (i 2).val ∧ (i 2).val < win0_9.index t 2 * 64 + 64; omega
  | ⟨3, _⟩ => show win0_9.index t 3 * 256 ≤ (i 3).val ∧ (i 3).val < win0_9.index t 3 * 256 + 256; omega

/-- The query gradient after the run. -/
theorem finalQ (c : Dev nD) : (dats m 0 c).arrAt 9 cfg0.N = resultQ (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) :=
  (dats m 0 c).arrAt_eq_of_cover 9 _ (fun t _ => flushedQ m c t) coveredQ

/-! ## The key and value gradients -/

/-- The rows of a group, point by point and strip by strip. -/
theorem sum_rows (G : ℕ → EReal) : ∑ i ∈ Finset.range 16, ∑ s : Fin 8, ∑ a : Fin 256, G (i * 2048 + (s.val * 256 + a.val)) = ∑ r : Fin 32768, G r.val := by
  rw [← Acc.sum_blocks 16 2048 32768 rfl G]
  refine Finset.sum_congr rfl fun i _ => ?_
  rw [← Acc.sum_blocks 8 256 2048 rfl fun x => G (i * 2048 + x)]
  exact (Finset.sum_range fun s => ∑ a : Fin 256, G (i * 2048 + (s * 256 + a.val))).symm

/-- The points of a group together see all its rows. -/
theorem sum_points (T : Fin 2 → Fin 32768 → EReal) (n : ℕ) (hn : n % 16 = 15) (hN : n < 32) :
    ∑ s ∈ Finset.range (n % 16 + 1), ∑ s', ∑ a, T (grp (n - n % 16 + s)) (row (n - n % 16 + s) s' a) = ∑ r, T (grp n) r := by
  rw [hn]
  have hstep : ∀ s ∈ Finset.range (15 + 1), ∑ s' : Fin 8, ∑ a : Fin 256, T (grp (n - 15 + s)) (row (n - 15 + s) s' a)
      = ∑ s' : Fin 8, ∑ a : Fin 256, T (grp n) (Fin.ofNat 32768 (s * 2048 + (s'.val * 256 + a.val))) := by
    intro s hs
    have hs : s < 16 := Finset.mem_range.mp hs
    have e1 : (n - 15 + s) % 16 = s := by omega
    have e2 : (n - 15 + s) / 16 = n / 16 := by omega
    unfold row grp
    rw [e1, e2]
  rw [Finset.sum_congr rfl hstep]
  refine (sum_rows fun x => T (grp n) (Fin.ofNat 32768 x)).trans (Finset.sum_congr rfl fun r _ => ?_)
  exact congrArg (T (grp n)) (Fin.ext (Nat.mod_eq_of_lt r.isLt))

/-- What the accumulator holds after point `n`: the terms of the group's rows so far. -/
theorem accK (c : Dev nD) (n : ℕ) (h : n < cfg0.N) (y : S1x32x64x256.Idx) : (outsAt0 m c n h).2.1 y
    = ∑ s ∈ Finset.range (n % 16 + 1), ∑ s', ∑ a, keyTerm (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))
        (grp (n - n % 16 + s)) (row (n - n % 16 + s) s' a) (keyAt (y 1) (y 3)) (y 2) :=
  Acc.fold 16 (by decide) (fun n h => (outsAt0 m c n h).2.1) (fun n y => ∑ s', ∑ a, keyTerm (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))
      (grp n) (row n s' a) (keyAt (y 1) (y 3)) (y 2))
    (fun n h hn y => by
      rw [outsAt0_A m c ⟨n, h⟩ hn]
      refine (out_A_10 ..).trans (congrArg (0 + ·) ?_)
      rw [eta4 y]
      exact dkBlk_eq (blocks m c ⟨n, h⟩) (y 1) (y 2) (y 3))
    (fun n h hn y => by
      rw [outsAt0_B m c ⟨n, h⟩ hn]
      refine (out_B_10 ..).trans (congrArg (_ + ·) ?_)
      rw [eta4 y]
      exact dkBlk_eq (blocks m c ⟨n, h⟩) (y 1) (y 2) (y 3)) n h y

theorem flushedK (c : Dev nD) (t : Fin cfg0.N) (hf : (cfg0.win 10).flush t = true) :
    (dats m 0 c).flushed 10 t = ((cfg0.win 10).blk t).view.read (Elt Ideal) (resultK (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))) := by
  have h15 : t.val % 16 = 15 := (flush0_10 t).mp hf
  have hN : cfg0.N = 32 := N_0
  have ht := t.isLt
  rw [Value.flushed10]
  funext y
  rw [View.read_apply]
  obtain ⟨h0, h1, h2, h3⟩ := idx10 t
  have y0 : (y 0).val < 1 := (y 0).isLt
  have he : ((cfg0.win 10).blk t).view.emb y = ix4 (grp t.val) (y 1) (y 2) (y 3) := by
    funext a; apply Fin.ext
    match a with
    | ⟨0, _⟩ => show win0_10.index t 0 * 1 + 1 * (y 0).val = t.val / 16 % 2; omega
    | ⟨1, _⟩ => show win0_10.index t 1 * 32 + 1 * (y 1).val = (y 1).val; omega
    | ⟨2, _⟩ => show win0_10.index t 2 * 64 + 1 * (y 2).val = (y 2).val; omega
    | ⟨3, _⟩ => show win0_10.index t 3 * 256 + 1 * (y 3).val = (y 3).val; omega
  rw [he]
  have hres : resultK (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) (ix4 (grp t.val) (y 1) (y 2) (y 3))
      = ∑ r, keyTerm (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) (grp t.val) r (keyAt (y 1) (y 3)) (y 2) := by
    unfold resultK
    rfl
  have hsum := sum_points (fun g r => keyTerm (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) g r (keyAt (y 1) (y 3)) (y 2)) t.val h15 (lt_of_lt_of_eq ht hN)
  refine (accK m c t.val t.isLt y).trans ?_
  refine Eq.trans ?_ (cast_eq rfl _).symm
  exact hsum.trans hres.symm

theorem coveredK (i : S2x32x64x256.Idx) : ∃ t : Fin cfg0.N, (cfg0.win 10).flush t = true ∧ i ∈ ((cfg0.win 10).blk t).view.set := by
  have hN : cfg0.N = 32 := N_0
  have i0 : (i 0).val < 2 := (i 0).isLt
  have i1 : (i 1).val < 32 := (i 1).isLt
  have i2 : (i 2).val < 64 := (i 2).isLt
  have i3 : (i 3).val < 256 := (i 3).isLt
  obtain ⟨t, ht⟩ : ∃ t : Fin cfg0.N, t.val = (i 0).val * 16 + 15 := ⟨⟨_, by omega⟩, rfl⟩
  refine ⟨t, (flush0_10 t).mpr (by omega), ?_⟩
  obtain ⟨h0, h1, h2, h3⟩ := idx10 t
  show i ∈ ((View.whole main_v39_1).slice (win0_10.rect t)).set
  rw [View.set_slice_whole, Rect.mem_set_unit]
  intro a
  match a with
  | ⟨0, _⟩ => show win0_10.index t 0 * 1 ≤ (i 0).val ∧ (i 0).val < win0_10.index t 0 * 1 + 1; omega
  | ⟨1, _⟩ => show win0_10.index t 1 * 32 ≤ (i 1).val ∧ (i 1).val < win0_10.index t 1 * 32 + 32; omega
  | ⟨2, _⟩ => show win0_10.index t 2 * 64 ≤ (i 2).val ∧ (i 2).val < win0_10.index t 2 * 64 + 64; omega
  | ⟨3, _⟩ => show win0_10.index t 3 * 256 ≤ (i 3).val ∧ (i 3).val < win0_10.index t 3 * 256 + 256; omega

/-- The key gradient after the run. -/
theorem finalK (c : Dev nD) : (dats m 0 c).arrAt 10 cfg0.N = resultK (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3)) :=
  (dats m 0 c).arrAt_eq_of_cover 10 _ (flushedK m c) coveredK

/-- What the accumulator holds after point `n`: the terms of the group's rows so far. -/
theorem accV (c : Dev nD) (n : ℕ) (h : n < cfg0.N) (y : S1x32x64x256.Idx) : (outsAt0 m c n h).2.2 y
    = ∑ s ∈ Finset.range (n % 16 + 1), ∑ s', ∑ a, valueTerm (m ((c : Thread nD τ).loc main_arg0)) (m ((c : Thread nD τ).loc main_arg1)) (fwdLse (m ((c : Thread nD τ).loc main_arg0)) (m ((c : Thread nD τ).loc main_arg1))) (m ((c : Thread nD τ).loc main_arg3))
        (grp (n - n % 16 + s)) (row (n - n % 16 + s) s' a) (keyAt (y 1) (y 3)) (y 2) :=
  Acc.fold 16 (by decide) (fun n h => (outsAt0 m c n h).2.2) (fun n y => ∑ s', ∑ a, valueTerm (m ((c : Thread nD τ).loc main_arg0)) (m ((c : Thread nD τ).loc main_arg1)) (fwdLse (m ((c : Thread nD τ).loc main_arg0)) (m ((c : Thread nD τ).loc main_arg1))) (m ((c : Thread nD τ).loc main_arg3))
      (grp n) (row n s' a) (keyAt (y 1) (y 3)) (y 2))
    (fun n h hn y => by
      rw [outsAt0_A m c ⟨n, h⟩ hn]
      refine (out_A_11 ..).trans (congrArg (0 + ·) ?_)
      rw [eta4 y]
      exact dvBlk_eq (blocks m c ⟨n, h⟩) (y 1) (y 2) (y 3))
    (fun n h hn y => by
      rw [outsAt0_B m c ⟨n, h⟩ hn]
      refine (out_B_11 ..).trans (congrArg (_ + ·) ?_)
      rw [eta4 y]
      exact dvBlk_eq (blocks m c ⟨n, h⟩) (y 1) (y 2) (y 3)) n h y

theorem flushedV (c : Dev nD) (t : Fin cfg0.N) (hf : (cfg0.win 11).flush t = true) :
    (dats m 0 c).flushed 11 t = ((cfg0.win 11).blk t).view.read (Elt Ideal) (resultV (m ((c : Thread nD τ).loc main_arg0)) (m ((c : Thread nD τ).loc main_arg1)) (fwdLse (m ((c : Thread nD τ).loc main_arg0)) (m ((c : Thread nD τ).loc main_arg1))) (m ((c : Thread nD τ).loc main_arg3))) := by
  have h15 : t.val % 16 = 15 := (flush0_11 t).mp hf
  have hN : cfg0.N = 32 := N_0
  have ht := t.isLt
  rw [Value.flushed11]
  funext y
  rw [View.read_apply]
  obtain ⟨h0, h1, h2, h3⟩ := idx11 t
  have y0 : (y 0).val < 1 := (y 0).isLt
  have he : ((cfg0.win 11).blk t).view.emb y = ix4 (grp t.val) (y 1) (y 2) (y 3) := by
    funext a; apply Fin.ext
    match a with
    | ⟨0, _⟩ => show win0_11.index t 0 * 1 + 1 * (y 0).val = t.val / 16 % 2; omega
    | ⟨1, _⟩ => show win0_11.index t 1 * 32 + 1 * (y 1).val = (y 1).val; omega
    | ⟨2, _⟩ => show win0_11.index t 2 * 64 + 1 * (y 2).val = (y 2).val; omega
    | ⟨3, _⟩ => show win0_11.index t 3 * 256 + 1 * (y 3).val = (y 3).val; omega
  rw [he]
  have hres : resultV (m ((c : Thread nD τ).loc main_arg0)) (m ((c : Thread nD τ).loc main_arg1)) (fwdLse (m ((c : Thread nD τ).loc main_arg0)) (m ((c : Thread nD τ).loc main_arg1))) (m ((c : Thread nD τ).loc main_arg3)) (ix4 (grp t.val) (y 1) (y 2) (y 3))
      = ∑ r, valueTerm (m ((c : Thread nD τ).loc main_arg0)) (m ((c : Thread nD τ).loc main_arg1)) (fwdLse (m ((c : Thread nD τ).loc main_arg0)) (m ((c : Thread nD τ).loc main_arg1))) (m ((c : Thread nD τ).loc main_arg3)) (grp t.val) r (keyAt (y 1) (y 3)) (y 2) := by
    unfold resultV
    rfl
  have hsum := sum_points (fun g r => valueTerm (m ((c : Thread nD τ).loc main_arg0)) (m ((c : Thread nD τ).loc main_arg1)) (fwdLse (m ((c : Thread nD τ).loc main_arg0)) (m ((c : Thread nD τ).loc main_arg1))) (m ((c : Thread nD τ).loc main_arg3)) g r (keyAt (y 1) (y 3)) (y 2)) t.val h15 (lt_of_lt_of_eq ht hN)
  refine (accV m c t.val t.isLt y).trans ?_
  refine Eq.trans ?_ (cast_eq rfl _).symm
  exact hsum.trans hres.symm

theorem coveredV (i : S2x32x64x256.Idx) : ∃ t : Fin cfg0.N, (cfg0.win 11).flush t = true ∧ i ∈ ((cfg0.win 11).blk t).view.set := by
  have hN : cfg0.N = 32 := N_0
  have i0 : (i 0).val < 2 := (i 0).isLt
  have i1 : (i 1).val < 32 := (i 1).isLt
  have i2 : (i 2).val < 64 := (i 2).isLt
  have i3 : (i 3).val < 256 := (i 3).isLt
  obtain ⟨t, ht⟩ : ∃ t : Fin cfg0.N, t.val = (i 0).val * 16 + 15 := ⟨⟨_, by omega⟩, rfl⟩
  refine ⟨t, (flush0_11 t).mpr (by omega), ?_⟩
  obtain ⟨h0, h1, h2, h3⟩ := idx11 t
  show i ∈ ((View.whole main_v39_2).slice (win0_11.rect t)).set
  rw [View.set_slice_whole, Rect.mem_set_unit]
  intro a
  match a with
  | ⟨0, _⟩ => show win0_11.index t 0 * 1 ≤ (i 0).val ∧ (i 0).val < win0_11.index t 0 * 1 + 1; omega
  | ⟨1, _⟩ => show win0_11.index t 1 * 32 ≤ (i 1).val ∧ (i 1).val < win0_11.index t 1 * 32 + 32; omega
  | ⟨2, _⟩ => show win0_11.index t 2 * 64 ≤ (i 2).val ∧ (i 2).val < win0_11.index t 2 * 64 + 64; omega
  | ⟨3, _⟩ => show win0_11.index t 3 * 256 ≤ (i 3).val ∧ (i 3).val < win0_11.index t 3 * 256 + 256; omega

/-- The value gradient after the run. -/
theorem finalV (c : Dev nD) : (dats m 0 c).arrAt 11 cfg0.N = resultV (m ((c : Thread nD τ).loc main_arg0)) (m ((c : Thread nD τ).loc main_arg1)) (fwdLse (m ((c : Thread nD τ).loc main_arg0)) (m ((c : Thread nD τ).loc main_arg1))) (m ((c : Thread nD τ).loc main_arg3)) :=
  (dats m 0 c).arrAt_eq_of_cover 11 _ (flushedV m c) coveredV

/-! ## The precondition -/

/-- The shapes that the precondition names. -/
theorem pre_facts : Cert.Pre_finite13.Facts := ⟨by decide, by decide⟩

/-- Magnitudes below infinity are those of real numbers. -/
theorem real_of_below (x : EReal) (h : max x (-x) < ⊤) : ∃ r : ℝ, x = (r : EReal) := by
  induction x using EReal.rec with
  | bot => simp at h
  | coe r => exact ⟨r, rfl⟩
  | top => simp at h

/-- The comparison with infinity that the precondition makes. -/
theorem below_of_bit (x : EReal) (h : Ideal.cmp .olt (max x (-x)) (Ideal.ofBits .f32 0x7F800000#32) = 1#1) : max x (-x) < ⊤ := by
  have e : Ideal.ofBits .f32 0x7F800000#32 = ⊤ := by simp [Ideal.ofBits, Ideal.ieee]
  rw [e] at h
  by_contra hn
  have h0 : Ideal.cmp .olt (max x (-x)) ⊤ = 0#1 := by
    unfold Ideal.cmp
    simp only [decide_eq_false hn]
    rfl
  rw [h0] at h
  exact absurd h (by decide)

attribute [local instance] pre_facts in
/-- The precondition says that every entry is a real number. -/
theorem pre_real (q : FVec Ideal S2x32768x64 .f32) (k v : FVec Ideal S2x8192x64 .f32) (ct : FVec Ideal S2x32768x64 .f32) :
    ((Cert.Pre_finite13.fn (F := Ideal) q k v ct).1 = (fun _ => 1#1) → ∀ g r l, ∃ x : ℝ, q (ix3 g r l) = (x : EReal))
    ∧ ((Cert.Pre_finite13.fn (F := Ideal) q k v ct).2.1 = (fun _ => 1#1) → ∀ g r l, ∃ x : ℝ, k (ix3 g r l) = (x : EReal))
    ∧ ((Cert.Pre_finite13.fn (F := Ideal) q k v ct).2.2.1 = (fun _ => 1#1) → ∀ g r l, ∃ x : ℝ, v (ix3 g r l) = (x : EReal))
    ∧ ((Cert.Pre_finite13.fn (F := Ideal) q k v ct).2.2.2 = (fun _ => 1#1) → ∀ g r l, ∃ x : ℝ, ct (ix3 g r l) = (x : EReal)) := by
  unfold Cert.Pre_finite13.fn
  exact ⟨fun h g r l => real_of_below _ (below_of_bit _ (congrFun h (ix3 g r l))), fun h g r l => real_of_below _ (below_of_bit _ (congrFun h (ix3 g r l))),
    fun h g r l => real_of_below _ (below_of_bit _ (congrFun h (ix3 g r l))), fun h g r l => real_of_below _ (below_of_bit _ (congrFun h (ix3 g r l)))⟩

/-! ## The claim -/

theorem results (m : (ℓ : Loc nD τ sig) → Buf (Elt Ideal) ℓ) (hp : Cert.Pre_Kernel13Ideal_finite13 (hPre_finite13 := pre_facts) m) (c : Dev nD) :
    Cert.Reference13Ideal.Read.val_main_v48 (F := Ideal) (m ((c : Thread nD τ).loc main_arg0)) (m ((c : Thread nD τ).loc main_arg1)) (m ((c : Thread nD τ).loc main_arg2)) (m ((c : Thread nD τ).loc main_arg3))
      = resultQ (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))
    ∧ Cert.Reference13Ideal.Read.val_main_v50 (F := Ideal) (m ((c : Thread nD τ).loc main_arg0)) (m ((c : Thread nD τ).loc main_arg1)) (m ((c : Thread nD τ).loc main_arg2)) (m ((c : Thread nD τ).loc main_arg3))
      = resultK (m ((c : Thread nD τ).loc main_arg0)) (m ((c : Thread nD τ).loc main_arg1)) (m ((c : Thread nD τ).loc main_arg2)) (fwdOut (m ((c : Thread nD τ).loc main_arg0)) (m ((c : Thread nD τ).loc main_arg1)) (m ((c : Thread nD τ).loc main_arg2))) (fwdLse (m ((c : Thread nD τ).loc main_arg0)) (m ((c : Thread nD τ).loc main_arg1))) (m ((c : Thread nD τ).loc main_arg3))
    ∧ Cert.Reference13Ideal.Read.val_main_v52 (F := Ideal) (m ((c : Thread nD τ).loc main_arg0)) (m ((c : Thread nD τ).loc main_arg1)) (m ((c : Thread nD τ).loc main_arg3))
      = resultV (m ((c : Thread nD τ).loc main_arg0)) (m ((c : Thread nD τ).loc main_arg1)) (fwdLse (m ((c : Thread nD τ).loc main_arg0)) (m ((c : Thread nD τ).loc main_arg1))) (m ((c : Thread nD τ).loc main_arg3)) := by
  obtain ⟨p0, p1, p2, p3⟩ := hp c
  obtain ⟨h0, h1, h2, h3⟩ := pre_real (m ((c : Thread nD τ).loc main_arg0)) (m ((c : Thread nD τ).loc main_arg1)) (m ((c : Thread nD τ).loc main_arg2)) (m ((c : Thread nD τ).loc main_arg3))
  choose Q hq using h0 p0
  choose K hk using h1 p1
  choose W hv using h2 p2
  choose C hc using h3 p3
  exact ⟨FaRef.ref_Q hq hk hv hc, FaRef.ref_K hq hk hv hc, FaRef.ref_V hq hk⟩

/-- `Cert.algebraic_Kernel13Ideal_Reference13Ideal_pre_finite13`: from equal finite arguments the call and the reference end with equal results. -/
theorem algebraic : Cert.algebraic_Kernel13Ideal_Reference13Ideal_pre_finite13 (hKernel13Ideal := Cert.Kernel13Ideal.Gen.facts)
    (hReference13Ideal := Cert.Reference13Ideal.Gen.facts) (hPre_finite13 := pre_facts) := by
  intro m g m' g' hp hargs
  refine ⟨fun c => resultQ (m ((c.tc : Thread _ _).loc main_arg0)) (m ((c.tc : Thread _ _).loc main_arg1)) (m ((c.tc : Thread _ _).loc main_arg2)) (fwdOut (m ((c.tc : Thread _ _).loc main_arg0)) (m ((c.tc : Thread _ _).loc main_arg1)) (m ((c.tc : Thread _ _).loc main_arg2))) (fwdLse (m ((c.tc : Thread _ _).loc main_arg0)) (m ((c.tc : Thread _ _).loc main_arg1))) (m ((c.tc : Thread _ _).loc main_arg3)),
    fun c => resultK (m ((c.tc : Thread _ _).loc main_arg0)) (m ((c.tc : Thread _ _).loc main_arg1)) (m ((c.tc : Thread _ _).loc main_arg2)) (fwdOut (m ((c.tc : Thread _ _).loc main_arg0)) (m ((c.tc : Thread _ _).loc main_arg1)) (m ((c.tc : Thread _ _).loc main_arg2))) (fwdLse (m ((c.tc : Thread _ _).loc main_arg0)) (m ((c.tc : Thread _ _).loc main_arg1))) (m ((c.tc : Thread _ _).loc main_arg3)),
    fun c => resultV (m ((c.tc : Thread _ _).loc main_arg0)) (m ((c.tc : Thread _ _).loc main_arg1)) (fwdLse (m ((c.tc : Thread _ _).loc main_arg0)) (m ((c.tc : Thread _ _).loc main_arg1))) (m ((c.tc : Thread _ _).loc main_arg3)), ?_, ?_⟩
  · refine (θ_run defs _ _).mono (fun r h c => ?_) (Value.run_blocks (F := Ideal) m g)
    exact ⟨((h c).1).trans (finalQ m c), ((h c).2.1).trans (finalK m c), ((h c).2.2.1).trans (finalV m c), (h c).2.2.2⟩
  · refine (θ_run (Cert.Reference13Ideal.defs (F := Ideal)) _ _).mono (fun r h c => ?_) (Cert.Reference13Ideal.Value.run (F := Ideal) m' g')
    obtain ⟨e0, e1, e2⟩ := results m hp c
    refine ⟨((h c).1.trans (Cert.Reference13Ideal.Read.val_main_v48_eq ..)).trans ?_, ((h c).2.1.trans (Cert.Reference13Ideal.Read.val_main_v50_eq ..)).trans ?_,
      ((h c).2.2.1.trans (Cert.Reference13Ideal.Read.val_main_v52_eq ..)).trans ?_, (h c).2.2.2⟩ <;> obtain ⟨h0, h1, h2, h3⟩ := hargs c
    · rw [h0, h1, h2, h3]
      exact e0
    · rw [h0, h1, h2, h3]
      exact e1
    · rw [h0, h1, h3]
      exact e2

end Cert.Proof.FaBwd
-- ==== Proof.SumIn.lean ====
module

public import proofs.«01_k».proof.Defs
public import proofs.«01_k».proof.Proof.Gen.Kernel14Ideal.Value
public import proofs.«01_k».proof.Proof.Gen.Reference14Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The gradient of the input projection: the sum over the four devices

Two row blocks of 416; each adds the four devices' parts.
-/

@[expose] public section
noncomputable section
namespace Cert.Proof.SumIn
open Idealize.ShloMosaic Idealize.SL.Sem Cert.Kernel14Ideal
open Cert.Kernel14Ideal.Gen Idealize.ShloMosaic.TcCoe
open Idealize.ShloMosaic.Pipeline (Dat Cfg Window)

/-- One element of a block of the result. -/
def blockOut (x : Vec Ideal S4x416x1024 .bf16) (p : Fin 416) (k : Fin 1024) : EReal := ∑ d : Fin 4, x (ix3 d p k)

/-- The body leaves the sum of the four planes of its window's block. -/
theorem out_eq (x : Vec Ideal S4x416x1024 .bf16) (p : Fin 416) (k : Fin 1024) : out0_1 x (ix2 p k) = blockOut x p k := by
  unfold out0_1 blockOut
  rw [View.canon_cons_unit_lit _ _ _ (by decide), Fin.sum_univ_four]
  unfold_payloads
  pointwise

variable (m : (ℓ : Loc nD τ sig) → Buf (Elt Ideal) ℓ)

/-- The result: the sum of the four parts. -/
def result (a : FVec Ideal S4x832x1024 .bf16) : FVec Ideal S832x1024 .f32 := fun i => ∑ d : Fin 4, a (ix3 d (i 0) (i 1))

theorem V_a (c : Dev nD) (j : S4x832x1024.Idx) : V m c main_arg0 j = m ((c : Thread nD τ).loc main_arg0) j := by
  unfold V; after_reads_at

/-- The blocks each point stages and writes: row block `t`. -/
theorem idx_facts : ∀ t : Fin cfg0.N, win0_0.index t 0 = 0 ∧ win0_0.index t 1 = t.val ∧ win0_0.index t 2 = 0
    ∧ win0_1.index t 0 = t.val ∧ win0_1.index t 1 = 0 :=
  (by decide +kernel : ∀ t : Fin grid0.N, _)

/-- The parts' block at point `t`. -/
theorem iblk0 (c : Dev nD) (t : Fin cfg0.N) (d : Fin 4) (p : Fin 416) (k : Fin 1024) (r : Fin 832) (h : t.val * 416 + p.val = r.val) :
    iblk m c 0 t (ix3 d p k) = m ((c : Thread nD τ).loc main_arg0) (ix3 d r k) := by
  unfold iblk
  rw [View.read_apply]
  refine (V_a m c _).trans (congrArg (m ((c : Thread nD τ).loc main_arg0)) ?_)
  obtain ⟨h0, h1, h2, -⟩ := idx_facts t
  funext a; apply Fin.ext
  match a with
  | ⟨0, _⟩ => show win0_0.index t 0 * 4 + 1 * d.val = d.val; omega
  | ⟨1, _⟩ => show win0_0.index t 1 * 416 + 1 * p.val = r.val; omega
  | ⟨2, _⟩ => show win0_0.index t 2 * 1024 + 1 * k.val = k.val; omega

/-- `blockOut` of the parts' block at point `t` is the block of `result` there. -/
theorem block_eq (c : Dev nD) (t : Fin cfg0.N) (p : Fin 416) (k : Fin 1024) (r : Fin 832) (h : t.val * 416 + p.val = r.val) :
    blockOut (iblk m c 0 t) p k = result (m ((c : Thread nD τ).loc main_arg0)) (ix2 r k) :=
  Finset.sum_congr rfl fun d _ => iblk0 m c t d p k r h

/-- What point `t` writes back is its block of `result`. -/
theorem flushed_eq (c : Dev nD) (t : Fin cfg0.N) :
    (dats m 0 c).flushed 1 t = ((cfg0.win 1).blk t).view.read (Elt Ideal) (result (m ((c : Thread nD τ).loc main_arg0))) := by
  rw [Value.flushed1]
  funext y
  obtain ⟨p, k, rfl⟩ : ∃ (p : Fin 416) (k : Fin 1024), y = ix2 p k := ⟨y 0, y 1, eq_ix2 y⟩
  rw [View.read_apply]
  have hN : cfg0.N = 2 := N_0
  have ht := t.isLt
  obtain ⟨-, -, -, h0, h1⟩ := idx_facts t
  have he : ((cfg0.win 1).blk t).view.emb (ix2 p k) = ix2 (⟨t.val * 416 + p.val, by omega⟩ : Fin 832) k := by
    funext a; apply Fin.ext
    match a with
    | ⟨0, _⟩ => show win0_1.index t 0 * 416 + 1 * p.val = t.val * 416 + p.val; omega
    | ⟨1, _⟩ => show win0_1.index t 1 * 1024 + 1 * k.val = k.val; omega
  rw [he]
  exact (out_eq _ p k).trans (block_eq m c t p k _ rfl)

/-- Every index is in the block of some point. -/
theorem covered (i : S832x1024.Idx) : ∃ t : Fin cfg0.N, (cfg0.win 1).flush t = true ∧ i ∈ ((cfg0.win 1).blk t).view.set := by
  have hN : cfg0.N = 2 := N_0
  have i0 : (i 0).val < 832 := (i 0).isLt
  have i1 : (i 1).val < 1024 := (i 1).isLt
  obtain ⟨t, ht⟩ : ∃ t : Fin cfg0.N, t.val = (i 0).val / 416 := ⟨⟨_, by omega⟩, rfl⟩
  refine ⟨t, flush0_1 t, ?_⟩
  obtain ⟨-, -, -, h0, h1⟩ := idx_facts t
  show i ∈ ((View.whole main_v0).slice (win0_1.rect t)).set
  rw [View.set_slice_whole, Rect.mem_set_unit]
  intro a
  match a with
  | ⟨0, _⟩ => show win0_1.index t 0 * 416 ≤ (i 0).val ∧ (i 0).val < win0_1.index t 0 * 416 + 416; omega
  | ⟨1, _⟩ => show win0_1.index t 1 * 1024 ≤ (i 1).val ∧ (i 1).val < win0_1.index t 1 * 1024 + 1024; omega

open Cert.Reference14Ideal.Read in
/-- The reference's result is the same function. -/
theorem ref_eq (a : FVec Ideal S4x832x1024 .bf16) : val_main_v1 (F := Ideal) a = result a := by
  funext i
  unfold val_main_v1 val_main_v0 val_main_cst result
  pointwise

/-- `Cert.algebraic_Kernel14Ideal_Reference14Ideal`: from equal arguments the call and the reference end with equal results. -/
theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => result (m ((c.tc : Thread _ _).loc main_arg0)), ?_, ?_⟩
  · refine (θ_run defs _ _).mono (fun r h c => ?_) (Value.run_blocks (F := Ideal) m g)
    exact ⟨((h c).1).trans ((dats m 0 c).arrAt_eq_of_cover 1 _ (fun t _ => flushed_eq m c t) covered), (h c).2⟩
  · refine (θ_run (Cert.Reference14Ideal.defs (F := Ideal)) _ _).mono (fun r h c => ?_) (Cert.Reference14Ideal.Value.run (F := Ideal) m' g')
    refine ⟨((h c).1.trans (Cert.Reference14Ideal.Read.val_main_v1_eq ..)).trans ?_, (h c).2⟩
    rw [hargs c]
    exact ref_eq _

end Cert.Proof.SumIn
-- ==== Proof.SumOut.lean ====
module

public import proofs.«01_k».proof.Defs
public import proofs.«01_k».proof.Proof.Gen.Kernel15Ideal.Value
public import proofs.«01_k».proof.Proof.Gen.Reference15Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The gradient of the output projection: the sum over the four devices

One block; it adds the four devices' parts.
-/

@[expose] public section
noncomputable section
namespace Cert.Proof.SumOut
open Idealize.ShloMosaic Idealize.SL.Sem Cert.Kernel15Ideal
open Cert.Kernel15Ideal.Gen Idealize.ShloMosaic.TcCoe
open Idealize.ShloMosaic.Pipeline (Dat Cfg Window)

/-- One element of a block of the result. -/
def blockOut (x : Vec Ideal S4x256x1024 .bf16) (p : Fin 256) (k : Fin 1024) : EReal := ∑ d : Fin 4, x (ix3 d p k)

/-- The body leaves the sum of the four planes of its window's block. -/
theorem out_eq (x : Vec Ideal S4x256x1024 .bf16) (p : Fin 256) (k : Fin 1024) : out0_1 x (ix2 p k) = blockOut x p k := by
  unfold out0_1 blockOut
  rw [View.canon_cons_unit_lit _ _ _ (by decide), Fin.sum_univ_four]
  unfold_payloads
  pointwise

variable (m : (ℓ : Loc nD τ sig) → Buf (Elt Ideal) ℓ)

/-- The result: the sum of the four parts. -/
def result (a : FVec Ideal S4x256x1024 .bf16) : FVec Ideal S256x1024 .f32 := fun i => ∑ d : Fin 4, a (ix3 d (i 0) (i 1))

theorem V_a (c : Dev nD) (j : S4x256x1024.Idx) : V m c main_arg0 j = m ((c : Thread nD τ).loc main_arg0) j := by
  unfold V; after_reads_at

/-- The blocks each point stages and writes: row block `t`. -/
theorem idx_facts : ∀ t : Fin cfg0.N, win0_0.index t 0 = 0 ∧ win0_0.index t 1 = t.val ∧ win0_0.index t 2 = 0
    ∧ win0_1.index t 0 = t.val ∧ win0_1.index t 1 = 0 :=
  (by decide +kernel : ∀ t : Fin grid0.N, _)

/-- The parts' block at point `t`. -/
theorem iblk0 (c : Dev nD) (t : Fin cfg0.N) (d : Fin 4) (p : Fin 256) (k : Fin 1024) (r : Fin 256) (h : t.val * 256 + p.val = r.val) :
    iblk m c 0 t (ix3 d p k) = m ((c : Thread nD τ).loc main_arg0) (ix3 d r k) := by
  unfold iblk
  rw [View.read_apply]
  refine (V_a m c _).trans (congrArg (m ((c : Thread nD τ).loc main_arg0)) ?_)
  obtain ⟨h0, h1, h2, -⟩ := idx_facts t
  funext a; apply Fin.ext
  match a with
  | ⟨0, _⟩ => show win0_0.index t 0 * 4 + 1 * d.val = d.val; omega
  | ⟨1, _⟩ => show win0_0.index t 1 * 256 + 1 * p.val = r.val; omega
  | ⟨2, _⟩ => show win0_0.index t 2 * 1024 + 1 * k.val = k.val; omega

/-- `blockOut` of the parts' block at point `t` is the block of `result` there. -/
theorem block_eq (c : Dev nD) (t : Fin cfg0.N) (p : Fin 256) (k : Fin 1024) (r : Fin 256) (h : t.val * 256 + p.val = r.val) :
    blockOut (iblk m c 0 t) p k = result (m ((c : Thread nD τ).loc main_arg0)) (ix2 r k) :=
  Finset.sum_congr rfl fun d _ => iblk0 m c t d p k r h

/-- What point `t` writes back is its block of `result`. -/
theorem flushed_eq (c : Dev nD) (t : Fin cfg0.N) :
    (dats m 0 c).flushed 1 t = ((cfg0.win 1).blk t).view.read (Elt Ideal) (result (m ((c : Thread nD τ).loc main_arg0))) := by
  rw [Value.flushed1]
  funext y
  obtain ⟨p, k, rfl⟩ : ∃ (p : Fin 256) (k : Fin 1024), y = ix2 p k := ⟨y 0, y 1, eq_ix2 y⟩
  rw [View.read_apply]
  have hN : cfg0.N = 1 := N_0
  have ht := t.isLt
  obtain ⟨-, -, -, h0, h1⟩ := idx_facts t
  have he : ((cfg0.win 1).blk t).view.emb (ix2 p k) = ix2 (⟨t.val * 256 + p.val, by omega⟩ : Fin 256) k := by
    funext a; apply Fin.ext
    match a with
    | ⟨0, _⟩ => show win0_1.index t 0 * 256 + 1 * p.val = t.val * 256 + p.val; omega
    | ⟨1, _⟩ => show win0_1.index t 1 * 1024 + 1 * k.val = k.val; omega
  rw [he]
  exact (out_eq _ p k).trans (block_eq m c t p k _ rfl)

/-- Every index is in the block of some point. -/
theorem covered (i : S256x1024.Idx) : ∃ t : Fin cfg0.N, (cfg0.win 1).flush t = true ∧ i ∈ ((cfg0.win 1).blk t).view.set := by
  have hN : cfg0.N = 1 := N_0
  have i0 : (i 0).val < 256 := (i 0).isLt
  have i1 : (i 1).val < 1024 := (i 1).isLt
  obtain ⟨t, ht⟩ : ∃ t : Fin cfg0.N, t.val = (i 0).val / 256 := ⟨⟨_, by omega⟩, rfl⟩
  refine ⟨t, flush0_1 t, ?_⟩
  obtain ⟨-, -, -, h0, h1⟩ := idx_facts t
  show i ∈ ((View.whole main_v0).slice (win0_1.rect t)).set
  rw [View.set_slice_whole, Rect.mem_set_unit]
  intro a
  match a with
  | ⟨0, _⟩ => show win0_1.index t 0 * 256 ≤ (i 0).val ∧ (i 0).val < win0_1.index t 0 * 256 + 256; omega
  | ⟨1, _⟩ => show win0_1.index t 1 * 1024 ≤ (i 1).val ∧ (i 1).val < win0_1.index t 1 * 1024 + 1024; omega

open Cert.Reference15Ideal.Read in
/-- The reference's result is the same function. -/
theorem ref_eq (a : FVec Ideal S4x256x1024 .bf16) : val_main_v1 (F := Ideal) a = result a := by
  funext i
  unfold val_main_v1 val_main_v0 val_main_cst result
  pointwise

/-- `Cert.algebraic_Kernel15Ideal_Reference15Ideal`: from equal arguments the call and the reference end with equal results. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => result (m ((c.tc : Thread _ _).loc main_arg0)), ?_, ?_⟩
  · refine (θ_run defs _ _).mono (fun r h c => ?_) (Value.run_blocks (F := Ideal) m g)
    exact ⟨((h c).1).trans ((dats m 0 c).arrAt_eq_of_cover 1 _ (fun t _ => flushed_eq m c t) covered), (h c).2⟩
  · refine (θ_run (Cert.Reference15Ideal.defs (F := Ideal)) _ _).mono (fun r h c => ?_) (Cert.Reference15Ideal.Value.run (F := Ideal) m' g')
    refine ⟨((h c).1.trans (Cert.Reference15Ideal.Read.val_main_v1_eq ..)).trans ?_, (h c).2⟩
    rw [hargs c]
    exact ref_eq _

end Cert.Proof.SumOut
-- ==== Proof.SumGateUp.lean ====
module

public import proofs.«01_k».proof.Defs
public import proofs.«01_k».proof.Proof.Gen.Kernel16Ideal.Value
public import proofs.«01_k».proof.Proof.Gen.Reference16Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The gradient of the gate and up projections: the sum over the four devices

Two row blocks of 512; each adds the four devices' parts.
-/

@[expose] public section
noncomputable section
namespace Cert.Proof.SumGateUp
open Idealize.ShloMosaic Idealize.SL.Sem Cert.Kernel16Ideal
open Cert.Kernel16Ideal.Gen Idealize.ShloMosaic.TcCoe
open Idealize.ShloMosaic.Pipeline (Dat Cfg Window)

/-- One element of a block of the result. -/
def blockOut (x : Vec Ideal S4x512x1408 .bf16) (p : Fin 512) (k : Fin 1408) : EReal := ∑ d : Fin 4, x (ix3 d p k)

/-- The body leaves the sum of the four planes of its window's block. -/
theorem out_eq (x : Vec Ideal S4x512x1408 .bf16) (p : Fin 512) (k : Fin 1408) : out0_1 x (ix2 p k) = blockOut x p k := by
  unfold out0_1 blockOut
  rw [View.canon_cons_unit_lit _ _ _ (by decide), Fin.sum_univ_four]
  unfold_payloads
  pointwise

variable (m : (ℓ : Loc nD τ sig) → Buf (Elt Ideal) ℓ)

/-- The result: the sum of the four parts. -/
def result (a : FVec Ideal S4x1024x1408 .bf16) : FVec Ideal S1024x1408 .f32 := fun i => ∑ d : Fin 4, a (ix3 d (i 0) (i 1))

theorem V_a (c : Dev nD) (j : S4x1024x1408.Idx) : V m c main_arg0 j = m ((c : Thread nD τ).loc main_arg0) j := by
  unfold V; after_reads_at

/-- The blocks each point stages and writes: row block `t`. -/
theorem idx_facts : ∀ t : Fin cfg0.N, win0_0.index t 0 = 0 ∧ win0_0.index t 1 = t.val ∧ win0_0.index t 2 = 0
    ∧ win0_1.index t 0 = t.val ∧ win0_1.index t 1 = 0 :=
  (by decide +kernel : ∀ t : Fin grid0.N, _)

/-- The parts' block at point `t`. -/
theorem iblk0 (c : Dev nD) (t : Fin cfg0.N) (d : Fin 4) (p : Fin 512) (k : Fin 1408) (r : Fin 1024) (h : t.val * 512 + p.val = r.val) :
    iblk m c 0 t (ix3 d p k) = m ((c : Thread nD τ).loc main_arg0) (ix3 d r k) := by
  unfold iblk
  rw [View.read_apply]
  refine (V_a m c _).trans (congrArg (m ((c : Thread nD τ).loc main_arg0)) ?_)
  obtain ⟨h0, h1, h2, -⟩ := idx_facts t
  funext a; apply Fin.ext
  match a with
  | ⟨0, _⟩ => show win0_0.index t 0 * 4 + 1 * d.val = d.val; omega
  | ⟨1, _⟩ => show win0_0.index t 1 * 512 + 1 * p.val = r.val; omega
  | ⟨2, _⟩ => show win0_0.index t 2 * 1408 + 1 * k.val = k.val; omega

/-- `blockOut` of the parts' block at point `t` is the block of `result` there. -/
theorem block_eq (c : Dev nD) (t : Fin cfg0.N) (p : Fin 512) (k : Fin 1408) (r : Fin 1024) (h : t.val * 512 + p.val = r.val) :
    blockOut (iblk m c 0 t) p k = result (m ((c : Thread nD τ).loc main_arg0)) (ix2 r k) :=
  Finset.sum_congr rfl fun d _ => iblk0 m c t d p k r h

/-- What point `t` writes back is its block of `result`. -/
theorem flushed_eq (c : Dev nD) (t : Fin cfg0.N) :
    (dats m 0 c).flushed 1 t = ((cfg0.win 1).blk t).view.read (Elt Ideal) (result (m ((c : Thread nD τ).loc main_arg0))) := by
  rw [Value.flushed1]
  funext y
  obtain ⟨p, k, rfl⟩ : ∃ (p : Fin 512) (k : Fin 1408), y = ix2 p k := ⟨y 0, y 1, eq_ix2 y⟩
  rw [View.read_apply]
  have hN : cfg0.N = 2 := N_0
  have ht := t.isLt
  obtain ⟨-, -, -, h0, h1⟩ := idx_facts t
  have he : ((cfg0.win 1).blk t).view.emb (ix2 p k) = ix2 (⟨t.val * 512 + p.val, by omega⟩ : Fin 1024) k := by
    funext a; apply Fin.ext
    match a with
    | ⟨0, _⟩ => show win0_1.index t 0 * 512 + 1 * p.val = t.val * 512 + p.val; omega
    | ⟨1, _⟩ => show win0_1.index t 1 * 1408 + 1 * k.val = k.val; omega
  rw [he]
  exact (out_eq _ p k).trans (block_eq m c t p k _ rfl)

/-- Every index is in the block of some point. -/
theorem covered (i : S1024x1408.Idx) : ∃ t : Fin cfg0.N, (cfg0.win 1).flush t = true ∧ i ∈ ((cfg0.win 1).blk t).view.set := by
  have hN : cfg0.N = 2 := N_0
  have i0 : (i 0).val < 1024 := (i 0).isLt
  have i1 : (i 1).val < 1408 := (i 1).isLt
  obtain ⟨t, ht⟩ : ∃ t : Fin cfg0.N, t.val = (i 0).val / 512 := ⟨⟨_, by omega⟩, rfl⟩
  refine ⟨t, flush0_1 t, ?_⟩
  obtain ⟨-, -, -, h0, h1⟩ := idx_facts t
  show i ∈ ((View.whole main_v0).slice (win0_1.rect t)).set
  rw [View.set_slice_whole, Rect.mem_set_unit]
  intro a
  match a with
  | ⟨0, _⟩ => show win0_1.index t 0 * 512 ≤ (i 0).val ∧ (i 0).val < win0_1.index t 0 * 512 + 512; omega
  | ⟨1, _⟩ => show win0_1.index t 1 * 1408 ≤ (i 1).val ∧ (i 1).val < win0_1.index t 1 * 1408 + 1408; omega

open Cert.Reference16Ideal.Read in
/-- The reference's result is the same function. -/
theorem ref_eq (a : FVec Ideal S4x1024x1408 .bf16) : val_main_v1 (F := Ideal) a = result a := by
  funext i
  unfold val_main_v1 val_main_v0 val_main_cst result
  pointwise

/-- `Cert.algebraic_Kernel16Ideal_Reference16Ideal`: from equal arguments the call and the reference end with equal results. -/
theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => result (m ((c.tc : Thread _ _).loc main_arg0)), ?_, ?_⟩
  · refine (θ_run defs _ _).mono (fun r h c => ?_) (Value.run_blocks (F := Ideal) m g)
    exact ⟨((h c).1).trans ((dats m 0 c).arrAt_eq_of_cover 1 _ (fun t _ => flushed_eq m c t) covered), (h c).2⟩
  · refine (θ_run (Cert.Reference16Ideal.defs (F := Ideal)) _ _).mono (fun r h c => ?_) (Cert.Reference16Ideal.Value.run (F := Ideal) m' g')
    refine ⟨((h c).1.trans (Cert.Reference16Ideal.Read.val_main_v1_eq ..)).trans ?_, (h c).2⟩
    rw [hargs c]
    exact ref_eq _

end Cert.Proof.SumGateUp
-- ==== Proof.SumDown.lean ====
module

public import proofs.«01_k».proof.Defs
public import proofs.«01_k».proof.Proof.Gen.Kernel17Ideal.Value
public import proofs.«01_k».proof.Proof.Gen.Reference17Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The gradient of the down projection: the sum over the four devices

Two row blocks of 352; each adds the four devices' parts.
-/

@[expose] public section
noncomputable section
namespace Cert.Proof.SumDown
open Idealize.ShloMosaic Idealize.SL.Sem Cert.Kernel17Ideal
open Cert.Kernel17Ideal.Gen Idealize.ShloMosaic.TcCoe
open Idealize.ShloMosaic.Pipeline (Dat Cfg Window)

/-- One element of a block of the result. -/
def blockOut (x : Vec Ideal S4x352x1024 .bf16) (p : Fin 352) (k : Fin 1024) : EReal := ∑ d : Fin 4, x (ix3 d p k)

/-- The body leaves the sum of the four planes of its window's block. -/
theorem out_eq (x : Vec Ideal S4x352x1024 .bf16) (p : Fin 352) (k : Fin 1024) : out0_1 x (ix2 p k) = blockOut x p k := by
  unfold out0_1 blockOut
  rw [View.canon_cons_unit_lit _ _ _ (by decide), Fin.sum_univ_four]
  unfold_payloads
  pointwise

variable (m : (ℓ : Loc nD τ sig) → Buf (Elt Ideal) ℓ)

/-- The result: the sum of the four parts. -/
def result (a : FVec Ideal S4x704x1024 .bf16) : FVec Ideal S704x1024 .f32 := fun i => ∑ d : Fin 4, a (ix3 d (i 0) (i 1))

theorem V_a (c : Dev nD) (j : S4x704x1024.Idx) : V m c main_arg0 j = m ((c : Thread nD τ).loc main_arg0) j := by
  unfold V; after_reads_at

/-- The blocks each point stages and writes: row block `t`. -/
theorem idx_facts : ∀ t : Fin cfg0.N, win0_0.index t 0 = 0 ∧ win0_0.index t 1 = t.val ∧ win0_0.index t 2 = 0
    ∧ win0_1.index t 0 = t.val ∧ win0_1.index t 1 = 0 :=
  (by decide +kernel : ∀ t : Fin grid0.N, _)

/-- The parts' block at point `t`. -/
theorem iblk0 (c : Dev nD) (t : Fin cfg0.N) (d : Fin 4) (p : Fin 352) (k : Fin 1024) (r : Fin 704) (h : t.val * 352 + p.val = r.val) :
    iblk m c 0 t (ix3 d p k) = m ((c : Thread nD τ).loc main_arg0) (ix3 d r k) := by
  unfold iblk
  rw [View.read_apply]
  refine (V_a m c _).trans (congrArg (m ((c : Thread nD τ).loc main_arg0)) ?_)
  obtain ⟨h0, h1, h2, -⟩ := idx_facts t
  funext a; apply Fin.ext
  match a with
  | ⟨0, _⟩ => show win0_0.index t 0 * 4 + 1 * d.val = d.val; omega
  | ⟨1, _⟩ => show win0_0.index t 1 * 352 + 1 * p.val = r.val; omega
  | ⟨2, _⟩ => show win0_0.index t 2 * 1024 + 1 * k.val = k.val; omega

/-- `blockOut` of the parts' block at point `t` is the block of `result` there. -/
theorem block_eq (c : Dev nD) (t : Fin cfg0.N) (p : Fin 352) (k : Fin 1024) (r : Fin 704) (h : t.val * 352 + p.val = r.val) :
    blockOut (iblk m c 0 t) p k = result (m ((c : Thread nD τ).loc main_arg0)) (ix2 r k) :=
  Finset.sum_congr rfl fun d _ => iblk0 m c t d p k r h

/-- What point `t` writes back is its block of `result`. -/
theorem flushed_eq (c : Dev nD) (t : Fin cfg0.N) :
    (dats m 0 c).flushed 1 t = ((cfg0.win 1).blk t).view.read (Elt Ideal) (result (m ((c : Thread nD τ).loc main_arg0))) := by
  rw [Value.flushed1]
  funext y
  obtain ⟨p, k, rfl⟩ : ∃ (p : Fin 352) (k : Fin 1024), y = ix2 p k := ⟨y 0, y 1, eq_ix2 y⟩
  rw [View.read_apply]
  have hN : cfg0.N = 2 := N_0
  have ht := t.isLt
  obtain ⟨-, -, -, h0, h1⟩ := idx_facts t
  have he : ((cfg0.win 1).blk t).view.emb (ix2 p k) = ix2 (⟨t.val * 352 + p.val, by omega⟩ : Fin 704) k := by
    funext a; apply Fin.ext
    match a with
    | ⟨0, _⟩ => show win0_1.index t 0 * 352 + 1 * p.val = t.val * 352 + p.val; omega
    | ⟨1, _⟩ => show win0_1.index t 1 * 1024 + 1 * k.val = k.val; omega
  rw [he]
  exact (out_eq _ p k).trans (block_eq m c t p k _ rfl)

/-- Every index is in the block of some point. -/
theorem covered (i : S704x1024.Idx) : ∃ t : Fin cfg0.N, (cfg0.win 1).flush t = true ∧ i ∈ ((cfg0.win 1).blk t).view.set := by
  have hN : cfg0.N = 2 := N_0
  have i0 : (i 0).val < 704 := (i 0).isLt
  have i1 : (i 1).val < 1024 := (i 1).isLt
  obtain ⟨t, ht⟩ : ∃ t : Fin cfg0.N, t.val = (i 0).val / 352 := ⟨⟨_, by omega⟩, rfl⟩
  refine ⟨t, flush0_1 t, ?_⟩
  obtain ⟨-, -, -, h0, h1⟩ := idx_facts t
  show i ∈ ((View.whole main_v0).slice (win0_1.rect t)).set
  rw [View.set_slice_whole, Rect.mem_set_unit]
  intro a
  match a with
  | ⟨0, _⟩ => show win0_1.index t 0 * 352 ≤ (i 0).val ∧ (i 0).val < win0_1.index t 0 * 352 + 352; omega
  | ⟨1, _⟩ => show win0_1.index t 1 * 1024 ≤ (i 1).val ∧ (i 1).val < win0_1.index t 1 * 1024 + 1024; omega

open Cert.Reference17Ideal.Read in
/-- The reference's result is the same function. -/
theorem ref_eq (a : FVec Ideal S4x704x1024 .bf16) : val_main_v1 (F := Ideal) a = result a := by
  funext i
  unfold val_main_v1 val_main_v0 val_main_cst result
  pointwise

/-- `Cert.algebraic_Kernel17Ideal_Reference17Ideal`: from equal arguments the call and the reference end with equal results. -/
theorem algebraic : Cert.algebraic_Kernel17Ideal_Reference17Ideal (hKernel17Ideal := Cert.Kernel17Ideal.Gen.facts)
    (hReference17Ideal := Cert.Reference17Ideal.Gen.facts) := by
  intro m g m' g' _ hargs
  refine ⟨fun c => result (m ((c.tc : Thread _ _).loc main_arg0)), ?_, ?_⟩
  · refine (θ_run defs _ _).mono (fun r h c => ?_) (Value.run_blocks (F := Ideal) m g)
    exact ⟨((h c).1).trans ((dats m 0 c).arrAt_eq_of_cover 1 _ (fun t _ => flushed_eq m c t) covered), (h c).2⟩
  · refine (θ_run (Cert.Reference17Ideal.defs (F := Ideal)) _ _).mono (fun r h c => ?_) (Cert.Reference17Ideal.Value.run (F := Ideal) m' g')
    refine ⟨((h c).1.trans (Cert.Reference17Ideal.Read.val_main_v1_eq ..)).trans ?_, (h c).2⟩
    rw [hargs c]
    exact ref_eq _

end Cert.Proof.SumDown
-- ==== Proof.Adam.lean ====
module

public import Idealize.ShloMosaic.Lib.Pointwise

/-!
# One step of AdamW on one weight, and arrays cut into row blocks

The step's three results for one element: the moments and the change of the weight. The constants are the programs' own words for
β₁, 1 − β₁, β₂, 1 − β₂, the two bias corrections, ε, the weight decay and minus the learning rate.
-/

@[expose] public section
noncomputable section
namespace Cert.Proof.Adam
open Idealize.ShloMosaic

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- A function of four numbers, applied element by element to four arrays with a leading axis of length one. -/
def lift {R C : ℕ} (f : EReal → EReal → EReal → EReal → EReal) (w g m v : (⟨3, ![1, R, C]⟩ : Shape).Idx → EReal) :
    (⟨2, ![R, C]⟩ : Shape).Idx → EReal := fun i =>
  f (w (ix3 0 (i 0) (i 1))) (g (ix3 0 (i 0) (i 1))) (m (ix3 0 (i 0) (i 1))) (v (ix3 0 (i 0) (i 1)))

/-- The same for arrays without that axis. -/
def map {R C : ℕ} (f : EReal → EReal → EReal → EReal → EReal) (w g m v : (⟨2, ![R, C]⟩ : Shape).Idx → EReal) :
    (⟨2, ![R, C]⟩ : Shape).Idx → EReal := fun i => f (w i) (g i) (m i) (v i)

/-! ## Arrays cut into row blocks -/

/-- The index of an array of `R` rows that its row block `t` of `B` rows has at the block's row `p` and column `k`. -/
theorem row_eq {R B C : ℕ} (n : Fin 2 → ℕ) (t : ℕ) (hn : n = ![t, 0]) (p : Fin B) (k : Fin C) (r : Fin R) (hr : t * B + p.val = r.val)
    (e : (⟨2, ![R, C]⟩ : Shape).Idx) (he : ∀ a, (e a).val = n a * ![B, C] a + 1 * ((ix2 p k : (⟨2, ![B, C]⟩ : Shape).Idx) a).val) :
    e = ix2 r k := by
  subst hn
  funext a; apply Fin.ext
  refine (he a).trans ?_
  match a with
  | ⟨0, _⟩ => show t * B + 1 * p.val = r.val; omega
  | ⟨1, _⟩ => show 0 * C + 1 * k.val = k.val; omega

/-- An index is in the row block of its row. -/
theorem mem_row {R B C : ℕ} (hB : 0 < B) (i : (⟨2, ![R, C]⟩ : Shape).Idx) (n : Fin 2 → ℕ) (hn : n = ![(i 0).val / B, 0]) (a : Fin 2) :
    n a * ![B, C] a ≤ (i a).val ∧ (i a).val < n a * ![B, C] a + ![B, C] a := by
  subst hn
  match a with
  | ⟨0, _⟩ =>
    have h := Nat.div_add_mod (i 0).val B
    have h' := Nat.mod_lt (i 0).val hB
    rw [Nat.mul_comm] at h
    show (i 0).val / B * B ≤ (i 0).val ∧ (i 0).val < (i 0).val / B * B + B
    omega
  | ⟨1, _⟩ =>
    have h : (i 1).val < C := (i 1).isLt
    show 0 * C ≤ (i 1).val ∧ (i 1).val < 0 * C + C
    omega

end Cert.Proof.Adam
-- ==== Proof.AdamIn.lean ====
module

public import proofs.«01_k».proof.Defs
public import proofs.«01_k».proof.Proof.Adam
public import proofs.«01_k».proof.Proof.Gen.Kernel18Ideal.Value
public import proofs.«01_k».proof.Proof.Gen.Reference18Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The AdamW step of the input projection's shard

Row blocks of 512, every element on its own.
-/

@[expose] public section
noncomputable section
namespace Cert.Proof.AdamIn
open Idealize.ShloMosaic Idealize.SL.Sem Cert.Kernel18Ideal
open Cert.Kernel18Ideal.Gen Idealize.ShloMosaic.TcCoe
open Idealize.ShloMosaic.Pipeline (Dat Cfg Window)

/-- The block and the array. -/
abbrev B : Shape := S512x832
abbrev A : Shape := S1024x832
abbrev A1 : Shape := S1x1024x832

/-- The body's three stores, element by element. -/
theorem out4 (w g m v : Vec Ideal B .f32) (p : Fin 512) (k : Fin 832) :
    out0_4 w g m v (ix2 p k) = Adam.delta (w (ix2 p k)) (g (ix2 p k)) (m (ix2 p k)) (v (ix2 p k)) := by
  unfold out0_4
  rw [View.canon_cons_unit_lit _ _ _ (by decide), View.ld_unit_lit _ w (by decide), View.ld_unit_lit _ g (by decide),
    View.ld_unit_lit _ m (by decide), View.ld_unit_lit _ v (by decide)]
  unfold_payloads
  pointwise
  rfl

theorem out5 (w g m v : Vec Ideal B .f32) (p : Fin 512) (k : Fin 832) :
    out0_5 w g m v (ix2 p k) = Adam.newM (g (ix2 p k)) (m (ix2 p k)) := by
  unfold out0_5
  rw [View.canon_cons_unit_lit _ _ _ (by decide), View.ld_unit_lit _ g (by decide), View.ld_unit_lit _ m (by decide)]
  unfold_payloads
  pointwise
  rfl

theorem out6 (w g m v : Vec Ideal B .f32) (p : Fin 512) (k : Fin 832) :
    out0_6 w g m v (ix2 p k) = Adam.newV (g (ix2 p k)) (v (ix2 p k)) := by
  unfold out0_6
  rw [View.canon_cons_unit_lit _ _ _ (by decide), View.ld_unit_lit _ g (by decide), View.ld_unit_lit _ v (by decide)]
  unfold_payloads
  pointwise
  rfl

/-! ## The whole arrays -/

variable (m : (ℓ : Loc nD τ sig) → Buf (Elt Ideal) ℓ)

/-- A function of the weight, its gradient and its moments, applied to the call's four arguments. -/
def res (c : Dev nD) (f : EReal → EReal → EReal → EReal → EReal) : FVec Ideal A .f32 :=
  Adam.lift f (m ((c : Thread nD τ).loc main_arg0)) (m ((c : Thread nD τ).loc main_arg1))
    (m ((c : Thread nD τ).loc main_arg2)) (m ((c : Thread nD τ).loc main_arg3))

/-- The host code drops the leading axis of each argument. -/
theorem V_eq (c : Dev nD) (j : A.Idx) :
    V m c main_v0 j = m ((c : Thread nD τ).loc main_arg0) (ix3 0 (j 0) (j 1))
    ∧ V m c main_v1 j = m ((c : Thread nD τ).loc main_arg1) (ix3 0 (j 0) (j 1))
    ∧ V m c main_v2 j = m ((c : Thread nD τ).loc main_arg2) (ix3 0 (j 0) (j 1))
    ∧ V m c main_v3 j = m ((c : Thread nD τ).loc main_arg3) (ix3 0 (j 0) (j 1)) := by
  unfold V
  refine ⟨?_, ?_, ?_, ?_⟩ <;> after_reads_at

/-- Every window's block at point `t` is row block `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of block `t`, in the array. -/
def row (t : Fin cfg0.N) (p : Fin 512) : Fin 1024 := ⟨t.val * 512 + p.val, by
  have := t.isLt; have hN : cfg0.N = 2 := N_0; omega⟩

/-- The four input blocks at point `t`, read in the arguments. -/
theorem iblk0 (c : Dev nD) (t : Fin cfg0.N) (p : Fin 512) (k : Fin 832) :
    iblk m c 0 t (ix2 p k) = m ((c : Thread nD τ).loc main_arg0) (ix3 0 (row t p) k) := by
  unfold iblk
  rw [View.read_apply, Adam.row_eq _ _ (idx_facts t).1 p k (row t p) rfl (((cfg0.win 0).blk t).view.emb (ix2 p k)) fun _ => rfl]
  exact (V_eq m c _).1

theorem iblk1 (c : Dev nD) (t : Fin cfg0.N) (p : Fin 512) (k : Fin 832) :
    iblk m c 1 t (ix2 p k) = m ((c : Thread nD τ).loc main_arg1) (ix3 0 (row t p) k) := by
  unfold iblk
  rw [View.read_apply, Adam.row_eq _ _ (idx_facts t).2.1 p k (row t p) rfl (((cfg0.win 1).blk t).view.emb (ix2 p k)) fun _ => rfl]
  exact (V_eq m c _).2.1

theorem iblk2 (c : Dev nD) (t : Fin cfg0.N) (p : Fin 512) (k : Fin 832) :
    iblk m c 2 t (ix2 p k) = m ((c : Thread nD τ).loc main_arg2) (ix3 0 (row t p) k) := by
  unfold iblk
  rw [View.read_apply, Adam.row_eq _ _ (idx_facts t).2.2.1 p k (row t p) rfl (((cfg0.win 2).blk t).view.emb (ix2 p k)) fun _ => rfl]
  exact (V_eq m c _).2.2.1

theorem iblk3 (c : Dev nD) (t : Fin cfg0.N) (p : Fin 512) (k : Fin 832) :
    iblk m c 3 t (ix2 p k) = m ((c : Thread nD τ).loc main_arg3) (ix3 0 (row t p) k) := by
  unfold iblk
  rw [View.read_apply, Adam.row_eq _ _ (idx_facts t).2.2.2.1 p k (row t p) rfl (((cfg0.win 3).blk t).view.emb (ix2 p k)) fun _ => rfl]
  exact (V_eq m c _).2.2.2

/-- The point whose blocks hold an index. -/
def point (i : A.Idx) : Fin cfg0.N := ⟨(i 0).val / 512, by
  have : (i 0).val < 1024 := (i 0).isLt; have hN : cfg0.N = 2 := N_0; omega⟩

/-- The three result arrays after the run. -/
theorem final4 (c : Dev nD) : (dats m 0 c).arrAt 4 cfg0.N = res m c Adam.delta := by
  refine (dats m 0 c).arrAt_eq_of_cover 4 _ (fun t _ => ?_) fun i => ?_
  · rw [Value.flushed4]
    funext y
    obtain ⟨p, k, rfl⟩ : ∃ (p : Fin 512) (k : Fin 832), y = ix2 p k := ⟨y 0, y 1, eq_ix2 y⟩
    rw [View.read_apply, Adam.row_eq _ _ (idx_facts t).2.2.2.2.1 p k (row t p) rfl (((cfg0.win 4).blk t).view.emb (ix2 p k)) fun _ => rfl]
    refine (out4 _ _ _ _ p k).trans ?_
    rw [iblk0, iblk1, iblk2, iblk3]
    rfl
  · refine ⟨point i, flush0_4 _, ?_⟩
    show i ∈ ((View.whole main_v4_0).slice (win0_4.rect (point i))).set
    rw [View.set_slice_whole, Rect.mem_set_unit]
    exact Adam.mem_row (by decide) i _ (idx_facts (point i)).2.2.2.2.1

theorem final5 (c : Dev nD) : (dats m 0 c).arrAt 5 cfg0.N = res m c fun _ g m _ => Adam.newM g m := by
  refine (dats m 0 c).arrAt_eq_of_cover 5 _ (fun t _ => ?_) fun i => ?_
  · rw [Value.flushed5]
    funext y
    obtain ⟨p, k, rfl⟩ : ∃ (p : Fin 512) (k : Fin 832), y = ix2 p k := ⟨y 0, y 1, eq_ix2 y⟩
    rw [View.read_apply, Adam.row_eq _ _ (idx_facts t).2.2.2.2.2.1 p k (row t p) rfl (((cfg0.win 5).blk t).view.emb (ix2 p k)) fun _ => rfl]
    refine (out5 _ _ _ _ p k).trans ?_
    rw [iblk1, iblk2]
    rfl
  · refine ⟨point i, flush0_5 _, ?_⟩
    show i ∈ ((View.whole main_v4_1).slice (win0_5.rect (point i))).set
    rw [View.set_slice_whole, Rect.mem_set_unit]
    exact Adam.mem_row (by decide) i _ (idx_facts (point i)).2.2.2.2.2.1

theorem final6 (c : Dev nD) : (dats m 0 c).arrAt 6 cfg0.N = res m c fun _ g _ v => Adam.newV g v := by
  refine (dats m 0 c).arrAt_eq_of_cover 6 _ (fun t _ => ?_) fun i => ?_
  · rw [Value.flushed6]
    funext y
    obtain ⟨p, k, rfl⟩ : ∃ (p : Fin 512) (k : Fin 832), y = ix2 p k := ⟨y 0, y 1, eq_ix2 y⟩
    rw [View.read_apply, Adam.row_eq _ _ (idx_facts t).2.2.2.2.2.2 p k (row t p) rfl (((cfg0.win 6).blk t).view.emb (ix2 p k)) fun _ => rfl]
    refine (out6 _ _ _ _ p k).trans ?_
    rw [iblk1, iblk3]
    rfl
  · refine ⟨point i, flush0_6 _, ?_⟩
    show i ∈ ((View.whole main_v4_2).slice (win0_6.rect (point i))).set
    rw [View.set_slice_whole, Rect.mem_set_unit]
    exact Adam.mem_row (by decide) i _ (idx_facts (point i)).2.2.2.2.2.2

/-! ## The reference -/

section reference
open Cert.Reference18Ideal.Read
variable (w g m v : FVec Ideal A1 .f32)

theorem ref_m : val_main_v8 (F := Ideal) g m = Adam.lift (fun _ g m _ => Adam.newM g m) w g m v := by
  funext i
  unfold val_main_v8 val_main_v7 val_main_v6 val_main_v5 val_main_v4 val_main_v2 val_main_v1 val_main_cst val_main_cst_0
  pointwise
  rfl

theorem ref_v : val_main_v14 (F := Ideal) g v = Adam.lift (fun _ g _ v => Adam.newV g v) w g m v := by
  funext i
  unfold val_main_v14 val_main_v13 val_main_v12 val_main_v11 val_main_v10 val_main_v9 val_main_v3 val_main_v1 val_main_cst_1 val_main_cst_2
  pointwise
  rfl

theorem ref_delta : val_main_v27 (F := Ideal) w g m v = Adam.lift Adam.delta w g m v := by
  funext i
  unfold val_main_v27 val_main_v26 val_main_v25 val_main_v24 val_main_v23 val_main_v22 val_main_v21 val_main_v20 val_main_v19
    val_main_v18 val_main_v17 val_main_v16 val_main_v15 val_main_v0 val_main_cst_3 val_main_cst_4 val_main_cst_5 val_main_cst_6 val_main_cst_7
  pointwise
  rw [ref_m w g m v, ref_v w g m v]
  rfl

end reference

/-! ## The claim -/

/-- `Cert.algebraic_Kernel18Ideal_Reference18Ideal`: from equal arguments the call and the reference end with equal results. -/
theorem algebraic : Cert.algebraic_Kernel18Ideal_Reference18Ideal (hKernel18Ideal := Cert.Kernel18Ideal.Gen.facts)
    (hReference18Ideal := Cert.Reference18Ideal.Gen.facts) := by
  intro m g m' g' _ hargs
  refine ⟨fun c => res m c Adam.delta, fun c => res m c fun _ g m _ => Adam.newM g m, fun c => res m c fun _ g _ v => Adam.newV g v, ?_, ?_⟩
  · refine (θ_run defs _ _).mono (fun r h c => ?_) (Value.run_blocks (F := Ideal) m g)
    exact ⟨(h c).1.trans (final4 m c), (h c).2.1.trans (final5 m c), (h c).2.2.1.trans (final6 m c), (h c).2.2.2⟩
  · refine (θ_run (Cert.Reference18Ideal.defs (F := Ideal)) _ _).mono (fun r h c => ?_) (Cert.Reference18Ideal.Value.run (F := Ideal) m' g')
    obtain ⟨h0, h1, h2, h3⟩ := hargs c
    refine ⟨((h c).1.trans (Cert.Reference18Ideal.Read.val_main_v27_eq ..)).trans ?_,
      ((h c).2.1.trans (Cert.Reference18Ideal.Read.val_main_v8_eq ..)).trans ?_,
      ((h c).2.2.1.trans (Cert.Reference18Ideal.Read.val_main_v14_eq ..)).trans ?_, (h c).2.2.2⟩
    · rw [h0, h1, h2, h3]
      exact ref_delta _ _ _ _
    · rw [h1, h2]
      exact ref_m _ _ _ _
    · rw [h1, h3]
      exact ref_v _ _ _ _

end Cert.Proof.AdamIn
-- ==== Proof.AdamOut.lean ====
module

public import proofs.«01_k».proof.Defs
public import proofs.«01_k».proof.Proof.Adam
public import proofs.«01_k».proof.Proof.Gen.Kernel19Ideal.Value
public import proofs.«01_k».proof.Proof.Gen.Reference19Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The AdamW step of the output projection's shard

One block, every element on its own.
-/

@[expose] public section
noncomputable section
namespace Cert.Proof.AdamOut
open Idealize.ShloMosaic Idealize.SL.Sem Cert.Kernel19Ideal
open Cert.Kernel19Ideal.Gen Idealize.ShloMosaic.TcCoe
open Idealize.ShloMosaic.Pipeline (Dat Cfg Window)

/-- The block and the array. -/
abbrev B : Shape := S256x1024
abbrev A : Shape := S256x1024
abbrev A1 : Shape := S1x256x1024

/-- The body's three stores, element by element. -/
theorem out4 (w g m v : Vec Ideal B .f32) (p : Fin 256) (k : Fin 1024) :
    out0_4 w g m v (ix2 p k) = Adam.delta (w (ix2 p k)) (g (ix2 p k)) (m (ix2 p k)) (v (ix2 p k)) := by
  unfold out0_4
  rw [View.canon_cons_unit_lit _ _ _ (by decide), View.ld_unit_lit _ w (by decide), View.ld_unit_lit _ g (by decide),
    View.ld_unit_lit _ m (by decide), View.ld_unit_lit _ v (by decide)]
  unfold_payloads
  pointwise
  rfl

theorem out5 (w g m v : Vec Ideal B .f32) (p : Fin 256) (k : Fin 1024) :
    out0_5 w g m v (ix2 p k) = Adam.newM (g (ix2 p k)) (m (ix2 p k)) := by
  unfold out0_5
  rw [View.canon_cons_unit_lit _ _ _ (by decide), View.ld_unit_lit _ g (by decide), View.ld_unit_lit _ m (by decide)]
  unfold_payloads
  pointwise
  rfl

theorem out6 (w g m v : Vec Ideal B .f32) (p : Fin 256) (k : Fin 1024) :
    out0_6 w g m v (ix2 p k) = Adam.newV (g (ix2 p k)) (v (ix2 p k)) := by
  unfold out0_6
  rw [View.canon_cons_unit_lit _ _ _ (by decide), View.ld_unit_lit _ g (by decide), View.ld_unit_lit _ v (by decide)]
  unfold_payloads
  pointwise
  rfl

/-! ## The whole arrays -/

variable (m : (ℓ : Loc nD τ sig) → Buf (Elt Ideal) ℓ)

/-- A function of the weight, its gradient and its moments, applied to the call's four arguments. -/
def res (c : Dev nD) (f : EReal → EReal → EReal → EReal → EReal) : FVec Ideal A .f32 :=
  Adam.lift f (m ((c : Thread nD τ).loc main_arg0)) (m ((c : Thread nD τ).loc main_arg1))
    (m ((c : Thread nD τ).loc main_arg2)) (m ((c : Thread nD τ).loc main_arg3))

/-- The host code drops the leading axis of each argument. -/
theorem V_eq (c : Dev nD) (j : A.Idx) :
    V m c main_v0 j = m ((c : Thread nD τ).loc main_arg0) (ix3 0 (j 0) (j 1))
    ∧ V m c main_v1 j = m ((c : Thread nD τ).loc main_arg1) (ix3 0 (j 0) (j 1))
    ∧ V m c main_v2 j = m ((c : Thread nD τ).loc main_arg2) (ix3 0 (j 0) (j 1))
    ∧ V m c main_v3 j = m ((c : Thread nD τ).loc main_arg3) (ix3 0 (j 0) (j 1)) := by
  unfold V
  refine ⟨?_, ?_, ?_, ?_⟩ <;> after_reads_at

/-- Every window's block at point `t` is row block `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of block `t`, in the array. -/
def row (t : Fin cfg0.N) (p : Fin 256) : Fin 256 := ⟨t.val * 256 + p.val, by
  have := t.isLt; have hN : cfg0.N = 1 := N_0; omega⟩

/-- The four input blocks at point `t`, read in the arguments. -/
theorem iblk0 (c : Dev nD) (t : Fin cfg0.N) (p : Fin 256) (k : Fin 1024) :
    iblk m c 0 t (ix2 p k) = m ((c : Thread nD τ).loc main_arg0) (ix3 0 (row t p) k) := by
  unfold iblk
  rw [View.read_apply, Adam.row_eq _ _ (idx_facts t).1 p k (row t p) rfl (((cfg0.win 0).blk t).view.emb (ix2 p k)) fun _ => rfl]
  exact (V_eq m c _).1

theorem iblk1 (c : Dev nD) (t : Fin cfg0.N) (p : Fin 256) (k : Fin 1024) :
    iblk m c 1 t (ix2 p k) = m ((c : Thread nD τ).loc main_arg1) (ix3 0 (row t p) k) := by
  unfold iblk
  rw [View.read_apply, Adam.row_eq _ _ (idx_facts t).2.1 p k (row t p) rfl (((cfg0.win 1).blk t).view.emb (ix2 p k)) fun _ => rfl]
  exact (V_eq m c _).2.1

theorem iblk2 (c : Dev nD) (t : Fin cfg0.N) (p : Fin 256) (k : Fin 1024) :
    iblk m c 2 t (ix2 p k) = m ((c : Thread nD τ).loc main_arg2) (ix3 0 (row t p) k) := by
  unfold iblk
  rw [View.read_apply, Adam.row_eq _ _ (idx_facts t).2.2.1 p k (row t p) rfl (((cfg0.win 2).blk t).view.emb (ix2 p k)) fun _ => rfl]
  exact (V_eq m c _).2.2.1

theorem iblk3 (c : Dev nD) (t : Fin cfg0.N) (p : Fin 256) (k : Fin 1024) :
    iblk m c 3 t (ix2 p k) = m ((c : Thread nD τ).loc main_arg3) (ix3 0 (row t p) k) := by
  unfold iblk
  rw [View.read_apply, Adam.row_eq _ _ (idx_facts t).2.2.2.1 p k (row t p) rfl (((cfg0.win 3).blk t).view.emb (ix2 p k)) fun _ => rfl]
  exact (V_eq m c _).2.2.2

/-- The point whose blocks hold an index. -/
def point (i : A.Idx) : Fin cfg0.N := ⟨(i 0).val / 256, by
  have : (i 0).val < 256 := (i 0).isLt; have hN : cfg0.N = 1 := N_0; omega⟩

/-- The three result arrays after the run. -/
theorem final4 (c : Dev nD) : (dats m 0 c).arrAt 4 cfg0.N = res m c Adam.delta := by
  refine (dats m 0 c).arrAt_eq_of_cover 4 _ (fun t _ => ?_) fun i => ?_
  · rw [Value.flushed4]
    funext y
    obtain ⟨p, k, rfl⟩ : ∃ (p : Fin 256) (k : Fin 1024), y = ix2 p k := ⟨y 0, y 1, eq_ix2 y⟩
    rw [View.read_apply, Adam.row_eq _ _ (idx_facts t).2.2.2.2.1 p k (row t p) rfl (((cfg0.win 4).blk t).view.emb (ix2 p k)) fun _ => rfl]
    refine (out4 _ _ _ _ p k).trans ?_
    rw [iblk0, iblk1, iblk2, iblk3]
    rfl
  · refine ⟨point i, flush0_4 _, ?_⟩
    show i ∈ ((View.whole main_v4_0).slice (win0_4.rect (point i))).set
    rw [View.set_slice_whole, Rect.mem_set_unit]
    exact Adam.mem_row (by decide) i _ (idx_facts (point i)).2.2.2.2.1

theorem final5 (c : Dev nD) : (dats m 0 c).arrAt 5 cfg0.N = res m c fun _ g m _ => Adam.newM g m := by
  refine (dats m 0 c).arrAt_eq_of_cover 5 _ (fun t _ => ?_) fun i => ?_
  · rw [Value.flushed5]
    funext y
    obtain ⟨p, k, rfl⟩ : ∃ (p : Fin 256) (k : Fin 1024), y = ix2 p k := ⟨y 0, y 1, eq_ix2 y⟩
    rw [View.read_apply, Adam.row_eq _ _ (idx_facts t).2.2.2.2.2.1 p k (row t p) rfl (((cfg0.win 5).blk t).view.emb (ix2 p k)) fun _ => rfl]
    refine (out5 _ _ _ _ p k).trans ?_
    rw [iblk1, iblk2]
    rfl
  · refine ⟨point i, flush0_5 _, ?_⟩
    show i ∈ ((View.whole main_v4_1).slice (win0_5.rect (point i))).set
    rw [View.set_slice_whole, Rect.mem_set_unit]
    exact Adam.mem_row (by decide) i _ (idx_facts (point i)).2.2.2.2.2.1

theorem final6 (c : Dev nD) : (dats m 0 c).arrAt 6 cfg0.N = res m c fun _ g _ v => Adam.newV g v := by
  refine (dats m 0 c).arrAt_eq_of_cover 6 _ (fun t _ => ?_) fun i => ?_
  · rw [Value.flushed6]
    funext y
    obtain ⟨p, k, rfl⟩ : ∃ (p : Fin 256) (k : Fin 1024), y = ix2 p k := ⟨y 0, y 1, eq_ix2 y⟩
    rw [View.read_apply, Adam.row_eq _ _ (idx_facts t).2.2.2.2.2.2 p k (row t p) rfl (((cfg0.win 6).blk t).view.emb (ix2 p k)) fun _ => rfl]
    refine (out6 _ _ _ _ p k).trans ?_
    rw [iblk1, iblk3]
    rfl
  · refine ⟨point i, flush0_6 _, ?_⟩
    show i ∈ ((View.whole main_v4_2).slice (win0_6.rect (point i))).set
    rw [View.set_slice_whole, Rect.mem_set_unit]
    exact Adam.mem_row (by decide) i _ (idx_facts (point i)).2.2.2.2.2.2

/-! ## The reference -/

section reference
open Cert.Reference19Ideal.Read
variable (w g m v : FVec Ideal A1 .f32)

theorem ref_m : val_main_v8 (F := Ideal) g m = Adam.lift (fun _ g m _ => Adam.newM g m) w g m v := by
  funext i
  unfold val_main_v8 val_main_v7 val_main_v6 val_main_v5 val_main_v4 val_main_v2 val_main_v1 val_main_cst val_main_cst_0
  pointwise
  rfl

theorem ref_v : val_main_v14 (F := Ideal) g v = Adam.lift (fun _ g _ v => Adam.newV g v) w g m v := by
  funext i
  unfold val_main_v14 val_main_v13 val_main_v12 val_main_v11 val_main_v10 val_main_v9 val_main_v3 val_main_v1 val_main_cst_1 val_main_cst_2
  pointwise
  rfl

theorem ref_delta : val_main_v27 (F := Ideal) w g m v = Adam.lift Adam.delta w g m v := by
  funext i
  unfold val_main_v27 val_main_v26 val_main_v25 val_main_v24 val_main_v23 val_main_v22 val_main_v21 val_main_v20 val_main_v19
    val_main_v18 val_main_v17 val_main_v16 val_main_v15 val_main_v0 val_main_cst_3 val_main_cst_4 val_main_cst_5 val_main_cst_6 val_main_cst_7
  pointwise
  rw [ref_m w g m v, ref_v w g m v]
  rfl

end reference

/-! ## The claim -/

/-- `Cert.algebraic_Kernel19Ideal_Reference19Ideal`: from equal arguments the call and the reference end with equal results. -/
theorem algebraic : Cert.algebraic_Kernel19Ideal_Reference19Ideal (hKernel19Ideal := Cert.Kernel19Ideal.Gen.facts)
    (hReference19Ideal := Cert.Reference19Ideal.Gen.facts) := by
  intro m g m' g' _ hargs
  refine ⟨fun c => res m c Adam.delta, fun c => res m c fun _ g m _ => Adam.newM g m, fun c => res m c fun _ g _ v => Adam.newV g v, ?_, ?_⟩
  · refine (θ_run defs _ _).mono (fun r h c => ?_) (Value.run_blocks (F := Ideal) m g)
    exact ⟨(h c).1.trans (final4 m c), (h c).2.1.trans (final5 m c), (h c).2.2.1.trans (final6 m c), (h c).2.2.2⟩
  · refine (θ_run (Cert.Reference19Ideal.defs (F := Ideal)) _ _).mono (fun r h c => ?_) (Cert.Reference19Ideal.Value.run (F := Ideal) m' g')
    obtain ⟨h0, h1, h2, h3⟩ := hargs c
    refine ⟨((h c).1.trans (Cert.Reference19Ideal.Read.val_main_v27_eq ..)).trans ?_,
      ((h c).2.1.trans (Cert.Reference19Ideal.Read.val_main_v8_eq ..)).trans ?_,
      ((h c).2.2.1.trans (Cert.Reference19Ideal.Read.val_main_v14_eq ..)).trans ?_, (h c).2.2.2⟩
    · rw [h0, h1, h2, h3]
      exact ref_delta _ _ _ _
    · rw [h1, h2]
      exact ref_m _ _ _ _
    · rw [h1, h3]
      exact ref_v _ _ _ _

end Cert.Proof.AdamOut
-- ==== Proof.AdamGateUp.lean ====
module

public import proofs.«01_k».proof.Defs
public import proofs.«01_k».proof.Proof.Adam
public import proofs.«01_k».proof.Proof.Gen.Kernel20Ideal.Value
public import proofs.«01_k».proof.Proof.Gen.Reference20Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The AdamW step of the gate and up projections' shard

Row blocks of 512, every element on its own.
-/

@[expose] public section
noncomputable section
namespace Cert.Proof.AdamGateUp
open Idealize.ShloMosaic Idealize.SL.Sem Cert.Kernel20Ideal
open Cert.Kernel20Ideal.Gen Idealize.ShloMosaic.TcCoe
open Idealize.ShloMosaic.Pipeline (Dat Cfg Window)

/-- The block and the array. -/
abbrev B : Shape := S512x1408
abbrev A : Shape := S1024x1408
abbrev A1 : Shape := S1x1024x1408

/-- The body's three stores, element by element. -/
theorem out4 (w g m v : Vec Ideal B .f32) (p : Fin 512) (k : Fin 1408) :
    out0_4 w g m v (ix2 p k) = Adam.delta (w (ix2 p k)) (g (ix2 p k)) (m (ix2 p k)) (v (ix2 p k)) := by
  unfold out0_4
  rw [View.canon_cons_unit_lit _ _ _ (by decide), View.ld_unit_lit _ w (by decide), View.ld_unit_lit _ g (by decide),
    View.ld_unit_lit _ m (by decide), View.ld_unit_lit _ v (by decide)]
  unfold_payloads
  pointwise
  rfl

theorem out5 (w g m v : Vec Ideal B .f32) (p : Fin 512) (k : Fin 1408) :
    out0_5 w g m v (ix2 p k) = Adam.newM (g (ix2 p k)) (m (ix2 p k)) := by
  unfold out0_5
  rw [View.canon_cons_unit_lit _ _ _ (by decide), View.ld_unit_lit _ g (by decide), View.ld_unit_lit _ m (by decide)]
  unfold_payloads
  pointwise
  rfl

theorem out6 (w g m v : Vec Ideal B .f32) (p : Fin 512) (k : Fin 1408) :
    out0_6 w g m v (ix2 p k) = Adam.newV (g (ix2 p k)) (v (ix2 p k)) := by
  unfold out0_6
  rw [View.canon_cons_unit_lit _ _ _ (by decide), View.ld_unit_lit _ g (by decide), View.ld_unit_lit _ v (by decide)]
  unfold_payloads
  pointwise
  rfl

/-! ## The whole arrays -/

variable (m : (ℓ : Loc nD τ sig) → Buf (Elt Ideal) ℓ)

/-- A function of the weight, its gradient and its moments, applied to the call's four arguments. -/
def res (c : Dev nD) (f : EReal → EReal → EReal → EReal → EReal) : FVec Ideal A .f32 :=
  Adam.lift f (m ((c : Thread nD τ).loc main_arg0)) (m ((c : Thread nD τ).loc main_arg1))
    (m ((c : Thread nD τ).loc main_arg2)) (m ((c : Thread nD τ).loc main_arg3))

/-- The host code drops the leading axis of each argument. -/
theorem V_eq (c : Dev nD) (j : A.Idx) :
    V m c main_v0 j = m ((c : Thread nD τ).loc main_arg0) (ix3 0 (j 0) (j 1))
    ∧ V m c main_v1 j = m ((c : Thread nD τ).loc main_arg1) (ix3 0 (j 0) (j 1))
    ∧ V m c main_v2 j = m ((c : Thread nD τ).loc main_arg2) (ix3 0 (j 0) (j 1))
    ∧ V m c main_v3 j = m ((c : Thread nD τ).loc main_arg3) (ix3 0 (j 0) (j 1)) := by
  unfold V
  refine ⟨?_, ?_, ?_, ?_⟩ <;> after_reads_at

/-- Every window's block at point `t` is row block `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of block `t`, in the array. -/
def row (t : Fin cfg0.N) (p : Fin 512) : Fin 1024 := ⟨t.val * 512 + p.val, by
  have := t.isLt; have hN : cfg0.N = 2 := N_0; omega⟩

/-- The four input blocks at point `t`, read in the arguments. -/
theorem iblk0 (c : Dev nD) (t : Fin cfg0.N) (p : Fin 512) (k : Fin 1408) :
    iblk m c 0 t (ix2 p k) = m ((c : Thread nD τ).loc main_arg0) (ix3 0 (row t p) k) := by
  unfold iblk
  rw [View.read_apply, Adam.row_eq _ _ (idx_facts t).1 p k (row t p) rfl (((cfg0.win 0).blk t).view.emb (ix2 p k)) fun _ => rfl]
  exact (V_eq m c _).1

theorem iblk1 (c : Dev nD) (t : Fin cfg0.N) (p : Fin 512) (k : Fin 1408) :
    iblk m c 1 t (ix2 p k) = m ((c : Thread nD τ).loc main_arg1) (ix3 0 (row t p) k) := by
  unfold iblk
  rw [View.read_apply, Adam.row_eq _ _ (idx_facts t).2.1 p k (row t p) rfl (((cfg0.win 1).blk t).view.emb (ix2 p k)) fun _ => rfl]
  exact (V_eq m c _).2.1

theorem iblk2 (c : Dev nD) (t : Fin cfg0.N) (p : Fin 512) (k : Fin 1408) :
    iblk m c 2 t (ix2 p k) = m ((c : Thread nD τ).loc main_arg2) (ix3 0 (row t p) k) := by
  unfold iblk
  rw [View.read_apply, Adam.row_eq _ _ (idx_facts t).2.2.1 p k (row t p) rfl (((cfg0.win 2).blk t).view.emb (ix2 p k)) fun _ => rfl]
  exact (V_eq m c _).2.2.1

theorem iblk3 (c : Dev nD) (t : Fin cfg0.N) (p : Fin 512) (k : Fin 1408) :
    iblk m c 3 t (ix2 p k) = m ((c : Thread nD τ).loc main_arg3) (ix3 0 (row t p) k) := by
  unfold iblk
  rw [View.read_apply, Adam.row_eq _ _ (idx_facts t).2.2.2.1 p k (row t p) rfl (((cfg0.win 3).blk t).view.emb (ix2 p k)) fun _ => rfl]
  exact (V_eq m c _).2.2.2

/-- The point whose blocks hold an index. -/
def point (i : A.Idx) : Fin cfg0.N := ⟨(i 0).val / 512, by
  have : (i 0).val < 1024 := (i 0).isLt; have hN : cfg0.N = 2 := N_0; omega⟩

/-- The three result arrays after the run. -/
theorem final4 (c : Dev nD) : (dats m 0 c).arrAt 4 cfg0.N = res m c Adam.delta := by
  refine (dats m 0 c).arrAt_eq_of_cover 4 _ (fun t _ => ?_) fun i => ?_
  · rw [Value.flushed4]
    funext y
    obtain ⟨p, k, rfl⟩ : ∃ (p : Fin 512) (k : Fin 1408), y = ix2 p k := ⟨y 0, y 1, eq_ix2 y⟩
    rw [View.read_apply, Adam.row_eq _ _ (idx_facts t).2.2.2.2.1 p k (row t p) rfl (((cfg0.win 4).blk t).view.emb (ix2 p k)) fun _ => rfl]
    refine (out4 _ _ _ _ p k).trans ?_
    rw [iblk0, iblk1, iblk2, iblk3]
    rfl
  · refine ⟨point i, flush0_4 _, ?_⟩
    show i ∈ ((View.whole main_v4_0).slice (win0_4.rect (point i))).set
    rw [View.set_slice_whole, Rect.mem_set_unit]
    exact Adam.mem_row (by decide) i _ (idx_facts (point i)).2.2.2.2.1

theorem final5 (c : Dev nD) : (dats m 0 c).arrAt 5 cfg0.N = res m c fun _ g m _ => Adam.newM g m := by
  refine (dats m 0 c).arrAt_eq_of_cover 5 _ (fun t _ => ?_) fun i => ?_
  · rw [Value.flushed5]
    funext y
    obtain ⟨p, k, rfl⟩ : ∃ (p : Fin 512) (k : Fin 1408), y = ix2 p k := ⟨y 0, y 1, eq_ix2 y⟩
    rw [View.read_apply, Adam.row_eq _ _ (idx_facts t).2.2.2.2.2.1 p k (row t p) rfl (((cfg0.win 5).blk t).view.emb (ix2 p k)) fun _ => rfl]
    refine (out5 _ _ _ _ p k).trans ?_
    rw [iblk1, iblk2]
    rfl
  · refine ⟨point i, flush0_5 _, ?_⟩
    show i ∈ ((View.whole main_v4_1).slice (win0_5.rect (point i))).set
    rw [View.set_slice_whole, Rect.mem_set_unit]
    exact Adam.mem_row (by decide) i _ (idx_facts (point i)).2.2.2.2.2.1

theorem final6 (c : Dev nD) : (dats m 0 c).arrAt 6 cfg0.N = res m c fun _ g _ v => Adam.newV g v := by
  refine (dats m 0 c).arrAt_eq_of_cover 6 _ (fun t _ => ?_) fun i => ?_
  · rw [Value.flushed6]
    funext y
    obtain ⟨p, k, rfl⟩ : ∃ (p : Fin 512) (k : Fin 1408), y = ix2 p k := ⟨y 0, y 1, eq_ix2 y⟩
    rw [View.read_apply, Adam.row_eq _ _ (idx_facts t).2.2.2.2.2.2 p k (row t p) rfl (((cfg0.win 6).blk t).view.emb (ix2 p k)) fun _ => rfl]
    refine (out6 _ _ _ _ p k).trans ?_
    rw [iblk1, iblk3]
    rfl
  · refine ⟨point i, flush0_6 _, ?_⟩
    show i ∈ ((View.whole main_v4_2).slice (win0_6.rect (point i))).set
    rw [View.set_slice_whole, Rect.mem_set_unit]
    exact Adam.mem_row (by decide) i _ (idx_facts (point i)).2.2.2.2.2.2

/-! ## The reference -/

section reference
open Cert.Reference20Ideal.Read
variable (w g m v : FVec Ideal A1 .f32)

theorem ref_m : val_main_v8 (F := Ideal) g m = Adam.lift (fun _ g m _ => Adam.newM g m) w g m v := by
  funext i
  unfold val_main_v8 val_main_v7 val_main_v6 val_main_v5 val_main_v4 val_main_v2 val_main_v1 val_main_cst val_main_cst_0
  pointwise
  rfl

theorem ref_v : val_main_v14 (F := Ideal) g v = Adam.lift (fun _ g _ v => Adam.newV g v) w g m v := by
  funext i
  unfold val_main_v14 val_main_v13 val_main_v12 val_main_v11 val_main_v10 val_main_v9 val_main_v3 val_main_v1 val_main_cst_1 val_main_cst_2
  pointwise
  rfl

theorem ref_delta : val_main_v27 (F := Ideal) w g m v = Adam.lift Adam.delta w g m v := by
  funext i
  unfold val_main_v27 val_main_v26 val_main_v25 val_main_v24 val_main_v23 val_main_v22 val_main_v21 val_main_v20 val_main_v19
    val_main_v18 val_main_v17 val_main_v16 val_main_v15 val_main_v0 val_main_cst_3 val_main_cst_4 val_main_cst_5 val_main_cst_6 val_main_cst_7
  pointwise
  rw [ref_m w g m v, ref_v w g m v]
  rfl

end reference

/-! ## The claim -/

/-- `Cert.algebraic_Kernel20Ideal_Reference20Ideal`: from equal arguments the call and the reference end with equal results. -/
theorem algebraic : Cert.algebraic_Kernel20Ideal_Reference20Ideal (hKernel20Ideal := Cert.Kernel20Ideal.Gen.facts)
    (hReference20Ideal := Cert.Reference20Ideal.Gen.facts) := by
  intro m g m' g' _ hargs
  refine ⟨fun c => res m c Adam.delta, fun c => res m c fun _ g m _ => Adam.newM g m, fun c => res m c fun _ g _ v => Adam.newV g v, ?_, ?_⟩
  · refine (θ_run defs _ _).mono (fun r h c => ?_) (Value.run_blocks (F := Ideal) m g)
    exact ⟨(h c).1.trans (final4 m c), (h c).2.1.trans (final5 m c), (h c).2.2.1.trans (final6 m c), (h c).2.2.2⟩
  · refine (θ_run (Cert.Reference20Ideal.defs (F := Ideal)) _ _).mono (fun r h c => ?_) (Cert.Reference20Ideal.Value.run (F := Ideal) m' g')
    obtain ⟨h0, h1, h2, h3⟩ := hargs c
    refine ⟨((h c).1.trans (Cert.Reference20Ideal.Read.val_main_v27_eq ..)).trans ?_,
      ((h c).2.1.trans (Cert.Reference20Ideal.Read.val_main_v8_eq ..)).trans ?_,
      ((h c).2.2.1.trans (Cert.Reference20Ideal.Read.val_main_v14_eq ..)).trans ?_, (h c).2.2.2⟩
    · rw [h0, h1, h2, h3]
      exact ref_delta _ _ _ _
    · rw [h1, h2]
      exact ref_m _ _ _ _
    · rw [h1, h3]
      exact ref_v _ _ _ _

end Cert.Proof.AdamGateUp
-- ==== Proof.AdamDown.lean ====
module

public import proofs.«01_k».proof.Defs
public import proofs.«01_k».proof.Proof.Adam
public import proofs.«01_k».proof.Proof.Gen.Kernel21Ideal.Value
public import proofs.«01_k».proof.Proof.Gen.Reference21Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The AdamW step of the down projection's shard

Row blocks of 352, every element on its own.
-/

@[expose] public section
noncomputable section
namespace Cert.Proof.AdamDown
open Idealize.ShloMosaic Idealize.SL.Sem Cert.Kernel21Ideal
open Cert.Kernel21Ideal.Gen Idealize.ShloMosaic.TcCoe
open Idealize.ShloMosaic.Pipeline (Dat Cfg Window)

/-- The block and the array. -/
abbrev B : Shape := S352x1024
abbrev A : Shape := S704x1024
abbrev A1 : Shape := S1x704x1024

/-- The body's three stores, element by element. -/
theorem out4 (w g m v : Vec Ideal B .f32) (p : Fin 352) (k : Fin 1024) :
    out0_4 w g m v (ix2 p k) = Adam.delta (w (ix2 p k)) (g (ix2 p k)) (m (ix2 p k)) (v (ix2 p k)) := by
  unfold out0_4
  rw [View.canon_cons_unit_lit _ _ _ (by decide), View.ld_unit_lit _ w (by decide), View.ld_unit_lit _ g (by decide),
    View.ld_unit_lit _ m (by decide), View.ld_unit_lit _ v (by decide)]
  unfold_payloads
  pointwise
  rfl

theorem out5 (w g m v : Vec Ideal B .f32) (p : Fin 352) (k : Fin 1024) :
    out0_5 w g m v (ix2 p k) = Adam.newM (g (ix2 p k)) (m (ix2 p k)) := by
  unfold out0_5
  rw [View.canon_cons_unit_lit _ _ _ (by decide), View.ld_unit_lit _ g (by decide), View.ld_unit_lit _ m (by decide)]
  unfold_payloads
  pointwise
  rfl

theorem out6 (w g m v : Vec Ideal B .f32) (p : Fin 352) (k : Fin 1024) :
    out0_6 w g m v (ix2 p k) = Adam.newV (g (ix2 p k)) (v (ix2 p k)) := by
  unfold out0_6
  rw [View.canon_cons_unit_lit _ _ _ (by decide), View.ld_unit_lit _ g (by decide), View.ld_unit_lit _ v (by decide)]
  unfold_payloads
  pointwise
  rfl

/-! ## The whole arrays -/

variable (m : (ℓ : Loc nD τ sig) → Buf (Elt Ideal) ℓ)

/-- A function of the weight, its gradient and its moments, applied to the call's four arguments. -/
def res (c : Dev nD) (f : EReal → EReal → EReal → EReal → EReal) : FVec Ideal A .f32 :=
  Adam.lift f (m ((c : Thread nD τ).loc main_arg0)) (m ((c : Thread nD τ).loc main_arg1))
    (m ((c : Thread nD τ).loc main_arg2)) (m ((c : Thread nD τ).loc main_arg3))

/-- The host code drops the leading axis of each argument. -/
theorem V_eq (c : Dev nD) (j : A.Idx) :
    V m c main_v0 j = m ((c : Thread nD τ).loc main_arg0) (ix3 0 (j 0) (j 1))
    ∧ V m c main_v1 j = m ((c : Thread nD τ).loc main_arg1) (ix3 0 (j 0) (j 1))
    ∧ V m c main_v2 j = m ((c : Thread nD τ).loc main_arg2) (ix3 0 (j 0) (j 1))
    ∧ V m c main_v3 j = m ((c : Thread nD τ).loc main_arg3) (ix3 0 (j 0) (j 1)) := by
  unfold V
  refine ⟨?_, ?_, ?_, ?_⟩ <;> after_reads_at

/-- Every window's block at point `t` is row block `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of block `t`, in the array. -/
def row (t : Fin cfg0.N) (p : Fin 352) : Fin 704 := ⟨t.val * 352 + p.val, by
  have := t.isLt; have hN : cfg0.N = 2 := N_0; omega⟩

/-- The four input blocks at point `t`, read in the arguments. -/
theorem iblk0 (c : Dev nD) (t : Fin cfg0.N) (p : Fin 352) (k : Fin 1024) :
    iblk m c 0 t (ix2 p k) = m ((c : Thread nD τ).loc main_arg0) (ix3 0 (row t p) k) := by
  unfold iblk
  rw [View.read_apply, Adam.row_eq _ _ (idx_facts t).1 p k (row t p) rfl (((cfg0.win 0).blk t).view.emb (ix2 p k)) fun _ => rfl]
  exact (V_eq m c _).1

theorem iblk1 (c : Dev nD) (t : Fin cfg0.N) (p : Fin 352) (k : Fin 1024) :
    iblk m c 1 t (ix2 p k) = m ((c : Thread nD τ).loc main_arg1) (ix3 0 (row t p) k) := by
  unfold iblk
  rw [View.read_apply, Adam.row_eq _ _ (idx_facts t).2.1 p k (row t p) rfl (((cfg0.win 1).blk t).view.emb (ix2 p k)) fun _ => rfl]
  exact (V_eq m c _).2.1

theorem iblk2 (c : Dev nD) (t : Fin cfg0.N) (p : Fin 352) (k : Fin 1024) :
    iblk m c 2 t (ix2 p k) = m ((c : Thread nD τ).loc main_arg2) (ix3 0 (row t p) k) := by
  unfold iblk
  rw [View.read_apply, Adam.row_eq _ _ (idx_facts t).2.2.1 p k (row t p) rfl (((cfg0.win 2).blk t).view.emb (ix2 p k)) fun _ => rfl]
  exact (V_eq m c _).2.2.1

theorem iblk3 (c : Dev nD) (t : Fin cfg0.N) (p : Fin 352) (k : Fin 1024) :
    iblk m c 3 t (ix2 p k) = m ((c : Thread nD τ).loc main_arg3) (ix3 0 (row t p) k) := by
  unfold iblk
  rw [View.read_apply, Adam.row_eq _ _ (idx_facts t).2.2.2.1 p k (row t p) rfl (((cfg0.win 3).blk t).view.emb (ix2 p k)) fun _ => rfl]
  exact (V_eq m c _).2.2.2

/-- The point whose blocks hold an index. -/
def point (i : A.Idx) : Fin cfg0.N := ⟨(i 0).val / 352, by
  have : (i 0).val < 704 := (i 0).isLt; have hN : cfg0.N = 2 := N_0; omega⟩

/-- The three result arrays after the run. -/
theorem final4 (c : Dev nD) : (dats m 0 c).arrAt 4 cfg0.N = res m c Adam.delta := by
  refine (dats m 0 c).arrAt_eq_of_cover 4 _ (fun t _ => ?_) fun i => ?_
  · rw [Value.flushed4]
    funext y
    obtain ⟨p, k, rfl⟩ : ∃ (p : Fin 352) (k : Fin 1024), y = ix2 p k := ⟨y 0, y 1, eq_ix2 y⟩
    rw [View.read_apply, Adam.row_eq _ _ (idx_facts t).2.2.2.2.1 p k (row t p) rfl (((cfg0.win 4).blk t).view.emb (ix2 p k)) fun _ => rfl]
    refine (out4 _ _ _ _ p k).trans ?_
    rw [iblk0, iblk1, iblk2, iblk3]
    rfl
  · refine ⟨point i, flush0_4 _, ?_⟩
    show i ∈ ((View.whole main_v4_0).slice (win0_4.rect (point i))).set
    rw [View.set_slice_whole, Rect.mem_set_unit]
    exact Adam.mem_row (by decide) i _ (idx_facts (point i)).2.2.2.2.1

theorem final5 (c : Dev nD) : (dats m 0 c).arrAt 5 cfg0.N = res m c fun _ g m _ => Adam.newM g m := by
  refine (dats m 0 c).arrAt_eq_of_cover 5 _ (fun t _ => ?_) fun i => ?_
  · rw [Value.flushed5]
    funext y
    obtain ⟨p, k, rfl⟩ : ∃ (p : Fin 352) (k : Fin 1024), y = ix2 p k := ⟨y 0, y 1, eq_ix2 y⟩
    rw [View.read_apply, Adam.row_eq _ _ (idx_facts t).2.2.2.2.2.1 p k (row t p) rfl (((cfg0.win 5).blk t).view.emb (ix2 p k)) fun _ => rfl]
    refine (out5 _ _ _ _ p k).trans ?_
    rw [iblk1, iblk2]
    rfl
  · refine ⟨point i, flush0_5 _, ?_⟩
    show i ∈ ((View.whole main_v4_1).slice (win0_5.rect (point i))).set
    rw [View.set_slice_whole, Rect.mem_set_unit]
    exact Adam.mem_row (by decide) i _ (idx_facts (point i)).2.2.2.2.2.1

theorem final6 (c : Dev nD) : (dats m 0 c).arrAt 6 cfg0.N = res m c fun _ g _ v => Adam.newV g v := by
  refine (dats m 0 c).arrAt_eq_of_cover 6 _ (fun t _ => ?_) fun i => ?_
  · rw [Value.flushed6]
    funext y
    obtain ⟨p, k, rfl⟩ : ∃ (p : Fin 352) (k : Fin 1024), y = ix2 p k := ⟨y 0, y 1, eq_ix2 y⟩
    rw [View.read_apply, Adam.row_eq _ _ (idx_facts t).2.2.2.2.2.2 p k (row t p) rfl (((cfg0.win 6).blk t).view.emb (ix2 p k)) fun _ => rfl]
    refine (out6 _ _ _ _ p k).trans ?_
    rw [iblk1, iblk3]
    rfl
  · refine ⟨point i, flush0_6 _, ?_⟩
    show i ∈ ((View.whole main_v4_2).slice (win0_6.rect (point i))).set
    rw [View.set_slice_whole, Rect.mem_set_unit]
    exact Adam.mem_row (by decide) i _ (idx_facts (point i)).2.2.2.2.2.2

/-! ## The reference -/

section reference
open Cert.Reference21Ideal.Read
variable (w g m v : FVec Ideal A1 .f32)

theorem ref_m : val_main_v8 (F := Ideal) g m = Adam.lift (fun _ g m _ => Adam.newM g m) w g m v := by
  funext i
  unfold val_main_v8 val_main_v7 val_main_v6 val_main_v5 val_main_v4 val_main_v2 val_main_v1 val_main_cst val_main_cst_0
  pointwise
  rfl

theorem ref_v : val_main_v14 (F := Ideal) g v = Adam.lift (fun _ g _ v => Adam.newV g v) w g m v := by
  funext i
  unfold val_main_v14 val_main_v13 val_main_v12 val_main_v11 val_main_v10 val_main_v9 val_main_v3 val_main_v1 val_main_cst_1 val_main_cst_2
  pointwise
  rfl

theorem ref_delta : val_main_v27 (F := Ideal) w g m v = Adam.lift Adam.delta w g m v := by
  funext i
  unfold val_main_v27 val_main_v26 val_main_v25 val_main_v24 val_main_v23 val_main_v22 val_main_v21 val_main_v20 val_main_v19
    val_main_v18 val_main_v17 val_main_v16 val_main_v15 val_main_v0 val_main_cst_3 val_main_cst_4 val_main_cst_5 val_main_cst_6 val_main_cst_7
  pointwise
  rw [ref_m w g m v, ref_v w g m v]
  rfl

end reference

/-! ## The claim -/

/-- `Cert.algebraic_Kernel21Ideal_Reference21Ideal`: from equal arguments the call and the reference end with equal results. -/
theorem algebraic : Cert.algebraic_Kernel21Ideal_Reference21Ideal (hKernel21Ideal := Cert.Kernel21Ideal.Gen.facts)
    (hReference21Ideal := Cert.Reference21Ideal.Gen.facts) := by
  intro m g m' g' _ hargs
  refine ⟨fun c => res m c Adam.delta, fun c => res m c fun _ g m _ => Adam.newM g m, fun c => res m c fun _ g _ v => Adam.newV g v, ?_, ?_⟩
  · refine (θ_run defs _ _).mono (fun r h c => ?_) (Value.run_blocks (F := Ideal) m g)
    exact ⟨(h c).1.trans (final4 m c), (h c).2.1.trans (final5 m c), (h c).2.2.1.trans (final6 m c), (h c).2.2.2⟩
  · refine (θ_run (Cert.Reference21Ideal.defs (F := Ideal)) _ _).mono (fun r h c => ?_) (Cert.Reference21Ideal.Value.run (F := Ideal) m' g')
    obtain ⟨h0, h1, h2, h3⟩ := hargs c
    refine ⟨((h c).1.trans (Cert.Reference21Ideal.Read.val_main_v27_eq ..)).trans ?_,
      ((h c).2.1.trans (Cert.Reference21Ideal.Read.val_main_v8_eq ..)).trans ?_,
      ((h c).2.2.1.trans (Cert.Reference21Ideal.Read.val_main_v14_eq ..)).trans ?_, (h c).2.2.2⟩
    · rw [h0, h1, h2, h3]
      exact ref_delta _ _ _ _
    · rw [h1, h2]
      exact ref_m _ _ _ _
    · rw [h1, h3]
      exact ref_v _ _ _ _

end Cert.Proof.AdamDown
-- ==== Proof.AdamSmall.lean ====
module

public import proofs.«01_k».proof.Defs
public import proofs.«01_k».proof.Proof.Adam
public import proofs.«01_k».proof.Proof.Gen.Kernel22Ideal.Value
public import proofs.«01_k».proof.Proof.Gen.Reference22Ideal.Read
public import Idealize.ShloMosaic.Lib.Pointwise
public import Idealize.ShloMosaic.Lib.StableHlo.ReadAt
public import Idealize.ShloMosaic.Lib.Tactic
public import Idealize.ShloMosaic.Lib.Pipeline.ReadBack

/-!
# The AdamW step of the small weights

The eight weights that every device holds whole, packed in eight rows of 1024: one block, every element on its own.
-/

@[expose] public section
noncomputable section
namespace Cert.Proof.AdamSmall
open Idealize.ShloMosaic Idealize.SL.Sem Cert.Kernel22Ideal
open Cert.Kernel22Ideal.Gen Idealize.ShloMosaic.TcCoe
open Idealize.ShloMosaic.Pipeline (Dat Cfg Window)

/-- The block and the array. -/
abbrev B : Shape := S8x1024
abbrev A : Shape := S8x1024

/-- The body's three stores, element by element. -/
theorem out4 (w g m v : Vec Ideal B .f32) (p : Fin 8) (k : Fin 1024) :
    out0_4 w g m v (ix2 p k) = Adam.delta (w (ix2 p k)) (g (ix2 p k)) (m (ix2 p k)) (v (ix2 p k)) := by
  unfold out0_4
  rw [View.canon_cons_unit_lit _ _ _ (by decide), View.ld_unit_lit _ w (by decide), View.ld_unit_lit _ g (by decide),
    View.ld_unit_lit _ m (by decide), View.ld_unit_lit _ v (by decide)]
  unfold_payloads
  pointwise
  rfl

theorem out5 (w g m v : Vec Ideal B .f32) (p : Fin 8) (k : Fin 1024) :
    out0_5 w g m v (ix2 p k) = Adam.newM (g (ix2 p k)) (m (ix2 p k)) := by
  unfold out0_5
  rw [View.canon_cons_unit_lit _ _ _ (by decide), View.ld_unit_lit _ g (by decide), View.ld_unit_lit _ m (by decide)]
  unfold_payloads
  pointwise
  rfl

theorem out6 (w g m v : Vec Ideal B .f32) (p : Fin 8) (k : Fin 1024) :
    out0_6 w g m v (ix2 p k) = Adam.newV (g (ix2 p k)) (v (ix2 p k)) := by
  unfold out0_6
  rw [View.canon_cons_unit_lit _ _ _ (by decide), View.ld_unit_lit _ g (by decide), View.ld_unit_lit _ v (by decide)]
  unfold_payloads
  pointwise
  rfl

/-! ## The whole arrays -/

variable (m : (ℓ : Loc nD τ sig) → Buf (Elt Ideal) ℓ)

/-- A function of the weight, its gradient and its moments, applied to the call's four arguments. -/
def res (c : Dev nD) (f : EReal → EReal → EReal → EReal → EReal) : FVec Ideal A .f32 :=
  Adam.map f (m ((c : Thread nD τ).loc main_arg0)) (m ((c : Thread nD τ).loc main_arg1))
    (m ((c : Thread nD τ).loc main_arg2)) (m ((c : Thread nD τ).loc main_arg3))

/-- No host code stands before the call. -/
theorem V_eq (c : Dev nD) (j : A.Idx) :
    V m c main_arg0 j = m ((c : Thread nD τ).loc main_arg0) j ∧ V m c main_arg1 j = m ((c : Thread nD τ).loc main_arg1) j
    ∧ V m c main_arg2 j = m ((c : Thread nD τ).loc main_arg2) j ∧ V m c main_arg3 j = m ((c : Thread nD τ).loc main_arg3) j := by
  unfold V
  refine ⟨?_, ?_, ?_, ?_⟩ <;> after_reads_at

/-- Every window's block at point `t` is row block `t`. -/
theorem idx_facts : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of block `t`, in the array. -/
def row (t : Fin cfg0.N) (p : Fin 8) : Fin 8 := ⟨t.val * 8 + p.val, by
  have := t.isLt; have hN : cfg0.N = 1 := N_0; omega⟩

/-- The four input blocks at point `t`, read in the arguments. -/
theorem iblk0 (c : Dev nD) (t : Fin cfg0.N) (p : Fin 8) (k : Fin 1024) :
    iblk m c 0 t (ix2 p k) = m ((c : Thread nD τ).loc main_arg0) (ix2 (row t p) k) := by
  unfold iblk
  rw [View.read_apply, Adam.row_eq _ _ (idx_facts t).1 p k (row t p) rfl (((cfg0.win 0).blk t).view.emb (ix2 p k)) fun _ => rfl]
  exact (V_eq m c _).1

theorem iblk1 (c : Dev nD) (t : Fin cfg0.N) (p : Fin 8) (k : Fin 1024) :
    iblk m c 1 t (ix2 p k) = m ((c : Thread nD τ).loc main_arg1) (ix2 (row t p) k) := by
  unfold iblk
  rw [View.read_apply, Adam.row_eq _ _ (idx_facts t).2.1 p k (row t p) rfl (((cfg0.win 1).blk t).view.emb (ix2 p k)) fun _ => rfl]
  exact (V_eq m c _).2.1

theorem iblk2 (c : Dev nD) (t : Fin cfg0.N) (p : Fin 8) (k : Fin 1024) :
    iblk m c 2 t (ix2 p k) = m ((c : Thread nD τ).loc main_arg2) (ix2 (row t p) k) := by
  unfold iblk
  rw [View.read_apply, Adam.row_eq _ _ (idx_facts t).2.2.1 p k (row t p) rfl (((cfg0.win 2).blk t).view.emb (ix2 p k)) fun _ => rfl]
  exact (V_eq m c _).2.2.1

theorem iblk3 (c : Dev nD) (t : Fin cfg0.N) (p : Fin 8) (k : Fin 1024) :
    iblk m c 3 t (ix2 p k) = m ((c : Thread nD τ).loc main_arg3) (ix2 (row t p) k) := by
  unfold iblk
  rw [View.read_apply, Adam.row_eq _ _ (idx_facts t).2.2.2.1 p k (row t p) rfl (((cfg0.win 3).blk t).view.emb (ix2 p k)) fun _ => rfl]
  exact (V_eq m c _).2.2.2

/-- The point whose blocks hold an index. -/
def point (i : A.Idx) : Fin cfg0.N := ⟨(i 0).val / 8, by
  have : (i 0).val < 8 := (i 0).isLt; have hN : cfg0.N = 1 := N_0; omega⟩

/-- The three result arrays after the run. -/
theorem final4 (c : Dev nD) : (dats m 0 c).arrAt 4 cfg0.N = res m c Adam.delta := by
  refine (dats m 0 c).arrAt_eq_of_cover 4 _ (fun t _ => ?_) fun i => ?_
  · rw [Value.flushed4]
    funext y
    obtain ⟨p, k, rfl⟩ : ∃ (p : Fin 8) (k : Fin 1024), y = ix2 p k := ⟨y 0, y 1, eq_ix2 y⟩
    rw [View.read_apply, Adam.row_eq _ _ (idx_facts t).2.2.2.2.1 p k (row t p) rfl (((cfg0.win 4).blk t).view.emb (ix2 p k)) fun _ => rfl]
    refine (out4 _ _ _ _ p k).trans ?_
    rw [iblk0, iblk1, iblk2, iblk3]
    rfl
  · refine ⟨point i, flush0_4 _, ?_⟩
    show i ∈ ((View.whole main_v0_0).slice (win0_4.rect (point i))).set
    rw [View.set_slice_whole, Rect.mem_set_unit]
    exact Adam.mem_row (by decide) i _ (idx_facts (point i)).2.2.2.2.1

theorem final5 (c : Dev nD) : (dats m 0 c).arrAt 5 cfg0.N = res m c fun _ g m _ => Adam.newM g m := by
  refine (dats m 0 c).arrAt_eq_of_cover 5 _ (fun t _ => ?_) fun i => ?_
  · rw [Value.flushed5]
    funext y
    obtain ⟨p, k, rfl⟩ : ∃ (p : Fin 8) (k : Fin 1024), y = ix2 p k := ⟨y 0, y 1, eq_ix2 y⟩
    rw [View.read_apply, Adam.row_eq _ _ (idx_facts t).2.2.2.2.2.1 p k (row t p) rfl (((cfg0.win 5).blk t).view.emb (ix2 p k)) fun _ => rfl]
    refine (out5 _ _ _ _ p k).trans ?_
    rw [iblk1, iblk2]
    rfl
  · refine ⟨point i, flush0_5 _, ?_⟩
    show i ∈ ((View.whole main_v0_1).slice (win0_5.rect (point i))).set
    rw [View.set_slice_whole, Rect.mem_set_unit]
    exact Adam.mem_row (by decide) i _ (idx_facts (point i)).2.2.2.2.2.1

theorem final6 (c : Dev nD) : (dats m 0 c).arrAt 6 cfg0.N = res m c fun _ g _ v => Adam.newV g v := by
  refine (dats m 0 c).arrAt_eq_of_cover 6 _ (fun t _ => ?_) fun i => ?_
  · rw [Value.flushed6]
    funext y
    obtain ⟨p, k, rfl⟩ : ∃ (p : Fin 8) (k : Fin 1024), y = ix2 p k := ⟨y 0, y 1, eq_ix2 y⟩
    rw [View.read_apply, Adam.row_eq _ _ (idx_facts t).2.2.2.2.2.2 p k (row t p) rfl (((cfg0.win 6).blk t).view.emb (ix2 p k)) fun _ => rfl]
    refine (out6 _ _ _ _ p k).trans ?_
    rw [iblk1, iblk3]
    rfl
  · refine ⟨point i, flush0_6 _, ?_⟩
    show i ∈ ((View.whole main_v0_2).slice (win0_6.rect (point i))).set
    rw [View.set_slice_whole, Rect.mem_set_unit]
    exact Adam.mem_row (by decide) i _ (idx_facts (point i)).2.2.2.2.2.2

/-! ## The reference -/

section reference
open Cert.Reference22Ideal.Read
variable (w g m v : FVec Ideal A .f32)

theorem ref_m : val_main_v4 (F := Ideal) g m = Adam.map (fun _ g m _ => Adam.newM g m) w g m v := by
  funext i
  unfold val_main_v4 val_main_v3 val_main_v2 val_main_v1 val_main_v0 val_main_cst val_main_cst_0
  pointwise
  rfl

theorem ref_v : val_main_v10 (F := Ideal) g v = Adam.map (fun _ g _ v => Adam.newV g v) w g m v := by
  funext i
  unfold val_main_v10 val_main_v9 val_main_v8 val_main_v7 val_main_v6 val_main_v5 val_main_cst_1 val_main_cst_2
  pointwise
  rfl

theorem ref_delta : val_main_v23 (F := Ideal) w g m v = Adam.map Adam.delta w g m v := by
  funext i
  unfold val_main_v23 val_main_v22 val_main_v21 val_main_v20 val_main_v19 val_main_v18 val_main_v17 val_main_v16 val_main_v15
    val_main_v14 val_main_v13 val_main_v12 val_main_v11 val_main_cst_3 val_main_cst_4 val_main_cst_5 val_main_cst_6 val_main_cst_7
  pointwise
  rw [ref_m w g m v, ref_v w g m v]
  rfl

end reference

/-! ## The claim -/

/-- `Cert.algebraic_Kernel22Ideal_Reference22Ideal`: from equal arguments the call and the reference end with equal results. -/
theorem algebraic : Cert.algebraic_Kernel22Ideal_Reference22Ideal (hKernel22Ideal := Cert.Kernel22Ideal.Gen.facts)
    (hReference22Ideal := Cert.Reference22Ideal.Gen.facts) := by
  intro m g m' g' _ hargs
  refine ⟨fun c => res m c Adam.delta, fun c => res m c fun _ g m _ => Adam.newM g m, fun c => res m c fun _ g _ v => Adam.newV g v, ?_, ?_⟩
  · refine (θ_run defs _ _).mono (fun r h c => ?_) (Value.run_blocks (F := Ideal) m g)
    exact ⟨(h c).1.trans (final4 m c), (h c).2.1.trans (final5 m c), (h c).2.2.1.trans (final6 m c), (h c).2.2.2⟩
  · refine (θ_run (Cert.Reference22Ideal.defs (F := Ideal)) _ _).mono (fun r h c => ?_) (Cert.Reference22Ideal.Value.run (F := Ideal) m' g')
    obtain ⟨h0, h1, h2, h3⟩ := hargs c
    refine ⟨((h c).1.trans (Cert.Reference22Ideal.Read.val_main_v23_eq ..)).trans ?_,
      ((h c).2.1.trans (Cert.Reference22Ideal.Read.val_main_v4_eq ..)).trans ?_,
      ((h c).2.2.1.trans (Cert.Reference22Ideal.Read.val_main_v10_eq ..)).trans ?_, (h c).2.2.2⟩
    · rw [h0, h1, h2, h3]
      exact ref_delta _ _ _ _
    · rw [h1, h2]
      exact ref_m _ _ _ _
    · rw [h1, h3]
      exact ref_v _ _ _ _

end Cert.Proof.AdamSmall
-- ==== Proof.lean ====
module

public import proofs.«01_k».proof.Defs
public import Idealize.ShloMosaic.Lib.Quiescent
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.DownDx
public import proofs.«01_k».proof.Proof.GateUpDx
public import proofs.«01_k».proof.Proof.DownDw
public import proofs.«01_k».proof.Proof.GateUpDw
public import proofs.«01_k».proof.Proof.FfnUp
public import proofs.«01_k».proof.Proof.MmIn
public import proofs.«01_k».proof.Proof.MmInDw
public import proofs.«01_k».proof.Proof.MmOut
public import proofs.«01_k».proof.Proof.MmOutDx
public import proofs.«01_k».proof.Proof.MmOutDw
public import proofs.«01_k».proof.Proof.MmInDx
public import proofs.«01_k».proof.Proof.FaBwd
public import proofs.«01_k».proof.Proof.SumIn
public import proofs.«01_k».proof.Proof.SumOut
public import proofs.«01_k».proof.Proof.SumGateUp
public import proofs.«01_k».proof.Proof.SumDown
public import proofs.«01_k».proof.Proof.AdamIn
public import proofs.«01_k».proof.Proof.AdamOut
public import proofs.«01_k».proof.Proof.AdamGateUp
public import proofs.«01_k».proof.Proof.AdamDown
public import proofs.«01_k».proof.Proof.AdamSmall

/-!
# The certificate

Each kernel's frame is the generated one; a reference is a straight line of host operations, whose run gives its frame. Nothing was
rewritten between a kernel and its idealized program, so `preserves` is trivial. Each `algebraic` claim is proved in its own module.
-/

@[expose] public section
namespace Cert.Proof
open Idealize.ShloMosaic Idealize.SL.Sem

/-- Reference 1 runs to the end from every memory, leaves its arguments as they were and declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Reference 2 runs to the end from every memory, leaves its arguments as they were and declares no semaphore. -/
theorem reference2_frame : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Reference 3 runs to the end from every memory, leaves its arguments as they were and declares no semaphore. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Reference 4 runs to the end from every memory, leaves its arguments as they were and declares no semaphore. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Reference 6 runs to the end from every memory, leaves its arguments as they were and declares no semaphore. -/
theorem reference6_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Reference 7 runs to the end from every memory, leaves its arguments as they were and declares no semaphore. -/
theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Reference 8 runs to the end from every memory, leaves its arguments as they were and declares no semaphore. -/
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Reference 9 runs to the end from every memory, leaves its arguments as they were and declares no semaphore. -/
theorem reference9_frame : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Reference 10 runs to the end from every memory, leaves its arguments as they were and declares no semaphore. -/
theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Reference 11 runs to the end from every memory, leaves its arguments as they were and declares no semaphore. -/
theorem reference11_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Reference 12 runs to the end from every memory, leaves its arguments as they were and declares no semaphore. -/
theorem reference12_frame : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- Reference 13 runs to the end from every memory, leaves its arguments as they were and declares no semaphore. -/
theorem reference13_frame : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- Reference 14 runs to the end from every memory, leaves its arguments as they were and declares no semaphore. -/
theorem reference14_frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Reference 15 runs to the end from every memory, leaves its arguments as they were and declares no semaphore. -/
theorem reference15_frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- Reference 16 runs to the end from every memory, leaves its arguments as they were and declares no semaphore. -/
theorem reference16_frame : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- Reference 17 runs to the end from every memory, leaves its arguments as they were and declares no semaphore. -/
theorem reference17_frame : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- Reference 18 runs to the end from every memory, leaves its arguments as they were and declares no semaphore. -/
theorem reference18_frame : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- Reference 19 runs to the end from every memory, leaves its arguments as they were and declares no semaphore. -/
theorem reference19_frame : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- Reference 20 runs to the end from every memory, leaves its arguments as they were and declares no semaphore. -/
theorem reference20_frame : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- Reference 21 runs to the end from every memory, leaves its arguments as they were and declares no semaphore. -/
theorem reference21_frame : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- Reference 22 runs to the end from every memory, leaves its arguments as they were and declares no semaphore. -/
theorem reference22_frame : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- All claims of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, FaBwd.pre_facts,
    fun m ρ _ => Cert.Kernel.Gen.frame m ρ,
    fun m ρ _ => Cert.KernelIdeal.Gen.frame m ρ,
    reference_frame,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    fun m ρ _ => Cert.Kernel11.Gen.frame m ρ,
    fun m ρ _ => Cert.Kernel11Ideal.Gen.frame m ρ,
    reference11_frame,
    fun m ρ _ => Cert.Kernel12.Gen.frame m ρ,
    fun m ρ _ => Cert.Kernel12Ideal.Gen.frame m ρ,
    reference12_frame,
    fun m ρ _ => Cert.Kernel13.Gen.frame m ρ,
    fun m ρ _ => Cert.Kernel13Ideal.Gen.frame m ρ,
    fun m ρ _ => Cert.Kernel13Ideal.Gen.frame m ρ,
    reference13_frame,
    fun m ρ _ => reference13_frame m ρ trivial,
    fun m ρ _ => Cert.Kernel14.Gen.frame m ρ,
    fun m ρ _ => Cert.Kernel14Ideal.Gen.frame m ρ,
    reference14_frame,
    fun m ρ _ => Cert.Kernel15.Gen.frame m ρ,
    fun m ρ _ => Cert.Kernel15Ideal.Gen.frame m ρ,
    reference15_frame,
    fun m ρ _ => Cert.Kernel16.Gen.frame m ρ,
    fun m ρ _ => Cert.Kernel16Ideal.Gen.frame m ρ,
    reference16_frame,
    fun m ρ _ => Cert.Kernel17.Gen.frame m ρ,
    fun m ρ _ => Cert.Kernel17Ideal.Gen.frame m ρ,
    reference17_frame,
    fun m ρ _ => Cert.Kernel18.Gen.frame m ρ,
    fun m ρ _ => Cert.Kernel18Ideal.Gen.frame m ρ,
    reference18_frame,
    fun m ρ _ => Cert.Kernel19.Gen.frame m ρ,
    fun m ρ _ => Cert.Kernel19Ideal.Gen.frame m ρ,
    reference19_frame,
    fun m ρ _ => Cert.Kernel20.Gen.frame m ρ,
    fun m ρ _ => Cert.Kernel20Ideal.Gen.frame m ρ,
    reference20_frame,
    fun m ρ _ => Cert.Kernel21.Gen.frame m ρ,
    fun m ρ _ => Cert.Kernel21Ideal.Gen.frame m ρ,
    reference21_frame,
    fun m ρ _ => Cert.Kernel22.Gen.frame m ρ,
    fun m ρ _ => Cert.Kernel22Ideal.Gen.frame m ρ,
    reference22_frame,
    trivial, DownDx.algebraic, trivial, GateUpDx.algebraic, trivial, DownDw.algebraic, trivial, GateUpDw.algebraic, trivial, FfnUp.algebraic, trivial, MmIn.algebraic, trivial, MmInDw.algebraic, trivial, MmOut.algebraic, trivial, MmOutDx.algebraic, trivial, MmOutDw.algebraic, trivial, MmInDx.algebraic, trivial, FaBwd.algebraic, trivial, SumIn.algebraic, trivial, SumOut.algebraic, trivial, SumGateUp.algebraic, trivial, SumDown.algebraic, trivial, AdamIn.algebraic, trivial, AdamOut.algebraic, trivial, AdamGateUp.algebraic, trivial, AdamDown.algebraic, trivial, AdamSmall.algebraic⟩

end Cert.Proof
